-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 [hPre_pre2 : Cert.Pre_pre2.Facts] (m : (ℓ : Loc Cert.Kernel2.nD Cert.Kernel2.τ Cert.Kernel2.sig) → Buf (Elt Bits) ℓ) : Prop :=
  ∀ c : Dev Cert.Kernel2.nD,
    (Cert.Pre_pre2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3))) = (fun _ => 1#1)

def Pre_Kernel2Ideal [hPre_pre2 : Cert.Pre_pre2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_pre2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_pre2 [hPre_pre2 : Cert.Pre_pre2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_pre2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 [hPre_pre3 : Cert.Pre_pre3.Facts] (m : (ℓ : Loc Cert.Kernel3.nD Cert.Kernel3.τ Cert.Kernel3.sig) → Buf (Elt Bits) ℓ) : Prop :=
  ∀ c : Dev Cert.Kernel3.nD,
    (Cert.Pre_pre3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_pre3 : Cert.Pre_pre3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_pre3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_pre3 [hPre_pre3 : Cert.Pre_pre3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_pre3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_pre2 : Cert.Pre_pre2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] [hPre_pre2 : Cert.Pre_pre2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_pre2 [hReference2Ideal : Cert.Reference2Ideal.Facts] [hPre_pre2 : Cert.Pre_pre2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_pre2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_pre3 : Cert.Pre_pre3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_pre3 : Cert.Pre_pre3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_pre3 [hReference3Ideal : Cert.Reference3Ideal.Facts] [hPre_pre3 : Cert.Pre_pre3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_pre3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.bf16_pair.BufferStatement Cert.KernelIdeal.S94208x2x512 Cert.KernelIdeal.S94208x1x512
  ∧ IdealRules.bf16_pair.BufferStatement Cert.KernelIdeal.S256x2x512 Cert.KernelIdeal.S256x1x512
  ∧ IdealRules.bf16_pair.PackStatement Cert.KernelIdeal.S256x512
  ∧ IdealRules.bf16_pair.Statement Cert.KernelIdeal.S256x2x512 Cert.KernelIdeal.S256x1x512
  ∧ IdealRules.bf16_pair.SelectZeroStatement Cert.KernelIdeal.S256x512
  ∧ IdealRules.bf16_pair.BufferStatement Cert.KernelIdeal.S1024x2x512 Cert.KernelIdeal.S1024x1x512
  ∧ IdealRules.bf16_pair.Statement Cert.KernelIdeal.S1024x2x512 Cert.KernelIdeal.S1024x1x512
  ∧ IdealRules.bf16_pair.Statement Cert.KernelIdeal.S2048x512 Cert.KernelIdeal.S1024x512

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_pre2 : Cert.Pre_pre2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_pre3 : Cert.Pre_pre3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_pre : Cert.Pre_pre.Facts) (hPre_pre2 : Cert.Pre_pre2.Facts) (hPre_pre3 : Cert.Pre_pre3.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Kernel2 (hKernel2 := hKernel2) (hPre_pre2 := hPre_pre2)
    ∧ quiescent_Kernel2Ideal (hKernel2Ideal := hKernel2Ideal) (hPre_pre2 := hPre_pre2)
    ∧ quiescent_Reference2Ideal (hReference2Ideal := hReference2Ideal)
    ∧ quiescent_Reference2Ideal_pre_pre2 (hReference2Ideal := hReference2Ideal) (hPre_pre2 := hPre_pre2)
    ∧ quiescent_Kernel3 (hKernel3 := hKernel3) (hPre_pre3 := hPre_pre3)
    ∧ quiescent_Kernel3Ideal (hKernel3Ideal := hKernel3Ideal) (hPre_pre3 := hPre_pre3)
    ∧ quiescent_Reference3Ideal (hReference3Ideal := hReference3Ideal)
    ∧ quiescent_Reference3Ideal_pre_pre3 (hReference3Ideal := hReference3Ideal) (hPre_pre3 := hPre_pre3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_pre := hPre_pre)
    ∧ preserves_Kernel2_Kernel2Ideal
    ∧ algebraic_Kernel2Ideal_Reference2Ideal (hKernel2Ideal := hKernel2Ideal) (hReference2Ideal := hReference2Ideal) (hPre_pre2 := hPre_pre2)
    ∧ preserves_Kernel3_Kernel3Ideal
    ∧ algebraic_Kernel3Ideal_Reference3Ideal (hKernel3Ideal := hKernel3Ideal) (hReference3Ideal := hReference3Ideal) (hPre_pre3 := hPre_pre3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_pre.lean ====
abbrev S94208x640 : Shape := ⟨2, ![94208, 640]⟩
abbrev S368 : Shape := ⟨1, ![368]⟩
abbrev S1 : Shape := ⟨1, ![1]⟩
abbrev S32x1024x256 : Shape := ⟨3, ![32, 1024, 256]⟩
abbrev S32x256x1024 : Shape := ⟨3, ![32, 256, 1024]⟩
abbrev S94208x2 : Shape := ⟨2, ![94208, 2]⟩
abbrev S_ : Shape := ⟨0, ![]⟩

class Facts : Prop where
  slices_S94208x640_S94208x2_0_512 : S94208x640.Slices ![0, 512] S94208x2
  bcast_S_S94208x2 : S_.BroadcastsInDim S94208x2 (![] : Fin 0 → Fin S94208x2.rank)
  reducesTo_S94208x2_S_d0_1 : S94208x2.ReducesTo [0, 1] S_
  h_S_ : 0 < S_.numel
  bcast_S_S368 : S_.BroadcastsInDim S368 (![] : Fin 0 → Fin S368.rank)
  reducesTo_S368_S_d0 : S368.ReducesTo [0] S_
  shapeCasts_S1_S_ : S1.ShapeCasts S_

variable [Facts]

def fn_part1 {F : FTy → Type} [FloatOps F] (main_arg3 : IVec S368 32) (main_arg4 : IVec S1 32) (main_v10 : IVec S_ 1) (main_v15 : IVec S368 1) (main_c_6 : IVec S_ 1) : IVec S_ 1 :=
  let main_v16 : IVec S_ 1 := (fun x v => Host.reduce IntOp.andi x v reducesTo_S368_S_d0 h_S_) main_v15 main_c_6
  let main_v17 : IVec S_ 1 := andi main_v10 main_v16
  let main_c_7 : IVec S_ 32 := constantI S_ 32 0#32
  let main_v18 : IVec S368 32 := broadcastInDim S368 ![] bcast_S_S368 main_c_7
  let main_v19 : IVec S368 1 := cmpi .sge main_arg3 main_v18
  let main_c_8 : IVec S_ 32 := constantI S_ 32 8#32
  let main_v20 : IVec S368 32 := broadcastInDim S368 ![] bcast_S_S368 main_c_8
  let main_v21 : IVec S368 1 := cmpi .slt main_arg3 main_v20
  let main_v22 : IVec S368 1 := andi main_v19 main_v21
  let main_c_9 : IVec S_ 1 := constantI S_ 1 1#1
  let main_v23 : IVec S_ 1 := (fun x v => Host.reduce IntOp.andi x v reducesTo_S368_S_d0 h_S_) main_v22 main_c_9
  let main_v24 : IVec S_ 1 := andi main_v17 main_v23
  let main_v25 : IVec S_ 32 := shapeCast S_ main_arg4 shapeCasts_S1_S_
  let main_c_10 : IVec S_ 32 := constantI S_ 32 1#32
  let main_v26 : IVec S_ 1 := cmpi .sge main_v25 main_c_10
  let main_v27 : IVec S_ 1 := andi main_v24 main_v26
  main_v27

def fn {F : FTy → Type} [FloatOps F] (main_arg0 : IVec S94208x640 32) (main_arg1 : IVec S368 32) (main_arg2 : IVec S368 32) (main_arg3 : IVec S368 32) (main_arg4 : IVec S1 32) (main_arg5 : FVec F S32x1024x256 .f32) (main_arg6 : FVec F S32x1024x256 .f32) (main_arg7 : FVec F S32x256x1024 .f32) : IVec S_ 1 :=
  let main_v0 : IVec S94208x2 32 := (extractStridedSlice S94208x2 ![0, 512] · slices_S94208x640_S94208x2_0_512) main_arg0
  let main_c : IVec S_ 32 := constantI S_ 32 2139095040#32
  let main_v1 : IVec S94208x2 32 := broadcastInDim S94208x2 ![] bcast_S_S94208x2 main_c
  let main_v2 : IVec S94208x2 1 := cmpi .ult main_v0 main_v1
  let main_c_0 : IVec S_ 1 := constantI S_ 1 1#1
  let main_v3 : IVec S_ 1 := (fun x v => Host.reduce IntOp.andi x v reducesTo_S94208x2_S_d0_1 h_S_) main_v2 main_c_0
  let main_c_1 : IVec S_ 32 := constantI S_ 32 0#32
  let main_v4 : IVec S368 32 := broadcastInDim S368 ![] bcast_S_S368 main_c_1
  let main_v5 : IVec S368 1 := cmpi .sge main_arg1 main_v4
  let main_c_2 : IVec S_ 32 := constantI S_ 32 4#32
  let main_v6 : IVec S368 32 := broadcastInDim S368 ![] bcast_S_S368 main_c_2
  let main_v7 : IVec S368 1 := cmpi .slt main_arg1 main_v6
  let main_v8 : IVec S368 1 := andi main_v5 main_v7
  let main_c_3 : IVec S_ 1 := constantI S_ 1 1#1
  let main_v9 : IVec S_ 1 := (fun x v => Host.reduce IntOp.andi x v reducesTo_S368_S_d0 h_S_) main_v8 main_c_3
  let main_v10 : IVec S_ 1 := andi main_v3 main_v9
  let main_c_4 : IVec S_ 32 := constantI S_ 32 0#32
  let main_v11 : IVec S368 32 := broadcastInDim S368 ![] bcast_S_S368 main_c_4
  let main_v12 : IVec S368 1 := cmpi .sge main_arg2 main_v11
  let main_c_5 : IVec S_ 32 := constantI S_ 32 8#32
  let main_v13 : IVec S368 32 := broadcastInDim S368 ![] bcast_S_S368 main_c_5
  let main_v14 : IVec S368 1 := cmpi .slt main_arg2 main_v13
  let main_v15 : IVec S368 1 := andi main_v12 main_v14
  let main_c_6 : IVec S_ 1 := constantI S_ 1 1#1
  fn_part1 (F := F) main_arg3 main_arg4 main_v10 main_v15 main_c_6
-- ==== Pre_pre2.lean ====
abbrev S64x1x1024 : Shape := ⟨3, ![64, 1, 1024]⟩
abbrev S65536x1024 : Shape := ⟨2, ![65536, 1024]⟩
abbrev S94208x512 : Shape := ⟨2, ![94208, 512]⟩
abbrev S1024 : Shape := ⟨1, ![1024]⟩
abbrev S_ : Shape := ⟨0, ![]⟩

class Facts : Prop where
  bcast_S_S64x1x1024 : S_.BroadcastsInDim S64x1x1024 (![] : Fin 0 → Fin S64x1x1024.rank)
  reducesTo_S64x1x1024_S_d0_1_2 : S64x1x1024.ReducesTo [0, 1, 2] S_
  h_S_ : 0 < S_.numel

variable [Facts]

def fn {F : FTy → Type} [FloatOps F] (main_arg0 : IVec S64x1x1024 32) (main_arg1 : FVec F S65536x1024 .f32) (main_arg2 : IVec S94208x512 32) (main_arg3 : FVec F S1024 .f32) : IVec S_ 1 :=
  let main_c : IVec S_ 32 := constantI S_ 32 0#32
  let main_v0 : IVec S64x1x1024 32 := broadcastInDim S64x1x1024 ![] bcast_S_S64x1x1024 main_c
  let main_v1 : IVec S64x1x1024 1 := cmpi .sge main_arg0 main_v0
  let main_c_0 : IVec S_ 32 := constantI S_ 32 94208#32
  let main_v2 : IVec S64x1x1024 32 := broadcastInDim S64x1x1024 ![] bcast_S_S64x1x1024 main_c_0
  let main_v3 : IVec S64x1x1024 1 := cmpi .slt main_arg0 main_v2
  let main_v4 : IVec S64x1x1024 1 := andi main_v1 main_v3
  let main_c_1 : IVec S_ 1 := constantI S_ 1 1#1
  let main_v5 : IVec S_ 1 := (fun x v => Host.reduce IntOp.andi x v reducesTo_S64x1x1024_S_d0_1_2 h_S_) main_v4 main_c_1
  main_v5
-- ==== Pre_pre3.lean ====
abbrev S64x1x1024 : Shape := ⟨3, ![64, 1, 1024]⟩
abbrev S65536x1024 : Shape := ⟨2, ![65536, 1024]⟩
abbrev S94208x512 : Shape := ⟨2, ![94208, 512]⟩
abbrev S1024 : Shape := ⟨1, ![1024]⟩
abbrev S1024x1024 : Shape := ⟨2, ![1024, 1024]⟩
abbrev S_ : Shape := ⟨0, ![]⟩

class Facts : Prop where
  bcast_S_S64x1x1024 : S_.BroadcastsInDim S64x1x1024 (![] : Fin 0 → Fin S64x1x1024.rank)
  reducesTo_S64x1x1024_S_d0_1_2 : S64x1x1024.ReducesTo [0, 1, 2] S_
  h_S_ : 0 < S_.numel

variable [Facts]

def fn {F : FTy → Type} [FloatOps F] (main_arg0 : IVec S64x1x1024 32) (main_arg1 : FVec F S65536x1024 .f32) (main_arg2 : IVec S94208x512 32) (main_arg3 : FVec F S1024 .f32) (main_arg4 : FVec F S1024x1024 .f32) : IVec S_ 1 :=
  let main_c : IVec S_ 32 := constantI S_ 32 0#32
  let main_v0 : IVec S64x1x1024 32 := broadcastInDim S64x1x1024 ![] bcast_S_S64x1x1024 main_c
  let main_v1 : IVec S64x1x1024 1 := cmpi .sge main_arg0 main_v0
  let main_c_0 : IVec S_ 32 := constantI S_ 32 94208#32
  let main_v2 : IVec S64x1x1024 32 := broadcastInDim S64x1x1024 ![] bcast_S_S64x1x1024 main_c_0
  let main_v3 : IVec S64x1x1024 1 := cmpi .slt main_arg0 main_v2
  let main_v4 : IVec S64x1x1024 1 := andi main_v1 main_v3
  let main_c_1 : IVec S_ 1 := constantI S_ 1 1#1
  let main_v5 : IVec S_ 1 := (fun x v => Host.reduce IntOp.andi x v reducesTo_S64x1x1024_S_d0_1_2 h_S_) main_v4 main_c_1
  main_v5
-- ==== Kernel.lean ====
abbrev S94208x640 : Shape := ⟨2, ![94208, 640]⟩
abbrev S368 : Shape := ⟨1, ![368]⟩
abbrev S1 : Shape := ⟨1, ![1]⟩
abbrev S32x1024x256 : Shape := ⟨3, ![32, 1024, 256]⟩
abbrev S32x256x1024 : Shape := ⟨3, ![32, 256, 1024]⟩
abbrev S94208x512 : Shape := ⟨2, ![94208, 512]⟩
abbrev S256x640 : Shape := ⟨2, ![256, 640]⟩
abbrev S256x512 : Shape := ⟨2, ![256, 512]⟩
abbrev S8x1024x512 : Shape := ⟨3, ![8, 1024, 512]⟩
abbrev S8x256x1024 : Shape := ⟨3, ![8, 256, 1024]⟩
abbrev S2x1024x256 : Shape := ⟨3, ![2, 1024, 256]⟩
abbrev S2x256x1024 : Shape := ⟨3, ![2, 256, 1024]⟩
abbrev S2 : Shape := ⟨1, ![2]⟩
abbrev S_ : Shape := ⟨0, ![]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S256x128 : Shape := ⟨2, ![256, 128]⟩
abbrev S1x512x512 : Shape := ⟨3, ![1, 512, 512]⟩
abbrev S512x512 : Shape := ⟨2, ![512, 512]⟩
abbrev S256x256 : Shape := ⟨2, ![256, 256]⟩
abbrev S256x1 : Shape := ⟨2, ![256, 1]⟩
abbrev S94208x1024 : Shape := ⟨2, ![94208, 1024]⟩
abbrev S1024x512 : Shape := ⟨2, ![1024, 512]⟩
abbrev S1024x1024 : Shape := ⟨2, ![1024, 1024]⟩

abbrev nBuf : Space → Nat
  | .hbm => 6
  | .vmem => 13
  | .smem => 4
  | _ => 0

abbrev bufTy : (tb : Table) → Fin (tcTables nBuf tb) → BufTy
  | .hbm, ⟨0, _⟩ => ⟨S94208x640, .i32⟩
  | .hbm, ⟨1, _⟩ => ⟨S32x1024x256, .f32⟩
  | .hbm, ⟨2, _⟩ => ⟨S32x1024x256, .f32⟩
  | .hbm, ⟨3, _⟩ => ⟨S32x256x1024, .f32⟩
  | .hbm, ⟨4, _⟩ => ⟨S94208x512, .i32⟩
  | .hbm, ⟨5, _⟩ => ⟨S94208x1024, .f32⟩
  | .local _ .vmem, ⟨0, _⟩ => ⟨S256x640, .i32⟩
  | .local _ .vmem, ⟨1, _⟩ => ⟨S256x640, .i32⟩
  | .local _ .vmem, ⟨2, _⟩ => ⟨S256x512, .i32⟩
  | .local _ .vmem, ⟨3, _⟩ => ⟨S256x512, .i32⟩
  | .local _ .vmem, ⟨4, _⟩ => ⟨S8x1024x512, .bf16⟩
  | .local _ .vmem, ⟨5, _⟩ => ⟨S8x256x1024, .bf16⟩
  | .local _ .vmem, ⟨6, _⟩ => ⟨S2x1024x256, .f32⟩
  | .local _ .vmem, ⟨7, _⟩ => ⟨S2x1024x256, .f32⟩
  | .local _ .vmem, ⟨8, _⟩ => ⟨S2x256x1024, .f32⟩
  | .local _ .vmem, ⟨9, _⟩ => ⟨S1024x512, .i32⟩
  | .local _ .vmem, ⟨10, _⟩ => ⟨S1024x512, .i32⟩
  | .local _ .vmem, ⟨11, _⟩ => ⟨S1024x1024, .f32⟩
  | .local _ .vmem, ⟨12, _⟩ => ⟨S1024x1024, .f32⟩
  | .local _ .smem, ⟨0, _⟩ => ⟨S368, .i32⟩
  | .local _ .smem, ⟨1, _⟩ => ⟨S368, .i32⟩
  | .local _ .smem, ⟨2, _⟩ => ⟨S368, .i32⟩
  | .local _ .smem, ⟨3, _⟩ => ⟨S1, .i32⟩
  | _, _ => ⟨S94208x640, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_v1 : Ref sig .tc := ⟨.hbm, 5, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [BitOps F]

abbrev grid0 : Pipeline.Grid := ⟨1, ![368], ![false]⟩

abbrev pre0 : Pipeline.Prefetch sig := ⟨4, ![main_arg1.idx, main_arg2.idx, main_arg3.idx, main_arg4.idx], fun | 0 => main_arg1.names | 1 => main_arg2.names | 2 => main_arg3.names | 3 => main_arg4.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v5 : Index := Scalar.indexCast arg0
  ![v5.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v7 : Index := Scalar.indexCast v1
  ![v7.toNat]
def k0_off3 (i : grid0.Coords) : Fin 1 → Nat :=
  let arg0 : BitVec 32 := BitVec.ofNat 32 (i 0).val
  let v19 : Index := Scalar.indexCast arg0
  ![v19.toNat]
def k0_off4 (v20 : BitVec 32) (c0_i32_4 : BitVec 32) : Fin 3 → Nat :=
  let c8_i32 : BitVec 32 := 8#32
  let v21 : BitVec 32 := Scalar.muli v20 c8_i32
  let v22 : BitVec 32 := Scalar.addi v21 c0_i32_4
  let c0_i32_11 : BitVec 32 := 0#32
  let c0_i32_12 : BitVec 32 := 0#32
  ![v22.toNat, 0, 0]
def k0_cond1 (i : grid0.Coords) (v2 : BitVec 32) (v6 : BitVec 32) (v8 : BitVec 32) : BitVec 1 :=
  let arg0 : BitVec 32 := BitVec.ofNat 32 (i 0).val
  let v3 : BitVec 1 := Scalar.cmpi .slt arg0 v2
  let c0_i32_0 : BitVec 32 := 0#32
  let v4 : BitVec 1 := Scalar.cmpi .eq arg0 c0_i32_0
  let v9 : BitVec 1 := Scalar.cmpi .ne v6 v8
  let v10 : BitVec 1 := Scalar.ori v4 v9
  let v11 : BitVec 1 := Scalar.andi v3 v10
  let v12 : BitVec 32 := Scalar.extui v11
  let c0_i32_1 : BitVec 32 := 0#32
  let v13 : BitVec 1 := Scalar.cmpi .ne v12 c0_i32_1
  v13

def k0_off5 (v20 : BitVec 32) (c0_i32_6 : BitVec 32) : Fin 3 → Nat :=
  let c8_i32 : BitVec 32 := 8#32
  let v21 : BitVec 32 := Scalar.muli v20 c8_i32
  let v24 : BitVec 32 := Scalar.addi v21 c0_i32_6
  let c0_i32_23 : BitVec 32 := 0#32
  let c0_i32_24 : BitVec 32 := 0#32
  ![v24.toNat, 0, 0]

def k0_chk1 (i : grid0.Coords) (v2 : BitVec 32) (v6 : BitVec 32) (v8 : BitVec 32) (v20 : BitVec 32) : Prop :=
  (∀ (k0_h1 : k0_cond1 i v2 v6 v8 = 1#1), ∀ (r : Fin 8), ∀ a, (k0_off4 v20 (BitVec.ofNat 32 r.val)) a + S1x1024x256.size a ≤ S32x1024x256.size a) ∧
  (∀ (k0_h1 : k0_cond1 i v2 v6 v8 = 1#1), ∀ (r : Fin 8), ∀ a, (k0_off5 v20 (BitVec.ofNat 32 r.val)) a + S1x256x1024.size a ≤ S32x256x1024.size a)
theorem k0_off4_inb : ∀ (i : grid0.Coords) (v2 : BitVec 32) (v6 : BitVec 32) (v8 : BitVec 32) (v20 : BitVec 32) (k0_hw1 : k0_chk1 i v2 v6 v8 v20), ∀ (k0_h1 : k0_cond1 i v2 v6 v8 = 1#1), ∀ (r : Fin 8), ∀ a, (k0_off4 v20 (BitVec.ofNat 32 r.val)) a + S1x1024x256.size a ≤ S32x1024x256.size a := fun i v2 v6 v8 v20 k0_hw1 k0_h1 r => k0_hw1.1 k0_h1 r
theorem k0_off5_inb : ∀ (i : grid0.Coords) (v2 : BitVec 32) (v6 : BitVec 32) (v8 : BitVec 32) (v20 : BitVec 32) (k0_hw1 : k0_chk1 i v2 v6 v8 v20), ∀ (k0_h1 : k0_cond1 i v2 v6 v8 = 1#1), ∀ (r : Fin 8), ∀ a, (k0_off5 v20 (BitVec.ofNat 32 r.val)) a + S1x256x1024.size a ≤ S32x256x1024.size a := fun i v2 v6 v8 v20 k0_hw1 k0_h1 r => k0_hw1.2 k0_h1 r

def k0_off6 (i : grid0.Coords) : Fin 1 → Nat :=
  let arg0 : BitVec 32 := BitVec.ofNat 32 (i 0).val
  let v26 : Index := Scalar.indexCast arg0
  ![v26.toNat]
def k0_off7 (v27 : BitVec 32) : Fin 3 → Nat :=
  let v30 : Index := Scalar.indexCast v27
  let c0_7 : Index := 0#32
  let c0_8 : Index := 0#32
  ![v30.toNat, 0, 0]
def k0_cond2 (i : grid0.Coords) (v2 : BitVec 32) : BitVec 1 :=
  let arg0 : BitVec 32 := BitVec.ofNat 32 (i 0).val
  let v3 : BitVec 1 := Scalar.cmpi .slt arg0 v2
  let v14 : BitVec 32 := Scalar.extui v3
  let c0_i32_2 : BitVec 32 := 0#32
  let v15 : BitVec 1 := Scalar.cmpi .ne v14 c0_i32_2
  v15

def k0_off8 (v27 : BitVec 32) : Fin 3 → Nat :=
  let v34 : Index := Scalar.indexCast v27
  let c512_9 : Index := 512#32
  let c0_10 : Index := 0#32
  ![v34.toNat, 512, 0]
def k0_off9 (v27 : BitVec 32) : Fin 3 → Nat :=
  let v48 : Index := Scalar.indexCast v27
  let c0_12 : Index := 0#32
  let c0_13 : Index := 0#32
  ![v48.toNat, 0, 0]

def k0_chk2 (i : grid0.Coords) (v2 : BitVec 32) (v27 : BitVec 32) : Prop :=
  (∀ (k0_h2 : k0_cond2 i v2 = 1#1), ∀ a, (k0_off7 v27) a + S1x512x512.size a ≤ S8x1024x512.size a) ∧
  (∀ (k0_h2 : k0_cond2 i v2 = 1#1), ∀ a, (k0_off8 v27) a + S1x512x512.size a ≤ S8x1024x512.size a) ∧
  (∀ (k0_h2 : k0_cond2 i v2 = 1#1), ∀ a, (k0_off9 v27) a + S1x256x1024.size a ≤ S8x256x1024.size a)
theorem k0_off7_inb : ∀ (i : grid0.Coords) (v2 : BitVec 32) (v27 : BitVec 32) (k0_hw2 : k0_chk2 i v2 v27), ∀ (k0_h2 : k0_cond2 i v2 = 1#1), ∀ a, (k0_off7 v27) a + S1x512x512.size a ≤ S8x1024x512.size a := fun i v2 v27 k0_hw2 k0_h2 => k0_hw2.1 k0_h2
theorem k0_off8_inb : ∀ (i : grid0.Coords) (v2 : BitVec 32) (v27 : BitVec 32) (k0_hw2 : k0_chk2 i v2 v27), ∀ (k0_h2 : k0_cond2 i v2 = 1#1), ∀ a, (k0_off8 v27) a + S1x512x512.size a ≤ S8x1024x512.size a := fun i v2 v27 k0_hw2 k0_h2 => k0_hw2.2.1 k0_h2
theorem k0_off9_inb : ∀ (i : grid0.Coords) (v2 : BitVec 32) (v27 : BitVec 32) (k0_hw2 : k0_chk2 i v2 v27), ∀ (k0_h2 : k0_cond2 i v2 = 1#1), ∀ a, (k0_off9 v27) a + S1x256x1024.size a ≤ S8x256x1024.size a := fun i v2 v27 k0_hw2 k0_h2 => k0_hw2.2.2 k0_h2

def k0_off10 (v29 : BitVec 32) : Fin 3 → Nat :=
  let v52 : Index := Scalar.indexCast v29
  let c0_15 : Index := 0#32
  let c0_16 : Index := 0#32
  ![v52.toNat, 0, 0]

def k0_off11 (v29 : BitVec 32) : Fin 3 → Nat :=
  let v56 : Index := Scalar.indexCast v29
  let c512_18 : Index := 512#32
  let c0_19 : Index := 0#32
  ![v56.toNat, 512, 0]
def k0_off12 (v29 : BitVec 32) : Fin 3 → Nat :=
  let v70 : Index := Scalar.indexCast v29
  let c0_21 : Index := 0#32
  let c0_22 : Index := 0#32
  ![v70.toNat, 0, 0]

def k0_chk3 (i : grid0.Coords) (v2 : BitVec 32) (v29 : BitVec 32) : Prop :=
  (∀ (k0_h2 : k0_cond2 i v2 = 1#1), ∀ a, (k0_off10 v29) a + S1x512x512.size a ≤ S8x1024x512.size a) ∧
  (∀ (k0_h2 : k0_cond2 i v2 = 1#1), ∀ a, (k0_off11 v29) a + S1x512x512.size a ≤ S8x1024x512.size a) ∧
  (∀ (k0_h2 : k0_cond2 i v2 = 1#1), ∀ a, (k0_off12 v29) a + S1x256x1024.size a ≤ S8x256x1024.size a)
theorem k0_off10_inb : ∀ (i : grid0.Coords) (v2 : BitVec 32) (v29 : BitVec 32) (k0_hw3 : k0_chk3 i v2 v29), ∀ (k0_h2 : k0_cond2 i v2 = 1#1), ∀ a, (k0_off10 v29) a + S1x512x512.size a ≤ S8x1024x512.size a := fun i v2 v29 k0_hw3 k0_h2 => k0_hw3.1 k0_h2
theorem k0_off11_inb : ∀ (i : grid0.Coords) (v2 : BitVec 32) (v29 : BitVec 32) (k0_hw3 : k0_chk3 i v2 v29), ∀ (k0_h2 : k0_cond2 i v2 = 1#1), ∀ a, (k0_off11 v29) a + S1x512x512.size a ≤ S8x1024x512.size a := fun i v2 v29 k0_hw3 k0_h2 => k0_hw3.2.1 k0_h2
theorem k0_off12_inb : ∀ (i : grid0.Coords) (v2 : BitVec 32) (v29 : BitVec 32) (k0_hw3 : k0_chk3 i v2 v29), ∀ (k0_h2 : k0_cond2 i v2 = 1#1), ∀ a, (k0_off12 v29) a + S1x256x1024.size a ≤ S8x256x1024.size a := fun i v2 v29 k0_hw3 k0_h2 => k0_hw3.2.2 k0_h2

def k0_cond3 (i : grid0.Coords) (v2 : BitVec 32) : BitVec 1 :=
  let arg0 : BitVec 32 := BitVec.ofNat 32 (i 0).val
  let v3 : BitVec 1 := Scalar.cmpi .slt arg0 v2
  let v_true : BitVec 1 := 1#1
  let v16 : BitVec 1 := Scalar.xori v3 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 3 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![92], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== KernelIdeal.lean ====
abbrev S94208x640 : Shape := ⟨2, ![94208, 640]⟩
abbrev S368 : Shape := ⟨1, ![368]⟩
abbrev S1 : Shape := ⟨1, ![1]⟩
abbrev S32x1024x256 : Shape := ⟨3, ![32, 1024, 256]⟩
abbrev S32x256x1024 : Shape := ⟨3, ![32, 256, 1024]⟩
abbrev S94208x2x512 : Shape := ⟨3, ![94208, 2, 512]⟩
abbrev S94208x1x512 : Shape := ⟨3, ![94208, 1, 512]⟩
abbrev S94208x512 : Shape := ⟨2, ![94208, 512]⟩
abbrev S256x640 : Shape := ⟨2, ![256, 640]⟩
abbrev S256x512 : Shape := ⟨2, ![256, 512]⟩
abbrev S256x2x512 : Shape := ⟨3, ![256, 2, 512]⟩
abbrev S256x1x512 : Shape := ⟨3, ![256, 1, 512]⟩
abbrev S8x1024x512 : Shape := ⟨3, ![8, 1024, 512]⟩
abbrev S8x256x1024 : Shape := ⟨3, ![8, 256, 1024]⟩
abbrev S2x1024x256 : Shape := ⟨3, ![2, 1024, 256]⟩
abbrev S2x256x1024 : Shape := ⟨3, ![2, 256, 1024]⟩
abbrev S2 : Shape := ⟨1, ![2]⟩
abbrev S_ : Shape := ⟨0, ![]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S256x128 : Shape := ⟨2, ![256, 128]⟩
abbrev S1x512x512 : Shape := ⟨3, ![1, 512, 512]⟩
abbrev S512x512 : Shape := ⟨2, ![512, 512]⟩
abbrev S256x256 : Shape := ⟨2, ![256, 256]⟩
abbrev S256x1 : Shape := ⟨2, ![256, 1]⟩
abbrev S94208x1024 : Shape := ⟨2, ![94208, 1024]⟩
abbrev S1024x512 : Shape := ⟨2, ![1024, 512]⟩
abbrev S1024x2x512 : Shape := ⟨3, ![1024, 2, 512]⟩
abbrev S1024x1x512 : Shape := ⟨3, ![1024, 1, 512]⟩
abbrev S1024x1024 : Shape := ⟨2, ![1024, 1024]⟩
abbrev S2048x512 : Shape := ⟨2, ![2048, 512]⟩

abbrev nBuf : Space → Nat
  | .hbm => 6
  | .vmem => 13
  | .smem => 4
  | _ => 0

abbrev bufTy : (tb : Table) → Fin (tcTables nBuf tb) → BufTy
  | .hbm, ⟨0, _⟩ => ⟨S94208x640, .i32⟩
  | .hbm, ⟨1, _⟩ => ⟨S32x1024x256, .f32⟩
  | .hbm, ⟨2, _⟩ => ⟨S32x1024x256, .f32⟩
  | .hbm, ⟨3, _⟩ => ⟨S32x256x1024, .f32⟩
  | .hbm, ⟨4, _⟩ => ⟨S94208x2x512, .bf16⟩
  | .hbm, ⟨5, _⟩ => ⟨S94208x1024, .f32⟩
  | .local _ .vmem, ⟨0, _⟩ => ⟨S256x640, .i32⟩
  | .local _ .vmem, ⟨1, _⟩ => ⟨S256x640, .i32⟩
  | .local _ .vmem, ⟨2, _⟩ => ⟨S256x2x512, .bf16⟩
  | .local _ .vmem, ⟨3, _⟩ => ⟨S256x2x512, .bf16⟩
  | .local _ .vmem, ⟨4, _⟩ => ⟨S8x1024x512, .bf16⟩
  | .local _ .vmem, ⟨5, _⟩ => ⟨S8x256x1024, .bf16⟩
  | .local _ .vmem, ⟨6, _⟩ => ⟨S2x1024x256, .f32⟩
  | .local _ .vmem, ⟨7, _⟩ => ⟨S2x1024x256, .f32⟩
  | .local _ .vmem, ⟨8, _⟩ => ⟨S2x256x1024, .f32⟩
  | .local _ .vmem, ⟨9, _⟩ => ⟨S1024x2x512, .bf16⟩
  | .local _ .vmem, ⟨10, _⟩ => ⟨S1024x2x512, .bf16⟩
  | .local _ .vmem, ⟨11, _⟩ => ⟨S1024x1024, .f32⟩
  | .local _ .vmem, ⟨12, _⟩ => ⟨S1024x1024, .f32⟩
  | .local _ .smem, ⟨0, _⟩ => ⟨S368, .i32⟩
  | .local _ .smem, ⟨1, _⟩ => ⟨S368, .i32⟩
  | .local _ .smem, ⟨2, _⟩ => ⟨S368, .i32⟩
  | .local _ .smem, ⟨3, _⟩ => ⟨S1, .i32⟩
  | _, _ => ⟨S94208x640, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_v1 : Ref sig .tc := ⟨.hbm, 5, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![368], ![false]⟩

abbrev pre0 : Pipeline.Prefetch sig := ⟨4, ![main_arg1.idx, main_arg2.idx, main_arg3.idx, main_arg4.idx], fun | 0 => main_arg1.names | 1 => main_arg2.names | 2 => main_arg3.names | 3 => main_arg4.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v5 : Index := Scalar.indexCast arg0
  ![v5.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v7 : Index := Scalar.indexCast v1
  ![v7.toNat]
def k0_off3 (i : grid0.Coords) : Fin 1 → Nat :=
  let arg0 : BitVec 32 := BitVec.ofNat 32 (i 0).val
  let v19 : Index := Scalar.indexCast arg0
  ![v19.toNat]
def k0_off4 (v20 : BitVec 32) (c0_i32_4 : BitVec 32) : Fin 3 → Nat :=
  let c8_i32 : BitVec 32 := 8#32
  let v21 : BitVec 32 := Scalar.muli v20 c8_i32
  let v22 : BitVec 32 := Scalar.addi v21 c0_i32_4
  let c0_i32_11 : BitVec 32 := 0#32
  let c0_i32_12 : BitVec 32 := 0#32
  ![v22.toNat, 0, 0]
def k0_cond1 (i : grid0.Coords) (v2 : BitVec 32) (v6 : BitVec 32) (v8 : BitVec 32) : BitVec 1 :=
  let arg0 : BitVec 32 := BitVec.ofNat 32 (i 0).val
  let v3 : BitVec 1 := Scalar.cmpi .slt arg0 v2
  let c0_i32_0 : BitVec 32 := 0#32
  let v4 : BitVec 1 := Scalar.cmpi .eq arg0 c0_i32_0
  let v9 : BitVec 1 := Scalar.cmpi .ne v6 v8
  let v10 : BitVec 1 := Scalar.ori v4 v9
  let v11 : BitVec 1 := Scalar.andi v3 v10
  let v12 : BitVec 32 := Scalar.extui v11
  let c0_i32_1 : BitVec 32 := 0#32
  let v13 : BitVec 1 := Scalar.cmpi .ne v12 c0_i32_1
  v13

def k0_off5 (v20 : BitVec 32) (c0_i32_6 : BitVec 32) : Fin 3 → Nat :=
  let c8_i32 : BitVec 32 := 8#32
  let v21 : BitVec 32 := Scalar.muli v20 c8_i32
  let v24 : BitVec 32 := Scalar.addi v21 c0_i32_6
  let c0_i32_23 : BitVec 32 := 0#32
  let c0_i32_24 : BitVec 32 := 0#32
  ![v24.toNat, 0, 0]

def k0_chk1 (i : grid0.Coords) (v2 : BitVec 32) (v6 : BitVec 32) (v8 : BitVec 32) (v20 : BitVec 32) : Prop :=
  (∀ (k0_h1 : k0_cond1 i v2 v6 v8 = 1#1), ∀ (r : Fin 8), ∀ a, (k0_off4 v20 (BitVec.ofNat 32 r.val)) a + S1x1024x256.size a ≤ S32x1024x256.size a) ∧
  (∀ (k0_h1 : k0_cond1 i v2 v6 v8 = 1#1), ∀ (r : Fin 8), ∀ a, (k0_off5 v20 (BitVec.ofNat 32 r.val)) a + S1x256x1024.size a ≤ S32x256x1024.size a)
theorem k0_off4_inb : ∀ (i : grid0.Coords) (v2 : BitVec 32) (v6 : BitVec 32) (v8 : BitVec 32) (v20 : BitVec 32) (k0_hw1 : k0_chk1 i v2 v6 v8 v20), ∀ (k0_h1 : k0_cond1 i v2 v6 v8 = 1#1), ∀ (r : Fin 8), ∀ a, (k0_off4 v20 (BitVec.ofNat 32 r.val)) a + S1x1024x256.size a ≤ S32x1024x256.size a := fun i v2 v6 v8 v20 k0_hw1 k0_h1 r => k0_hw1.1 k0_h1 r
theorem k0_off5_inb : ∀ (i : grid0.Coords) (v2 : BitVec 32) (v6 : BitVec 32) (v8 : BitVec 32) (v20 : BitVec 32) (k0_hw1 : k0_chk1 i v2 v6 v8 v20), ∀ (k0_h1 : k0_cond1 i v2 v6 v8 = 1#1), ∀ (r : Fin 8), ∀ a, (k0_off5 v20 (BitVec.ofNat 32 r.val)) a + S1x256x1024.size a ≤ S32x256x1024.size a := fun i v2 v6 v8 v20 k0_hw1 k0_h1 r => k0_hw1.2 k0_h1 r

def k0_off6 (i : grid0.Coords) : Fin 1 → Nat :=
  let arg0 : BitVec 32 := BitVec.ofNat 32 (i 0).val
  let v26 : Index := Scalar.indexCast arg0
  ![v26.toNat]
def k0_off7 (v27 : BitVec 32) : Fin 3 → Nat :=
  let v30 : Index := Scalar.indexCast v27
  let c0_7 : Index := 0#32
  let c0_8 : Index := 0#32
  ![v30.toNat, 0, 0]
def k0_cond2 (i : grid0.Coords) (v2 : BitVec 32) : BitVec 1 :=
  let arg0 : BitVec 32 := BitVec.ofNat 32 (i 0).val
  let v3 : BitVec 1 := Scalar.cmpi .slt arg0 v2
  let v14 : BitVec 32 := Scalar.extui v3
  let c0_i32_2 : BitVec 32 := 0#32
  let v15 : BitVec 1 := Scalar.cmpi .ne v14 c0_i32_2
  v15

def k0_off8 (v27 : BitVec 32) : Fin 3 → Nat :=
  let v34 : Index := Scalar.indexCast v27
  let c512_9 : Index := 512#32
  let c0_10 : Index := 0#32
  ![v34.toNat, 512, 0]
def k0_off9 (v27 : BitVec 32) : Fin 3 → Nat :=
  let v48 : Index := Scalar.indexCast v27
  let c0_12 : Index := 0#32
  let c0_13 : Index := 0#32
  ![v48.toNat, 0, 0]

def k0_chk2 (i : grid0.Coords) (v2 : BitVec 32) (v27 : BitVec 32) : Prop :=
  (∀ (k0_h2 : k0_cond2 i v2 = 1#1), ∀ a, (k0_off7 v27) a + S1x512x512.size a ≤ S8x1024x512.size a) ∧
  (∀ (k0_h2 : k0_cond2 i v2 = 1#1), ∀ a, (k0_off8 v27) a + S1x512x512.size a ≤ S8x1024x512.size a) ∧
  (∀ (k0_h2 : k0_cond2 i v2 = 1#1), ∀ a, (k0_off9 v27) a + S1x256x1024.size a ≤ S8x256x1024.size a)
theorem k0_off7_inb : ∀ (i : grid0.Coords) (v2 : BitVec 32) (v27 : BitVec 32) (k0_hw2 : k0_chk2 i v2 v27), ∀ (k0_h2 : k0_cond2 i v2 = 1#1), ∀ a, (k0_off7 v27) a + S1x512x512.size a ≤ S8x1024x512.size a := fun i v2 v27 k0_hw2 k0_h2 => k0_hw2.1 k0_h2
theorem k0_off8_inb : ∀ (i : grid0.Coords) (v2 : BitVec 32) (v27 : BitVec 32) (k0_hw2 : k0_chk2 i v2 v27), ∀ (k0_h2 : k0_cond2 i v2 = 1#1), ∀ a, (k0_off8 v27) a + S1x512x512.size a ≤ S8x1024x512.size a := fun i v2 v27 k0_hw2 k0_h2 => k0_hw2.2.1 k0_h2
theorem k0_off9_inb : ∀ (i : grid0.Coords) (v2 : BitVec 32) (v27 : BitVec 32) (k0_hw2 : k0_chk2 i v2 v27), ∀ (k0_h2 : k0_cond2 i v2 = 1#1), ∀ a, (k0_off9 v27) a + S1x256x1024.size a ≤ S8x256x1024.size a := fun i v2 v27 k0_hw2 k0_h2 => k0_hw2.2.2 k0_h2

def k0_off10 (v29 : BitVec 32) : Fin 3 → Nat :=
  let v52 : Index := Scalar.indexCast v29
  let c0_15 : Index := 0#32
  let c0_16 : Index := 0#32
  ![v52.toNat, 0, 0]

def k0_off11 (v29 : BitVec 32) : Fin 3 → Nat :=
  let v56 : Index := Scalar.indexCast v29
  let c512_18 : Index := 512#32
  let c0_19 : Index := 0#32
  ![v56.toNat, 512, 0]
def k0_off12 (v29 : BitVec 32) : Fin 3 → Nat :=
  let v70 : Index := Scalar.indexCast v29
  let c0_21 : Index := 0#32
  let c0_22 : Index := 0#32
  ![v70.toNat, 0, 0]

def k0_chk3 (i : grid0.Coords) (v2 : BitVec 32) (v29 : BitVec 32) : Prop :=
  (∀ (k0_h2 : k0_cond2 i v2 = 1#1), ∀ a, (k0_off10 v29) a + S1x512x512.size a ≤ S8x1024x512.size a) ∧
  (∀ (k0_h2 : k0_cond2 i v2 = 1#1), ∀ a, (k0_off11 v29) a + S1x512x512.size a ≤ S8x1024x512.size a) ∧
  (∀ (k0_h2 : k0_cond2 i v2 = 1#1), ∀ a, (k0_off12 v29) a + S1x256x1024.size a ≤ S8x256x1024.size a)
theorem k0_off10_inb : ∀ (i : grid0.Coords) (v2 : BitVec 32) (v29 : BitVec 32) (k0_hw3 : k0_chk3 i v2 v29), ∀ (k0_h2 : k0_cond2 i v2 = 1#1), ∀ a, (k0_off10 v29) a + S1x512x512.size a ≤ S8x1024x512.size a := fun i v2 v29 k0_hw3 k0_h2 => k0_hw3.1 k0_h2
theorem k0_off11_inb : ∀ (i : grid0.Coords) (v2 : BitVec 32) (v29 : BitVec 32) (k0_hw3 : k0_chk3 i v2 v29), ∀ (k0_h2 : k0_cond2 i v2 = 1#1), ∀ a, (k0_off11 v29) a + S1x512x512.size a ≤ S8x1024x512.size a := fun i v2 v29 k0_hw3 k0_h2 => k0_hw3.2.1 k0_h2
theorem k0_off12_inb : ∀ (i : grid0.Coords) (v2 : BitVec 32) (v29 : BitVec 32) (k0_hw3 : k0_chk3 i v2 v29), ∀ (k0_h2 : k0_cond2 i v2 = 1#1), ∀ a, (k0_off12 v29) a + S1x256x1024.size a ≤ S8x256x1024.size a := fun i v2 v29 k0_hw3 k0_h2 => k0_hw3.2.2 k0_h2

def k0_cond3 (i : grid0.Coords) (v2 : BitVec 32) : BitVec 1 :=
  let arg0 : BitVec 32 := BitVec.ofNat 32 (i 0).val
  let v3 : BitVec 1 := Scalar.cmpi .slt arg0 v2
  let v_true : BitVec 1 := 1#1
  let v16 : BitVec 1 := Scalar.xori v3 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 3 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S256x640 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![92], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S94208x640 : Shape := ⟨2, ![94208, 640]⟩
abbrev S368 : Shape := ⟨1, ![368]⟩
abbrev S1 : Shape := ⟨1, ![1]⟩
abbrev S32x1024x256 : Shape := ⟨3, ![32, 1024, 256]⟩
abbrev S32x256x1024 : Shape := ⟨3, ![32, 256, 1024]⟩
abbrev S94208x512 : Shape := ⟨2, ![94208, 512]⟩
abbrev S_ : Shape := ⟨0, ![]⟩
abbrev S94208x1024 : Shape := ⟨2, ![94208, 1024]⟩
abbrev S94208x2 : Shape := ⟨2, ![94208, 2]⟩
abbrev S368x1 : Shape := ⟨2, ![368, 1]⟩
abbrev S368x2 : Shape := ⟨2, ![368, 2]⟩
abbrev S368x1x2 : Shape := ⟨3, ![368, 1, 2]⟩
abbrev S368x256x2 : Shape := ⟨3, ![368, 256, 2]⟩
abbrev S94208x2x1 : Shape := ⟨3, ![94208, 2, 1]⟩
abbrev S1x1x32 : Shape := ⟨3, ![1, 1, 32]⟩
abbrev S94208x2x32 : Shape := ⟨3, ![94208, 2, 32]⟩
abbrev S94208x32 : Shape := ⟨2, ![94208, 32]⟩
abbrev S32x256x94208 : Shape := ⟨3, ![32, 256, 94208]⟩
abbrev S32x94208x256 : Shape := ⟨3, ![32, 94208, 256]⟩
abbrev S32x94208x1024 : Shape := ⟨3, ![32, 94208, 1024]⟩
abbrev S32x94208 : Shape := ⟨2, ![32, 94208]⟩
abbrev S32x94208x1 : Shape := ⟨3, ![32, 94208, 1]⟩
abbrev S94208 : Shape := ⟨1, ![94208]⟩
abbrev S94208x1 : Shape := ⟨2, ![94208, 1]⟩

abbrev nBuf : Space → Nat
  | .hbm => 92
  | .vmem => 0
  | .smem => 0
  | _ => 0

abbrev bufTy : (tb : Table) → Fin (tcTables nBuf tb) → BufTy
  | .hbm, ⟨0, _⟩ => ⟨S94208x640, .i32⟩
  | .hbm, ⟨1, _⟩ => ⟨S368, .i32⟩
  | .hbm, ⟨2, _⟩ => ⟨S368, .i32⟩
  | .hbm, ⟨3, _⟩ => ⟨S368, .i32⟩
  | .hbm, ⟨4, _⟩ => ⟨S1, .i32⟩
  | .hbm, ⟨5, _⟩ => ⟨S32x1024x256, .f32⟩
  | .hbm, ⟨6, _⟩ => ⟨S32x1024x256, .f32⟩
  | .hbm, ⟨7, _⟩ => ⟨S32x256x1024, .f32⟩
  | .hbm, ⟨8, _⟩ => ⟨S94208x512, .i32⟩
  | .hbm, ⟨9, _⟩ => ⟨S_, .i32⟩
  | .hbm, ⟨10, _⟩ => ⟨S94208x512, .i32⟩
  | .hbm, ⟨11, _⟩ => ⟨S94208x512, .i32⟩
  | .hbm, ⟨12, _⟩ => ⟨S94208x512, .f32⟩
  | .hbm, ⟨13, _⟩ => ⟨S_, .i32⟩
  | .hbm, ⟨14, _⟩ => ⟨S94208x512, .i32⟩
  | .hbm, ⟨15, _⟩ => ⟨S94208x512, .i32⟩
  | .hbm, ⟨16, _⟩ => ⟨S94208x512, .f32⟩
  | .hbm, ⟨17, _⟩ => ⟨S94208x1024, .f32⟩
  | .hbm, ⟨18, _⟩ => ⟨S94208x2, .i32⟩
  | .hbm, ⟨19, _⟩ => ⟨S94208x2, .f32⟩
  | .hbm, ⟨20, _⟩ => ⟨S368x1, .i32⟩
  | .hbm, ⟨21, _⟩ => ⟨S_, .i32⟩
  | .hbm, ⟨22, _⟩ => ⟨S368x1, .i32⟩
  | .hbm, ⟨23, _⟩ => ⟨S368x1, .i32⟩
  | .hbm, ⟨24, _⟩ => ⟨S368x1, .i32⟩
  | .hbm, ⟨25, _⟩ => ⟨S368x1, .i32⟩
  | .hbm, ⟨26, _⟩ => ⟨S368x2, .i32⟩
  | .hbm, ⟨27, _⟩ => ⟨S368x2, .i32⟩
  | .hbm, ⟨28, _⟩ => ⟨S368x2, .i32⟩
  | .hbm, ⟨29, _⟩ => ⟨S368x1x2, .i32⟩
  | .hbm, ⟨30, _⟩ => ⟨S368x256x2, .i32⟩
  | .hbm, ⟨31, _⟩ => ⟨S94208x2, .i32⟩
  | .hbm, ⟨32, _⟩ => ⟨S94208x2x1, .i32⟩
  | .hbm, ⟨33, _⟩ => ⟨S1x1x32, .i32⟩
  | .hbm, ⟨34, _⟩ => ⟨S94208x2x32, .i32⟩
  | .hbm, ⟨35, _⟩ => ⟨S94208x2x32, .i32⟩
  | .hbm, ⟨36, _⟩ => ⟨S94208x2x32, .i1⟩
  | .hbm, ⟨37, _⟩ => ⟨S94208x2x32, .f32⟩
  | .hbm, ⟨38, _⟩ => ⟨S94208x2x1, .f32⟩
  | .hbm, ⟨39, _⟩ => ⟨S94208x2x32, .f32⟩
  | .hbm, ⟨40, _⟩ => ⟨S94208x2x32, .f32⟩
  | .hbm, ⟨41, _⟩ => ⟨S_, .f32⟩
  | .hbm, ⟨42, _⟩ => ⟨S94208x32, .f32⟩
  | .hbm, ⟨43, _⟩ => ⟨S32x256x94208, .f32⟩
  | .hbm, ⟨44, _⟩ => ⟨S32x94208x256, .f32⟩
  | .hbm, ⟨45, _⟩ => ⟨S32x94208x256, .f32⟩
  | .hbm, ⟨46, _⟩ => ⟨S32x94208x256, .f32⟩
  | .hbm, ⟨47, _⟩ => ⟨S_, .f32⟩
  | .hbm, ⟨48, _⟩ => ⟨S32x94208x256, .f32⟩
  | .hbm, ⟨49, _⟩ => ⟨S32x94208x256, .f32⟩
  | .hbm, ⟨50, _⟩ => ⟨S_, .f32⟩
  | .hbm, ⟨51, _⟩ => ⟨S32x94208x256, .f32⟩
  | .hbm, ⟨52, _⟩ => ⟨S32x94208x256, .f32⟩
  | .hbm, ⟨53, _⟩ => ⟨S32x94208x256, .f32⟩
  | .hbm, ⟨54, _⟩ => ⟨S32x256x94208, .f32⟩
  | .hbm, ⟨55, _⟩ => ⟨S32x94208x256, .f32⟩
  | .hbm, ⟨56, _⟩ => ⟨S32x94208x256, .f32⟩
  | .hbm, ⟨57, _⟩ => ⟨S32x94208x1024, .f32⟩
  | .hbm, ⟨58, _⟩ => ⟨S32x94208, .f32⟩
  | .hbm, ⟨59, _⟩ => ⟨S32x94208x1, .f32⟩
  | .hbm, ⟨60, _⟩ => ⟨S32x94208x1024, .f32⟩
  | .hbm, ⟨61, _⟩ => ⟨S32x94208x1024, .f32⟩
  | .hbm, ⟨62, _⟩ => ⟨S_, .f32⟩
  | .hbm, ⟨63, _⟩ => ⟨S94208x1024, .f32⟩
  | .hbm, ⟨64, _⟩ => ⟨S94208, .i32⟩
  | .hbm, ⟨65, _⟩ => ⟨S94208x1, .i32⟩
  | .hbm, ⟨66, _⟩ => ⟨S_, .i32⟩
  | .hbm, ⟨67, _⟩ => ⟨S_, .i32⟩
  | .hbm, ⟨68, _⟩ => ⟨S94208x1, .i32⟩
  | .hbm, ⟨69, _⟩ => ⟨S94208x1, .i32⟩
  | .hbm, ⟨70, _⟩ => ⟨S94208x1, .i32⟩
  | .hbm, ⟨71, _⟩ => ⟨S_, .i32⟩
  | .hbm, ⟨72, _⟩ => ⟨S94208x1, .i32⟩
  | .hbm, ⟨73, _⟩ => ⟨S94208x1, .i1⟩
  | .hbm, ⟨74, _⟩ => ⟨S94208x1, .i32⟩
  | .hbm, ⟨75, _⟩ => ⟨S94208x1, .i32⟩
  | .hbm, ⟨76, _⟩ => ⟨S_, .i32⟩
  | .hbm, ⟨77, _⟩ => ⟨S94208x1, .i32⟩
  | .hbm, ⟨78, _⟩ => ⟨S94208x1, .i1⟩
  | .hbm, ⟨79, _⟩ => ⟨S94208x1, .i1⟩
  | .hbm, ⟨80, _⟩ => ⟨S_, .i32⟩
  | .hbm, ⟨81, _⟩ => ⟨S94208x1, .i32⟩
  | .hbm, ⟨82, _⟩ => ⟨S94208x1, .i32⟩
  | .hbm, ⟨83, _⟩ => ⟨S94208x1, .i32⟩
  | .hbm, ⟨84, _⟩ => ⟨S_, .i32⟩
  | .hbm, ⟨85, _⟩ => ⟨S94208x1, .i32⟩
  | .hbm, ⟨86, _⟩ => ⟨S94208x1, .i1⟩
  | .hbm, ⟨87, _⟩ => ⟨S_, .f32⟩
  | .hbm, ⟨88, _⟩ => ⟨S_, .f32⟩
  | .hbm, ⟨89, _⟩ => ⟨S94208x1024, .i1⟩
  | .hbm, ⟨90, _⟩ => ⟨S94208x1024, .f32⟩
  | .hbm, ⟨91, _⟩ => ⟨S94208x1024, .f32⟩
  | _, _ => ⟨S94208x640, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_2 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_3 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_c : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_0 : Ref sig .tc := ⟨.hbm, 80, rfl⟩
abbrev main_call2_v12 : Ref sig .tc := ⟨.hbm, 81, rfl⟩
abbrev main_call2_v13 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_4 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v44 : Ref sig .tc := ⟨.hbm, 91, rfl⟩

abbrev nD : Nat := 1
abbrev τ : Topo := Topo.v7x

variable {F : FTy → Type} [FloatOps F]
-- ==== Kernel2.lean ====
abbrev S64x1x1024 : Shape := ⟨3, ![64, 1, 1024]⟩
abbrev S65536x1024 : Shape := ⟨2, ![65536, 1024]⟩
abbrev S94208x512 : Shape := ⟨2, ![94208, 512]⟩
abbrev S1024 : Shape := ⟨1, ![1024]⟩
abbrev S1x1024 : Shape := ⟨2, ![1, 1024]⟩
abbrev S1x1x1024 : Shape := ⟨3, ![1, 1, 1024]⟩
abbrev S1024x1024 : Shape := ⟨2, ![1024, 1024]⟩
abbrev S2x1024x512 : Shape := ⟨3, ![2, 1024, 512]⟩
abbrev S2 : Shape := ⟨1, ![2]⟩
abbrev S1x1x1 : Shape := ⟨3, ![1, 1, 1]⟩
abbrev S1 : Shape := ⟨1, ![1]⟩
abbrev S_ : Shape := ⟨0, ![]⟩
abbrev S1x1024x512 : Shape := ⟨3, ![1, 1024, 512]⟩
abbrev S1024x512 : Shape := ⟨2, ![1024, 512]⟩
abbrev S1x512 : Shape := ⟨2, ![1, 512]⟩
abbrev S1024x1 : Shape := ⟨2, ![1024, 1]⟩

abbrev nBuf : Space → Nat
  | .hbm => 6
  | .vmem => 6
  | .smem => 4
  | _ => 0

abbrev bufTy : (tb : Table) → Fin (tcTables nBuf tb) → BufTy
  | .hbm, ⟨0, _⟩ => ⟨S64x1x1024, .i32⟩
  | .hbm, ⟨1, _⟩ => ⟨S65536x1024, .f32⟩
  | .hbm, ⟨2, _⟩ => ⟨S94208x512, .i32⟩
  | .hbm, ⟨3, _⟩ => ⟨S1024, .f32⟩
  | .hbm, ⟨4, _⟩ => ⟨S1x1024, .f32⟩
  | .hbm, ⟨5, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S2x1024x512, .i32⟩
  | .local _ .smem, ⟨0, _⟩ => ⟨S1x1x1024, .i32⟩
  | .local _ .smem, ⟨1, _⟩ => ⟨S1x1x1024, .i32⟩
  | .local _ .smem, ⟨2, _⟩ => ⟨S1x1x1024, .i32⟩
  | .local _ .smem, ⟨3, _⟩ => ⟨S1x1x1024, .i32⟩
  | _, _ => ⟨S64x1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32_4 : BitVec 32 := 0#32
  let v11 : BitVec 1 := Scalar.cmpi .eq arg0 c0_i32_4
  let v12 : BitVec 32 := Scalar.extui v11
  let c0_i32_5 : BitVec 32 := 0#32
  let v13 : BitVec 1 := Scalar.cmpi .ne v12 c0_i32_5
  v13

@[reducible] def k0_t1_loop : Scf.Loop 32 :=
  let c0_i32_18 : BitVec 32 := 0#32
  let c1024_i32_19 : BitVec 32 := 1024#32
  let v41 : BitVec 32 := Scalar.addi c0_i32_18 c1024_i32_19
  let c1_i32_20 : BitVec 32 := 1#32
  ⟨c0_i32_18, v41, c1_i32_20⟩
def k0_off1 (k0_t1 : Fin k0_t1_loop.trips) : Fin 3 → Nat :=
  let c0_22 : Index := 0#32
  let c0_23 : Index := 0#32
  let c0_i32_18 : BitVec 32 := 0#32
  let c1_i32_20 : BitVec 32 := 1#32
  let arg9 : BitVec 32 := Scf.iv c0_i32_18 c1_i32_20 k0_t1
  let v42 : Index := Scalar.indexCast arg9
  ![0, 0, v42.toNat]
def k0_off2 (k0_t1 : Fin k0_t1_loop.trips) : Fin 2 → Nat :=
  let c0_i32_18 : BitVec 32 := 0#32
  let c1_i32_20 : BitVec 32 := 1#32
  let arg9 : BitVec 32 := Scf.iv c0_i32_18 c1_i32_20 k0_t1
  let c0_i32_28 : BitVec 32 := 0#32
  ![arg9.toNat, 0]
def k0_off3 (v43 : BitVec 32) : Fin 2 → Nat :=
  let c0_i32_29 : BitVec 32 := 0#32
  ![v43.toNat, 0]

def k0_chk1 (i : grid0.Coords) (v43 : BitVec 32) : Prop :=
  (∀ (k0_h1 : k0_cond1 i = 1#1), ∀ a, (k0_off3 v43) a + S1x512.size a ≤ S94208x512.size a)
theorem k0_off3_inb : ∀ (i : grid0.Coords) (v43 : BitVec 32) (k0_hw1 : k0_chk1 i v43), ∀ (k0_h1 : k0_cond1 i = 1#1), ∀ a, (k0_off3 v43) a + S1x512.size a ≤ S94208x512.size a := fun i v43 k0_hw1 k0_h1 => k0_hw1 k0_h1

def k0_cond2 (i : grid0.Coords) : BitVec 1 :=
  let arg0 : BitVec 32 := BitVec.ofNat 32 (i 0).val
  let c1_i32_6 : BitVec 32 := 1#32
  let v14 : BitVec 32 := Scalar.addi arg0 c1_i32_6
  let c64_i32 : BitVec 32 := 64#32
  let v15 : BitVec 1 := Scalar.cmpi .slt v14 c64_i32
  let v16 : BitVec 32 := Scalar.extui v15
  let c0_i32_7 : BitVec 32 := 0#32
  let v17 : BitVec 1 := Scalar.cmpi .ne v16 c0_i32_7
  v17

@[reducible] def k0_t2_loop : Scf.Loop 32 :=
  let c0_i32_19 : BitVec 32 := 0#32
  let c1024_i32_20 : BitVec 32 := 1024#32
  let v42 : BitVec 32 := Scalar.addi c0_i32_19 c1024_i32_20
  let c1_i32_21 : BitVec 32 := 1#32
  ⟨c0_i32_19, v42, c1_i32_21⟩
def k0_off4 (k0_t2 : Fin k0_t2_loop.trips) : Fin 3 → Nat :=
  let c0_23 : Index := 0#32
  let c0_24 : Index := 0#32
  let c0_i32_19 : BitVec 32 := 0#32
  let c1_i32_21 : BitVec 32 := 1#32
  let arg9 : BitVec 32 := Scf.iv c0_i32_19 c1_i32_21 k0_t2
  let v43 : Index := Scalar.indexCast arg9
  ![0, 0, v43.toNat]
def k0_off5 (i : grid0.Coords) : Fin 1 → Nat :=
  let c1_i32_18 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v41 : BitVec 32 := Scalar.subi c1_i32_18 v10
  ![v41.toNat]
def k0_off6 (i : grid0.Coords) : Fin 3 → Nat :=
  let c1_i32_18 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v41 : BitVec 32 := Scalar.subi c1_i32_18 v10
  let c0_i32_25 : BitVec 32 := 0#32
  let c0_i32_26 : BitVec 32 := 0#32
  ![v41.toNat, 0, 0]
def k0_off7 (k0_t2 : Fin k0_t2_loop.trips) : Fin 2 → Nat :=
  let c0_i32_19 : BitVec 32 := 0#32
  let c1_i32_21 : BitVec 32 := 1#32
  let arg9 : BitVec 32 := Scf.iv c0_i32_19 c1_i32_21 k0_t2
  let c0_i32_27 : BitVec 32 := 0#32
  ![arg9.toNat, 0]
def k0_off8 (v44 : BitVec 32) : Fin 2 → Nat :=
  let c0_i32_28 : BitVec 32 := 0#32
  ![v44.toNat, 0]

def k0_chk2 (i : grid0.Coords) (v44 : BitVec 32) : Prop :=
  (∀ (k0_h2 : k0_cond2 i = 1#1), ∀ a, (k0_off8 v44) a + S1x512.size a ≤ S94208x512.size a)
theorem k0_off8_inb : ∀ (i : grid0.Coords) (v44 : BitVec 32) (k0_hw2 : k0_chk2 i v44), ∀ (k0_h2 : k0_cond2 i = 1#1), ∀ a, (k0_off8 v44) a + S1x512.size a ≤ S94208x512.size a := fun i v44 k0_hw2 k0_h2 => k0_hw2 k0_h2

@[reducible] def k0_t3_loop : Scf.Loop 32 :=
  let c0_i32_8 : BitVec 32 := 0#32
  let c1024_i32 : BitVec 32 := 1024#32
  let v18 : BitVec 32 := Scalar.addi c0_i32_8 c1024_i32
  let c1_i32_9 : BitVec 32 := 1#32
  ⟨c0_i32_8, v18, c1_i32_9⟩
def k0_off9 (i : grid0.Coords) : Fin 1 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  ![v10.toNat]
def k0_off10 (i : grid0.Coords) : Fin 3 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c0_i32_18 : BitVec 32 := 0#32
  let c0_i32_19 : BitVec 32 := 0#32
  ![v10.toNat, 0, 0]
def k0_off11 (i : grid0.Coords) : Fin 3 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v19 : Index := Scalar.indexCast v10
  let c0_10 : Index := 0#32
  let c0_11 : Index := 0#32
  ![v19.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S64x1x1024 : Shape := ⟨3, ![64, 1, 1024]⟩
abbrev S65536x1024 : Shape := ⟨2, ![65536, 1024]⟩
abbrev S94208x512 : Shape := ⟨2, ![94208, 512]⟩
abbrev S1024 : Shape := ⟨1, ![1024]⟩
abbrev S65536 : Shape := ⟨1, ![65536]⟩
abbrev S_ : Shape := ⟨0, ![]⟩
abbrev S65536x1 : Shape := ⟨2, ![65536, 1]⟩
abbrev S65536x512 : Shape := ⟨2, ![65536, 512]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S64x1x1024, .i32⟩
  | .hbm, ⟨1, _⟩ => ⟨S65536x1024, .f32⟩
  | .hbm, ⟨2, _⟩ => ⟨S94208x512, .i32⟩
  | .hbm, ⟨3, _⟩ => ⟨S1024, .f32⟩
  | .hbm, ⟨4, _⟩ => ⟨S65536, .i32⟩
  | .hbm, ⟨5, _⟩ => ⟨S_, .i32⟩
  | .hbm, ⟨6, _⟩ => ⟨S65536, .i32⟩
  | .hbm, ⟨7, _⟩ => ⟨S65536, .i1⟩
  | .hbm, ⟨8, _⟩ => ⟨S_, .i32⟩
  | .hbm, ⟨9, _⟩ => ⟨S65536, .i32⟩
  | .hbm, ⟨10, _⟩ => ⟨S65536, .i32⟩
  | .hbm, ⟨11, _⟩ => ⟨S65536, .i32⟩
  | .hbm, ⟨12, _⟩ => ⟨S65536x1, .i32⟩
  | .hbm, ⟨13, _⟩ => ⟨S65536x512, .i32⟩
  | .hbm, ⟨14, _⟩ => ⟨S_, .i32⟩
  | .hbm, ⟨15, _⟩ => ⟨S65536x512, .i32⟩
  | .hbm, ⟨16, _⟩ => ⟨S65536x512, .i32⟩
  | .hbm, ⟨17, _⟩ => ⟨S65536x512, .f32⟩
  | .hbm, ⟨18, _⟩ => ⟨S_, .i32⟩
  | .hbm, ⟨19, _⟩ => ⟨S65536x512, .i32⟩
  | .hbm, ⟨20, _⟩ => ⟨S65536x512, .i32⟩
  | .hbm, ⟨21, _⟩ => ⟨S65536x512, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S_, .f32⟩
  | .hbm, ⟨26, _⟩ => ⟨S65536, .f32⟩
  | .hbm, ⟨27, _⟩ => ⟨S65536x1, .f32⟩
  | .hbm, ⟨28, _⟩ => ⟨S_, .f32⟩
  | .hbm, ⟨29, _⟩ => ⟨S65536x1, .f32⟩
  | .hbm, ⟨30, _⟩ => ⟨S65536x1, .f32⟩
  | .hbm, ⟨31, _⟩ => ⟨S_, .f32⟩
  | .hbm, ⟨32, _⟩ => ⟨S65536x1, .f32⟩
  | .hbm, ⟨33, _⟩ => ⟨S65536x1, .f32⟩
  | .hbm, ⟨34, _⟩ => ⟨S65536x1, .f32⟩
  | .hbm, ⟨35, _⟩ => ⟨S65536x1024, .f32⟩
  | .hbm, ⟨36, _⟩ => ⟨S65536x1024, .f32⟩
  | .hbm, ⟨37, _⟩ => ⟨S1x1024, .f32⟩
  | .hbm, ⟨38, _⟩ => ⟨S65536x1024, .f32⟩
  | .hbm, ⟨39, _⟩ => ⟨S65536x1024, .f32⟩
  | _, _ => ⟨S64x1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel3.lean ====
abbrev S64x1x1024 : Shape := ⟨3, ![64, 1, 1024]⟩
abbrev S65536x1024 : Shape := ⟨2, ![65536, 1024]⟩
abbrev S94208x512 : Shape := ⟨2, ![94208, 512]⟩
abbrev S1024 : Shape := ⟨1, ![1024]⟩
abbrev S1024x1024 : Shape := ⟨2, ![1024, 1024]⟩
abbrev S1x1024 : Shape := ⟨2, ![1, 1024]⟩
abbrev S1x1x1024 : Shape := ⟨3, ![1, 1, 1024]⟩
abbrev S2x1024x512 : Shape := ⟨3, ![2, 1024, 512]⟩
abbrev S2 : Shape := ⟨1, ![2]⟩
abbrev S1x1x1 : Shape := ⟨3, ![1, 1, 1]⟩
abbrev S1 : Shape := ⟨1, ![1]⟩
abbrev S_ : Shape := ⟨0, ![]⟩
abbrev S1x1024x512 : Shape := ⟨3, ![1, 1024, 512]⟩
abbrev S1024x512 : Shape := ⟨2, ![1024, 512]⟩
abbrev S1x512 : Shape := ⟨2, ![1, 512]⟩
abbrev S1024x1 : Shape := ⟨2, ![1024, 1]⟩

abbrev nBuf : Space → Nat
  | .hbm => 9
  | .vmem => 9
  | .smem => 4
  | _ => 0

abbrev bufTy : (tb : Table) → Fin (tcTables nBuf tb) → BufTy
  | .hbm, ⟨0, _⟩ => ⟨S64x1x1024, .i32⟩
  | .hbm, ⟨1, _⟩ => ⟨S65536x1024, .f32⟩
  | .hbm, ⟨2, _⟩ => ⟨S94208x512, .i32⟩
  | .hbm, ⟨3, _⟩ => ⟨S1024, .f32⟩
  | .hbm, ⟨4, _⟩ => ⟨S1024x1024, .f32⟩
  | .hbm, ⟨5, _⟩ => ⟨S1024x1024, .bf16⟩
  | .hbm, ⟨6, _⟩ => ⟨S1x1024, .f32⟩
  | .hbm, ⟨7, _⟩ => ⟨S65536x1024, .f32⟩
  | .hbm, ⟨8, _⟩ => ⟨S65536x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S2x1024x512, .i32⟩
  | .local _ .smem, ⟨0, _⟩ => ⟨S1x1x1024, .i32⟩
  | .local _ .smem, ⟨1, _⟩ => ⟨S1x1x1024, .i32⟩
  | .local _ .smem, ⟨2, _⟩ => ⟨S1x1x1024, .i32⟩
  | .local _ .smem, ⟨3, _⟩ => ⟨S1x1x1024, .i32⟩
  | _, _ => ⟨S64x1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32_4 : BitVec 32 := 0#32
  let v11 : BitVec 1 := Scalar.cmpi .eq arg0 c0_i32_4
  let v12 : BitVec 32 := Scalar.extui v11
  let c0_i32_5 : BitVec 32 := 0#32
  let v13 : BitVec 1 := Scalar.cmpi .ne v12 c0_i32_5
  v13

@[reducible] def k0_t1_loop : Scf.Loop 32 :=
  let c0_i32_23 : BitVec 32 := 0#32
  let c1024_i32_24 : BitVec 32 := 1024#32
  let v47 : BitVec 32 := Scalar.addi c0_i32_23 c1024_i32_24
  let c1_i32_25 : BitVec 32 := 1#32
  ⟨c0_i32_23, v47, c1_i32_25⟩
def k0_off1 (k0_t1 : Fin k0_t1_loop.trips) : Fin 3 → Nat :=
  let c0_27 : Index := 0#32
  let c0_28 : Index := 0#32
  let c0_i32_23 : BitVec 32 := 0#32
  let c1_i32_25 : BitVec 32 := 1#32
  let arg11 : BitVec 32 := Scf.iv c0_i32_23 c1_i32_25 k0_t1
  let v48 : Index := Scalar.indexCast arg11
  ![0, 0, v48.toNat]
def k0_off2 (k0_t1 : Fin k0_t1_loop.trips) : Fin 2 → Nat :=
  let c0_i32_23 : BitVec 32 := 0#32
  let c1_i32_25 : BitVec 32 := 1#32
  let arg11 : BitVec 32 := Scf.iv c0_i32_23 c1_i32_25 k0_t1
  let c0_i32_33 : BitVec 32 := 0#32
  ![arg11.toNat, 0]
def k0_off3 (v49 : BitVec 32) : Fin 2 → Nat :=
  let c0_i32_34 : BitVec 32 := 0#32
  ![v49.toNat, 0]

def k0_chk1 (i : grid0.Coords) (v49 : BitVec 32) : Prop :=
  (∀ (k0_h1 : k0_cond1 i = 1#1), ∀ a, (k0_off3 v49) a + S1x512.size a ≤ S94208x512.size a)
theorem k0_off3_inb : ∀ (i : grid0.Coords) (v49 : BitVec 32) (k0_hw1 : k0_chk1 i v49), ∀ (k0_h1 : k0_cond1 i = 1#1), ∀ a, (k0_off3 v49) a + S1x512.size a ≤ S94208x512.size a := fun i v49 k0_hw1 k0_h1 => k0_hw1 k0_h1

def k0_cond2 (i : grid0.Coords) : BitVec 1 :=
  let arg0 : BitVec 32 := BitVec.ofNat 32 (i 0).val
  let c1_i32_6 : BitVec 32 := 1#32
  let v14 : BitVec 32 := Scalar.addi arg0 c1_i32_6
  let c64_i32 : BitVec 32 := 64#32
  let v15 : BitVec 1 := Scalar.cmpi .slt v14 c64_i32
  let v16 : BitVec 32 := Scalar.extui v15
  let c0_i32_7 : BitVec 32 := 0#32
  let v17 : BitVec 1 := Scalar.cmpi .ne v16 c0_i32_7
  v17

@[reducible] def k0_t2_loop : Scf.Loop 32 :=
  let c0_i32_24 : BitVec 32 := 0#32
  let c1024_i32_25 : BitVec 32 := 1024#32
  let v48 : BitVec 32 := Scalar.addi c0_i32_24 c1024_i32_25
  let c1_i32_26 : BitVec 32 := 1#32
  ⟨c0_i32_24, v48, c1_i32_26⟩
def k0_off4 (k0_t2 : Fin k0_t2_loop.trips) : Fin 3 → Nat :=
  let c0_28 : Index := 0#32
  let c0_29 : Index := 0#32
  let c0_i32_24 : BitVec 32 := 0#32
  let c1_i32_26 : BitVec 32 := 1#32
  let arg11 : BitVec 32 := Scf.iv c0_i32_24 c1_i32_26 k0_t2
  let v49 : Index := Scalar.indexCast arg11
  ![0, 0, v49.toNat]
def k0_off5 (i : grid0.Coords) : Fin 1 → Nat :=
  let c1_i32_23 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v47 : BitVec 32 := Scalar.subi c1_i32_23 v10
  ![v47.toNat]
def k0_off6 (i : grid0.Coords) : Fin 3 → Nat :=
  let c1_i32_23 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v47 : BitVec 32 := Scalar.subi c1_i32_23 v10
  let c0_i32_30 : BitVec 32 := 0#32
  let c0_i32_31 : BitVec 32 := 0#32
  ![v47.toNat, 0, 0]
def k0_off7 (k0_t2 : Fin k0_t2_loop.trips) : Fin 2 → Nat :=
  let c0_i32_24 : BitVec 32 := 0#32
  let c1_i32_26 : BitVec 32 := 1#32
  let arg11 : BitVec 32 := Scf.iv c0_i32_24 c1_i32_26 k0_t2
  let c0_i32_32 : BitVec 32 := 0#32
  ![arg11.toNat, 0]
def k0_off8 (v50 : BitVec 32) : Fin 2 → Nat :=
  let c0_i32_33 : BitVec 32 := 0#32
  ![v50.toNat, 0]

def k0_chk2 (i : grid0.Coords) (v50 : BitVec 32) : Prop :=
  (∀ (k0_h2 : k0_cond2 i = 1#1), ∀ a, (k0_off8 v50) a + S1x512.size a ≤ S94208x512.size a)
theorem k0_off8_inb : ∀ (i : grid0.Coords) (v50 : BitVec 32) (k0_hw2 : k0_chk2 i v50), ∀ (k0_h2 : k0_cond2 i = 1#1), ∀ a, (k0_off8 v50) a + S1x512.size a ≤ S94208x512.size a := fun i v50 k0_hw2 k0_h2 => k0_hw2 k0_h2

@[reducible] def k0_t3_loop : Scf.Loop 32 :=
  let c0_i32_8 : BitVec 32 := 0#32
  let c1024_i32 : BitVec 32 := 1024#32
  let v18 : BitVec 32 := Scalar.addi c0_i32_8 c1024_i32
  let c1_i32_9 : BitVec 32 := 1#32
  ⟨c0_i32_8, v18, c1_i32_9⟩
def k0_off9 (i : grid0.Coords) : Fin 1 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  ![v10.toNat]
def k0_off10 (i : grid0.Coords) : Fin 3 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c0_i32_23 : BitVec 32 := 0#32
  let c0_i32_24 : BitVec 32 := 0#32
  ![v10.toNat, 0, 0]
def k0_off11 (i : grid0.Coords) : Fin 3 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v19 : Index := Scalar.indexCast v10
  let c0_10 : Index := 0#32
  let c0_11 : Index := 0#32
  ![v19.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S64x1x1024 : Shape := ⟨3, ![64, 1, 1024]⟩
abbrev S65536x1024 : Shape := ⟨2, ![65536, 1024]⟩
abbrev S94208x512 : Shape := ⟨2, ![94208, 512]⟩
abbrev S1024 : Shape := ⟨1, ![1024]⟩
abbrev S1024x1024 : Shape := ⟨2, ![1024, 1024]⟩
abbrev S65536 : Shape := ⟨1, ![65536]⟩
abbrev S_ : Shape := ⟨0, ![]⟩
abbrev S65536x1 : Shape := ⟨2, ![65536, 1]⟩
abbrev S65536x512 : Shape := ⟨2, ![65536, 512]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S64x1x1024, .i32⟩
  | .hbm, ⟨1, _⟩ => ⟨S65536x1024, .f32⟩
  | .hbm, ⟨2, _⟩ => ⟨S94208x512, .i32⟩
  | .hbm, ⟨3, _⟩ => ⟨S1024, .f32⟩
  | .hbm, ⟨4, _⟩ => ⟨S1024x1024, .f32⟩
  | .hbm, ⟨5, _⟩ => ⟨S65536, .i32⟩
  | .hbm, ⟨6, _⟩ => ⟨S_, .i32⟩
  | .hbm, ⟨7, _⟩ => ⟨S65536, .i32⟩
  | .hbm, ⟨8, _⟩ => ⟨S65536, .i1⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S65536x1, .i32⟩
  | .hbm, ⟨14, _⟩ => ⟨S65536x512, .i32⟩
  | .hbm, ⟨15, _⟩ => ⟨S_, .i32⟩
  | .hbm, ⟨16, _⟩ => ⟨S65536x512, .i32⟩
  | .hbm, ⟨17, _⟩ => ⟨S65536x512, .i32⟩
  | .hbm, ⟨18, _⟩ => ⟨S65536x512, .f32⟩
  | .hbm, ⟨19, _⟩ => ⟨S_, .i32⟩
  | .hbm, ⟨20, _⟩ => ⟨S65536x512, .i32⟩
  | .hbm, ⟨21, _⟩ => ⟨S65536x512, .i32⟩
  | .hbm, ⟨22, _⟩ => ⟨S65536x512, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S_, .f32⟩
  | .hbm, ⟨27, _⟩ => ⟨S65536, .f32⟩
  | .hbm, ⟨28, _⟩ => ⟨S65536x1, .f32⟩
  | .hbm, ⟨29, _⟩ => ⟨S_, .f32⟩
  | .hbm, ⟨30, _⟩ => ⟨S65536x1, .f32⟩
  | .hbm, ⟨31, _⟩ => ⟨S65536x1, .f32⟩
  | .hbm, ⟨32, _⟩ => ⟨S_, .f32⟩
  | .hbm, ⟨33, _⟩ => ⟨S65536x1, .f32⟩
  | .hbm, ⟨34, _⟩ => ⟨S65536x1, .f32⟩
  | .hbm, ⟨35, _⟩ => ⟨S65536x1, .f32⟩
  | .hbm, ⟨36, _⟩ => ⟨S65536x1024, .f32⟩
  | .hbm, ⟨37, _⟩ => ⟨S65536x1024, .f32⟩
  | .hbm, ⟨38, _⟩ => ⟨S1x1024, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S65536x1024, .bf16⟩
  | _, _ => ⟨S64x1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel4.lean ====
abbrev S32x2048x1024 : Shape := ⟨3, ![32, 2048, 1024]⟩
abbrev S1024 : Shape := ⟨1, ![1024]⟩
abbrev S1024x672 : Shape := ⟨2, ![1024, 672]⟩
abbrev S65536x1024 : Shape := ⟨2, ![65536, 1024]⟩
abbrev S1024x16 : Shape := ⟨2, ![1024, 16]⟩
abbrev S_ : Shape := ⟨0, ![]⟩
abbrev S1024x64 : Shape := ⟨2, ![1024, 64]⟩
abbrev S1024x32 : Shape := ⟨2, ![1024, 32]⟩
abbrev S1024x384 : Shape := ⟨2, ![1024, 384]⟩
abbrev S1024x256 : Shape := ⟨2, ![1024, 256]⟩
abbrev S1024x896 : Shape := ⟨2, ![1024, 896]⟩
abbrev S1x1024 : Shape := ⟨2, ![1, 1024]⟩
abbrev S65536x896 : Shape := ⟨2, ![65536, 896]⟩
abbrev S1024x1024 : Shape := ⟨2, ![1024, 1024]⟩
abbrev S1024x1 : Shape := ⟨2, ![1024, 1]⟩

abbrev nBuf : Space → Nat
  | .hbm => 17
  | .vmem => 6
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x672, .f32⟩
  | .hbm, ⟨3, _⟩ => ⟨S65536x1024, .f32⟩
  | .hbm, ⟨4, _⟩ => ⟨S1024x16, .f32⟩
  | .hbm, ⟨5, _⟩ => ⟨S1024x16, .f32⟩
  | .hbm, ⟨6, _⟩ => ⟨S_, .f32⟩
  | .hbm, ⟨7, _⟩ => ⟨S1024x64, .f32⟩
  | .hbm, ⟨8, _⟩ => ⟨S_, .f32⟩
  | .hbm, ⟨9, _⟩ => ⟨S1024x32, .f32⟩
  | .hbm, ⟨10, _⟩ => ⟨S1024x384, .f32⟩
  | .hbm, ⟨11, _⟩ => ⟨S1024x16, .f32⟩
  | .hbm, ⟨12, _⟩ => ⟨S1024x256, .f32⟩
  | .hbm, ⟨13, _⟩ => ⟨S1024x896, .f32⟩
  | .hbm, ⟨14, _⟩ => ⟨S1024x896, .bf16⟩
  | .hbm, ⟨15, _⟩ => ⟨S1x1024, .f32⟩
  | .hbm, ⟨16, _⟩ => ⟨S65536x896, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x896, .bf16⟩
  | .local _ .vmem, ⟨4, _⟩ => ⟨S1024x896, .bf16⟩
  | .local _ .vmem, ⟨5, _⟩ => ⟨S1024x896, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S32x2048x1024 : Shape := ⟨3, ![32, 2048, 1024]⟩
abbrev S1024 : Shape := ⟨1, ![1024]⟩
abbrev S1024x672 : Shape := ⟨2, ![1024, 672]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x672 : Shape := ⟨2, ![65536, 672]⟩
abbrev S1024x16 : Shape := ⟨2, ![1024, 16]⟩
abbrev S65536x16 : Shape := ⟨2, ![65536, 16]⟩
abbrev S65536x32 : Shape := ⟨2, ![65536, 32]⟩
abbrev S65536x64 : Shape := ⟨2, ![65536, 64]⟩
abbrev S65536x384 : Shape := ⟨2, ![65536, 384]⟩
abbrev S65536x256 : Shape := ⟨2, ![65536, 256]⟩
abbrev S65536x896 : Shape := ⟨2, ![65536, 896]⟩

abbrev nBuf : Space → Nat
  | .hbm => 34
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x672, .f32⟩
  | .hbm, ⟨3, _⟩ => ⟨S65536x1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x672, .f32⟩
  | .hbm, ⟨21, _⟩ => ⟨S1024x16, .f32⟩
  | .hbm, ⟨22, _⟩ => ⟨S1024x16, .f32⟩
  | .hbm, ⟨23, _⟩ => ⟨S65536x16, .f32⟩
  | .hbm, ⟨24, _⟩ => ⟨S65536x16, .f32⟩
  | .hbm, ⟨25, _⟩ => ⟨S65536x16, .f32⟩
  | .hbm, ⟨26, _⟩ => ⟨S_, .f32⟩
  | .hbm, ⟨27, _⟩ => ⟨S65536x32, .f32⟩
  | .hbm, ⟨28, _⟩ => ⟨S_, .f32⟩
  | .hbm, ⟨29, _⟩ => ⟨S65536x64, .f32⟩
  | .hbm, ⟨30, _⟩ => ⟨S65536x384, .f32⟩
  | .hbm, ⟨31, _⟩ => ⟨S65536x256, .f32⟩
  | .hbm, ⟨32, _⟩ => ⟨S65536x896, .f32⟩
  | .hbm, ⟨33, _⟩ => ⟨S65536x896, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel5.lean ====
abbrev S32x256x1024 : Shape := ⟨3, ![32, 256, 1024]⟩
abbrev S1024 : Shape := ⟨1, ![1024]⟩
abbrev S1024x512 : Shape := ⟨2, ![1024, 512]⟩
abbrev S1x1024 : Shape := ⟨2, ![1, 1024]⟩
abbrev S32x256x512 : Shape := ⟨3, ![32, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩

abbrev nBuf : Space → Nat
  | .hbm => 6
  | .vmem => 6
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024x512, .f32⟩
  | .hbm, ⟨3, _⟩ => ⟨S1x1024, .f32⟩
  | .hbm, ⟨4, _⟩ => ⟨S1024x512, .bf16⟩
  | .hbm, ⟨5, _⟩ => ⟨S32x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x512, .bf16⟩
  | .local _ .vmem, ⟨4, _⟩ => ⟨S1x256x512, .bf16⟩
  | .local _ .vmem, ⟨5, _⟩ => ⟨S1x256x512, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S32x256x1024 : Shape := ⟨3, ![32, 256, 1024]⟩
abbrev S1024 : Shape := ⟨1, ![1024]⟩
abbrev S1024x512 : Shape := ⟨2, ![1024, 512]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x512 : Shape := ⟨3, ![32, 256, 512]⟩

abbrev nBuf : Space → Nat
  | .hbm => 21
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024x512, .f32⟩
  | .hbm, ⟨3, _⟩ => ⟨S32x256x1024, .f32⟩
  | .hbm, ⟨4, _⟩ => ⟨S_, .f32⟩
  | .hbm, ⟨5, _⟩ => ⟨S32x256, .f32⟩
  | .hbm, ⟨6, _⟩ => ⟨S32x256x1, .f32⟩
  | .hbm, ⟨7, _⟩ => ⟨S_, .f32⟩
  | .hbm, ⟨8, _⟩ => ⟨S32x256x1, .f32⟩
  | .hbm, ⟨9, _⟩ => ⟨S32x256x1, .f32⟩
  | .hbm, ⟨10, _⟩ => ⟨S_, .f32⟩
  | .hbm, ⟨11, _⟩ => ⟨S32x256x1, .f32⟩
  | .hbm, ⟨12, _⟩ => ⟨S32x256x1, .f32⟩
  | .hbm, ⟨13, _⟩ => ⟨S32x256x1, .f32⟩
  | .hbm, ⟨14, _⟩ => ⟨S32x256x1024, .f32⟩
  | .hbm, ⟨15, _⟩ => ⟨S32x256x1024, .f32⟩
  | .hbm, ⟨16, _⟩ => ⟨S1x1x1024, .f32⟩
  | .hbm, ⟨17, _⟩ => ⟨S32x256x1024, .f32⟩
  | .hbm, ⟨18, _⟩ => ⟨S32x256x1024, .f32⟩
  | .hbm, ⟨19, _⟩ => ⟨S32x256x512, .f32⟩
  | .hbm, ⟨20, _⟩ => ⟨S32x256x512, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Terms.lean ====
module

public import proofs.«01_k».proof.Proof.Gen.Pre_pre
public import Idealize.ShloMosaic.Lib.ReduceAll
public import Idealize.ShloMosaic.Lib.WordCmp

/-!
The precondition, read: what its being 1 says of the tables and of the gates' words.
-/

@[expose] public section

set_option maxRecDepth 16384

noncomputable section

namespace Cert.Terms

open Idealize.ShloMosaic
open Cert.Pre_pre

variable {F : FTy → Type} [FloatOps F]

/-- What the precondition says. -/
structure Holds (x : IVec S94208x640 32) (g a b : IVec S368 32) (n : IVec S1 32) : Prop where
  gate : ∀ j : S94208x640.Idx, 512 ≤ (j 1).val → (j 1).val < 514 → (x j).toNat < 2139095040
  g : ∀ j, (g j).toNat < 4
  a : ∀ j, (a j).toNat < 8
  b : ∀ j, (b j).toNat < 8
  n : ∀ j, 1 ≤ (n j).toInt

theorem and1 {p q : BitVec 1} (h : IntOp.andi p q = 1#1) : p = 1#1 ∧ q = 1#1 := by
  revert h; revert p q; decide

theorem word_lt (x : BitVec 32) (k : ℕ) (hk : k < 2147483648) (h0 : 0 ≤ x.toInt) (h1 : x.toInt < (BitVec.ofNat 32 k).toInt) : x.toNat < k := by
  have e : (BitVec.ofNat 32 k).toInt = k := by
    rw [BitVec.toInt_eq_toNat_cond, BitVec.toNat_ofNat]; omega
  rw [e] at h1
  rw [BitVec.toInt_eq_toNat_cond] at h0 h1
  have := x.isLt
  split at h0 <;> omega

instance : Subsingleton S_.Idx := ⟨fun _ _ => funext fun a => a.elim0⟩

instance : Subsingleton S1.Idx := ⟨fun p q => funext fun a => by fin_cases a; exact Subsingleton.elim (α := Fin 1) (p 0) (q 0)⟩

theorem holds (x : IVec S94208x640 32) (g a b : IVec S368 32) (n : IVec S1 32) (w5 w6 : FVec F S32x1024x256 .f32) (w7 : FVec F S32x256x1024 .f32)
    (h : fn (F := F) x g a b n w5 w6 w7 = fun _ => 1#1) : Holds x g a b n := by
  have e := congrFun h (fun a => a.elim0)
  simp only [fn, fn_part1, andi] at e
  obtain ⟨e, en⟩ := and1 e
  obtain ⟨e, eb⟩ := and1 e
  obtain ⟨e, ea⟩ := and1 e
  obtain ⟨ex, eg⟩ := and1 e
  have rd : ∀ (t : IVec S368 32) (k : ℕ), k < 2147483648 → ∀ j, IntOp.andi (IntOp.cmpi .sge (t j) 0#32) (IntOp.cmpi .slt (t j) (BitVec.ofNat 32 k)) = 1#1 → (t j).toNat < k := fun t k hk j h =>
    word_lt (t j) k hk (IntOp.cmpi_sge.1 (and1 h).1) (IntOp.cmpi_slt.1 (and1 h).2)
  refine ⟨fun j h1 h2 => ?_, fun j => ?_, fun j => ?_, fun j => ?_, fun j => ?_⟩
  · have hj : (j 0).val < 94208 := (j 0).isLt
    have u := IntOp.cmpi_ult.1 (Host.reduce_andi_all _ _ _ _ _ ex (fun | 0 => ⟨(j 0).val, hj⟩ | 1 => ⟨(j 1).val - 512, by show (j 1).val - 512 < 2; omega⟩))
    refine lt_of_eq_of_lt (congrArg (fun i => (x i).toNat) (funext fun a => Fin.ext ?_)) u
    fin_cases a
    · show (j 0).val = 0 + (j 0).val; omega
    · show (j 1).val = 512 + ((j 1).val - 512); omega
  · exact rd g 4 (by decide) j (Host.reduce_andi_all _ _ _ _ _ eg j)
  · exact rd a 8 (by decide) j (Host.reduce_andi_all _ _ _ _ _ ea j)
  · exact rd b 8 (by decide) j (Host.reduce_andi_all _ _ _ _ _ eb j)
  · have v := IntOp.cmpi_sge.1 en
    exact le_of_le_of_eq v (congrArg (fun i => (n i).toInt) (Subsingleton.elim _ j))

end Cert.Terms

end
-- ==== Proof.Closed.lean ====
module

public import proofs.«01_k».proof.Proof.Gen.KernelIdeal.Skeleton
public import proofs.«01_k».proof.Proof.Gen.KernelIdeal.Launch
public import Idealize.ShloMosaic.Lib.Tactic
public import Idealize.ShloMosaic.Lib.Writes
public import Idealize.ShloMosaic.Lib.ViewIndex
public import Idealize.ShloMosaic.Lib.Pipeline.Value
public import Idealize.ShloMosaic.Lib.Pointwise

/-!
What the experts call leaves in its resident weight buffers and in its output block, as functions of the
arrays: the weights of one group of eight experts rounded to bf16, gate and up side by side, and one tile of
256 rows taken through the two experts its table words name.
-/

@[expose] public section

set_option maxRecDepth 16384

noncomputable section

namespace Cert.KernelIdeal.Experts

open Idealize.ShloMosaic Idealize.ShloMosaic.TcCoe
open Cert.KernelIdeal Cert.KernelIdeal.Gen

variable {F : FTy → Type} [FloatOps F]

/-! ## The table words -/

/-- The word a body reads of a table through a one-word rectangle. -/
abbrev word1 (b : Ref sig .tc) (r : Rect b.ty.shape) (h : 0 < (r.toLoadRect).shape.numel) (T : b.ty.Contents (Elt F)) : Elt F b.ty.elt :=
  View.readAt (Elt F) (Memref.whole b).view r.toLoadRect T (Shape.Idx.first h)
/-- The number of live tiles. -/
abbrev wN (T : main_arg4.ty.Contents (Elt F)) := word1 main_arg4 (Rect.unit (s := S1) ![0] S1.size inb_S1_S1_0) (by decide) T
/-- The tile's group, the group of the tile before it, and the tile's group read again. -/
abbrev wG (i : grid0.Coords) (T : main_arg1.ty.Contents (Elt F)) := word1 main_arg1 (Rect.unit (s := S368) (k0_off1 i) S1.size (k0_off1_inb i)) (by show 0 < S1.numel; decide) T
abbrev wP (i : grid0.Coords) (T : main_arg1.ty.Contents (Elt F)) := word1 main_arg1 (Rect.unit (s := S368) (k0_off2 i) S1.size (k0_off2_inb i)) (by show 0 < S1.numel; decide) T
abbrev wG' (i : grid0.Coords) (T : main_arg1.ty.Contents (Elt F)) := word1 main_arg1 (Rect.unit (s := S368) (k0_off3 i) S1.size (k0_off3_inb i)) (by show 0 < S1.numel; decide) T
/-- The tile's two experts in its group. -/
abbrev wA (i : grid0.Coords) (T : main_arg2.ty.Contents (Elt F)) := word1 main_arg2 (Rect.unit (s := S368) (k0_off6 i) S1.size (k0_off6_inb i)) (by show 0 < S1.numel; decide) T
abbrev wB (i : grid0.Coords) (T : main_arg3.ty.Contents (Elt F)) := word1 main_arg3 (Rect.unit (s := S368) (k0_off6 i) S1.size (k0_off6_inb i)) (by show 0 < S1.numel; decide) T

/-! ## The group's weights -/

/-- Expert `e` of group `g`, among the 32. -/
def eix (g : BitVec 32) (e : ℕ) : Fin 32 := ⟨(Scalar.addi (Scalar.muli g 8#32) (BitVec.ofNat 32 e)).toNat % 32, Nat.mod_lt _ (by decide)⟩

/-- The gate (columns under 256) and up weights of group `g`, before they are rounded. -/
def guF (g : BitVec 32) (W5 W6 : Vec F S32x1024x256 .f32) : FVec F S8x1024x512 .f32 := fun j =>
  if (j 2).val < 256 then W5 (ix3 (eix g (j 0).val) ⟨(j 1).val, (j 1).isLt⟩ ⟨(j 2).val % 256, Nat.mod_lt _ (by decide)⟩)
  else W6 (ix3 (eix g (j 0).val) ⟨(j 1).val, (j 1).isLt⟩ ⟨(j 2).val % 256, Nat.mod_lt _ (by decide)⟩)

/-- What the gate and up buffer holds once group `g` is resident. -/
def guC (g : BitVec 32) (W5 W6 : Vec F S32x1024x256 .f32) : FVec F S8x1024x512 .bf16 := fun j => FloatOps.truncf .bf16 bitsLt_bf16_f32 (guF g W5 W6 j)

/-- What the down buffer holds once group `g` is resident. -/
def dC (g : BitVec 32) (W7 : Vec F S32x256x1024 .f32) : FVec F S8x256x1024 .bf16 := fun j =>
  FloatOps.truncf .bf16 bitsLt_bf16_f32 (W7 (ix3 (eix g (j 0).val) ⟨(j 1).val, (j 1).isLt⟩ ⟨(j 2).val, (j 2).isLt⟩))

/-! ## The two staging slots -/

variable {κ : Kind} {sp : Space} {s s' : Shape} {e : EltTy}

/-- Reading the slot a copy has just filled gives what the copy brought. -/
theorem slot_same (M : Memref sig κ sp s e) {off size : Fin s.rank → ℕ} (inb : ∀ a, off a + size a ≤ s.size a) (h1)
    (hq : (Rect.unit off size inb).shape.Squeezes s') (hc : (Rect.unit off size inb).shape.ShapeCasts s') (f : M.view.ty.Contents (Elt F)) (v : s'.Idx → Elt F e) :
    shapeCast s' (M.view.readAt (Elt F) (Rect.unit off size inb).toLoadRect
      (View.write (Elt F) ((M.slice (Rect.unit off size inb) h1).squeeze s' hq).view f v Finset.univ)) hc = v :=
  (Memref.read_squeeze_slice M (Rect.unit off size inb) h1 hq hc _).symm.trans (View.read_write_univ _ _)

/-- Reading one slot, a copy into the other is not seen. -/
theorem slot_other (M : Memref sig κ sp s e) {off off' size : Fin s.rank → ℕ} (inb : ∀ a, off a + size a ≤ s.size a) (inb' : ∀ a, off' a + size a ≤ s.size a) (h1)
    (hq : (Rect.unit off' size inb').shape.Squeezes s') (f : M.view.ty.Contents (Elt F)) (v : s'.Idx → Elt F e)
    (a : Fin s.rank) (ha : off a + size a ≤ off' a ∨ off' a + size a ≤ off a) :
    M.view.readAt (Elt F) (Rect.unit off size inb).toLoadRect
      (View.write (Elt F) ((M.slice (Rect.unit off' size inb') h1).squeeze s' hq).view f v Finset.univ)
      = M.view.readAt (Elt F) (Rect.unit off size inb).toLoadRect f := by
  show (M.view.slice (Rect.unit off size inb)).read (Elt F) _ = (M.view.slice (Rect.unit off size inb)).read (Elt F) f
  refine View.read_congr fun i hi => View.write_of_not_mem _ _ _ fun hm => ?_
  obtain ⟨x, -, hx⟩ := Finset.mem_map.mp hm
  obtain ⟨y, rfl⟩ := View.exists_of_mem_set_slice hi
  generalize hz : Shape.reshapeEquiv (Shape.Squeezes.numel_eq hq) x = z
  have hx' : M.view.emb ((Rect.unit off' size inb').emb z) = M.view.emb ((Rect.unit off size inb).emb y) := hz ▸ hx
  have h5 : off' a + 1 * (z a).val = off a + 1 * (y a).val := congrArg Fin.val (congrFun (M.view.emb.injective hx') a)
  have h6 : (y a).val < size a := (y a).isLt
  have h7 : (z a).val < size a := (z a).isLt
  omega

/-! ## What one copy's cast stores -/

theorem gu_cast (g : BitVec 32) (n : ℕ) (hn : (Scalar.addi (Scalar.muli g 8#32) (BitVec.ofNat 32 n)).toNat < 32)
    (W : Vec F S32x1024x256 .f32) (inb : ∀ a, (k0_off4 g (BitVec.ofNat 32 n)) a + S1x1024x256.size a ≤ S32x1024x256.size a)
    (v : FVec F S1024x256 .f32) (hv : v = shapeCast S1024x256 (fun x => W ((Rect.unit (s := S32x1024x256) (k0_off4 g (BitVec.ofNat 32 n)) S1x1024x256.size inb).emb x)) shapeCasts_S1x1024x256_S1024x256)
    (x : S1x1024x256.Idx) :
    shapeCast S1x1024x256 (truncf .bf16 v bitsLt_bf16_f32) shapeCasts_S1024x256_S1x1024x256 x
      = FloatOps.truncf .bf16 bitsLt_bf16_f32 (W (ix3 (eix g n) ⟨(x 1).val, (x 1).isLt⟩ ⟨(x 2).val, (x 2).isLt⟩)) := by
  subst hv
  have e := congrFun (shapeCast_shapeCast (fun x => W ((Rect.unit (s := _) _ _ inb).emb x)) shapeCasts_S1x1024x256_S1024x256 shapeCasts_S1024x256_S1x1024x256) x
  refine (congrArg (FloatOps.truncf (F := F) .bf16 bitsLt_bf16_f32) e).trans ?_
  refine congrArg _ (congrArg W (funext fun a => Fin.ext ?_))
  have h0 : (x 0).val < 1 := (x 0).isLt
  fin_cases a
  · show (Scalar.addi (Scalar.muli g 8#32) (BitVec.ofNat 32 n)).toNat + 1 * (x 0).val = (Scalar.addi (Scalar.muli g 8#32) (BitVec.ofNat 32 n)).toNat % 32
    rw [Nat.mod_eq_of_lt hn]; omega
  · show 0 + 1 * (x 1).val = (x 1).val; omega
  · show 0 + 1 * (x 2).val = (x 2).val; omega

theorem d_cast (g : BitVec 32) (n : ℕ) (hn : (Scalar.addi (Scalar.muli g 8#32) (BitVec.ofNat 32 n)).toNat < 32)
    (W : Vec F S32x256x1024 .f32) (inb : ∀ a, (k0_off5 g (BitVec.ofNat 32 n)) a + S1x256x1024.size a ≤ S32x256x1024.size a)
    (v : FVec F S256x1024 .f32) (hv : v = shapeCast S256x1024 (fun x => W ((Rect.unit (s := S32x256x1024) (k0_off5 g (BitVec.ofNat 32 n)) S1x256x1024.size inb).emb x)) shapeCasts_S1x256x1024_S256x1024)
    (x : S1x256x1024.Idx) :
    shapeCast S1x256x1024 (truncf .bf16 v bitsLt_bf16_f32) shapeCasts_S256x1024_S1x256x1024 x
      = FloatOps.truncf .bf16 bitsLt_bf16_f32 (W (ix3 (eix g n) ⟨(x 1).val, (x 1).isLt⟩ ⟨(x 2).val, (x 2).isLt⟩)) := by
  subst hv
  have e := congrFun (shapeCast_shapeCast (fun x => W ((Rect.unit (s := _) _ _ inb).emb x)) shapeCasts_S1x256x1024_S256x1024 shapeCasts_S256x1024_S1x256x1024) x
  refine (congrArg (FloatOps.truncf (F := F) .bf16 bitsLt_bf16_f32) e).trans ?_
  refine congrArg _ (congrArg W (funext fun a => Fin.ext ?_))
  have h0 : (x 0).val < 1 := (x 0).isLt
  fin_cases a
  · show (Scalar.addi (Scalar.muli g 8#32) (BitVec.ofNat 32 n)).toNat + 1 * (x 0).val = (Scalar.addi (Scalar.muli g 8#32) (BitVec.ofNat 32 n)).toNat % 32
    rw [Nat.mod_eq_of_lt hn]; omega
  · show 0 + 1 * (x 1).val = (x 1).val; omega
  · show 0 + 1 * (x 2).val = (x 2).val; omega

/-! ## Pieces of the resident buffers -/

theorem guC_gate (g : BitVec 32) (W5 W6 : Vec F S32x1024x256 .f32) (n : ℕ) (inb : ∀ a, (![n, 0, 0] : Fin 3 → ℕ) a + S1x1024x256.size a ≤ S8x1024x512.size a) (x : S1x1024x256.Idx) :
    FloatOps.truncf .bf16 bitsLt_bf16_f32 (W5 (ix3 (eix g n) ⟨(x 1).val, (x 1).isLt⟩ ⟨(x 2).val, (x 2).isLt⟩))
      = guC g W5 W6 ((Rect.unit (s := S8x1024x512) ![n, 0, 0] S1x1024x256.size inb).emb x) := by
  have h0 : (x 0).val < 1 := (x 0).isLt
  have h2 : (x 2).val < 256 := (x 2).isLt
  refine congrArg _ ?_
  unfold guF
  have e0 : (((Rect.unit (s := S8x1024x512) ![n, 0, 0] S1x1024x256.size inb).emb x) 0).val = n := by show n + 1 * (x 0).val = n; omega
  have e1 : (((Rect.unit (s := S8x1024x512) ![n, 0, 0] S1x1024x256.size inb).emb x) 1).val = (x 1).val := by show 0 + 1 * (x 1).val = _; omega
  have e2 : (((Rect.unit (s := S8x1024x512) ![n, 0, 0] S1x1024x256.size inb).emb x) 2).val = (x 2).val := by show 0 + 1 * (x 2).val = _; omega
  rw [if_pos (by rw [e2]; exact h2)]
  refine congrArg W5 (funext fun a => Fin.ext ?_)
  fin_cases a
  · show _ = (eix g _).val; rw [e0]; rfl
  · exact e1.symm
  · show (x 2).val = _ % 256; rw [e2, Nat.mod_eq_of_lt h2]

theorem guC_up (g : BitVec 32) (W5 W6 : Vec F S32x1024x256 .f32) (n : ℕ) (inb : ∀ a, (![n, 0, 256] : Fin 3 → ℕ) a + S1x1024x256.size a ≤ S8x1024x512.size a) (x : S1x1024x256.Idx) :
    FloatOps.truncf .bf16 bitsLt_bf16_f32 (W6 (ix3 (eix g n) ⟨(x 1).val, (x 1).isLt⟩ ⟨(x 2).val, (x 2).isLt⟩))
      = guC g W5 W6 ((Rect.unit (s := S8x1024x512) ![n, 0, 256] S1x1024x256.size inb).emb x) := by
  have h0 : (x 0).val < 1 := (x 0).isLt
  have h2 : (x 2).val < 256 := (x 2).isLt
  refine congrArg _ ?_
  unfold guF
  have e0 : (((Rect.unit (s := S8x1024x512) ![n, 0, 256] S1x1024x256.size inb).emb x) 0).val = n := by show n + 1 * (x 0).val = n; omega
  have e1 : (((Rect.unit (s := S8x1024x512) ![n, 0, 256] S1x1024x256.size inb).emb x) 1).val = (x 1).val := by show 0 + 1 * (x 1).val = _; omega
  have e2 : (((Rect.unit (s := S8x1024x512) ![n, 0, 256] S1x1024x256.size inb).emb x) 2).val = 256 + (x 2).val := by show 256 + 1 * (x 2).val = _; omega
  rw [if_neg (by rw [e2]; omega)]
  refine congrArg W6 (funext fun a => Fin.ext ?_)
  fin_cases a
  · show _ = (eix g _).val; rw [e0]; rfl
  · exact e1.symm
  · show (x 2).val = _ % 256; rw [e2]; omega

theorem dC_piece (g : BitVec 32) (W7 : Vec F S32x256x1024 .f32) (n : ℕ) (inb : ∀ a, (![n, 0, 0] : Fin 3 → ℕ) a + S1x256x1024.size a ≤ S8x256x1024.size a) (x : S1x256x1024.Idx) :
    FloatOps.truncf .bf16 bitsLt_bf16_f32 (W7 (ix3 (eix g n) ⟨(x 1).val, (x 1).isLt⟩ ⟨(x 2).val, (x 2).isLt⟩))
      = dC g W7 ((Rect.unit (s := S8x256x1024) ![n, 0, 0] S1x256x1024.size inb).emb x) := by
  have h0 : (x 0).val < 1 := (x 0).isLt
  refine congrArg _ ?_
  have e0 : (((Rect.unit (s := S8x256x1024) ![n, 0, 0] S1x256x1024.size inb).emb x) 0).val = n := by show n + 1 * (x 0).val = n; omega
  have e1 : (((Rect.unit (s := S8x256x1024) ![n, 0, 0] S1x256x1024.size inb).emb x) 1).val = (x 1).val := by show 0 + 1 * (x 1).val = _; omega
  have e2 : (((Rect.unit (s := S8x256x1024) ![n, 0, 0] S1x256x1024.size inb).emb x) 2).val = (x 2).val := by show 0 + 1 * (x 2).val = _; omega
  refine congrArg W7 (funext fun a => Fin.ext ?_)
  fin_cases a
  · show _ = (eix g _).val; rw [e0]; rfl
  · exact e1.symm
  · exact e2.symm

/-! ## One tile of rows -/

/-- The packed words of a block of rows, and the words after them, which carry the two gates. -/
def xLo (X : Vec F S256x640 .i32) : Vec F S256x512 .i32 := fun j => X (ix2 ⟨(j 0).val, (j 0).isLt⟩ ⟨(j 1).val, Nat.lt_trans (j 1).isLt (by decide)⟩)
def xHi (X : Vec F S256x640 .i32) : Vec F S256x128 .i32 := fun j => X (ix2 ⟨(j 0).val, (j 0).isLt⟩ ⟨512 + (j 1).val, by have h : (j 1).val < 128 := (j 1).isLt; omega⟩)
/-- Half the rows of expert `t`'s gate and up weights, and its down weights. -/
def guT (wgu : FVec F S8x1024x512 .bf16) (t : BitVec 32) (r : Fin 2) : Vec F S1x512x512 .bf16 := fun j =>
  wgu (ix3 ⟨t.toNat % 8, Nat.mod_lt _ (by decide)⟩ ⟨512 * r.val + (j 1).val, by have h : (j 1).val < 512 := (j 1).isLt; omega⟩ ⟨(j 2).val, (j 2).isLt⟩)
def dT (wd : FVec F S8x256x1024 .bf16) (t : BitVec 32) : Vec F S1x256x1024 .bf16 := fun j =>
  wd (ix3 ⟨t.toNat % 8, Nat.mod_lt _ (by decide)⟩ ⟨(j 1).val, (j 1).isLt⟩ ⟨(j 2).val, (j 2).isLt⟩)

/-- The block a live tile stores: its rows through experts `a` and `b`, weighted by their gates and added. -/
def liveOb (X : Vec F S256x640 .i32) (wgu : FVec F S8x1024x512 .bf16) (wd : FVec F S8x256x1024 .bf16) (a b : BitVec 32) : Vec F S256x2x512 .bf16 :=
  k0_pay3 (k0_pay30 (xLo X)) (k0_pay31 (xHi X)) (k0_pay32 (xLo X) (xHi X) (guT wgu a 0) (guT wgu a 1) (dT wd a)) (k0_pay33 (xLo X) (guT wgu b 0))
    (k0_pay34 (guT wgu b 1)) (dT wd b)

/-- The block a tile past the live ones stores. -/
def deadOb : Vec F S256x2x512 .bf16 := constant S256x2x512 .bf16 0x0000#16

end Cert.KernelIdeal.Experts
-- ==== Proof.Resident.lean ====
module

public import proofs.«01_k».proof.Proof.Closed

/-!
The stores of one group's weights, taken together: each store is the cast of what its copy brought, and the sixteen
(or eight) of them cover the buffer, so that the buffer is the group's weights rounded to bf16. And the reads the two
experts' products make of the resident buffers.
-/

@[expose] public section

set_option maxRecDepth 16384

noncomputable section

namespace Cert.KernelIdeal.Experts

open Idealize.ShloMosaic Idealize.ShloMosaic.TcCoe
open Cert.KernelIdeal Cert.KernelIdeal.Gen

variable {F : FTy → Type} [FloatOps F]

/-! ## One store -/

section Gu
variable (M : Memref sig .tc .vmem S2x1024x256 .f32) {off off' : Fin 3 → ℕ} (inb : ∀ a, off a + S1x1024x256.size a ≤ S2x1024x256.size a)
  (inb' : ∀ a, off' a + S1x1024x256.size a ≤ S2x1024x256.size a) (h1) (h1')
  (hq : (Rect.unit (s := S2x1024x256) off S1x1024x256.size inb).shape.Squeezes S1024x256) (hq' : (Rect.unit (s := S2x1024x256) off' S1x1024x256.size inb').shape.Squeezes S1024x256)
  (f : M.view.ty.Contents (Elt F)) (v' : S1024x256.Idx → Elt F .f32) (g : BitVec 32) (n : ℕ)
  (B : Memref sig .tc .hbm S32x1024x256 .f32) (inbW : ∀ a, (k0_off4 g (BitVec.ofNat 32 n)) a + S1x1024x256.size a ≤ S32x1024x256.size a) (h2)
  (hq2 : (Rect.unit (s := S32x1024x256) (k0_off4 g (BitVec.ofNat 32 n)) S1x1024x256.size inbW).shape.Squeezes S1024x256)
  (W : B.view.ty.Contents (Elt F)) (x : S1x1024x256.Idx)

/-- What a copy of one expert's matrix brings. -/
abbrev guGot : S1024x256.Idx → Elt F .f32 :=
  ReadAs.same.apply (View.read (Elt F) ((B.slice (Rect.unit (s := S32x1024x256) (k0_off4 g (BitVec.ofNat 32 n)) S1x1024x256.size inbW) h2).squeeze S1024x256 hq2).view W)

theorem gu_got : shapeCast S1x1024x256 (truncf (F := F) .bf16 (guGot g n B inbW h2 hq2 W : FVec F S1024x256 .f32) bitsLt_bf16_f32) shapeCasts_S1024x256_S1x1024x256 x
      = FloatOps.truncf .bf16 bitsLt_bf16_f32 (B.view.read (Elt F) W (ix3 (eix g n) ⟨(x 1).val, (x 1).isLt⟩ ⟨(x 2).val, (x 2).isLt⟩)) :=
  gu_cast g n (by have h : (Scalar.addi (Scalar.muli g 8#32) (BitVec.ofNat 32 n)).toNat + 1 ≤ 32 := inbW 0; omega) (B.view.read (Elt F) W) inbW _
    (Memref.read_squeeze_slice B _ h2 hq2 shapeCasts_S1x1024x256_S1024x256 W) x

/-- The last slot filled. -/
theorem gu_store : shapeCast S1x1024x256 (truncf (F := F) .bf16 (shapeCast S1024x256 (M.view.readAt (Elt F) (Rect.unit (s := S2x1024x256) off S1x1024x256.size inb).toLoadRect
      (View.write (Elt F) ((M.slice (Rect.unit (s := S2x1024x256) off S1x1024x256.size inb) h1).squeeze S1024x256 hq).view f (guGot g n B inbW h2 hq2 W) Finset.univ)) shapeCasts_S1x1024x256_S1024x256)
      bitsLt_bf16_f32) shapeCasts_S1024x256_S1x1024x256 x
      = FloatOps.truncf .bf16 bitsLt_bf16_f32 (B.view.read (Elt F) W (ix3 (eix g n) ⟨(x 1).val, (x 1).isLt⟩ ⟨(x 2).val, (x 2).isLt⟩)) := by
  rw [slot_same M inb h1 hq shapeCasts_S1x1024x256_S1024x256]
  exact gu_got g n B inbW h2 hq2 W x

/-- The slot filled before the other one. -/
theorem gu_store' (ha : off 0 + 1 ≤ off' 0 ∨ off' 0 + 1 ≤ off 0) : shapeCast S1x1024x256 (truncf (F := F) .bf16 (shapeCast S1024x256 (M.view.readAt (Elt F) (Rect.unit (s := S2x1024x256) off S1x1024x256.size inb).toLoadRect
      (View.write (Elt F) ((M.slice (Rect.unit (s := S2x1024x256) off' S1x1024x256.size inb') h1').squeeze S1024x256 hq').view
        (View.write (Elt F) ((M.slice (Rect.unit (s := S2x1024x256) off S1x1024x256.size inb) h1).squeeze S1024x256 hq).view f (guGot g n B inbW h2 hq2 W) Finset.univ) v' Finset.univ)) shapeCasts_S1x1024x256_S1024x256)
      bitsLt_bf16_f32) shapeCasts_S1024x256_S1x1024x256 x
      = FloatOps.truncf .bf16 bitsLt_bf16_f32 (B.view.read (Elt F) W (ix3 (eix g n) ⟨(x 1).val, (x 1).isLt⟩ ⟨(x 2).val, (x 2).isLt⟩)) := by
  rw [slot_other M inb inb' h1' hq' _ v' 0 ha]
  exact gu_store M inb h1 hq f g n B inbW h2 hq2 W x
end Gu

section Down
variable (M : Memref sig .tc .vmem S2x256x1024 .f32) {off off' : Fin 3 → ℕ} (inb : ∀ a, off a + S1x256x1024.size a ≤ S2x256x1024.size a)
  (inb' : ∀ a, off' a + S1x256x1024.size a ≤ S2x256x1024.size a) (h1) (h1')
  (hq : (Rect.unit (s := S2x256x1024) off S1x256x1024.size inb).shape.Squeezes S256x1024) (hq' : (Rect.unit (s := S2x256x1024) off' S1x256x1024.size inb').shape.Squeezes S256x1024)
  (f : M.view.ty.Contents (Elt F)) (v' : S256x1024.Idx → Elt F .f32) (g : BitVec 32) (n : ℕ)
  (B : Memref sig .tc .hbm S32x256x1024 .f32) (inbW : ∀ a, (k0_off5 g (BitVec.ofNat 32 n)) a + S1x256x1024.size a ≤ S32x256x1024.size a) (h2)
  (hq2 : (Rect.unit (s := S32x256x1024) (k0_off5 g (BitVec.ofNat 32 n)) S1x256x1024.size inbW).shape.Squeezes S256x1024)
  (W : B.view.ty.Contents (Elt F)) (x : S1x256x1024.Idx)

abbrev dGot : S256x1024.Idx → Elt F .f32 :=
  ReadAs.same.apply (View.read (Elt F) ((B.slice (Rect.unit (s := S32x256x1024) (k0_off5 g (BitVec.ofNat 32 n)) S1x256x1024.size inbW) h2).squeeze S256x1024 hq2).view W)

theorem d_got : shapeCast S1x256x1024 (truncf (F := F) .bf16 (dGot g n B inbW h2 hq2 W : FVec F S256x1024 .f32) bitsLt_bf16_f32) shapeCasts_S256x1024_S1x256x1024 x
      = FloatOps.truncf .bf16 bitsLt_bf16_f32 (B.view.read (Elt F) W (ix3 (eix g n) ⟨(x 1).val, (x 1).isLt⟩ ⟨(x 2).val, (x 2).isLt⟩)) :=
  d_cast g n (by have h : (Scalar.addi (Scalar.muli g 8#32) (BitVec.ofNat 32 n)).toNat + 1 ≤ 32 := inbW 0; omega) (B.view.read (Elt F) W) inbW _
    (Memref.read_squeeze_slice B _ h2 hq2 shapeCasts_S1x256x1024_S256x1024 W) x

theorem d_store : shapeCast S1x256x1024 (truncf (F := F) .bf16 (shapeCast S256x1024 (M.view.readAt (Elt F) (Rect.unit (s := S2x256x1024) off S1x256x1024.size inb).toLoadRect
      (View.write (Elt F) ((M.slice (Rect.unit (s := S2x256x1024) off S1x256x1024.size inb) h1).squeeze S256x1024 hq).view f (dGot g n B inbW h2 hq2 W) Finset.univ)) shapeCasts_S1x256x1024_S256x1024)
      bitsLt_bf16_f32) shapeCasts_S256x1024_S1x256x1024 x
      = FloatOps.truncf .bf16 bitsLt_bf16_f32 (B.view.read (Elt F) W (ix3 (eix g n) ⟨(x 1).val, (x 1).isLt⟩ ⟨(x 2).val, (x 2).isLt⟩)) := by
  rw [slot_same M inb h1 hq shapeCasts_S1x256x1024_S256x1024]
  exact d_got g n B inbW h2 hq2 W x

theorem d_store' (ha : off 0 + 1 ≤ off' 0 ∨ off' 0 + 1 ≤ off 0) : shapeCast S1x256x1024 (truncf (F := F) .bf16 (shapeCast S256x1024 (M.view.readAt (Elt F) (Rect.unit (s := S2x256x1024) off S1x256x1024.size inb).toLoadRect
      (View.write (Elt F) ((M.slice (Rect.unit (s := S2x256x1024) off' S1x256x1024.size inb') h1').squeeze S256x1024 hq').view
        (View.write (Elt F) ((M.slice (Rect.unit (s := S2x256x1024) off S1x256x1024.size inb) h1).squeeze S256x1024 hq).view f (dGot g n B inbW h2 hq2 W) Finset.univ) v' Finset.univ)) shapeCasts_S1x256x1024_S256x1024)
      bitsLt_bf16_f32) shapeCasts_S256x1024_S1x256x1024 x
      = FloatOps.truncf .bf16 bitsLt_bf16_f32 (B.view.read (Elt F) W (ix3 (eix g n) ⟨(x 1).val, (x 1).isLt⟩ ⟨(x 2).val, (x 2).isLt⟩)) := by
  rw [slot_other M inb inb' h1' hq' _ v' 0 ha]
  exact d_store M inb h1 hq f g n B inbW h2 hq2 W x
end Down

/-! ## All the stores -/

/-- The piece at expert `n`, columns from `o`. -/
abbrev guP (n o : ℕ) (inb : ∀ a, (![n, 0, o] : Fin 3 → ℕ) a + S1x1024x256.size a ≤ S8x1024x512.size a) (w : FVec F S1x1024x256 .bf16) : View.Piece (Elt F) S8x1024x512 .bf16 :=
  ⟨Rect.unit (s := S8x1024x512) ![n, 0, o] S1x1024x256.size inb, w⟩
abbrev dP (n : ℕ) (inb : ∀ a, (![n, 0, 0] : Fin 3 → ℕ) a + S1x256x1024.size a ≤ S8x256x1024.size a) (w : FVec F S1x256x1024 .bf16) : View.Piece (Elt F) S8x256x1024 .bf16 :=
  ⟨Rect.unit (s := S8x256x1024) ![n, 0, 0] S1x256x1024.size inb, w⟩

theorem gu_all (f : cc0_scratch0.ty.Contents (Elt F)) (g : BitVec 32) (W5 W6 : Vec F S32x1024x256 .f32) (L : List (View.Piece (Elt F) S8x1024x512 .bf16))
    (hG : ∀ p ∈ L, ∃ n o, ∃ inb, ∃ w, p = guP n o inb w ∧ ((o = 0 ∧ ∀ x, w x = FloatOps.truncf .bf16 bitsLt_bf16_f32 (W5 (ix3 (eix g n) ⟨(x 1).val, (x 1).isLt⟩ ⟨(x 2).val, (x 2).isLt⟩)))
      ∨ (o = 256 ∧ ∀ x, w x = FloatOps.truncf .bf16 bitsLt_bf16_f32 (W6 (ix3 (eix g n) ⟨(x 1).val, (x 1).isLt⟩ ⟨(x 2).val, (x 2).isLt⟩)))))
    (hc : ∀ n < 8, (∃ inb w, guP n 0 inb w ∈ L) ∧ ∃ inb w, guP n 256 inb w ∈ L) :
    (Memref.whole cc0_scratch0).view.writes (Elt F) f L = guC g W5 W6 := by
  funext y
  refine View.read_writes_apply_of_pieces (Memref.whole cc0_scratch0).view f (guC g W5 W6) L (fun p hp x => ?_) y ?_
  · obtain ⟨n, o, inb, w, rfl, ⟨rfl, hw⟩ | ⟨rfl, hw⟩⟩ := hG p hp
    · exact (hw x).trans (guC_gate g W5 W6 n inb x)
    · exact (hw x).trans (guC_up g W5 W6 n inb x)
  · have h0 : (y 0).val < 8 := (y 0).isLt
    have h1 : (y 1).val < 1024 := (y 1).isLt
    have h2 : (y 2).val < 512 := (y 2).isLt
    obtain ⟨⟨i0, w0, m0⟩, ⟨i1, w1, m1⟩⟩ := hc (y 0).val h0
    by_cases h : (y 2).val < 256
    · refine ⟨_, m0, (Rect.mem_set_unit (s := S8x1024x512) (inb := i0)).mpr fun a => ?_⟩
      fin_cases a
      · exact ⟨le_refl _, Nat.lt_succ_self _⟩
      · exact ⟨Nat.zero_le _, by show (y 1).val < 0 + 1024; omega⟩
      · exact ⟨Nat.zero_le _, by show (y 2).val < 0 + 256; omega⟩
    · refine ⟨_, m1, (Rect.mem_set_unit (s := S8x1024x512) (inb := i1)).mpr fun a => ?_⟩
      fin_cases a
      · exact ⟨le_refl _, Nat.lt_succ_self _⟩
      · exact ⟨Nat.zero_le _, by show (y 1).val < 0 + 1024; omega⟩
      · exact ⟨by show 256 ≤ (y 2).val; omega, by show (y 2).val < 256 + 256; omega⟩

theorem d_all (f : cc0_scratch1.ty.Contents (Elt F)) (g : BitVec 32) (W7 : Vec F S32x256x1024 .f32) (L : List (View.Piece (Elt F) S8x256x1024 .bf16))
    (hG : ∀ p ∈ L, ∃ n, ∃ inb, ∃ w, p = dP n inb w ∧ ∀ x, w x = FloatOps.truncf .bf16 bitsLt_bf16_f32 (W7 (ix3 (eix g n) ⟨(x 1).val, (x 1).isLt⟩ ⟨(x 2).val, (x 2).isLt⟩)))
    (hc : ∀ n < 8, ∃ inb w, dP n inb w ∈ L) :
    (Memref.whole cc0_scratch1).view.writes (Elt F) f L = dC g W7 := by
  funext y
  refine View.read_writes_apply_of_pieces (Memref.whole cc0_scratch1).view f (dC g W7) L (fun p hp x => ?_) y ?_
  · obtain ⟨n, inb, w, rfl, hw⟩ := hG p hp
    exact (hw x).trans (dC_piece g W7 n inb x)
  · have h0 : (y 0).val < 8 := (y 0).isLt
    have h1 : (y 1).val < 256 := (y 1).isLt
    have h2 : (y 2).val < 1024 := (y 2).isLt
    obtain ⟨i0, w0, m0⟩ := hc (y 0).val h0
    refine ⟨_, m0, (Rect.mem_set_unit (s := S8x256x1024) (inb := i0)).mpr fun a => ?_⟩
    fin_cases a
    · exact ⟨le_refl _, Nat.lt_succ_self _⟩
    · exact ⟨Nat.zero_le _, by show (y 1).val < 0 + 256; omega⟩
    · exact ⟨Nat.zero_le _, by show (y 2).val < 0 + 1024; omega⟩

/-! ## The reads -/

theorem xLo_read (M : Memref sig .tc .vmem S256x640 .i32) (f : M.view.ty.Contents (Elt F)) (inb : ∀ a, (![0, 0] : Fin 2 → ℕ) a + S256x512.size a ≤ S256x640.size a) :
    M.view.readAt (Elt F) (Rect.unit (s := S256x640) ![0, 0] S256x512.size inb).toLoadRect f = xLo (M.view.read (Elt F) f) :=
  funext fun j => congrArg (M.view.read (Elt F) f) (funext fun a => Fin.ext (by
    fin_cases a
    · show 0 + 1 * (j 0).val = (j 0).val; omega
    · show 0 + 1 * (j 1).val = (j 1).val; omega))

theorem xHi_read (M : Memref sig .tc .vmem S256x640 .i32) (f : M.view.ty.Contents (Elt F)) (inb : ∀ a, (![0, 512] : Fin 2 → ℕ) a + S256x128.size a ≤ S256x640.size a) :
    M.view.readAt (Elt F) (Rect.unit (s := S256x640) ![0, 512] S256x128.size inb).toLoadRect f = xHi (M.view.read (Elt F) f) :=
  funext fun j => congrArg (M.view.read (Elt F) f) (funext fun a => Fin.ext (by
    fin_cases a
    · show 0 + 1 * (j 0).val = (j 0).val; omega
    · show 512 + 1 * (j 1).val = 512 + (j 1).val; omega))

theorem guT_read (f : cc0_scratch0.ty.Contents (Elt F)) (t : BitVec 32) (r : Fin 2) {off : Fin 3 → ℕ} (ho : off = ![t.toNat, 512 * r.val, 0]) (inb : ∀ a, off a + S1x512x512.size a ≤ S8x1024x512.size a) :
    (Memref.whole cc0_scratch0).view.readAt (Elt F) (Rect.unit (s := S8x1024x512) off S1x512x512.size inb).toLoadRect f = guT f t r := by
  subst ho
  have ht : t.toNat + 1 ≤ 8 := inb 0
  refine funext fun j => congrArg f (funext fun a => Fin.ext ?_)
  have h0 : (j 0).val < 1 := (j 0).isLt
  fin_cases a
  · show t.toNat + 1 * (j 0).val = t.toNat % 8; rw [Nat.mod_eq_of_lt (by omega)]; omega
  · show 512 * r.val + 1 * (j 1).val = 512 * r.val + (j 1).val; omega
  · show 0 + 1 * (j 2).val = (j 2).val; omega

theorem dT_read (f : cc0_scratch1.ty.Contents (Elt F)) (t : BitVec 32) {off : Fin 3 → ℕ} (ho : off = ![t.toNat, 0, 0]) (inb : ∀ a, off a + S1x256x1024.size a ≤ S8x256x1024.size a) :
    (Memref.whole cc0_scratch1).view.readAt (Elt F) (Rect.unit (s := S8x256x1024) off S1x256x1024.size inb).toLoadRect f = dT f t := by
  subst ho
  have ht : t.toNat + 1 ≤ 8 := inb 0
  refine funext fun j => congrArg f (funext fun a => Fin.ext ?_)
  have h0 : (j 0).val < 1 := (j 0).isLt
  fin_cases a
  · show t.toNat + 1 * (j 0).val = t.toNat % 8; rw [Nat.mod_eq_of_lt (by omega)]; omega
  · show 0 + 1 * (j 1).val = (j 1).val; omega
  · show 0 + 1 * (j 2).val = (j 2).val; omega

theorem live_eq (X : Vec F S256x640 .i32) (wgu : FVec F S8x1024x512 .bf16) (wd : FVec F S8x256x1024 .bf16) (a b : BitVec 32)
    {l : Vec F S256x512 .i32} {h : Vec F S256x128 .i32} {a0 a1 b0 b1 : Vec F S1x512x512 .bf16} {da db : Vec F S1x256x1024 .bf16}
    (hl : l = xLo X) (hh : h = xHi X) (ha0 : a0 = guT wgu a 0) (ha1 : a1 = guT wgu a 1) (hda : da = dT wd a)
    (hb0 : b0 = guT wgu b 0) (hb1 : b1 = guT wgu b 1) (hdb : db = dT wd b) :
    k0_pay3 (k0_pay30 l) (k0_pay31 h) (k0_pay32 l h a0 a1 da) (k0_pay33 l b0) (k0_pay34 b1) db = liveOb X wgu wd a b := by
  subst hl hh ha0 ha1 hda hb0 hb1 hdb
  rfl

/-- A buffer stored whole holds what was stored. -/
theorem ob_read (M : Memref sig .tc .vmem S256x2x512 .bf16) (f : M.view.ty.Contents (Elt F)) (inb : ∀ a, (![0, 0, 0] : Fin 3 → ℕ) a + S256x2x512.size a ≤ S256x2x512.size a)
    (w : Vec F S256x2x512 .bf16) : View.read (Elt F) M.view (M.view.writes (Elt F) f [⟨Rect.unit (s := S256x2x512) ![0, 0, 0] S256x2x512.size inb, w⟩]) = w := by
  funext y
  refine View.read_writes_apply_of_pieces M.view f w _ (fun p hp x => ?_) y ?_
  · obtain rfl := List.mem_singleton.mp hp
    refine congrArg w (funext fun a => Fin.ext ?_)
    fin_cases a
    · show (x 0).val = 0 + 1 * (x 0).val; omega
    · show (x 1).val = 0 + 1 * (x 1).val; omega
    · show (x 2).val = 0 + 1 * (x 2).val; omega
  · exact ⟨_, List.mem_singleton_self _, View.mem_set_unit_zero (S := S256x2x512) (by decide +kernel) inb y⟩

end Cert.KernelIdeal.Experts
-- ==== Proof.Run.lean ====
module

public import proofs.«01_k».proof.Proof.Resident
public import Idealize.ShloMosaic.Lib.Tactic
public import Idealize.ShloMosaic.Lib.Batch
public import Idealize.ShloMosaic.Lib.Transfers

/-!
The body of the experts call, run once for each of its three ways: a live tile whose group is not resident (the
weights are brought over in two slots and cast, then the tile is computed), a live tile whose group is resident, and a
tile past the live ones.
-/

@[expose] public section

set_option maxRecDepth 16384

noncomputable section

namespace Cert.KernelIdeal.Experts

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.Sem Idealize.SL.ProofMode
open Cert.KernelIdeal Cert.KernelIdeal.Gen

variable {F : FTy → Type} [FloatOps F]

abbrev UU := UR sig nD τ × Counters
local notation "𝕄" => MT nD τ sig Unit (Elt F) ℕ UU ℕ

/-- A buffer's contents, held whole. -/
abbrev ptw {sp : Space} {s : Shape} {e : EltTy} (c : Dev nD) (m : Memref sig .tc sp s e) (f : Buf (Elt F) (m.view.loc (c : Thread nD τ))) : sProp 𝕄 := m.view.loc (c : Thread nD τ) ↦{fullShare} f
/-- A read share of a buffer, one of two. -/
abbrev tok {sp : Space} {s : Shape} {e : EltTy} (c : Dev nD) (m : Memref sig .tc sp s e) (k : Fin 2) (f : Buf (Elt F) (m.view.loc (c : Thread nD τ))) : sProp 𝕄 :=
  m.view.loc (c : Thread nD τ) ↦{Transfers.shareTok fullShare 2 k} f
/-- The call's two semaphores. -/
abbrev dsem (k : Fin 2) : DmaSem sig := match k with
  | 0 => ((cc0_scratch5.slice (Rect.unit (s := S2) ![0] S1.size inb_S2_S1_0)).squeeze S_ squeezes_S1_S_).sem
  | 1 => ((cc0_scratch5.slice (Rect.unit (s := S2) ![1] S1.size inb_S2_S1_1)).squeeze S_ squeezes_S1_S_).sem

/-- The body, at its two staged blocks. -/
abbrev args (i : grid0.Coords) (b9 : Memref sig .tc .vmem S256x640 .i32) (hb9 : b9.IsWhole) (ob : Memref sig .tc .vmem S256x2x512 .bf16) (hob : ob.IsWhole) : Prog (TpuEff nD τ sig (Elt F) Λ₀ .tc) PUnit :=
  cc0_moe_experts i (Memref.whole main_arg1) (Memref.isWhole_whole _) (Memref.whole main_arg2) (Memref.isWhole_whole _) (Memref.whole main_arg3) (Memref.isWhole_whole _) (Memref.whole main_arg4) (Memref.isWhole_whole _) b9 hb9 (Memref.whole main_arg5) (Memref.isWhole_whole _) (Memref.whole main_arg6) (Memref.isWhole_whole _) (Memref.whole main_arg7) (Memref.isWhole_whole _) ob hob (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5

/-- The four tables, as one core reads them. -/
structure Tabs where
  t1 : Vec F S368 .i32
  t2 : Vec F S368 .i32
  t3 : Vec F S368 .i32
  t4 : Vec F S1 .i32
/-- The three weight arrays. -/
structure Wts where
  w5 : Vec F S32x1024x256 .f32
  w6 : Vec F S32x1024x256 .f32
  w7 : Vec F S32x256x1024 .f32

/-- What the body holds besides its two staged blocks: the tables, two read shares of each weight array, the two
    resident buffers, the staging slots at anything and the two semaphores at zero. -/
def held (c : Dev nD) (T : Tabs (F := F)) (W : Wts (F := F)) (wgu : Vec F S8x1024x512 .bf16) (wd : Vec F S8x256x1024 .bf16) : sProp 𝕄 :=
  iprop(ptw c (Memref.whole main_arg1) T.t1 ∗ ptw c (Memref.whole main_arg2) T.t2 ∗ ptw c (Memref.whole main_arg3) T.t3 ∗ ptw c (Memref.whole main_arg4) T.t4
     ∗ tok c (Memref.whole main_arg5) 0 W.w5 ∗ tok c (Memref.whole main_arg5) 1 W.w5 ∗ tok c (Memref.whole main_arg6) 0 W.w6 ∗ tok c (Memref.whole main_arg6) 1 W.w6
     ∗ tok c (Memref.whole main_arg7) 0 W.w7 ∗ tok c (Memref.whole main_arg7) 1 W.w7
     ∗ ptw c (Memref.whole cc0_scratch0) wgu ∗ ptw c (Memref.whole cc0_scratch1) wd
     ∗ (∃ sg : Vec F S2x1024x256 .f32, ptw c (Memref.whole cc0_scratch2) sg) ∗ (∃ su : Vec F S2x1024x256 .f32, ptw c (Memref.whole cc0_scratch3) su) ∗ (∃ sd : Vec F S2x256x1024 .f32, ptw c (Memref.whole cc0_scratch4) sd)
     ∗ semVal ((c : Thread nD τ), SemLoc.dma (dsem 0)) 0 ∗ semVal ((c : Thread nD τ), SemLoc.dma (dsem 1)) 0)

set_option maxHeartbeats 1000000 in
/-- A live tile whose group is resident. -/
theorem run_keep [∀ e, Nonempty (Elt F e)] (i : grid0.Coords) (c : Dev nD) (b9 : Memref sig .tc .vmem S256x640 .i32) (hb9 : b9.IsWhole) (ob : Memref sig .tc .vmem S256x2x512 .bf16) (hob : ob.IsWhole)
    (T : Tabs (F := F)) (A : Wts (F := F)) (wgu : Vec F S8x1024x512 .bf16) (wd : Vec F S8x256x1024 .bf16) (x9 : Buf (Elt F) (b9.view.loc (c : Thread nD τ))) (x10 : Buf (Elt F) (ob.view.loc (c : Thread nD τ))) (W : Waits sig Unit)
    (Q : PUnit → sProp 𝕄)
    (h1 : ¬ k0_cond1 i (wN T.t4) (wG i T.t1) (wP i T.t1) = 1#1)
    (h2 : k0_cond2 i (wN T.t4) = 1#1) (h3 : ¬ k0_cond3 i (wN T.t4) = 1#1) (hc2 : k0_chk2 i (wN T.t4) (wA i T.t2)) (hc3 : k0_chk3 i (wN T.t4) (wB i T.t3)) :
    iprop(held c T A wgu wd ∗ ptw c b9 x9 ∗ ptw c ob x10 ∗ owes (c : Thread nD τ) 0 W
      ∗ (∀ f10 : Buf (Elt F) (ob.view.loc (c : Thread nD τ)), ∀ W' : Waits sig Unit, ⌜ob.view.read (Elt F) f10 = liveOb (b9.view.read (Elt F) x9) wgu wd (wA i T.t2) (wB i T.t3)⌝ ∗ held c T A wgu wd ∗ ptw c b9 x9 ∗ ptw c ob f10 ∗ owes (c : Thread nD τ) 0 W' -∗ Q ⟨⟩))
    ⊢ wp frame (wpE (defs₀ (F := F)) Variants.none (c : Thread nD τ) none) Set.univ (args i b9 hb9 ob hob) Q := by
  unfold held
  iintro ⟨⟨H1, H2, H3, H4, H5a, H5b, H6a, H6b, H7a, H7b, HG, HD, ⟨%sg, SG⟩, ⟨%su, SU⟩, ⟨%sd, SD⟩, S0, S1⟩, HX, HO, HW, Hk⟩
  unfold args
  rw [cc0_moe_experts_eq_skeleton]
  unfold cc0_moe_experts_skel
  sl_exec
  sl_step
  iapply Hk
  isplitr; swap
  isplitl [H1 H2 H3 H4 H5a H5b H6a H6b H7a H7b HG HD SG SU SD S0 S1]
  · isplitl [H1]; · iexact H1
    isplitl [H2]; · iexact H2
    isplitl [H3]; · iexact H3
    isplitl [H4]; · iexact H4
    isplitl [H5a]; · iexact H5a
    isplitl [H5b]; · iexact H5b
    isplitl [H6a]; · iexact H6a
    isplitl [H6b]; · iexact H6b
    isplitl [H7a]; · iexact H7a
    isplitl [H7b]; · iexact H7b
    isplitl [HG]; · iexact HG
    isplitl [HD]; · iexact HD
    isplitl [SG]; · iexists _; iexact SG
    isplitl [SU]; · iexists _; iexact SU
    isplitl [SD]; · iexists _; iexact SD
    isplitl [S0]; · iexact S0
    iexact S1
  isplitl [HX]; · iexact HX
  isplitl [HO]; · iexact HO
  iexact HW
  ipureintro
  exact (ob_read ob x10 _ _).trans (live_eq _ _ _ _ _ (xLo_read b9 x9 _) (xHi_read b9 x9 _)
    (guT_read _ _ 0 rfl _) (guT_read _ _ 1 rfl _) (dT_read _ _ rfl _) (guT_read _ _ 0 rfl _) (guT_read _ _ 1 rfl _) (dT_read _ _ rfl _))

set_option maxHeartbeats 1000000 in
/-- A tile past the live ones. -/
theorem run_dead [∀ e, Nonempty (Elt F e)] (i : grid0.Coords) (c : Dev nD) (b9 : Memref sig .tc .vmem S256x640 .i32) (hb9 : b9.IsWhole) (ob : Memref sig .tc .vmem S256x2x512 .bf16) (hob : ob.IsWhole)
    (T : Tabs (F := F)) (A : Wts (F := F)) (wgu : Vec F S8x1024x512 .bf16) (wd : Vec F S8x256x1024 .bf16) (x9 : Buf (Elt F) (b9.view.loc (c : Thread nD τ))) (x10 : Buf (Elt F) (ob.view.loc (c : Thread nD τ))) (W : Waits sig Unit)
    (Q : PUnit → sProp 𝕄)
    (h1 : ¬ k0_cond1 i (wN T.t4) (wG i T.t1) (wP i T.t1) = 1#1)
    (h2 : ¬ k0_cond2 i (wN T.t4) = 1#1) (h3 : k0_cond3 i (wN T.t4) = 1#1) :
    iprop(held c T A wgu wd ∗ ptw c b9 x9 ∗ ptw c ob x10 ∗ owes (c : Thread nD τ) 0 W
      ∗ (∀ f10 : Buf (Elt F) (ob.view.loc (c : Thread nD τ)), ∀ W' : Waits sig Unit, ⌜ob.view.read (Elt F) f10 = deadOb⌝ ∗ held c T A wgu wd ∗ ptw c b9 x9 ∗ ptw c ob f10 ∗ owes (c : Thread nD τ) 0 W' -∗ Q ⟨⟩))
    ⊢ wp frame (wpE (defs₀ (F := F)) Variants.none (c : Thread nD τ) none) Set.univ (args i b9 hb9 ob hob) Q := by
  unfold held
  iintro ⟨⟨H1, H2, H3, H4, H5a, H5b, H6a, H6b, H7a, H7b, HG, HD, ⟨%sg, SG⟩, ⟨%su, SU⟩, ⟨%sd, SD⟩, S0, S1⟩, HX, HO, HW, Hk⟩
  unfold args
  rw [cc0_moe_experts_eq_skeleton]
  unfold cc0_moe_experts_skel
  sl_exec
  sl_step
  iapply Hk
  isplitr; swap
  isplitl [H1 H2 H3 H4 H5a H5b H6a H6b H7a H7b HG HD SG SU SD S0 S1]
  · isplitl [H1]; · iexact H1
    isplitl [H2]; · iexact H2
    isplitl [H3]; · iexact H3
    isplitl [H4]; · iexact H4
    isplitl [H5a]; · iexact H5a
    isplitl [H5b]; · iexact H5b
    isplitl [H6a]; · iexact H6a
    isplitl [H6b]; · iexact H6b
    isplitl [H7a]; · iexact H7a
    isplitl [H7b]; · iexact H7b
    isplitl [HG]; · iexact HG
    isplitl [HD]; · iexact HD
    isplitl [SG]; · iexists _; iexact SG
    isplitl [SU]; · iexists _; iexact SU
    isplitl [SD]; · iexists _; iexact SD
    isplitl [S0]; · iexact S0
    iexact S1
  isplitl [HX]; · iexact HX
  isplitl [HO]; · iexact HO
  iexact HW
  ipureintro
  exact ob_read ob x10 _ _
set_option maxHeartbeats 4000000 in
/-- A live tile whose group is brought over. -/
theorem run_load [∀ e, Nonempty (Elt F e)] (i : grid0.Coords) (c : Dev nD) (b9 : Memref sig .tc .vmem S256x640 .i32) (hb9 : b9.IsWhole) (ob : Memref sig .tc .vmem S256x2x512 .bf16) (hob : ob.IsWhole)
    (T : Tabs (F := F)) (A : Wts (F := F)) (wgu : Vec F S8x1024x512 .bf16) (wd : Vec F S8x256x1024 .bf16) (x9 : Buf (Elt F) (b9.view.loc (c : Thread nD τ))) (x10 : Buf (Elt F) (ob.view.loc (c : Thread nD τ))) (W : Waits sig Unit)
    (Q : PUnit → sProp 𝕄)
    (_plan0 : Transfers.BatchOf (c : Thread nD τ) (SemLoc.dma (sig := sig) (dsem 0)) 3 (windows := true))
    (_plan1 : Transfers.BatchOf (c : Thread nD τ) (SemLoc.dma (sig := sig) (dsem 1)) 3 (windows := true))
    (h1 : k0_cond1 i (wN T.t4) (wG i T.t1) (wP i T.t1) = 1#1) (hc1 : k0_chk1 i (wN T.t4) (wG i T.t1) (wP i T.t1) (wG' i T.t1))
    (h2 : k0_cond2 i (wN T.t4) = 1#1) (h3 : ¬ k0_cond3 i (wN T.t4) = 1#1) (hc2 : k0_chk2 i (wN T.t4) (wA i T.t2)) (hc3 : k0_chk3 i (wN T.t4) (wB i T.t3)) :
    iprop(held c T A wgu wd ∗ ptw c b9 x9 ∗ ptw c ob x10 ∗ owes (c : Thread nD τ) 0 W
      ∗ (∀ f10 : Buf (Elt F) (ob.view.loc (c : Thread nD τ)), ∀ W' : Waits sig Unit, ⌜ob.view.read (Elt F) f10 = liveOb (b9.view.read (Elt F) x9) (guC (wG' i T.t1) A.w5 A.w6) (dC (wG' i T.t1) A.w7) (wA i T.t2) (wB i T.t3)⌝ ∗ held c T A (guC (wG' i T.t1) A.w5 A.w6) (dC (wG' i T.t1) A.w7) ∗ ptw c b9 x9 ∗ ptw c ob f10 ∗ owes (c : Thread nD τ) 0 W' -∗ Q ⟨⟩))
    ⊢ wp frame (wpE (defs₀ (F := F)) Variants.none (c : Thread nD τ) none) Set.univ (args i b9 hb9 ob hob) Q := by
  unfold held
  iintro ⟨⟨H1, H2, H3, H4, H5a, H5b, H6a, H6b, H7a, H7b, HG, HD, ⟨%sg, SG⟩, ⟨%su, SU⟩, ⟨%sd, SD⟩, S0, S1⟩, HX, HO, HW, Hk⟩
  unfold args
  rw [cc0_moe_experts_eq_skeleton]
  unfold cc0_moe_experts_skel
  sl_exec
  sl_step
  have hG := gu_all (Memref.whole cc0_scratch0).view.junk (wG' i T.t1) A.w5 A.w6 (run_load.sl.HG_16 i T A h1 hc1 sg su) (by
    delta run_load.sl.HG_16
    refine List.forall_mem_cons.mpr ⟨⟨7, 256, _, _, rfl, .inr ⟨rfl, fun x => gu_store (Memref.whole cc0_scratch3) _ _ _ _ (wG' i T.t1) 7 (Memref.whole main_arg6) _ _ _ A.w6 x⟩⟩, ?_⟩
    refine List.forall_mem_cons.mpr ⟨⟨7, 0, _, _, rfl, .inl ⟨rfl, fun x => gu_store (Memref.whole cc0_scratch2) _ _ _ _ (wG' i T.t1) 7 (Memref.whole main_arg5) _ _ _ A.w5 x⟩⟩, ?_⟩
    refine List.forall_mem_cons.mpr ⟨⟨6, 256, _, _, rfl, .inr ⟨rfl, fun x => gu_store' (Memref.whole cc0_scratch3) _ _ _ _ _ _ _ _ (wG' i T.t1) 6 (Memref.whole main_arg6) _ _ _ A.w6 x (by decide +kernel)⟩⟩, ?_⟩
    refine List.forall_mem_cons.mpr ⟨⟨6, 0, _, _, rfl, .inl ⟨rfl, fun x => gu_store' (Memref.whole cc0_scratch2) _ _ _ _ _ _ _ _ (wG' i T.t1) 6 (Memref.whole main_arg5) _ _ _ A.w5 x (by decide +kernel)⟩⟩, ?_⟩
    refine List.forall_mem_cons.mpr ⟨⟨5, 256, _, _, rfl, .inr ⟨rfl, fun x => gu_store' (Memref.whole cc0_scratch3) _ _ _ _ _ _ _ _ (wG' i T.t1) 5 (Memref.whole main_arg6) _ _ _ A.w6 x (by decide +kernel)⟩⟩, ?_⟩
    refine List.forall_mem_cons.mpr ⟨⟨5, 0, _, _, rfl, .inl ⟨rfl, fun x => gu_store' (Memref.whole cc0_scratch2) _ _ _ _ _ _ _ _ (wG' i T.t1) 5 (Memref.whole main_arg5) _ _ _ A.w5 x (by decide +kernel)⟩⟩, ?_⟩
    refine List.forall_mem_cons.mpr ⟨⟨4, 256, _, _, rfl, .inr ⟨rfl, fun x => gu_store' (Memref.whole cc0_scratch3) _ _ _ _ _ _ _ _ (wG' i T.t1) 4 (Memref.whole main_arg6) _ _ _ A.w6 x (by decide +kernel)⟩⟩, ?_⟩
    refine List.forall_mem_cons.mpr ⟨⟨4, 0, _, _, rfl, .inl ⟨rfl, fun x => gu_store' (Memref.whole cc0_scratch2) _ _ _ _ _ _ _ _ (wG' i T.t1) 4 (Memref.whole main_arg5) _ _ _ A.w5 x (by decide +kernel)⟩⟩, ?_⟩
    refine List.forall_mem_cons.mpr ⟨⟨3, 256, _, _, rfl, .inr ⟨rfl, fun x => gu_store' (Memref.whole cc0_scratch3) _ _ _ _ _ _ _ _ (wG' i T.t1) 3 (Memref.whole main_arg6) _ _ _ A.w6 x (by decide +kernel)⟩⟩, ?_⟩
    refine List.forall_mem_cons.mpr ⟨⟨3, 0, _, _, rfl, .inl ⟨rfl, fun x => gu_store' (Memref.whole cc0_scratch2) _ _ _ _ _ _ _ _ (wG' i T.t1) 3 (Memref.whole main_arg5) _ _ _ A.w5 x (by decide +kernel)⟩⟩, ?_⟩
    refine List.forall_mem_cons.mpr ⟨⟨2, 256, _, _, rfl, .inr ⟨rfl, fun x => gu_store' (Memref.whole cc0_scratch3) _ _ _ _ _ _ _ _ (wG' i T.t1) 2 (Memref.whole main_arg6) _ _ _ A.w6 x (by decide +kernel)⟩⟩, ?_⟩
    refine List.forall_mem_cons.mpr ⟨⟨2, 0, _, _, rfl, .inl ⟨rfl, fun x => gu_store' (Memref.whole cc0_scratch2) _ _ _ _ _ _ _ _ (wG' i T.t1) 2 (Memref.whole main_arg5) _ _ _ A.w5 x (by decide +kernel)⟩⟩, ?_⟩
    refine List.forall_mem_cons.mpr ⟨⟨1, 256, _, _, rfl, .inr ⟨rfl, fun x => gu_store' (Memref.whole cc0_scratch3) _ _ _ _ _ _ _ _ (wG' i T.t1) 1 (Memref.whole main_arg6) _ _ _ A.w6 x (by decide +kernel)⟩⟩, ?_⟩
    refine List.forall_mem_cons.mpr ⟨⟨1, 0, _, _, rfl, .inl ⟨rfl, fun x => gu_store' (Memref.whole cc0_scratch2) _ _ _ _ _ _ _ _ (wG' i T.t1) 1 (Memref.whole main_arg5) _ _ _ A.w5 x (by decide +kernel)⟩⟩, ?_⟩
    refine List.forall_mem_cons.mpr ⟨⟨0, 256, _, _, rfl, .inr ⟨rfl, fun x => gu_store' (Memref.whole cc0_scratch3) _ _ _ _ _ _ _ _ (wG' i T.t1) 0 (Memref.whole main_arg6) _ _ _ A.w6 x (by decide +kernel)⟩⟩, ?_⟩
    refine List.forall_mem_cons.mpr ⟨⟨0, 0, _, _, rfl, .inl ⟨rfl, fun x => gu_store' (Memref.whole cc0_scratch2) _ _ _ _ _ _ _ _ (wG' i T.t1) 0 (Memref.whole main_arg5) _ _ _ A.w5 x (by decide +kernel)⟩⟩, ?_⟩
    exact fun _ h => absurd h List.not_mem_nil)
    (fun n hn => by
      delta run_load.sl.HG_16
      interval_cases n
      · exact ⟨⟨_, _, List.mem_of_getElem? (i := 15) rfl⟩, ⟨_, _, List.mem_of_getElem? (i := 14) rfl⟩⟩
      · exact ⟨⟨_, _, List.mem_of_getElem? (i := 13) rfl⟩, ⟨_, _, List.mem_of_getElem? (i := 12) rfl⟩⟩
      · exact ⟨⟨_, _, List.mem_of_getElem? (i := 11) rfl⟩, ⟨_, _, List.mem_of_getElem? (i := 10) rfl⟩⟩
      · exact ⟨⟨_, _, List.mem_of_getElem? (i := 9) rfl⟩, ⟨_, _, List.mem_of_getElem? (i := 8) rfl⟩⟩
      · exact ⟨⟨_, _, List.mem_of_getElem? (i := 7) rfl⟩, ⟨_, _, List.mem_of_getElem? (i := 6) rfl⟩⟩
      · exact ⟨⟨_, _, List.mem_of_getElem? (i := 5) rfl⟩, ⟨_, _, List.mem_of_getElem? (i := 4) rfl⟩⟩
      · exact ⟨⟨_, _, List.mem_of_getElem? (i := 3) rfl⟩, ⟨_, _, List.mem_of_getElem? (i := 2) rfl⟩⟩
      · exact ⟨⟨_, _, List.mem_of_getElem? (i := 1) rfl⟩, ⟨_, _, List.mem_of_getElem? (i := 0) rfl⟩⟩)
  have hD := d_all (Memref.whole cc0_scratch1).view.junk (wG' i T.t1) A.w7 (run_load.sl.HD_8 i T A h1 hc1 sd) (by
    delta run_load.sl.HD_8
    refine List.forall_mem_cons.mpr ⟨⟨7, _, _, rfl, fun x => d_store (Memref.whole cc0_scratch4) _ _ _ _ (wG' i T.t1) 7 (Memref.whole main_arg7) _ _ _ A.w7 x⟩, ?_⟩
    refine List.forall_mem_cons.mpr ⟨⟨6, _, _, rfl, fun x => d_store' (Memref.whole cc0_scratch4) _ _ _ _ _ _ _ _ (wG' i T.t1) 6 (Memref.whole main_arg7) _ _ _ A.w7 x (by decide +kernel)⟩, ?_⟩
    refine List.forall_mem_cons.mpr ⟨⟨5, _, _, rfl, fun x => d_store' (Memref.whole cc0_scratch4) _ _ _ _ _ _ _ _ (wG' i T.t1) 5 (Memref.whole main_arg7) _ _ _ A.w7 x (by decide +kernel)⟩, ?_⟩
    refine List.forall_mem_cons.mpr ⟨⟨4, _, _, rfl, fun x => d_store' (Memref.whole cc0_scratch4) _ _ _ _ _ _ _ _ (wG' i T.t1) 4 (Memref.whole main_arg7) _ _ _ A.w7 x (by decide +kernel)⟩, ?_⟩
    refine List.forall_mem_cons.mpr ⟨⟨3, _, _, rfl, fun x => d_store' (Memref.whole cc0_scratch4) _ _ _ _ _ _ _ _ (wG' i T.t1) 3 (Memref.whole main_arg7) _ _ _ A.w7 x (by decide +kernel)⟩, ?_⟩
    refine List.forall_mem_cons.mpr ⟨⟨2, _, _, rfl, fun x => d_store' (Memref.whole cc0_scratch4) _ _ _ _ _ _ _ _ (wG' i T.t1) 2 (Memref.whole main_arg7) _ _ _ A.w7 x (by decide +kernel)⟩, ?_⟩
    refine List.forall_mem_cons.mpr ⟨⟨1, _, _, rfl, fun x => d_store' (Memref.whole cc0_scratch4) _ _ _ _ _ _ _ _ (wG' i T.t1) 1 (Memref.whole main_arg7) _ _ _ A.w7 x (by decide +kernel)⟩, ?_⟩
    refine List.forall_mem_cons.mpr ⟨⟨0, _, _, rfl, fun x => d_store' (Memref.whole cc0_scratch4) _ _ _ _ _ _ _ _ (wG' i T.t1) 0 (Memref.whole main_arg7) _ _ _ A.w7 x (by decide +kernel)⟩, ?_⟩
    exact fun _ h => absurd h List.not_mem_nil)
    (fun n hn => by
      delta run_load.sl.HD_8
      interval_cases n
      · exact ⟨_, _, List.mem_of_getElem? (i := 7) rfl⟩
      · exact ⟨_, _, List.mem_of_getElem? (i := 6) rfl⟩
      · exact ⟨_, _, List.mem_of_getElem? (i := 5) rfl⟩
      · exact ⟨_, _, List.mem_of_getElem? (i := 4) rfl⟩
      · exact ⟨_, _, List.mem_of_getElem? (i := 3) rfl⟩
      · exact ⟨_, _, List.mem_of_getElem? (i := 2) rfl⟩
      · exact ⟨_, _, List.mem_of_getElem? (i := 1) rfl⟩
      · exact ⟨_, _, List.mem_of_getElem? (i := 0) rfl⟩)
  rw [hG, hD]
  iapply Hk
  isplitr; swap
  isplitl [H1 H2 H3 H4 H5a H5b H6a H6b H7a H7b HG HD SG SU SD S0 S1]
  · isplitl [H1]; · iexact H1
    isplitl [H2]; · iexact H2
    isplitl [H3]; · iexact H3
    isplitl [H4]; · iexact H4
    isplitl [H5a]; · iexact H5a
    isplitl [H5b]; · iexact H5b
    isplitl [H6a]; · iexact H6a
    isplitl [H6b]; · iexact H6b
    isplitl [H7a]; · iexact H7a
    isplitl [H7b]; · iexact H7b
    isplitl [HG]; · iexact HG
    isplitl [HD]; · iexact HD
    isplitl [SG]; · iexists _; iexact SG
    isplitl [SU]; · iexists _; iexact SU
    isplitl [SD]; · iexists _; iexact SD
    isplitl [S0]; · iexact S0
    iexact S1
  isplitl [HX]; · iexact HX
  isplitl [HO]; · iexact HO
  iexact HW
  ipureintro
  exact (ob_read ob x10 _ _).trans (live_eq _ _ _ _ _ (xLo_read b9 x9 _) (xHi_read b9 x9 _)
    ((congrArg _ hG).trans (guT_read _ _ 0 rfl _)) ((congrArg _ hG).trans (guT_read _ _ 1 rfl _)) ((congrArg _ hD).trans (dT_read _ _ rfl _))
    ((congrArg _ hG).trans (guT_read _ _ 0 rfl _)) ((congrArg _ hG).trans (guT_read _ _ 1 rfl _)) ((congrArg _ hD).trans (dT_read _ _ rfl _)))

end Cert.KernelIdeal.Experts
-- ==== Proof.Cond.lean ====
module

public import proofs.«01_k».proof.Proof.Closed

/-!
What the experts call's three conditions say of the table words, the checks its body makes of them, and what the
words of one tile are to the words of the tile before.
-/

@[expose] public section

set_option maxRecDepth 16384

noncomputable section

namespace Cert.KernelIdeal.Experts

open Idealize.ShloMosaic Idealize.ShloMosaic.TcCoe
open Cert.KernelIdeal Cert.KernelIdeal.Gen

variable {F : FTy → Type} [FloatOps F]

/-- Tile `i` is live: it is among the first `n`. -/
def live (i : grid0.Coords) (n : BitVec 32) : Prop := ((i 0).val : ℤ) < n.toInt

instance (i : grid0.Coords) (n : BitVec 32) : Decidable (live i n) := by unfold live; infer_instance

theorem ne_zero_ext (b : BitVec 1) : IntOp.cmpi .ne (b.setWidth 32) 0#32 = b := by revert b; decide

theorem coord_toInt (i : grid0.Coords) : (BitVec.ofNat 32 (i 0).val).toInt = ((i 0).val : ℤ) := by
  have h : (i 0).val < 368 := (i 0).isLt
  rw [BitVec.toInt_eq_toNat_of_lt (by rw [BitVec.toNat_ofNat]; omega), BitVec.toNat_ofNat]
  omega

theorem slt_live (i : grid0.Coords) (n : BitVec 32) : (BitVec.ofNat 32 (i 0).val).slt n = decide (live i n) := by
  rw [BitVec.slt_eq_decide, coord_toInt]; rfl

theorem cond2_live (i : grid0.Coords) (n : BitVec 32) : k0_cond2 i n = BitVec.ofBool (decide (live i n)) := by
  show IntOp.cmpi .ne ((IntOp.cmpi .slt (BitVec.ofNat 32 (i 0).val) n).setWidth 32) 0#32 = _
  rw [ne_zero_ext]
  show BitVec.ofBool ((BitVec.ofNat 32 (i 0).val).slt n) = _
  rw [slt_live]

theorem cond3_live (i : grid0.Coords) (n : BitVec 32) : k0_cond3 i n = BitVec.ofBool (decide (¬ live i n)) := by
  show IntOp.cmpi .ne ((IntOp.xori (IntOp.cmpi .slt (BitVec.ofNat 32 (i 0).val) n) 1#1).setWidth 32) 0#32 = _
  rw [ne_zero_ext]
  show (BitVec.ofBool ((BitVec.ofNat 32 (i 0).val).slt n)) ^^^ 1#1 = _
  rw [slt_live]
  by_cases h : live i n <;> simp [h]

theorem coord_eq_zero (i : grid0.Coords) : (BitVec.ofNat 32 (i 0).val == 0#32) = decide ((i 0).val = 0) := by
  have h : (i 0).val < 368 := (i 0).isLt
  rw [Bool.eq_iff_iff, beq_iff_eq, decide_eq_true_eq]
  constructor
  · intro e
    have := congrArg BitVec.toNat e
    rw [BitVec.toNat_ofNat] at this
    simp at this; omega
  · intro e; rw [e]

theorem cond1_live (i : grid0.Coords) (n g p : BitVec 32) : k0_cond1 i n g p = BitVec.ofBool (decide (live i n ∧ ((i 0).val = 0 ∨ g ≠ p))) := by
  show IntOp.cmpi .ne ((IntOp.andi (IntOp.cmpi .slt (BitVec.ofNat 32 (i 0).val) n) (IntOp.ori (IntOp.cmpi .eq (BitVec.ofNat 32 (i 0).val) 0#32) (IntOp.cmpi .ne g p))).setWidth 32) 0#32 = _
  rw [ne_zero_ext]
  show (BitVec.ofBool ((BitVec.ofNat 32 (i 0).val).slt n)) &&& ((BitVec.ofBool (BitVec.ofNat 32 (i 0).val == 0#32)) ||| BitVec.ofBool (g != p)) = _
  rw [slt_live, coord_eq_zero]
  have hb : (g != p) = decide (g ≠ p) := by by_cases hg : g = p <;> simp [hg]
  rw [hb]
  by_cases h : live i n <;> by_cases h0 : (i 0).val = 0 <;> by_cases hg : g = p <;> simp [h, h0, hg]

theorem ofBool_one (P : Prop) [Decidable P] : BitVec.ofBool (decide P) = 1#1 ↔ P := by by_cases h : P <;> simp [h]

theorem cond1_iff (i : grid0.Coords) (n g p : BitVec 32) : k0_cond1 i n g p = 1#1 ↔ (live i n ∧ ((i 0).val = 0 ∨ g ≠ p)) := by rw [cond1_live, ofBool_one]
theorem cond2_iff (i : grid0.Coords) (n : BitVec 32) : k0_cond2 i n = 1#1 ↔ live i n := by rw [cond2_live, ofBool_one]
theorem cond3_iff (i : grid0.Coords) (n : BitVec 32) : k0_cond3 i n = 1#1 ↔ ¬ live i n := by rw [cond3_live, ofBool_one]

/-! ## The checks -/

theorem expert_word (g : BitVec 32) (hg : g.toNat < 4) (r : Fin 8) : (Scalar.addi (Scalar.muli g 8#32) (BitVec.ofNat 32 r.val)).toNat = g.toNat * 8 + r.val := by
  have hr : r.val < 8 := r.isLt
  show (g * 8#32 + BitVec.ofNat 32 r.val).toNat = _
  rw [BitVec.toNat_add, BitVec.toNat_mul, BitVec.toNat_ofNat]
  simp only [BitVec.toNat_ofNat]
  omega

theorem chk1_of (i : grid0.Coords) (n g p : BitVec 32) (g' : BitVec 32) (hg : g'.toNat < 4) : k0_chk1 i n g p g' := by
  refine ⟨fun _ r a => ?_, fun _ r a => ?_⟩
  · have e := expert_word g' hg r
    have hr : r.val < 8 := r.isLt
    match a with
    | 0 => show (Scalar.addi (Scalar.muli g' 8#32) (BitVec.ofNat 32 r.val)).toNat + 1 ≤ 32; omega
    | 1 => show 0 + 1024 ≤ 1024; omega
    | 2 => show 0 + 256 ≤ 256; omega
  · have e := expert_word g' hg r
    have hr : r.val < 8 := r.isLt
    match a with
    | 0 => show (Scalar.addi (Scalar.muli g' 8#32) (BitVec.ofNat 32 r.val)).toNat + 1 ≤ 32; omega
    | 1 => show 0 + 256 ≤ 256; omega
    | 2 => show 0 + 1024 ≤ 1024; omega

theorem chk2_of (i : grid0.Coords) (n a : BitVec 32) (ha : a.toNat < 8) : k0_chk2 i n a := by
  refine ⟨fun _ r => ?_, fun _ r => ?_, fun _ r => ?_⟩
  · match r with
    | 0 => show a.toNat + 1 ≤ 8; omega
    | 1 => show 0 + 512 ≤ 1024; omega
    | 2 => show 0 + 512 ≤ 512; omega
  · match r with
    | 0 => show a.toNat + 1 ≤ 8; omega
    | 1 => show 512 + 512 ≤ 1024; omega
    | 2 => show 0 + 512 ≤ 512; omega
  · match r with
    | 0 => show a.toNat + 1 ≤ 8; omega
    | 1 => show 0 + 256 ≤ 256; omega
    | 2 => show 0 + 1024 ≤ 1024; omega

theorem chk3_of (i : grid0.Coords) (n a : BitVec 32) (ha : a.toNat < 8) : k0_chk3 i n a := by
  refine ⟨fun _ r => ?_, fun _ r => ?_, fun _ r => ?_⟩
  · match r with
    | 0 => show a.toNat + 1 ≤ 8; omega
    | 1 => show 0 + 512 ≤ 1024; omega
    | 2 => show 0 + 512 ≤ 512; omega
  · match r with
    | 0 => show a.toNat + 1 ≤ 8; omega
    | 1 => show 512 + 512 ≤ 1024; omega
    | 2 => show 0 + 512 ≤ 512; omega
  · match r with
    | 0 => show a.toNat + 1 ≤ 8; omega
    | 1 => show 0 + 256 ≤ 256; omega
    | 2 => show 0 + 1024 ≤ 1024; omega

/-! ## The words of the tables -/

/-- A tile's place in a table. -/
def at368 (i : grid0.Coords) : S368.Idx := fun a => match a with | 0 => ⟨(i 0).val, (i 0).isLt⟩

theorem coord_toNat (i : grid0.Coords) : (BitVec.ofNat 32 (i 0).val).toNat = (i 0).val := by
  have h : (i 0).val < 368 := (i 0).isLt
  rw [BitVec.toNat_ofNat]; omega

theorem word_at (b : Ref sig .tc) (r : Rect b.ty.shape) (h : 0 < (r.toLoadRect).shape.numel) (T : b.ty.Contents (Elt F)) (j : b.ty.shape.Idx)
    (hj : ((r.toLoadRect).idx (Shape.Idx.first h)) = j) : word1 b r h T = T j := congrArg T hj

theorem wG_at (i : grid0.Coords) (T : main_arg1.ty.Contents (Elt F)) : wG i T = T (at368 i) :=
  word_at main_arg1 _ _ T (at368 i) (funext fun | 0 => Fin.ext (by
    show (BitVec.ofNat 32 (i 0).val).toNat + 1 * 0 = (i 0).val
    rw [coord_toNat]; omega))
theorem wG'_at (i : grid0.Coords) (T : main_arg1.ty.Contents (Elt F)) : wG' i T = T (at368 i) :=
  word_at main_arg1 _ _ T (at368 i) (funext fun | 0 => Fin.ext (by
    show (BitVec.ofNat 32 (i 0).val).toNat + 1 * 0 = (i 0).val
    rw [coord_toNat]; omega))
theorem wA_at (i : grid0.Coords) (T : main_arg2.ty.Contents (Elt F)) : wA i T = T (at368 i) :=
  word_at main_arg2 _ _ T (at368 i) (funext fun | 0 => Fin.ext (by
    show (BitVec.ofNat 32 (i 0).val).toNat + 1 * 0 = (i 0).val
    rw [coord_toNat]; omega))
theorem wB_at (i : grid0.Coords) (T : main_arg3.ty.Contents (Elt F)) : wB i T = T (at368 i) :=
  word_at main_arg3 _ _ T (at368 i) (funext fun | 0 => Fin.ext (by
    show (BitVec.ofNat 32 (i 0).val).toNat + 1 * 0 = (i 0).val
    rw [coord_toNat]; omega))
theorem wN_at (T : main_arg4.ty.Contents (Elt F)) : wN T = T (fun a => match a with | 0 => ⟨0, by decide⟩) :=
  word_at main_arg4 _ _ T _ (funext fun | 0 => rfl)
/-- The word before, of a tile that is not the first. -/
theorem wP_at (i k : grid0.Coords) (hk : (i 0).val = (k 0).val + 1) (T : main_arg1.ty.Contents (Elt F)) : wP i T = T (at368 k) :=
  word_at main_arg1 _ _ T (at368 k) (funext fun | 0 => Fin.ext (by
    have hi : (i 0).val < 368 := (i 0).isLt
    show (IntOp.maxsi (BitVec.ofNat 32 (i 0).val - 1#32) 0#32).toNat + 1 * 0 = (k 0).val
    have e : BitVec.ofNat 32 (i 0).val - 1#32 = BitVec.ofNat 32 (k 0).val := by
      apply BitVec.eq_of_toNat_eq
      rw [BitVec.toNat_sub, coord_toNat, coord_toNat]
      simp only [BitVec.toNat_ofNat]; omega
    rw [e]
    unfold IntOp.maxsi
    split
    · rw [coord_toNat]; omega
    · rename_i h
      rw [BitVec.slt_eq_decide, coord_toInt] at h
      simp at h
      have : (k 0).val = 0 := h
      rw [this]; rfl))

end Cert.KernelIdeal.Experts

end
-- ==== Proof.Region0.lean ====
module

public import proofs.«01_k».proof.Proof.Run
public import proofs.«01_k».proof.Proof.Cond
public import proofs.«01_k».proof.Proof.Gen.KernelIdeal.Launch
public import Idealize.ShloMosaic.Lib.Pipeline.RegionArraysTS
public import Idealize.ShloMosaic.Lib.Pipeline.FrameBody

/-!
The experts call as a pipeline: what each tile leaves, the invariant between tiles (the group whose weights are
resident is the group of the last live tile), the body at every tile, and the region.
-/

@[expose] public section

set_option maxRecDepth 16384

noncomputable section

namespace Cert.KernelIdeal.Experts

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.Sem Idealize.SL.ProofMode
open Cert.KernelIdeal Cert.KernelIdeal.Gen
open Idealize.ShloMosaic.Pipeline (Dat Cfg Window BodyObligation cellOf)

variable {F : FTy → Type} [FloatOps F]

local notation "𝕄" => MT nD τ sig Unit (Elt F) ℕ UU ℕ

/-! ## The tables -/

/-- The ranges of the tables' words: at least one live tile, four groups, eight experts of a group. -/
structure Good (T : Tabs (F := F)) : Prop where
  n : 1 ≤ BitVec.toInt (n := 32) (wN T.t4)
  g : ∀ j, BitVec.toNat (w := 32) (T.t1 j) < 4
  a : ∀ j, BitVec.toNat (w := 32) (T.t2 j) < 8
  b : ∀ j, BitVec.toNat (w := 32) (T.t3 j) < 8

/-- The tables a pipeline holds. -/
def tabsOf (pf : pre0.Contents (Elt F)) : Tabs (F := F) := ⟨pf 0, pf 1, pf 2, pf 3⟩

/-- The number of the row block tile `i` is brought: its own, and past the live ones the last live one's. -/
def rowTile (i : grid0.Coords) (n : BitVec 32) : ℕ := (IntOp.minsi (BitVec.ofNat 32 (i 0).val) (n - 1#32)).toNat

theorem rowTile_lt (i : grid0.Coords) (n : BitVec 32) (hn : 1 ≤ n.toInt) : rowTile i n < 368 := by
  have hi : (i 0).val < 368 := (i 0).isLt
  unfold rowTile IntOp.minsi
  split
  · rw [coord_toNat]; exact hi
  · rename_i h
    rw [BitVec.slt_eq_decide, coord_toInt] at h
    simp only [decide_eq_true_eq, not_lt] at h
    have e1 : n.toInt = n.toNat := by
      rw [BitVec.toInt_eq_toNat_cond] at hn ⊢
      split at hn <;> rename_i h'
      · rw [if_pos h']
      · have := n.isLt; omega
    have hnn : n.toNat < 2 ^ 31 := by
      have := BitVec.toInt_lt (x := n); omega
    have e2 : (n - 1#32).toNat = n.toNat - 1 := by
      rw [BitVec.toNat_sub]; simp only [BitVec.toNat_ofNat]; omega
    have e3 : (n - 1#32).toInt = n.toNat - 1 := by
      rw [BitVec.toInt_eq_toNat_of_lt (by omega), e2]; omega
    omega

theorem rowTile_live (i : grid0.Coords) (n : BitVec 32) (h : live i n) : rowTile i n = (i 0).val := by
  have hi : (i 0).val < 368 := (i 0).isLt
  have h0 : ((i 0).val : ℤ) < n.toInt := h
  have hnn := BitVec.toInt_lt (x := n)
  have e1 : n.toInt = n.toNat := by
    have hn : 0 < n.toInt := by omega
    rw [BitVec.toInt_eq_toNat_cond] at hn ⊢
    split at hn <;> rename_i h'
    · rw [if_pos h']
    · have := n.isLt; omega
  have e2 : (n - 1#32).toNat = n.toNat - 1 := by
    rw [BitVec.toNat_sub]; simp only [BitVec.toNat_ofNat]; omega
  have e3 : (n - 1#32).toInt = n.toNat - 1 := by
    rw [BitVec.toInt_eq_toNat_of_lt (by omega), e2]; omega
  unfold rowTile IntOp.minsi
  split
  · rw [coord_toNat]
  · rename_i h
    rw [BitVec.slt_eq_decide, coord_toInt] at h
    simp only [decide_eq_true_eq, not_lt] at h
    omega

theorem ok_of (pf : pre0.Contents (Elt F)) (h : Good (tabsOf pf)) : ok0 pf := fun i =>
  ⟨fun a => match a with
    | 0 => by
      show (rowTile i (wN (tabsOf pf).t4) + 1) * 256 ≤ 94208
      have := rowTile_lt i _ h.n
      omega
    | 1 => by show (0 + 1) * 640 ≤ 640; omega, Or.inl rfl⟩

/-! ## What a tile leaves -/

/-- The block a tile stores. -/
def out0 (T : Tabs (F := F)) (A : Wts (F := F)) (i : grid0.Coords) (X : Vec F S256x640 .i32) : Vec F S256x2x512 .bf16 :=
  if live i (wN T.t4) then liveOb X (guC (wG' i T.t1) A.w5 A.w6) (dC (wG' i T.t1) A.w7) (wA i T.t2) (wB i T.t3) else deadOb

/-- After `n` tiles, the last of them live: the weights resident are that tile's group's. -/
def resident (T : Tabs (F := F)) (A : Wts (F := F)) (n : ℕ) (wgu : Vec F S8x1024x512 .bf16) (wd : Vec F S8x256x1024 .bf16) : Prop :=
  ∀ k : grid0.Coords, n = (k 0).val + 1 → live k (wN T.t4) → wgu = guC (wG' k T.t1) A.w5 A.w6 ∧ wd = dC (wG' k T.t1) A.w7

/-- The tile before. -/
def before (i : grid0.Coords) : grid0.Coords := fun a => match a with | 0 => ⟨(i 0).val - 1, lt_of_le_of_lt (Nat.sub_le _ _) (i 0).isLt⟩

set_option maxHeartbeats 1000000 in
/-- One tile. -/
theorem step [∀ e, Nonempty (Elt F e)] (i : grid0.Coords) (c : Dev nD) (b9 : Memref sig .tc .vmem S256x640 .i32) (hb9 : b9.IsWhole) (ob : Memref sig .tc .vmem S256x2x512 .bf16) (hob : ob.IsWhole)
    (T : Tabs (F := F)) (hT : Good T) (A : Wts (F := F)) (wgu : Vec F S8x1024x512 .bf16) (wd : Vec F S8x256x1024 .bf16) (x9 : Buf (Elt F) (b9.view.loc (c : Thread nD τ))) (x10 : Buf (Elt F) (ob.view.loc (c : Thread nD τ))) (W : Waits sig Unit)
    (hr : resident T A (i 0).val wgu wd) (Q : PUnit → sProp 𝕄) :
    iprop(held c T A wgu wd ∗ ptw c b9 x9 ∗ ptw c ob x10 ∗ owes (c : Thread nD τ) 0 W
      ∗ (∀ f10 : Buf (Elt F) (ob.view.loc (c : Thread nD τ)), ∀ W' : Waits sig Unit, (∃ wgu' wd', ⌜resident T A ((i 0).val + 1) wgu' wd'⌝ ∗ held c T A wgu' wd')
          ∗ ⌜ob.view.read (Elt F) f10 = out0 T A i (b9.view.read (Elt F) x9)⌝ ∗ ptw c b9 x9 ∗ ptw c ob f10 ∗ owes (c : Thread nD τ) 0 W' -∗ Q ⟨⟩))
    ⊢ wp frame (wpE (defs₀ (F := F)) Variants.none (c : Thread nD τ) none) Set.univ (args i b9 hb9 ob hob) Q := by
  have same : ∀ {k : grid0.Coords}, (i 0).val + 1 = (k 0).val + 1 → k = i := fun {k} e =>
    funext fun | 0 => Fin.ext (by have h : (k 0).val = (i 0).val := (by omega); exact h)
  by_cases hl : live i (wN T.t4)
  · have h2 : k0_cond2 i (wN T.t4) = 1#1 := (cond2_iff _ _).2 hl
    have h3 : ¬ k0_cond3 i (wN T.t4) = 1#1 := fun h => (cond3_iff _ _).1 h hl
    have hc2 : k0_chk2 i (wN T.t4) (wA i T.t2) := chk2_of _ _ _ (by rw [wA_at]; exact hT.a _)
    have hc3 : k0_chk3 i (wN T.t4) (wB i T.t3) := chk3_of _ _ _ (by rw [wB_at]; exact hT.b _)
    by_cases h1 : k0_cond1 i (wN T.t4) (wG i T.t1) (wP i T.t1) = 1#1
    · iintro ⟨HH, HX, HO, HW, Hk⟩
      iapply (run_load i c b9 hb9 ob hob T A wgu wd x9 x10 W Q True.intro True.intro h1 (chk1_of _ _ _ _ _ (by rw [wG'_at]; exact hT.g _)) h2 h3 hc2 hc3)
      isplitl [HH]; · iexact HH
      isplitl [HX]; · iexact HX
      isplitl [HO]; · iexact HO
      isplitl [HW]; · iexact HW
      iintro %f10 %W' ⟨%e, HH, HX, HO, HW⟩
      iapply Hk
      isplitl [HH]
      · iexists _; iexists _; isplitr; swap
        · iexact HH
        · ipureintro
          intro k e _; rw [same e]; exact ⟨rfl, rfl⟩
      isplitr
      · ipureintro; rw [e]; unfold out0; rw [if_pos hl]
      isplitl [HX]; · iexact HX
      isplitl [HO]; · iexact HO
      iexact HW
    · have hn1 : ¬ ((i 0).val = 0 ∨ wG i T.t1 ≠ wP i T.t1) := fun h => h1 ((cond1_iff _ _ _ _).2 ⟨hl, h⟩)
      have h0 : (i 0).val ≠ 0 := fun h => hn1 (Or.inl h)
      have hg : wG i T.t1 = wP i T.t1 := by by_contra h; exact hn1 (Or.inr h)
      have hb : (i 0).val = ((before i) 0).val + 1 := by show (i 0).val = (i 0).val - 1 + 1; omega
      have hlb : live (before i) (wN T.t4) := by
        have h : ((i 0).val : ℤ) < BitVec.toInt (n := 32) (wN T.t4) := hl
        show (((before i) 0).val : ℤ) < BitVec.toInt (n := 32) (wN T.t4)
        omega
      have hw := hr (before i) hb hlb
      have hgg : wG' (before i) T.t1 = wG' i T.t1 := by
        rw [wG'_at, wG'_at, ← wP_at (F := F) i (before i) hb T.t1, ← hg, wG_at]
      rw [hgg] at hw
      obtain ⟨rfl, rfl⟩ := hw
      iintro ⟨HH, HX, HO, HW, Hk⟩
      iapply (run_keep i c b9 hb9 ob hob T A _ _ x9 x10 W Q h1 h2 h3 hc2 hc3)
      isplitl [HH]; · iexact HH
      isplitl [HX]; · iexact HX
      isplitl [HO]; · iexact HO
      isplitl [HW]; · iexact HW
      iintro %f10 %W' ⟨%e, HH, HX, HO, HW⟩
      iapply Hk
      isplitl [HH]
      · iexists _; iexists _; isplitr; swap
        · iexact HH
        · ipureintro
          intro k e _; rw [same e]; exact ⟨rfl, rfl⟩
      isplitr
      · ipureintro; rw [e]; unfold out0; rw [if_pos hl]
      isplitl [HX]; · iexact HX
      isplitl [HO]; · iexact HO
      iexact HW
  · have h1 : ¬ k0_cond1 i (wN T.t4) (wG i T.t1) (wP i T.t1) = 1#1 := fun h => hl ((cond1_iff _ _ _ _).1 h).1
    have h2 : ¬ k0_cond2 i (wN T.t4) = 1#1 := fun h => hl ((cond2_iff _ _).1 h)
    have h3 : k0_cond3 i (wN T.t4) = 1#1 := (cond3_iff _ _).2 hl
    iintro ⟨HH, HX, HO, HW, Hk⟩
    iapply (run_dead i c b9 hb9 ob hob T A wgu wd x9 x10 W Q h1 h2 h3)
    isplitl [HH]; · iexact HH
    isplitl [HX]; · iexact HX
    isplitl [HO]; · iexact HO
    isplitl [HW]; · iexact HW
    iintro %f10 %W' ⟨%e, HH, HX, HO, HW⟩
    iapply Hk
    isplitl [HH]
    · iexists _; iexists _; isplitr; swap
      · iexact HH
      · ipureintro
        intro k e hk; rw [same e] at hk; exact absurd hk hl
    isplitr
    · ipureintro; rw [e]; unfold out0; rw [if_neg hl]
    isplitl [HX]; · iexact HX
    isplitl [HO]; · iexact HO
    iexact HW

/-! ## The pipeline's data -/

variable (V : (c : Dev nD) → (b : Ref sig .tc) → Buf (Elt F) ((c : Thread nD τ).loc b)) (a0 : (pcfg0 (F := F)).Adm)

/-- The weights. -/
def wtsOf (c : Dev nD) : Wts (F := F) := ⟨V c main_arg5, V c main_arg6, V c main_arg7⟩

/-- The rows tile `t` is brought. -/
def xblk (c : Dev nD) (t : Fin (cfg0 a0).N) : Vec F S256x640 .i32 := (((cfg0 a0).win 0).blk t).view.read (Elt F) (V c main_arg0)

/-- What stays untouched beside the body: what is left of the weights' shares, the result of the second call, and the
    second call's staging buffers. -/
def side (c : Dev nD) : sProp 𝕄 :=
  iprop((((c : Thread nD τ).loc main_arg5) ↦{Transfers.shareDrop fullShare 2} V c main_arg5) ∗ (((c : Thread nD τ).loc main_arg6) ↦{Transfers.shareDrop fullShare 2} V c main_arg6)
    ∗ (((c : Thread nD τ).loc main_arg7) ↦{Transfers.shareDrop fullShare 2} V c main_arg7) ∗ (((c : Thread nD τ).loc main_v1) ↦{fullShare} V c main_v1)
    ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The invariant after `n` tiles. -/
def inv0 (c : Dev nD) (n : ℕ) : sProp 𝕄 :=
  iprop((∃ wgu wd, ⌜resident (tabsOf a0.1) (wtsOf V c) n wgu wd⌝ ∗ held c (tabsOf a0.1) (wtsOf V c) wgu wd) ∗ side V c)

/-- The experts call's data. -/
def dat0 (c : Dev nD) : Dat τ (Elt F) Unit ℕ UU ℕ (cfg0 a0) c where
  A w := V c (Pipeline.arrRef spec0 w)
  after w t := match w with
    | ⟨0, _⟩ => xblk V a0 c t
    | ⟨1, _⟩ => out0 (tabsOf a0.1) (wtsOf V c) (grid0.coords t) (xblk V a0 c t)
  Φ t := inv0 V a0 c t.val
  q _ := fullShare
  owed _ := 0

theorem before_in (c : Dev nD) (t : Fin (cfg0 a0).N) (d) : (dat0 V a0 c).before 0 t d = xblk V a0 c t :=
  (dat0 V a0 c).before_in_eq_fetched 0 rfl (fun _ => rfl) (fun _ _ _ => rfl) (fun _ => rfl) t d

theorem coords_val (t : Fin grid0.N) : ((grid0.coords t) 0).val = t.val :=
  (by decide +kernel : ∀ t : Fin grid0.N, ((grid0.coords t) 0).val = t.val) t

theorem not_idle (i : grid0.Coords) (n : BitVec 32) : (!(k0_cond2 i n == 1#1) && !(k0_cond3 i n == 1#1)) = false := by
  rw [cond2_live, cond3_live]
  by_cases h : live i n <;> simp [h]

theorem owns_at (c : Thread nD τ) {sp : Space} {s : Shape} {e : EltTy} (m : Memref sig c.2.kind sp s e) (hm : m.IsWhole) (X : s.Idx → Elt F e) :
    (owns c m fullShare X : sProp 𝕄) = iprop(∃ f : Buf (Elt F) (m.view.loc c), ⌜m.view.read (Elt F) f = X⌝ ∗ (m.view.loc c ↦{fullShare} f)) := by
  unfold owns
  rw [Memref.IsWhole.set_eq_univ hm]

theorem body_obligation0 [∀ e, Nonempty (Elt F e)] (hT : Good (tabsOf a0.1)) (c : Dev nD) : BodyObligation (dat0 V a0 c) (defs₀ (F := F)) Variants.none () Set.univ := fun t => by
  rw [bigSep_W0, bigSep_W0]
  have h1 : idle0 a0.1 1 ((pcfg0.gridAt a0.1).coords t) = false := not_idle _ _
  rw [show (dat0 V a0 c).Φ t.castSucc = inv0 V a0 c t.val from rfl, show (dat0 V a0 c).Φ t.succ = inv0 V a0 c (t.val + 1) from rfl]
  simp only [h1]
  unfold inv0 Dat.owesAt Pipeline.owesWithin
  iintro ⟨⟨⟨%wgu, %wd, %hr, HH⟩, HS⟩, ⟨%W, -, HW⟩, ⟨%d0, H0⟩, ⟨%d1, H1⟩⟩
  have e0 := owns_at (F := F) (c : Thread nD τ) (stage0_0 ((cfg0 a0).slots t 0)) (hstage0_0 ((cfg0 a0).slots t 0))
  have e1 := owns_at (F := F) (c : Thread nD τ) (stage0_1 ((cfg0 a0).slots t 1)) (hstage0_1 ((cfg0 a0).slots t 1))
  ihave H0 := (Entails.of_eq (e0 _)) $$ H0
  ihave H1 := (Entails.of_eq (e1 _)) $$ H1
  icases H0 with ⟨%f0, %hf0, H0⟩
  icases H1 with ⟨%f1, -, H1⟩
  have hc : ((grid0.coords t) 0).val = t.val := coords_val t
  iapply (step (grid0.coords t) c (spec0_0.stage ((cfg0 a0).slots t 0)) (hstage0_0 (((cfg0 a0).slots t 0).cast nbuf0_0)) (spec0_1.stage ((cfg0 a0).slots t 1)) (hstage0_1 (((cfg0 a0).slots t 1).cast nbuf0_1))
    (tabsOf a0.1) hT (wtsOf V c) wgu wd f0 f1 W (by rw [hc]; exact hr) _)
  isplitl [HH]; · iexact HH
  isplitl [H0]; · iexact H0
  isplitl [H1]; · iexact H1
  isplitl [HW]; · iexact HW
  iintro %f10 %W' ⟨HH, %e, H0, H1, HW⟩
  rw [hc]
  isplitl [HH HS]
  · isplitl [HH]; · iexact HH
    iexact HS
  isplitl [HW]
  · iexists W'; isplitr; swap
    · iexact HW
    · ipureintro; exact fun _ _ => Or.inl trivial
  isplitl [H0]
  · iapply (Entails.of_eq (e0 _).symm)
    iexists f0; isplitr; swap
    · iexact H0
    · ipureintro; exact hf0.trans (before_in V a0 c t d0)
  iapply (Entails.of_eq (e1 _).symm)
  iexists f10; isplitr; swap
  · iexact H1
  · ipureintro
    refine e.trans ?_
    have hf0' : View.read (Elt F) (spec0_0.stage ((cfg0 a0).slots t 0)).view f0 = xblk V a0 c t := hf0.trans (before_in V a0 c t d0)
    rw [hf0']; rfl

end Cert.KernelIdeal.Experts

end
-- ==== Proof.Region1.lean ====
module

public import proofs.«01_k».proof.Proof.Region0
public import proofs.«01_k».proof.Proof.Gen.KernelIdeal.Points

/-!
The reader call's body and data, and both calls as regions of the program: each is entered with every buffer of the
program held and left with its result's array replaced.
-/

@[expose] public section

set_option maxRecDepth 16384

noncomputable section

namespace Cert.KernelIdeal.Experts

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.Sem Idealize.SL.ProofMode
open Cert.KernelIdeal Cert.KernelIdeal.Gen
open Idealize.ShloMosaic.Pipeline (Dat Cfg Window BodyObligation cellOf)

variable {F : FTy → Type} [FloatOps F]

local notation "𝕄" => MT nD τ sig Unit (Elt F) ℕ UU ℕ

/-! ## The reader call -/

theorem in_read1 (M : Memref sig .tc .vmem S1024x2x512 .bf16) (f : M.view.ty.Contents (Elt F)) (inb : ∀ a, (![0, 0, 0] : Fin 3 → ℕ) a + S1024x2x512.size a ≤ S1024x2x512.size a) :
    View.readAt (Elt F) M.view (Rect.unit (s := S1024x2x512) ![0, 0, 0] S1024x2x512.size inb).toLoadRect f = View.read (Elt F) M.view f := by
  funext x
  refine congrArg (View.read (Elt F) M.view f) (funext fun a => Fin.ext ?_)
  fin_cases a
  · show 0 + 1 * (x 0).val = (x 0).val; omega
  · show 0 + 1 * (x 1).val = (x 1).val; omega
  · show 0 + 1 * (x 2).val = (x 2).val; omega

theorem out_read1 (M : Memref sig .tc .vmem S1024x1024 .f32) (f : M.view.ty.Contents (Elt F)) (inb : ∀ a, (![0, 0] : Fin 2 → ℕ) a + S1024x1024.size a ≤ S1024x1024.size a)
    (w : Vec F S1024x1024 .f32) : View.read (Elt F) M.view (M.view.writes (Elt F) f [⟨Rect.unit (s := S1024x1024) ![0, 0] S1024x1024.size inb, w⟩]) = w := by
  funext y
  refine View.read_writes_apply_of_pieces M.view f w _ (fun p hp x => ?_) y ?_
  · obtain rfl := List.mem_singleton.mp hp
    refine congrArg w (funext fun a => Fin.ext ?_)
    fin_cases a
    · show (x 0).val = 0 + 1 * (x 0).val; omega
    · show (x 1).val = 0 + 1 * (x 1).val; omega
  · exact ⟨_, List.mem_singleton_self _, View.mem_set_unit_zero (S := S1024x1024) (by decide +kernel) inb y⟩

/-- One block of rows is read and stored. -/
theorem run_read (i : grid1.Coords) (c : Dev nD) (m1 : Memref sig .tc .vmem S1024x2x512 .bf16) (h1 : m1.IsWhole) (m2 : Memref sig .tc .vmem S1024x1024 .f32) (h2 : m2.IsWhole)
    (x1 : Buf (Elt F) (m1.view.loc (c : Thread nD τ))) (x2 : Buf (Elt F) (m2.view.loc (c : Thread nD τ))) (Q : PUnit → sProp 𝕄) :
    iprop(ptw c m1 x1 ∗ ptw c m2 x2
      ∗ (∀ f2 : Buf (Elt F) (m2.view.loc (c : Thread nD τ)), ⌜m2.view.read (Elt F) f2 = k1_pay1 (m1.view.read (Elt F) x1)⌝ ∗ ptw c m1 x1 ∗ ptw c m2 f2 -∗ Q ⟨⟩))
    ⊢ wp frame (wpE (defs₀ (F := F)) Variants.none (c : Thread nD τ) none) Set.univ (cc1__unpack_kernel i m1 h1 m2 h2) Q := by
  iintro ⟨H1, H2, Hk⟩
  rw [cc1__unpack_kernel_eq_skeleton]
  unfold cc1__unpack_kernel_skel
  sl_exec
  sl_step
  iapply Hk
  isplitr; swap
  · isplitl [H1]; · iexact H1
    iexact H2
  ipureintro
  exact (out_read1 m2 x2 _ _).trans (congrArg k1_pay1 (in_read1 m1 x1 _))

variable (V : (c : Dev nD) → (b : Ref sig .tc) → Buf (Elt F) ((c : Thread nD τ).loc b)) (a0 : (pcfg0 (F := F)).Adm)

/-- The rows point `t` of the reader is brought. -/
def rblk (c : Dev nD) (t : Fin cfg1.N) : Vec F S1024x2x512 .bf16 := ((cfg1.win 0).blk t).view.read (Elt F) (V c main_v0)

/-- The reader's data. -/
def dat1 (c : Dev nD) : Dat τ (Elt F) Unit ℕ UU ℕ cfg1 c where
  A w := V c (Pipeline.arrRef spec1 w)
  after w t := match w with
    | ⟨0, _⟩ => rblk V c t
    | ⟨1, _⟩ => k1_pay1 (rblk V c t)
  Φ _ := Pipeline.scopedRest (Ix := Unit) (Name := ℕ) (U := UU) (Lvl := ℕ) (Val := Elt F) spec1 c
  q _ := fullShare
  owed _ := 0

theorem before_in1 (c : Dev nD) (t : Fin cfg1.N) (d) : (dat1 V c).before 0 t d = rblk V c t :=
  (dat1 V c).before_in_eq_fetched 0 rfl (fun _ => rfl) (fun _ _ _ => rfl) (fun _ => rfl) t d

theorem body_obligation1 (c : Dev nD) : BodyObligation (dat1 V c) (defs₀ (F := F)) Variants.none () Set.univ := fun t => by
  rw [bigSep_W1, bigSep_W1]
  rw [show (dat1 V c).Φ t.castSucc = Pipeline.scopedRest (Ix := Unit) (Name := ℕ) (U := UU) (Lvl := ℕ) (Val := Elt F) spec1 c from rfl, show (dat1 V c).Φ t.succ = Pipeline.scopedRest (Ix := Unit) (Name := ℕ) (U := UU) (Lvl := ℕ) (Val := Elt F) spec1 c from rfl,
    show (dat1 V c).owesAt () t.succ = (dat1 V c).owesAt () t.castSucc from rfl]
  iintro ⟨HS, HW, ⟨%d0, H0⟩, ⟨%d1, H1⟩⟩
  have e0 := owns_at (F := F) (c : Thread nD τ) (stage1_0 (cfg1.slots t 0)) (hstage1_0 (cfg1.slots t 0))
  have e1 := owns_at (F := F) (c : Thread nD τ) (stage1_1 (cfg1.slots t 1)) (hstage1_1 (cfg1.slots t 1))
  ihave H0 := (Entails.of_eq (e0 _)) $$ H0
  ihave H1 := (Entails.of_eq (e1 _)) $$ H1
  icases H0 with ⟨%f0, %hf0, H0⟩
  icases H1 with ⟨%f1, -, H1⟩
  iapply (run_read (grid1.coords t) c (stage1_0 (cfg1.slots t 0)) (hstage1_0 (cfg1.slots t 0)) (stage1_1 (cfg1.slots t 1)) (hstage1_1 (cfg1.slots t 1)) f0 f1 _)
  isplitl [H0]; · iexact H0
  isplitl [H1]; · iexact H1
  iintro %f2 ⟨%e, H0, H1⟩
  isplitl [HS]; · iexact HS
  isplitl [HW]; · iexact HW
  have hf0' := hf0.trans (before_in1 V c t d0)
  isplitl [H0]
  · iapply (Entails.of_eq (e0 _).symm)
    iexists f0; isplitr; swap
    · iexact H0
    · ipureintro; exact hf0'
  iapply (Entails.of_eq (e1 _).symm)
  iexists f2; isplitr; swap
  · iexact H1
  · ipureintro
    exact e.trans (congrArg k1_pay1 hf0')

/-! ## The regions -/

/-- The call's two semaphores are its own. -/
theorem own0 : Pipeline.OwnSemFacts spec0 (fun k : Fin 2 => SemLoc.dma (dsem k)) := by decide

theorem fin4 (Φ : Fin 4 → sProp (MT nD τ sig Unit (Elt F) ℕ UU ℕ)) : BI.bigSep Finset.univ Φ = iprop(Φ 0 ∗ Φ 1 ∗ Φ 2 ∗ Φ 3) :=
  BI.bigSep_univ_eq_bigSepL [(0 : Fin 4), 1, 2, 3] (by decide) (by decide) Φ

/-- The four tables one by one. -/
theorem prefHeld_eq (c : Dev nD) (pf : pre0.Contents (Elt F)) :
    (Pipeline.prefHeld (Ix := Unit) (Name := ℕ) (U := UU) (Lvl := ℕ) pre0 c (fun _ => fullShare) pf : sProp (MT nD τ sig Unit (Elt F) ℕ UU ℕ))
      = iprop(ptw c (Memref.whole main_arg1) (tabsOf pf).t1 ∗ ptw c (Memref.whole main_arg2) (tabsOf pf).t2 ∗ ptw c (Memref.whole main_arg3) (tabsOf pf).t3 ∗ ptw c (Memref.whole main_arg4) (tabsOf pf).t4) := by
  unfold Pipeline.prefHeld; exact fin4 _

/-- The two semaphores one by one. -/
theorem sems_eq (c : Dev nD) :
    (Pipeline.ownSems0 (Ix := Unit) (Name := ℕ) (U := UU) (Lvl := ℕ) (Val := Elt F) (τ := τ) (fun k : Fin 2 => SemLoc.dma (dsem k)) c : sProp (MT nD τ sig Unit (Elt F) ℕ UU ℕ))
      = iprop(semVal ((c : Thread nD τ), SemLoc.dma (dsem 0)) 0 ∗ semVal ((c : Thread nD τ), SemLoc.dma (dsem 1)) 0) :=
  Pipeline.ownSems0_eq_of_list c _ [0, 1] (by decide) (by decide)

set_option backward.isDefEq.respectTransparency.types false in
/-- A weight array lent in two read shares. -/
theorem lend {sp : Space} {s : Shape} {e : EltTy} (c : Dev nD) (m : Memref sig .tc sp s e) (f : Buf (Elt F) (m.view.loc (c : Thread nD τ))) :
    ptw c m f ⊢ iprop((m.view.loc (c : Thread nD τ) ↦{Transfers.shareDrop fullShare 2} f) ∗ tok c m 0 f ∗ tok c m 1 f) := by
  have h := Transfers.pointsTo_toks_split (Ix := Unit) (Name := ℕ) (U := UU) (Lvl := ℕ) (ℓ := m.view.loc (c : Thread nD τ)) (S := Finset.univ) (f := f) fullShare 2
  rw [BI.bigSep_fin_two] at h
  exact h

set_option backward.isDefEq.respectTransparency.types false in
/-- And given back. -/
theorem unlend {sp : Space} {s : Shape} {e : EltTy} (c : Dev nD) (m : Memref sig .tc sp s e) (f : Buf (Elt F) (m.view.loc (c : Thread nD τ))) :
    iprop((m.view.loc (c : Thread nD τ) ↦{Transfers.shareDrop fullShare 2} f) ∗ tok c m 0 f ∗ tok c m 1 f) ⊢ ptw c m f := by
  have h := Transfers.pointsTo_toks_join (Ix := Unit) (Name := ℕ) (U := UU) (Lvl := ℕ) (ℓ := m.view.loc (c : Thread nD τ)) (S := Finset.univ) (f := f) fullShare 2
  rw [BI.bigSep_fin_two] at h
  exact h

/-- What the invariant holds before the first tile. -/
theorem enter0 (c : Dev nD) :
    iprop((Pipeline.ownSems0 (Ix := Unit) (Name := ℕ) (U := UU) (Lvl := ℕ) (Val := Elt F) (τ := τ) (fun k : Fin 2 => SemLoc.dma (dsem k)) c
      ∗ Pipeline.unscopedRestP (Ix := Unit) (Name := ℕ) (U := UU) (Lvl := ℕ) pre0 spec0 c (V c))
      ∗ Pipeline.prefHeld pre0 c (fun _ => fullShare) a0.1 ∗ Pipeline.scopedRest spec0 c) ⊢ inv0 V a0 c 0 := by
  rw [prefHeld_eq, sems_eq, unscopedRestP0_eq, scopedRest0_eq]
  iintro ⟨⟨⟨S0, S1⟩, W5, W6, W7, R⟩, ⟨T1, T2, T3, T4⟩, ⟨%g, G⟩, ⟨%d, D⟩, ⟨%f2, B2⟩, ⟨%f3, B3⟩, ⟨%f4, B4⟩, C0, C1, C2, C3⟩
  ihave W5 := (lend c (Memref.whole main_arg5) (V c main_arg5)) $$ W5
  ihave W6 := (lend c (Memref.whole main_arg6) (V c main_arg6)) $$ W6
  ihave W7 := (lend c (Memref.whole main_arg7) (V c main_arg7)) $$ W7
  icases W5 with ⟨W5, W50, W51⟩
  icases W6 with ⟨W6, W60, W61⟩
  icases W7 with ⟨W7, W70, W71⟩
  unfold inv0 held side
  isplitr [W5 W6 W7 R C0 C1 C2 C3]
  · iexists g, d
    isplitr
    · ipureintro; intro k hk _; exact absurd hk (Nat.succ_ne_zero _).symm
    isplitl [T1]; · iexact T1
    isplitl [T2]; · iexact T2
    isplitl [T3]; · iexact T3
    isplitl [T4]; · iexact T4
    isplitl [W50]; · iexact W50
    isplitl [W51]; · iexact W51
    isplitl [W60]; · iexact W60
    isplitl [W61]; · iexact W61
    isplitl [W70]; · iexact W70
    isplitl [W71]; · iexact W71
    isplitl [G]; · iexact G
    isplitl [D]; · iexact D
    isplitl [B2]; · iexists f2; iexact B2
    isplitl [B3]; · iexists f3; iexact B3
    isplitl [B4]; · iexists f4; iexact B4
    isplitl [S0]; · iexact S0
    iexact S1
  isplitl [W5]; · iexact W5
  isplitl [W6]; · iexact W6
  isplitl [W7]; · iexact W7
  isplitl [R]; · iexact R
  isplitl [C0]; · iexact C0
  isplitl [C1]; · iexact C1
  isplitl [C2]; · iexact C2
  iexact C3

/-- What it gives back after the last. -/
theorem leave0 (c : Dev nD) (n : ℕ) : inv0 V a0 c n ⊢
    iprop((Pipeline.prefHeld pre0 c (fun _ => fullShare) a0.1 ∗ Pipeline.unscopedRestP (Ix := Unit) (Name := ℕ) (U := UU) (Lvl := ℕ) pre0 spec0 c (V c))
      ∗ Pipeline.ownSems0 (Ix := Unit) (Name := ℕ) (U := UU) (Lvl := ℕ) (Val := Elt F) (τ := τ) (fun k : Fin 2 => SemLoc.dma (dsem k)) c
      ∗ Pipeline.scopedRest spec0 c) := by
  rw [prefHeld_eq, sems_eq, unscopedRestP0_eq, scopedRest0_eq]
  unfold inv0 held side
  iintro ⟨⟨%g, %d, -, T1, T2, T3, T4, W50, W51, W60, W61, W70, W71, G, D, ⟨%f2, B2⟩, ⟨%f3, B3⟩, ⟨%f4, B4⟩, S0, S1⟩, W5, W6, W7, R, C0, C1, C2, C3⟩
  isplitl [T1 T2 T3 T4 W5 W50 W51 W6 W60 W61 W7 W70 W71 R]
  · isplitl [T1 T2 T3 T4]
    · isplitl [T1]; · iexact T1
      isplitl [T2]; · iexact T2
      isplitl [T3]; · iexact T3
      iexact T4
    isplitl [W5 W50 W51]
    · iapply (unlend c (Memref.whole main_arg5) (V c main_arg5))
      isplitl [W5]; · iexact W5
      isplitl [W50]; · iexact W50
      iexact W51
    isplitl [W6 W60 W61]
    · iapply (unlend c (Memref.whole main_arg6) (V c main_arg6))
      isplitl [W6]; · iexact W6
      isplitl [W60]; · iexact W60
      iexact W61
    isplitl [W7 W70 W71]
    · iapply (unlend c (Memref.whole main_arg7) (V c main_arg7))
      isplitl [W7]; · iexact W7
      isplitl [W70]; · iexact W70
      iexact W71
    iexact R
  isplitl [S0 S1]
  · isplitl [S0]; · iexact S0
    iexact S1
  isplitl [G]; · iexists g; iexact G
  isplitl [D]; · iexists d; iexact D
  isplitl [B2]; · iexists f2; iexact B2
  isplitl [B3]; · iexists f3; iexact B3
  isplitl [B4]; · iexists f4; iexact B4
  isplitl [C0]; · iexact C0
  isplitl [C1]; · iexact C1
  isplitl [C2]; · iexact C2
  iexact C3

/-- The admissible tables: the experts call's, and the reader's none. -/
def adm : (p : Fin 2) → (pcfgs (F := F) p).Adm
  | ⟨0, _⟩ => a0
  | ⟨1, _⟩ => cfg1.toPCfg_adm

variable (V' : (c : Dev nD) → (b : Ref sig .tc) → Buf (Elt F) ((c : Thread nD τ).loc b))

/-- The two calls' data: the experts call from `V`, the reader from `V'`. -/
def pdats : (p : Fin 2) → (c : Dev nD) → Dat τ (Elt F) Unit ℕ UU ℕ (Pipeline.pin (pcfgs (F := F)) (adm a0) p) c
  | ⟨0, _⟩ => fun c => dat0 V a0 c
  | ⟨1, _⟩ => fun c => dat1 V' c

abbrev L0 : GSem nD τ sig → Finset Unit := fun _ => ∅
abbrev lv0 : GSem nD τ sig → Unit → ℕ := fun _ _ => 0

/-- The experts call's rows after it. -/
def mid (c : Dev nD) : Buf (Elt F) ((c : Thread nD τ).loc main_v0) := (dat0 V a0 c).arrAt 1 (cfg0 a0).N
/-- The result after the reader. -/
def fin (c : Dev nD) : Buf (Elt F) ((c : Thread nD τ).loc main_v1) := (dat1 V' c).arrAt 1 cfg1.N

variable (V'' : (c : Dev nD) → (b : Ref sig .tc) → Buf (Elt F) ((c : Thread nD τ).loc b))

set_option backward.isDefEq.respectTransparency.types false in
/-- The reader as a region. -/
def reg1 (hV_out : ∀ c, V'' c main_v1 = fin V' c) (hV_ne : ∀ c (b : Ref sig .tc), b ≠ main_v1 → V'' c b = V' c b) :
    Pipeline.RegionSeg (pcfgs (F := F)) (adm a0) (pdats V a0 V') () defs₀ Variants.none L0 lv0 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 V' c).loose
  hwaits := Pipeline.hwaits_of_owed_zero _ _ _ _ L0 lv0 1 fun _ _ => rfl
  pre c := iprop(unscopedBufs c (V' c) ∗ ∃ W, owes (c : Thread nD τ) (0 : CellTallies nD τ sig Unit) W)
  post c := iprop(unscopedBufs c (V'' c) ∗ ∃ W, owes (c : Thread nD τ) (0 : CellTallies nD τ sig Unit) W)
  X _ := BI.emp
  Y _ := BI.emp
  Z c := Pipeline.unscopedRest (Ix := Unit) (Name := ℕ) (U := UU) (Lvl := ℕ) spec1 c (V' c)
  hentry c := by
    rw [Pipeline.ownSems0_none]
    have hsplit := Pipeline.arrays_of_unscopedBufs (p := 1) (pcfgs (F := F)) (adm a0) (pdats V a0 V') (launch1 (F := F)).win (launch1 (F := F)).arr_whole c
      ((pdats V a0 V' 1 c).share_full fun _ => rfl) (V' c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V a0 V' 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, show (pdats V a0 V' 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) (adm a0) (Ix := Unit) (Name := ℕ) (U := UU) (Lvl := ℕ) (launch1 (F := F)).win (launch1 (F := F)).arr_whole c
      (pdats V a0 V') ((pdats V a0 V' 1 c).share_full fun _ => rfl) (V' c) (V'' c) ((pdats V a0 V' 1 c).arrAt · cfg1.N)
      (fun w => by
        fin_cases w
        · exact ((pdats V a0 V' 1 c).arrAt_in 0 rfl _).trans (hV_ne c main_v0 (by decide)).symm
        · exact (hV_out c).symm)
      (fun b hb => hV_ne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The experts call as a region. -/
def reg0 [∀ e, Nonempty (Elt F e)] (hT : Good (tabsOf a0.1)) (hpf : ∀ c k, V c (pre0.ref k) = a0.1 k) (hV_out : ∀ c, V' c main_v0 = mid V a0 c) (hV_ne : ∀ c (b : Ref sig .tc), b ≠ main_v0 → V' c b = V c b) :
    Pipeline.RegionSeg (pcfgs (F := F)) (adm a0) (pdats V a0 V') () defs₀ Variants.none L0 lv0 0 where
  win := (launch0 (F := F)).win.to₀
  block_pos := (launch0 (F := F)).block_pos
  stage_whole := (launch0 (F := F)).stage_whole
  K := Fin 2
  osem k := .dma (dsem k)
  ho := own0
  hbody c := (body_obligation0 V a0 hT c).loose
  hwaits := Pipeline.hwaits_of_owed_zero _ _ _ _ L0 lv0 0 fun _ _ => rfl
  pre c := iprop(unscopedBufs c (V c) ∗ ∃ W, owes (c : Thread nD τ) (0 : CellTallies nD τ sig Unit) W)
  post c := iprop(unscopedBufs c (V' c) ∗ ∃ W, owes (c : Thread nD τ) (0 : CellTallies nD τ sig Unit) W)
  X c := iprop(Pipeline.ownSems0 (Ix := Unit) (Name := ℕ) (U := UU) (Lvl := ℕ) (Val := Elt F) (τ := τ) (fun k : Fin 2 => SemLoc.dma (dsem k)) c
    ∗ Pipeline.unscopedRestP (Ix := Unit) (Name := ℕ) (U := UU) (Lvl := ℕ) pre0 spec0 c (V c))
  Y c := iprop(Pipeline.prefHeld pre0 c (fun _ => fullShare) a0.1 ∗ Pipeline.unscopedRestP (Ix := Unit) (Name := ℕ) (U := UU) (Lvl := ℕ) pre0 spec0 c (V c))
  Z _ := BI.emp
  hentry c := by
    have hsplit := Pipeline.arrays_of_unscopedBufs (p := 0) (pcfgs (F := F)) (adm a0) (pdats V a0 V') (launch0 (F := F)).win (launch0 (F := F)).arr_whole c
      ((pdats V a0 V' 0 c).share_full fun _ => rfl) (V c) fun _ => rfl
    have hur := Pipeline.unscopedRest_split (Ix := Unit) (Name := ℕ) (U := UU) (Lvl := ℕ) preFacts0 c (V c)
    rw [show (fun k => V c (pre0.ref k)) = a0.1 from funext (hpf c)] at hur
    iintro ⟨⟨Hub, HO⟩, HS, -⟩
    ihave H := hsplit $$ Hub
    icases H with ⟨Ha, Hrest⟩
    ihave Hrest := (Entails.of_eq hur) $$ Hrest
    icases Hrest with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [HS Hrest]
    · isplitl [HS]; · iexact HS
      iexact Hrest
    iempintro
  hin c := enter0 V a0 c
  hout c := leave0 V a0 c _
  hexit c := by
    have hjoin := Pipeline.unscopedBufs_of_arrays (p := 0) (pcfgs (F := F)) (adm a0) (Ix := Unit) (Name := ℕ) (U := UU) (Lvl := ℕ) (launch0 (F := F)).win (launch0 (F := F)).arr_whole c
      (pdats V a0 V') ((pdats V a0 V' 0 c).share_full fun _ => rfl) (V c) (V' c) ((pdats V a0 V' 0 c).arrAt · (cfg0 a0).N)
      (fun w => by
        fin_cases w
        · exact ((pdats V a0 V' 0 c).arrAt_in 0 rfl _).trans (hV_ne c main_arg0 (by decide)).symm
        · exact (hV_out c).symm)
      (fun b hb => hV_ne c b fun h => hb (h ▸ Finset.mem_image.mpr ⟨1, Finset.mem_univ _, rfl⟩))
    have hur := Pipeline.unscopedRest_split (Ix := Unit) (Name := ℕ) (U := UU) (Lvl := ℕ) preFacts0 c (V c)
    rw [show (fun k => V c (pre0.ref k)) = a0.1 from funext (hpf c)] at hur
    iintro ⟨Ha, HO, ⟨Hpf, Hrest⟩, -⟩
    imodintro
    isplitl [Ha Hpf Hrest]
    · iapply hjoin; isplitl [Ha]; · iexact Ha
      iapply (Entails.of_eq hur.symm)
      isplitl [Hpf]; · iexact Hpf
      iexact Hrest
    unfold Pipeline.Dat.owesAt Pipeline.owesWithin
    icases HO with ⟨%W, -, HO⟩; iexists W; iexact HO

end Cert.KernelIdeal.Experts

end
-- ==== Proof.Drive.lean ====
module

public import proofs.«01_k».proof.Proof.Region1
public import proofs.«01_k».proof.Proof.Gen.KernelIdeal.Regions
public import Idealize.ShloMosaic.Lib.Pipeline.Frame
public import Idealize.ShloMosaic.Lib.Pipeline.Regions

/-!
The whole program, run: the experts call from the launch contents, then the reader from what the experts call leaves.
Every buffer but the two results ends as it was at launch, and the second result holds what the reader's data say.
-/

@[expose] public section

set_option maxRecDepth 16384

noncomputable section

namespace Cert.KernelIdeal.Experts

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.Sem Idealize.SL.ProofMode
open Idealize.ShloMosaic.Rounds
open Cert.KernelIdeal Cert.KernelIdeal.Gen
open Idealize.ShloMosaic.Pipeline (Dat Cfg Window BodyObligation cellOf Seg RegionSeg)

variable {F : FTy → Type} [FloatOps F]

local notation "𝕄" => MT nD τ sig Unit (Elt F) ℕ UU ℕ

variable (m : (ℓ : Loc nD τ sig) → Buf (Elt F) ℓ) (ρ : Dev nD → PrngReg)

/-- The tables at launch. -/
def tabs0 : pre0.Contents (Elt F) := fun k => m (((0 : Dev nD) : Thread nD τ).loc (pre0.ref k))

variable (hT : Good (tabsOf (tabs0 m)))

/-- They are admissible. -/
def adm0 : (pcfg0 (F := F)).Adm := ⟨tabs0 m, ok_of (tabs0 m) hT⟩

/-- A core's buffers at launch. -/
def Va (c : Dev nD) : Valuation τ sig (Elt F) := fun b => m (c, b)
/-- The rows the experts call leaves. -/
def rows (c : Dev nD) : Buf (Elt F) ((c : Thread nD τ).loc main_v0) := mid (fun c b => Va m c b) (adm0 m hT) c
/-- A core's buffers after the experts call. -/
def Vb (c : Dev nD) : Valuation τ sig (Elt F) := Function.update (Va m c) main_v0 (rows m hT c)
/-- The result the reader leaves. -/
def result (c : Dev nD) : Buf (Elt F) ((c : Thread nD τ).loc main_v1) := fin (fun c b => Vb m hT c b) c
/-- A core's buffers after the reader. -/
def Vc (c : Dev nD) : Valuation τ sig (Elt F) := Function.update (Vb m hT c) main_v1 (result m hT c)

theorem Vb_ne (c : Dev nD) (b : Ref sig .tc) (h : b ≠ main_v0) : Vb m hT c b = Va m c b := by
  simp only [Vb, Function.update_of_ne (StableHlo.devRef_ne_of_ne h : (Proc.devRef .tc b : DevRef τ sig) ≠ Proc.devRef .tc main_v0)]
theorem Vb_rows (c : Dev nD) : Vb m hT c main_v0 = rows m hT c := by simp only [Vb, Function.update_self]
theorem Vc_ne (c : Dev nD) (b : Ref sig .tc) (h : b ≠ main_v1) : Vc m hT c b = Vb m hT c b := by
  simp only [Vc, Function.update_of_ne (StableHlo.devRef_ne_of_ne h : (Proc.devRef .tc b : DevRef τ sig) ≠ Proc.devRef .tc main_v1)]
theorem Vc_result (c : Dev nD) : Vc m hT c main_v1 = result m hT c := by simp only [Vc, Function.update_self]
theorem Vc_arg (c : Dev nD) (b : Ref sig .tc) (h : b ≠ main_v0) (h' : b ≠ main_v1) : Vc m hT c b = m ((c : Thread nD τ).loc b) :=
  (Vc_ne m hT c b h').trans (Vb_ne m hT c b h)

/-- The library's algebra is the left component. -/
abbrev EP : Emb (UR sig nD τ) (MT nD τ sig Unit (Elt F) ℕ UU ℕ) := embL

/-- The launch element. -/
def u₀ : UU := (initOf (Pipeline.cells (Pipeline.pin (pcfgs (F := F)) (adm (adm0 m hT))) (cellOf_inj (adm (adm0 m hT)))) (Pipeline.launchToks (Pipeline.pin (pcfgs (F := F)) (adm (adm0 m hT))) (cellOf_inj (adm (adm0 m hT)))), 1)

variable [∀ e, Nonempty (Elt F e)]

/-- The experts call from the launch. -/
def R0 := reg0 (fun c b => Va m c b) (adm0 m hT) (fun c b => Vb m hT c b) hT
  (fun c k => by obtain rfl : c = 0 := Subsingleton.elim _ _; rfl) (fun c => Vb_rows m hT c) (fun c b h => Vb_ne m hT c b h)
/-- The reader after it. -/
def R1 := reg1 (fun c b => Va m c b) (adm0 m hT) (fun c b => Vb m hT c b) (fun c b => Vc m hT c b) (fun c => Vc_result m hT c) (fun c b h => Vc_ne m hT c b h)

/-- What a core owes: nothing. -/
abbrev owed0 (c : Dev nD) : sProp (MT nD τ sig Unit (Elt F) ℕ UU ℕ) := iprop(∃ W, owes (c : Thread nD τ) (0 : CellTallies nD τ sig Unit) W)

theorem into (c : Dev nD) : iprop(StableHlo.held (c : Thread nD τ) (Pipeline.ucRefs τ sig) (Va m c) ∗ owed0 c) ⊢ (R0 m hT).pre c := by
  rw [← Pipeline.unscopedBufs_held (Ix := Unit) (Name := ℕ) (U := UU) (Lvl := ℕ) c (Va m c)]; exact .rfl
theorem outof (c : Dev nD) : (R1 m hT).post c ⊢ iprop(StableHlo.held (c : Thread nD τ) (Pipeline.ucRefs τ sig) (Vc m hT c) ∗ owed0 c) := by
  rw [← Pipeline.unscopedBufs_held (Ix := Unit) (Name := ℕ) (U := UU) (Lvl := ℕ) c (Vc m hT c)]; exact .rfl

set_option backward.isDefEq.respectTransparency.types false in
/-- The program runs from any memory whose tables are good, and every buffer ends at its last contents. -/
theorem run_all : θ_run defs (onTc (τ := τ) (main (F := F))) ⟨m, fun _ => 0, ρ⟩
    (fun r => (∀ c : Dev nD, ∀ b ∈ Pipeline.ucRefs τ sig, r.2.mem (c, b) = Vc m hT c b) ∧ r.2.sem = fun _ => 0) := by
  refine Pipeline.θ_run_regions_kit_dev_sems (pcfgs (F := F)) (adm (adm0 m hT)) (pdats (fun c b => Va m c b) (adm0 m hT) (fun c b => Vb m hT c b)) () (cellOf_inj _) EP defs₀ Variants.none L0 lv0 m ρ main
    (fun _ => [Seg.region (R0 m hT), Seg.region (R1 m hT)])
    (fun c Q => by
      rewrite [main_chain c, Seg.run_eq_chain,
        show ([Seg.region (R0 m hT), Seg.region (R1 m hT)] : List (Seg _ _ _ _ _ _ _ _)).map Seg.prog = [
          Prog.lift (.customCall (Pipeline.entry 0) ()),
          Prog.lift (.customCall (Pipeline.entry 1) ()) ] from rfl]
      dsimp (config := { failIfUnchanged := false }) only
      exact .rfl)
    (fun c => by simp only [Seg.pipes_host, Seg.pipes_region, Seg.pipes_nil]; decide) (fun _ => 0) (fun _ _ => rfl) (fun _ => iprop(emp)) (u₀ m hT) ?_
    (T₀ := fun c => iprop(StableHlo.held (c : Thread nD τ) (Pipeline.ucRefs τ sig) (Va m c) ∗ owed0 c))
    (Tₙ := fun c => StableHlo.held (c : Thread nD τ) (Pipeline.ucRefs τ sig) (Vc m hT c))
    (hch := fun c => ⟨into m hT c, .rfl, outof m hT c⟩)
    (hinit := ?_) (QY := fun c s => ∀ b ∈ Pipeline.ucRefs τ sig, s.mem (c, b) = Vc m hT c b)
    (hfin := fun c s' => ?_) (hQ := fun _ h hz => ⟨h, funext fun g => hz g (.inr (regions_no_unscoped g.2))⟩)
  · unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L0 lv0 fun c => ?_
    rw [show unscopedBufs c (fun b => m ((c : Thread nD τ).loc b)) = StableHlo.held (c : Thread nD τ) (Pipeline.ucRefs τ sig) (Va m c) from Pipeline.unscopedBufs_held c (Va m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (Vc m hT c) s') $$ [Hh HSI]
    · isplitl [Hh] <;> iassumption
    icases Hr with ⟨%h, HSI⟩
    imodintro
    isplitr
    · ipureintro; exact h
    · iexact HSI

/-- The arguments end as they were and the second result as the reader leaves it. -/
theorem run : θ_run defs (onTc (τ := τ) (main (F := F))) ⟨m, fun _ => 0, ρ⟩ (fun r => (∀ c : Dev nD,
      r.2.mem ((c.tc : Thread nD τ).loc main_v1) = result m hT c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run _ _ _).mono (fun r h => ⟨fun c => ?_, h.2⟩) (run_all m ρ hT)
  have g := h.1 c
  have arg : ∀ b : Ref sig .tc, (Proc.devRef .tc b : DevRef τ sig) ∈ Pipeline.ucRefs τ sig → b ≠ main_v0 → b ≠ main_v1 → r.2.mem ((c.tc : Thread nD τ).loc b) = m ((c.tc : Thread nD τ).loc b) :=
    fun b h1 h2 h3 => (g (Proc.devRef .tc b) h1).trans (Vc_arg m hT c b h2 h3)
  exact ⟨(g (Proc.devRef .tc main_v1) (Finset.mem_filter.mpr ⟨StableHlo.devRef_mem_tcRefs main_v1, by decide⟩)).trans (Vc_result m hT c),
    arg main_arg0 (Finset.mem_filter.mpr ⟨StableHlo.devRef_mem_tcRefs main_arg0, by decide⟩) (by decide) (by decide),
    arg main_arg1 (Finset.mem_filter.mpr ⟨StableHlo.devRef_mem_tcRefs main_arg1, by decide⟩) (by decide) (by decide),
    arg main_arg2 (Finset.mem_filter.mpr ⟨StableHlo.devRef_mem_tcRefs main_arg2, by decide⟩) (by decide) (by decide),
    arg main_arg3 (Finset.mem_filter.mpr ⟨StableHlo.devRef_mem_tcRefs main_arg3, by decide⟩) (by decide) (by decide),
    arg main_arg4 (Finset.mem_filter.mpr ⟨StableHlo.devRef_mem_tcRefs main_arg4, by decide⟩) (by decide) (by decide),
    arg main_arg5 (Finset.mem_filter.mpr ⟨StableHlo.devRef_mem_tcRefs main_arg5, by decide⟩) (by decide) (by decide),
    arg main_arg6 (Finset.mem_filter.mpr ⟨StableHlo.devRef_mem_tcRefs main_arg6, by decide⟩) (by decide) (by decide),
    arg main_arg7 (Finset.mem_filter.mpr ⟨StableHlo.devRef_mem_tcRefs main_arg7, by decide⟩) (by decide) (by decide)⟩

end Cert.KernelIdeal.Experts

end
-- ==== Proof.Model.lean ====
module

public import Idealize.ShloMosaic.Lib.Pointwise
public import Idealize.ShloMosaic.Lib.ValueIdx
public import Idealize.ShloMosaic.Lib.WordCmp
public import Idealize.ShloMosaic.Lib.Routing.Words

/-!
The mixture of experts on sorted rows, as a function of the arrays over the extended reals. A word of a row is two
bf16 numbers, the low half in front. Two of its words after the row are gates.
-/

@[expose] public section

set_option maxRecDepth 16384

noncomputable section

namespace Cert.Model

open Idealize.ShloMosaic

/-! ## Words -/

/-- The two numbers of a packed word. -/
def loW (w : BitVec 32) : EReal := Ideal.ofBits .bf16 (w.extractLsb' 0 16)
def hiW (w : BitVec 32) : EReal := Ideal.ofBits .bf16 (w.extractLsb' 16 16)

/-- A bf16 word with sixteen zero bits after it is the same number. -/
theorem widen (v : BitVec 32) (u : BitVec 16) (h : v = u ++ 0#16) : Ideal.ofBits .f32 v = Ideal.ofBits .bf16 u := by
  subst h
  have e1 : (u ++ 0#16).extractLsb' (8 + 23) 1 = u.extractLsb' (8 + 7) 1 := by
    refine BitVec.eq_of_getLsbD_eq fun i hi => ?_
    simp only [BitVec.getLsbD_extractLsb', BitVec.getLsbD_append]
    rw [if_neg (by omega), show 8 + 23 + i - 16 = 8 + 7 + i by omega]
  have e2 : (u ++ 0#16).extractLsb' 23 8 = u.extractLsb' 7 8 := by
    refine BitVec.eq_of_getLsbD_eq fun i hi => ?_
    simp only [BitVec.getLsbD_extractLsb', BitVec.getLsbD_append]
    rw [if_neg (by omega), show 23 + i - 16 = 7 + i by omega]
  have e3 : ((u ++ 0#16).extractLsb' 0 23).toNat = (u.extractLsb' 0 7).toNat * 2 ^ 16 := by
    have e := u.isLt
    simp only [BitVec.extractLsb'_toNat, BitVec.toNat_append, BitVec.toNat_ofNat]
    simp only [Nat.shiftRight_zero, Nat.zero_mod, Nat.or_zero, Nat.shiftLeft_eq]
    omega
  show Ideal.ieee 8 23 (u ++ 0#16) = Ideal.ieee 8 7 u
  unfold Ideal.ieee
  simp only [e1, e2, e3]
  generalize u.extractLsb' (8 + 7) 1 = s
  generalize (u.extractLsb' 7 8).toNat = ex
  generalize (u.extractLsb' 0 7).toNat = fr
  by_cases h1 : ex = 2 ^ 8 - 1
  · simp only [h1, if_true]
    by_cases h2 : fr = 0
    · simp [h2]
    · rw [if_neg (by omega), if_neg h2]
  · rw [if_neg h1, if_neg h1]
    by_cases h3 : ex = 0
    · rw [if_pos h3, if_pos h3]
      congr 1
      rw [show ((1 : ℤ) - (2 ^ (8 - 1) - 1) - (7 : ℕ)) = (1 - (2 ^ (8 - 1) - 1) - (23 : ℕ)) + 16 by norm_num, zpow_add₀ (by norm_num)]
      push_cast
      norm_num
      ring_nf
    · rw [if_neg h3, if_neg h3]
      congr 1
      rw [show ((ex : ℤ) - (2 ^ (8 - 1) - 1) - (7 : ℕ)) = ((ex : ℤ) - (2 ^ (8 - 1) - 1) - (23 : ℕ)) + 16 by push_cast; ring, zpow_add₀ (by norm_num)]
      push_cast
      norm_num
      ring_nf

theorem widen_lo (w : BitVec 32) : Ideal.ofBits .f32 (IntOp.shli .host w 16#32) = loW w := by
  refine widen _ _ ?_
  show IntOp.shli .host w 16#32 = _
  have e : IntOp.shli .host w 16#32 = w <<< 16 := by rfl
  rw [e]
  refine BitVec.eq_of_getLsbD_eq fun i hi => ?_
  rw [BitVec.getLsbD_shiftLeft, BitVec.getLsbD_append, BitVec.getLsbD_extractLsb']
  by_cases h : i < 16
  · simp [h]
  · simp [h, hi, show i - 16 < 16 by omega]

theorem widen_hi (w : BitVec 32) : Ideal.ofBits .f32 (IntOp.andi w 4294901760#32) = hiW w := by
  refine widen _ _ ?_
  show w &&& 4294901760#32 = _
  refine BitVec.eq_of_getLsbD_eq fun i hi => ?_
  have hm : (4294901760#32).getLsbD i = decide (16 ≤ i) := by
    have : ∀ i : Fin 32, (4294901760#32).getLsbD i.val = decide (16 ≤ i.val) := by decide
    exact this ⟨i, hi⟩
  rw [BitVec.getLsbD_and, hm, BitVec.getLsbD_append, BitVec.getLsbD_extractLsb']
  by_cases h : i < 16
  · simp [h, show ¬ 16 ≤ i by omega]
  · simp [h, show 16 + (i - 16) = i by omega, show 16 ≤ i by omega, show i - 16 < 16 by omega]

/-- A word under that of infinity is a number that is finite and not negative. -/
theorem gate_real (w : BitVec 32) (h : w.toNat < 2139095040) : 0 ≤ Ideal.ofBits .f32 w ∧ Ideal.ofBits .f32 w ≠ ⊤ := by
  show 0 ≤ Ideal.ieee 8 23 w ∧ Ideal.ieee 8 23 w ≠ ⊤
  have e1 : (w.extractLsb' (8 + 23) 1 == 1#1) = false := by
    rw [beq_eq_false_iff_ne]
    intro e
    have e' := congrArg BitVec.toNat e
    simp only [BitVec.extractLsb'_toNat, Nat.shiftRight_eq_div_pow] at e'
    norm_num at e'
    omega
  have e2 : (w.extractLsb' 23 8).toNat ≠ 2 ^ 8 - 1 := by
    simp only [BitVec.extractLsb'_toNat, Nat.shiftRight_eq_div_pow]
    omega
  unfold Ideal.ieee
  simp only [e1, if_neg e2, Bool.false_eq_true, if_false]
  split
  · exact ⟨by exact_mod_cast (by positivity), EReal.coe_ne_top _⟩
  · exact ⟨by exact_mod_cast (by positivity), EReal.coe_ne_top _⟩

/-! ## Sums -/

theorem gate_mul_sum {ι : Type} (s : Finset ι) (w : EReal) (h0 : 0 ≤ w) (h1 : w ≠ ⊤) (f : ι → EReal) : ∑ i ∈ s, w * f i = w * ∑ i ∈ s, f i := by
  classical
  induction s using Finset.induction_on with
  | empty => simp
  | insert i s hi ih => rw [Finset.sum_insert hi, Finset.sum_insert hi, ih, EReal.left_distrib_of_nonneg_of_ne_top h0 h1]

/-- A sum over experts weighted by two one-hot rows is the two experts' terms. -/
theorem one_hot_sum (p q : Fin 32) (w0 w1 : EReal) (h0 : 0 ≤ w0) (h1 : 0 ≤ w1) (d : Fin 32 → EReal) :
    ∑ e : Fin 32, ((if p = e then 1 else 0) * w0 + (if q = e then 1 else 0) * w1) * d e = w0 * d p + w1 * d q := by
  have nn (p e : Fin 32) (w : EReal) (h : 0 ≤ w) : 0 ≤ (if p = e then 1 else 0) * w := by split <;> simp [h]
  have st : ∀ e : Fin 32, ((if p = e then 1 else 0) * w0 + (if q = e then 1 else 0) * w1) * d e = (if p = e then w0 * d e else 0) + (if q = e then w1 * d e else 0) := fun e => by
    rw [EReal.right_distrib_of_nonneg (nn p e w0 h0) (nn q e w1 h1)]
    by_cases hp : p = e <;> by_cases hq : q = e <;> simp [hp, hq]
  rw [Finset.sum_congr rfl fun e _ => st e, Finset.sum_add_distrib, Finset.sum_ite_eq, Finset.sum_ite_eq]
  simp

/-! ## The experts -/

/-- A row of packed words against a column of 1024 numbers. -/
def lin (row : Fin 512 → BitVec 32) (col : Fin 1024 → EReal) : EReal :=
  ∑ k : Fin 512, loW (row k) * col ⟨k.val, by omega⟩ + ∑ k : Fin 512, hiW (row k) * col ⟨512 + k.val, by omega⟩

/-- The gated hidden unit `f` of an expert. -/
def hid (row : Fin 512 → BitVec 32) (wg wu : Fin 1024 → Fin 256 → EReal) (f : Fin 256) : EReal :=
  lin row (fun k => wg k f) * Ideal.logistic (lin row (fun k => wg k f)) * lin row (fun k => wu k f)

/-- Entry `d` of an expert's output for a row. -/
def expert (row : Fin 512 → BitVec 32) (wg wu : Fin 1024 → Fin 256 → EReal) (wd : Fin 256 → Fin 1024 → EReal) (d : Fin 1024) : EReal :=
  ∑ f : Fin 256, hid row wg wu f * wd f d

/-- The expert that a tile's words name: the group's number and the number in the group. -/
def pick (g a : BitVec 32) : Fin 32 := ⟨(IntOp.addi (IntOp.muli g 8#32) a).toNat % 32, Nat.mod_lt _ (by decide)⟩

abbrev SX : Shape := ⟨2, ![94208, 640]⟩
abbrev ST : Shape := ⟨1, ![368]⟩
abbrev SN : Shape := ⟨1, ![1]⟩
abbrev SW : Shape := ⟨3, ![32, 1024, 256]⟩
abbrev SD : Shape := ⟨3, ![32, 256, 1024]⟩
abbrev SO : Shape := ⟨2, ![94208, 1024]⟩

/-- Row `r` through expert `e`. -/
def through (x : SX.Idx → BitVec 32) (w5 w6 : SW.Idx → EReal) (w7 : SD.Idx → EReal) (r : Fin 94208) (e : Fin 32) (d : Fin 1024) : EReal :=
  expert (fun k => x (ix2 r ⟨k.val, by omega⟩)) (fun k f => w5 (ix3 e k f)) (fun k f => w6 (ix3 e k f)) (fun f d => w7 (ix3 e f d)) d

/-- The tile of row `r`. -/
def tile (r : Fin 94208) : Fin 368 := ⟨r.val / 256, by omega⟩

/-- The layer on sorted rows: a row of a live tile is its two experts' outputs weighted by its two gates, and a row past
    the live tiles is zero. -/
def moe (x : SX.Idx → BitVec 32) (g a b : ST.Idx → BitVec 32) (n : SN.Idx → BitVec 32) (w5 w6 : SW.Idx → EReal) (w7 : SD.Idx → EReal)
    (r : Fin 94208) (d : Fin 1024) : EReal :=
  if ((tile r).val : ℤ) < (n (ix1 0)).toInt then
    Ideal.ofBits .f32 (x (ix2 r 512)) * through x w5 w6 w7 r (pick (g (ix1 (tile r))) (a (ix1 (tile r)))) d
      + Ideal.ofBits .f32 (x (ix2 r 513)) * through x w5 w6 w7 r (pick (g (ix1 (tile r))) (b (ix1 (tile r)))) d
  else 0

end Cert.Model
-- ==== Proof.BlockValue.lean ====
module

public import proofs.«01_k».proof.Proof.Closed
public import proofs.«01_k».proof.Proof.Model
public import Idealize.ShloMosaic.Lib.Pointwise

/-!
A live tile's block at a row and a column, over the extended reals: the row's two experts weighted by its gates.
-/

@[expose] public section

set_option maxRecDepth 16384

noncomputable section

namespace Cert.KernelIdeal.Experts

open Idealize.ShloMosaic
open Cert.KernelIdeal Cert.KernelIdeal.Gen
open Cert.Model (loW hiW moe through expert hid lin pick tile)

/-- The expert a body picks is the one the tile's words name. -/
theorem eix_pick (g a : BitVec 32) (ha : a.toNat < 8) : eix g (a.toNat % 8) = pick g a := by
  have e : BitVec.ofNat 32 (a.toNat % 8) = a := by rw [Nat.mod_eq_of_lt ha, BitVec.ofNat_toNat, BitVec.setWidth_eq]
  refine Fin.ext ?_
  show (Scalar.addi (Scalar.muli g 8#32) (BitVec.ofNat 32 (a.toNat % 8))).toNat % 32 = (IntOp.addi (IntOp.muli g 8#32) a).toNat % 32
  rw [e]
  rfl

/-- Row `y` of a block through an expert. -/
def rowThrough (X : S256x640.Idx → BitVec 32) (W5 W6 : S32x1024x256.Idx → EReal) (W7 : S32x256x1024.Idx → EReal) (y : Fin 256) (e : Fin 32) (d : Fin 1024) : EReal :=
  expert (fun k => X (ix2 y ⟨k.val, by omega⟩)) (fun k f => W5 (ix3 e k f)) (fun k f => W6 (ix3 e k f)) (fun f d => W7 (ix3 e f d)) d

/-- The body scales the hidden units by the gate before the down product, the layer scales the product. -/
theorem gated (X : S256x640.Idx → BitVec 32) (W5 W6 : S32x1024x256.Idx → EReal) (W7 : S32x256x1024.Idx → EReal) (y : Fin 256) (e : Fin 32) (d : Fin 1024)
    (w : EReal) (h0 : 0 ≤ w) (h1 : w ≠ ⊤) (f : Fin 256 → EReal)
    (hf : ∀ x, f x = hid (fun k => X (ix2 y ⟨k.val, by omega⟩)) (fun k f => W5 (ix3 e k f)) (fun k f => W6 (ix3 e k f)) x * w * W7 (ix3 e x d)) :
    ∑ x, f x = w * rowThrough X W5 W6 W7 y e d := by
  unfold rowThrough expert
  rw [← Cert.Model.gate_mul_sum _ w h0 h1]
  refine Finset.sum_congr rfl fun x _ => ?_
  rw [hf, mul_comm _ w, mul_assoc]

theorem mod_lo (x : Fin 256) : x.val % 256 = x.val := Nat.mod_eq_of_lt x.isLt
theorem mod_hi (x : Fin 256) : (256 + x.val) % 256 = x.val := by omega

set_option maxHeartbeats 4000000 in
set_option backward.isDefEq.respectTransparency false in
theorem live_at (X : Vec Ideal S256x640 .i32) (g a b : BitVec 32) (ha : a.toNat < 8) (hb : b.toNat < 8) (W5 W6 : Vec Ideal S32x1024x256 .f32) (W7 : Vec Ideal S32x256x1024 .f32)
    (y : Fin 256) (h0 : (X (ix2 y 512)).toNat < 2139095040) (h1 : (X (ix2 y 513)).toNat < 2139095040) (h : Fin 2) (d : Fin 512) :
    (liveOb X (guC g W5 W6) (dC g W7) a b (ix3 y h d) : EReal)
      = Ideal.ofBits .f32 (X (ix2 y 512)) * rowThrough X W5 W6 W7 y (pick g a) ⟨512 * h.val + d.val, by omega⟩
        + Ideal.ofBits .f32 (X (ix2 y 513)) * rowThrough X W5 W6 W7 y (pick g b) ⟨512 * h.val + d.val, by omega⟩ := by
  obtain ⟨p0, q0⟩ := Cert.Model.gate_real _ h0
  obtain ⟨p1, q1⟩ := Cert.Model.gate_real _ h1
  unfold liveOb k0_pay3 k0_pay33 k0_pay34 k0_pay32 k0_pay29 k0_pay30 k0_pay31
  pointwise
  unfold xLo xHi guT dT guC guF dC
  pointwise
  simp only [eix_pick g a ha, eix_pick g b hb]
  have hh : h.val < 2 := h.isLt
  split
  · rename_i he
    have e : (⟨512 * h.val + d.val, by omega⟩ : Fin 1024) = ⟨d.val, by omega⟩ := Fin.ext (by show 512 * h.val + d.val = d.val; omega)
    rw [e]
    refine congrArg₂ _ (gated X W5 W6 W7 y _ _ _ p0 q0 _ fun x => ?_) (gated X W5 W6 W7 y _ _ _ p1 q1 _ fun x => ?_)
    · simp only [mod_lo, mod_hi]; rfl
    · simp only [mod_lo, mod_hi]; rfl
  · rename_i he
    have e : (⟨512 * h.val + d.val, by omega⟩ : Fin 1024) = ⟨512 + d.val, by omega⟩ := Fin.ext (by show 512 * h.val + d.val = 512 + d.val; omega)
    rw [e]
    refine congrArg₂ _ (gated X W5 W6 W7 y _ _ _ p0 q0 _ fun x => ?_) (gated X W5 W6 W7 y _ _ _ p1 q1 _ fun x => ?_)
    · simp only [mod_lo, mod_hi]; rfl
    · simp only [mod_lo, mod_hi]; rfl

set_option backward.isDefEq.respectTransparency false in
theorem dead_at (j : S256x2x512.Idx) : ((deadOb (F := Ideal)) j : EReal) = 0 := by
  unfold deadOb
  pointwise

set_option backward.isDefEq.respectTransparency false in
theorem read_at (v : Vec Ideal S1024x2x512 .bf16) (y : Fin 1024) (h : Fin 2) (d : Fin 512) :
    (k1_pay1 v (ix2 y ⟨512 * h.val + d.val, by omega⟩) : EReal) = v (ix3 y h d) := by
  unfold k1_pay1
  pointwise
  have hh : h.val < 2 := h.isLt
  split
  · exact congrArg v (by congr 1 <;> exact Fin.ext (by simp; omega))
  · exact congrArg v (by congr 1 <;> exact Fin.ext (by simp; omega))

end Cert.KernelIdeal.Experts
-- ==== Proof.KerValue.lean ====
module

public import proofs.«01_k».proof.Proof.BlockValue
public import proofs.«01_k».proof.Proof.Drive
public import proofs.«01_k».proof.Proof.Terms
public import Idealize.ShloMosaic.Lib.Pipeline.ValueKit

/-!
What the kernel computes over the extended reals: the rows the experts call leaves and the result the reader leaves,
from the blocks of their tiles.
-/

@[expose] public section

set_option maxRecDepth 16384

noncomputable section

namespace Cert.KernelIdeal.Experts

open Idealize.ShloMosaic Idealize.ShloMosaic.TcCoe Idealize.ShloMosaic.Tactic
open Idealize.SL Idealize.SL.RA
open Cert.KernelIdeal Cert.KernelIdeal.Gen
open Cert.Model (moe through expert pick tile)
open Idealize.ShloMosaic.Pipeline (Dat Cfg Window)

variable (V : (c : Dev nD) → (b : Ref sig .tc) → Buf (Elt Ideal) ((c : Thread nD τ).loc b)) (a0 : (pcfg0 (F := Ideal)).Adm)

/-! ## The experts call -/

/-- The rows as an array: a row's low halves, then its high halves. -/
def rowsOf (x : Model.SX.Idx → BitVec 32) (g a b : Model.ST.Idx → BitVec 32) (n : Model.SN.Idx → BitVec 32) (w5 w6 : Model.SW.Idx → EReal) (w7 : Model.SD.Idx → EReal)
    (j : S94208x2x512.Idx) : EReal :=
  moe x g a b n w5 w6 w7 ⟨(j 0).val, (j 0).isLt⟩ ⟨512 * (j 1).val + (j 2).val, by
    have h1 : (j 1).val < 2 := (j 1).isLt
    have h2 : (j 2).val < 512 := (j 2).isLt
    omega⟩

theorem flush0_1 (t : Fin (cfg0 a0).N) : ((cfg0 a0).win 1).flush t = true :=
  (Pipeline.Window.flush_reads ((cfg0 a0).win 1) rfl (0 : Fin grid0.rank) (show 1 < grid0.bound 0 by decide) (show grid0.fixedAfter reads0_1 0 = true by decide)
    (Pipeline.Window.sep_of_coord cc0_transform_4 0 0 (fun _ => rfl) (by decide)) (P := 1) (m := 0) (show grid0.stride 0 = 1 by decide) rfl t).mpr (Nat.mod_one _)

theorem index0_1 (t : Fin (cfg0 a0).N) : ((cfg0 a0).win 1).index t = ![t.val, 0, 0] :=
  (by decide +kernel : ∀ t : Fin grid0.N, cc0_transform_4 (grid0.coords t) = ![t.val, 0, 0]) t

theorem index0_0 (t : Fin (cfg0 a0).N) : ((cfg0 a0).win 0).index t = ![rowTile (grid0.coords t) (wN (tabsOf a0.1).t4), 0] := by
  rfl

theorem cover0 (i : S94208x2x512.Idx) : ∃ t : Fin (cfg0 a0).N, ((cfg0 a0).win 1).flush t = true ∧ i ∈ (((cfg0 a0).win 1).blk t).view.set := by
  have h0 : (i 0).val < 94208 := (i 0).isLt
  have h1 : (i 1).val < 2 := (i 1).isLt
  have h2 : (i 2).val < 512 := (i 2).isLt
  have e := index0_1 a0
  refine ⟨⟨(i 0).val / 256, by show (i 0).val / 256 < 368; omega⟩, flush0_1 a0 _, ?_⟩
  refine (((cfg0 a0).win 1).emb_mem_blk_iff _ i rfl).mpr fun a => ?_
  rw [e]
  match a with
  | ⟨0, _⟩ => show (i 0).val / 256 * 256 ≤ (i 0).val ∧ (i 0).val < (i 0).val / 256 * 256 + 256; omega
  | ⟨1, _⟩ => show 0 * 2 ≤ (i 1).val ∧ (i 1).val < 0 * 2 + 2; omega
  | ⟨2, _⟩ => show 0 * 512 ≤ (i 2).val ∧ (i 2).val < 0 * 512 + 512; omega

/-- Where a block's entry lies in the array of rows. -/
theorem emb0_1 (t : Fin (cfg0 a0).N) (y : S256x2x512.Idx) :
    (((cfg0 a0).win 1).blk t).view.emb y = (ix3 ⟨t.val * 256 + (y 0).val, by
        have ht : t.val < 368 := t.isLt
        have hy : (y 0).val < 256 := (y 0).isLt
        omega⟩ ⟨(y 1).val, (y 1).isLt⟩ ⟨(y 2).val, (y 2).isLt⟩ : S94208x2x512.Idx) := by
  have e := index0_1 a0 t
  refine funext fun a => Fin.ext ?_
  match a with
  | ⟨0, _⟩ => show ((cfg0 a0).win 1).index t (0 : Fin 3) * 256 + 1 * (y 0).val = t.val * 256 + (y 0).val; rw [e]; show t.val * 256 + _ = _; omega
  | ⟨1, _⟩ => show ((cfg0 a0).win 1).index t (1 : Fin 3) * 2 + 1 * (y 1).val = (y 1).val; rw [e]; show 0 * 2 + _ = _; omega
  | ⟨2, _⟩ => show ((cfg0 a0).win 1).index t (2 : Fin 3) * 512 + 1 * (y 2).val = (y 2).val; rw [e]; show 0 * 512 + _ = _; omega

/-- The rows a live tile is brought are its own. -/
theorem xblk_at (c : Dev nD) (t : Fin (cfg0 a0).N) (h : live (grid0.coords t) (wN (tabsOf a0.1).t4)) (y : Fin 256) (k : Fin 640) (r : Fin 94208) (hr : r.val = t.val * 256 + y.val) :
    (xblk V a0 c t (ix2 y k) : BitVec 32) = (V c main_arg0 : Model.SX.Idx → BitVec 32) (ix2 r k) := by
  have e : ((cfg0 a0).win 0).index t = ![t.val, 0] := by rw [index0_0, rowTile_live _ _ h, coords_val]
  show (V c main_arg0 : Model.SX.Idx → BitVec 32) ((((cfg0 a0).win 0).blk t).view.emb (ix2 y k)) = _
  refine congrArg _ (funext fun a => Fin.ext ?_)
  match a with
  | ⟨0, _⟩ => show ((cfg0 a0).win 0).index t (0 : Fin 2) * 256 + 1 * y.val = r.val; rw [e, hr]; show t.val * 256 + _ = _; omega
  | ⟨1, _⟩ => show ((cfg0 a0).win 0).index t (1 : Fin 2) * 640 + 1 * k.val = k.val; rw [e]; show 0 * 640 + _ = _; omega

theorem mid_eq (c : Dev nD) (H : Terms.Holds (V c main_arg0) (V c main_arg1) (V c main_arg2) (V c main_arg3) (V c main_arg4))
    (ht : tabsOf a0.1 = ⟨V c main_arg1, V c main_arg2, V c main_arg3, V c main_arg4⟩) :
    mid V a0 c = rowsOf (V c main_arg0) (V c main_arg1) (V c main_arg2) (V c main_arg3) (V c main_arg4) (V c main_arg5) (V c main_arg6) (V c main_arg7) := by
  unfold mid
  refine (dat0 V a0 c).arrAt_eq_of_emb 1 _ (fun t _ y => ?_) (cover0 a0)
  have hlt : t.val < 368 := t.isLt
  obtain ⟨Y, h, d, rfl⟩ : ∃ (Y : Fin 256) (h : Fin 2) (d : Fin 512), y = (ix3 Y h d : S256x2x512.Idx) :=
    ⟨y (0 : Fin 3), y (1 : Fin 3), y (2 : Fin 3), by funext a; match a with | ⟨0, _⟩ => rfl | ⟨1, _⟩ => rfl | ⟨2, _⟩ => rfl⟩
  have hY : Y.val < 256 := Y.isLt
  refine Eq.trans ?_ (congrArg _ (emb0_1 a0 t (ix3 Y h d))).symm
  show out0 (tabsOf a0.1) (wtsOf V c) (grid0.coords t) (xblk V a0 c t) (ix3 Y h d) = _
  set r : Fin 94208 := ⟨t.val * 256 + Y.val, by omega⟩ with hr
  have htile : tile r = ⟨t.val, hlt⟩ := Fin.ext (by show (t.val * 256 + Y.val) / 256 = t.val; omega)
  have h368 : at368 (grid0.coords t) = (ix1 ⟨t.val, hlt⟩ : S368.Idx) := funext fun | 0 => Fin.ext (coords_val t)
  have hn : wN (tabsOf a0.1).t4 = (V c main_arg4 : Model.SN.Idx → BitVec 32) (ix1 0) := by
    rw [ht]
    exact (wN_at (F := Ideal) _).trans (congrArg _ (funext fun | 0 => rfl))
  have hl : live (grid0.coords t) (wN (tabsOf a0.1).t4) ↔ ((tile r).val : ℤ) < ((V c main_arg4 : Model.SN.Idx → BitVec 32) (ix1 0)).toInt := by
    rw [← hn, htile]; unfold live; rw [coords_val]
  have hg : wG' (F := Ideal) (grid0.coords t) (tabsOf a0.1).t1 = (V c main_arg1 : Model.ST.Idx → BitVec 32) (ix1 (tile r)) := by
    rw [ht, htile, wG'_at]; exact congrArg _ h368
  have ha : wA (F := Ideal) (grid0.coords t) (tabsOf a0.1).t2 = (V c main_arg2 : Model.ST.Idx → BitVec 32) (ix1 (tile r)) := by
    rw [ht, htile, wA_at]; exact congrArg _ h368
  have hb : wB (F := Ideal) (grid0.coords t) (tabsOf a0.1).t3 = (V c main_arg3 : Model.ST.Idx → BitVec 32) (ix1 (tile r)) := by
    rw [ht, htile, wB_at]; exact congrArg _ h368
  show _ = moe _ _ _ _ _ _ _ _ r ⟨512 * h.val + d.val, _⟩
  unfold out0 moe
  by_cases hc : live (grid0.coords t) (wN (tabsOf a0.1).t4)
  · rw [if_pos hc, if_pos (hl.mp hc), hg, ha, hb]
    have x0 := xblk_at V a0 c t hc Y 512 r rfl
    have x1 := xblk_at V a0 c t hc Y 513 r rfl
    refine (live_at _ _ _ _ (H.a _) (H.b _) _ _ _ Y (by rw [x0]; exact H.gate _ (show 512 ≤ (512 : Fin 640).val by decide) (show (512 : Fin 640).val < 514 by decide)) (by rw [x1]; exact H.gate _ (show 512 ≤ (513 : Fin 640).val by decide) (show (513 : Fin 640).val < 514 by decide)) h d).trans ?_
    have hx : (fun k : Fin 512 => (xblk V a0 c t (ix2 Y ⟨k.val, by omega⟩) : BitVec 32)) = fun k : Fin 512 => (V c main_arg0 : Model.SX.Idx → BitVec 32) (ix2 r ⟨k.val, by omega⟩) :=
      funext fun k => xblk_at V a0 c t hc Y _ r rfl
    unfold rowThrough through
    rw [x0, x1, hx]
    rfl
  · rw [if_neg hc, if_neg fun h => hc (hl.mpr h)]
    exact dead_at _

/-! ## The reader -/

theorem index1_0 (t : Fin cfg1.N) : (cfg1.win 0).index t = ![t.val, 0, 0] :=
  (by decide +kernel : ∀ t : Fin grid1.N, win1_0.index t = ![t.val, 0, 0]) t

theorem index1_1 (t : Fin cfg1.N) : (cfg1.win 1).index t = ![t.val, 0] :=
  (by decide +kernel : ∀ t : Fin grid1.N, win1_1.index t = ![t.val, 0]) t

theorem rblk_at (c : Dev nD) (t : Fin cfg1.N) (y : Fin 1024) (h : Fin 2) (d : Fin 512) (r : Fin 94208) (hr : r.val = t.val * 1024 + y.val) :
    (rblk V c t (ix3 y h d) : EReal) = (V c main_v0 : S94208x2x512.Idx → EReal) (ix3 r h d) := by
  have e := index1_0 t
  show (V c main_v0 : S94208x2x512.Idx → EReal) (((cfg1.win 0).blk t).view.emb (ix3 y h d)) = _
  refine congrArg _ (funext fun a => Fin.ext ?_)
  match a with
  | ⟨0, _⟩ => show (cfg1.win 0).index t (0 : Fin 3) * 1024 + 1 * y.val = r.val; rw [e, hr]; show t.val * 1024 + _ = _; omega
  | ⟨1, _⟩ => show (cfg1.win 0).index t (1 : Fin 3) * 2 + 1 * h.val = h.val; rw [e]; show 0 * 2 + _ = _; omega
  | ⟨2, _⟩ => show (cfg1.win 0).index t (2 : Fin 3) * 512 + 1 * d.val = d.val; rw [e]; show 0 * 512 + _ = _; omega

/-- The reader puts a row's halves side by side. -/
def flatOf (R : S94208x2x512.Idx → EReal) (i : S94208x1024.Idx) : EReal :=
  R (ix3 ⟨(i 0).val, (i 0).isLt⟩ ⟨(i 1).val / 512, by have h : (i 1).val < 1024 := (i 1).isLt; omega⟩ ⟨(i 1).val % 512, Nat.mod_lt _ (by decide)⟩)

theorem fin_eq (c : Dev nD) : fin V c = flatOf (V c main_v0) := by
  unfold fin
  refine (dat1 V c).arrAt_eq_of_covers 1 _ (by decide +kernel : win1_1.Covers) fun t _ y => ?_
  have hlt : t.val < 92 := t.isLt
  obtain ⟨Y, k, rfl⟩ : ∃ (Y : Fin 1024) (k : Fin 1024), y = (ix2 Y k : S1024x1024.Idx) :=
    ⟨y (0 : Fin 2), y (1 : Fin 2), by funext a; match a with | ⟨0, _⟩ => rfl | ⟨1, _⟩ => rfl⟩
  have hY : Y.val < 1024 := Y.isLt
  have hk : k.val < 1024 := k.isLt
  have e := index1_1 t
  have hemb : ((cfg1.win 1).blk t).view.emb (ix2 Y k : S1024x1024.Idx) = (ix2 ⟨t.val * 1024 + Y.val, by omega⟩ k : S94208x1024.Idx) := by
    refine funext fun a => Fin.ext ?_
    match a with
    | ⟨0, _⟩ => show (cfg1.win 1).index t (0 : Fin 2) * 1024 + 1 * Y.val = t.val * 1024 + Y.val; rw [e]; show t.val * 1024 + _ = _; omega
    | ⟨1, _⟩ => show (cfg1.win 1).index t (1 : Fin 2) * 1024 + 1 * k.val = k.val; rw [e]; show 0 * 1024 + _ = _; omega
  refine Eq.trans ?_ (congrArg _ hemb).symm
  show k1_pay1 (rblk V c t) (ix2 Y k) = _
  have hs : k = ⟨512 * (⟨k.val / 512, by omega⟩ : Fin 2).val + (⟨k.val % 512, Nat.mod_lt _ (by decide)⟩ : Fin 512).val, by show 512 * (k.val / 512) + k.val % 512 < 1024; omega⟩ :=
    Fin.ext (by show k.val = 512 * (k.val / 512) + k.val % 512; omega)
  refine (congrArg (fun q => k1_pay1 (rblk V c t) (ix2 Y q)) hs).trans ?_
  exact (read_at _ _ _ _).trans (rblk_at V c t Y _ _ _ rfl)

/-! ## The program -/

variable (m : (ℓ : Loc nD τ sig) → Buf (Elt Ideal) ℓ) (hT : Good (tabsOf (tabs0 m)))

/-- The program's result is the layer of its arguments. -/
theorem result_eq (c : Dev nD) (H : Terms.Holds (m ((c : Thread nD τ).loc main_arg0)) (m ((c : Thread nD τ).loc main_arg1)) (m ((c : Thread nD τ).loc main_arg2)) (m ((c : Thread nD τ).loc main_arg3)) (m ((c : Thread nD τ).loc main_arg4)))
    (r : Fin 94208) (d : Fin 1024) :
    (result m hT c : S94208x1024.Idx → EReal) (ix2 r d)
      = moe (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) r d := by
  have h1 := fin_eq (fun c b => Vb m hT c b) c
  have h2 := mid_eq (fun c b => Va m c b) (adm0 m hT) c H (by obtain rfl : c = 0 := Subsingleton.elim _ _; rfl)
  have h3 : (Vb m hT c main_v0 : S94208x2x512.Idx → EReal) = _ := (Vb_rows m hT c).trans h2
  have hd : d.val < 1024 := d.isLt
  refine (congrFun h1 (ix2 r d)).trans ?_
  refine (congrFun (congrArg flatOf h3) (ix2 r d)).trans ?_
  show moe _ _ _ _ _ _ _ _ _ _ = _
  refine congrArg₂ (moe _ _ _ _ _ _ _ _) rfl (Fin.ext ?_)
  show 512 * (d.val / 512) + d.val % 512 = d.val
  omega

end Cert.KernelIdeal.Experts
-- ==== Proof.RefValue.lean ====
module

public import proofs.«01_k».proof.Proof.Gen.ReferenceIdeal.Run
public import proofs.«01_k».proof.Proof.Model
public import proofs.«01_k».proof.Proof.Terms
public import Idealize.ShloMosaic.Lib.Pointwise
public import Idealize.ShloMosaic.Lib.Tactic.CleanTypes
public import Idealize.ShloMosaic.Lib.Routing.Words

/-!
The reference's result at a row and a column: the layer on sorted rows.
-/

@[expose] public section

set_option maxRecDepth 16384

noncomputable section

namespace Cert.ReferenceIdeal.Value

open Idealize.ShloMosaic
open Cert.ReferenceIdeal Cert.ReferenceIdeal.Gen
open Cert.Model (loW hiW moe through expert hid lin pick tile)

/-- The quotient of a row's number by 256, as it is written with signs. -/
theorem tile_word (r : Fin 94208) :
    (Scalar.select
          (IntOp.andi
            (IntOp.cmpi CmpIPredicate.ne
              (if BitVec.ofNat 32 r.val = 0 then 0 else if (BitVec.ofNat 32 r.val).msb = true then -1 else 1)
              (if (256#32 : BitVec 32) = 0 then (0 : BitVec 32) else if (256#32 : BitVec 32).msb = true then -1 else 1))
            (IntOp.cmpi CmpIPredicate.ne (IntOp.remsi ArithUnit.host (BitVec.ofNat 32 r.val) 256#32) 0#32))
          (IntOp.subi (IntOp.divsi ArithUnit.host (BitVec.ofNat 32 r.val) 256#32) 1#32)
          (IntOp.divsi ArithUnit.host (BitVec.ofNat 32 r.val) 256#32)) = BitVec.ofNat 32 (r.val / 256) := by
  have hr := r.isLt
  have ha : r.val < 2 ^ 31 := by omega
  rw [show (256#32 : BitVec 32) = BitVec.ofNat 32 256 from rfl, Routing.remsi_word .host ha (by decide) (by decide), Routing.divsi_word .host ha (by decide) (by decide), Routing.msb_ofNat32 ha]
  rcases Nat.eq_zero_or_pos r.val with h | h
  · rw [h]; rfl
  · rw [if_neg (Routing.ofNat32_ne_zero h (show r.val < 2 ^ 32 by omega))]
    simp only [Bool.false_eq_true, if_false]
    have e : IntOp.cmpi .ne (1 : BitVec 32) (if BitVec.ofNat 32 256 = 0 then (0 : BitVec 32) else if (BitVec.ofNat 32 256).msb = true then -1 else 1) = 0#1 := by decide
    rw [e]
    show Scalar.select (0#1 &&& _) _ _ = _
    rw [BitVec.zero_and]
    rfl

/-- The number of a one-hot row's entry. -/
theorem one_hot (g a : BitVec 32) (hg : g.toNat < 4) (ha : a.toNat < 8) (e : Fin 32) :
    (FloatOps.uitofp (F := Ideal) FTy.f32 (IntOp.cmpi CmpIPredicate.eq (IntOp.addi (IntOp.muli g 8#32) a) (BitVec.ofNat 32 e.val)) : EReal)
      = if pick g a = e then 1 else 0 := by
  have hw : (IntOp.addi (IntOp.muli g 8#32) a).toNat = g.toNat * 8 + a.toNat := by
    show (g * 8#32 + a).toNat = _
    rw [BitVec.toNat_add, BitVec.toNat_mul]
    show (g.toNat * 8 % 2 ^ 32 + a.toNat) % 2 ^ 32 = _
    omega
  have he := e.isLt
  have iff : IntOp.addi (IntOp.muli g 8#32) a = BitVec.ofNat 32 e.val ↔ pick g a = e := by
    rw [← BitVec.toNat_inj, hw, BitVec.toNat_ofNat, Fin.ext_iff]
    show _ ↔ (IntOp.addi (IntOp.muli g 8#32) a).toNat % 32 = e.val
    rw [hw]
    omega
  show (((IntOp.cmpi CmpIPredicate.eq _ _).toNat : ℝ) : EReal) = _
  rw [WordCmp.cmpi_eq_eq]
  by_cases h : pick g a = e
  · rw [if_pos h, decide_eq_true (iff.2 h), show (BitVec.ofBool true).toNat = 1 from rfl]; norm_num
  · rw [if_neg h, decide_eq_false (mt iff.1 h), show (BitVec.ofBool false).toNat = 0 from rfl]; norm_num

set_option maxHeartbeats 4000000 in
set_option backward.isDefEq.respectTransparency false in
theorem res_eq (m : (ℓ : Loc nD τ sig) → Buf (Elt Ideal) ℓ) (c : Dev nD)
    (x : Vec Ideal S94208x640 .i32) (g a b : Vec Ideal S368 .i32) (n : Vec Ideal S1 .i32) (w5 w6 : Vec Ideal S32x1024x256 .f32) (w7 : Vec Ideal S32x256x1024 .f32)
    (e0 : m ((c.tc : Thread nD τ).loc main_arg0) = x) (e1 : m ((c.tc : Thread nD τ).loc main_arg1) = g) (e2 : m ((c.tc : Thread nD τ).loc main_arg2) = a)
    (e3 : m ((c.tc : Thread nD τ).loc main_arg3) = b) (e4 : m ((c.tc : Thread nD τ).loc main_arg4) = n) (e5 : m ((c.tc : Thread nD τ).loc main_arg5) = w5)
    (e6 : m ((c.tc : Thread nD τ).loc main_arg6) = w6) (e7 : m ((c.tc : Thread nD τ).loc main_arg7) = w7)
    (h : Terms.Holds x g a b n) (r : Fin 94208) (d : Fin 1024) :
    (res_main_v44 m c : Vec Ideal S94208x1024 .f32) (ix2 r d) = moe x g a b n w5 w6 w7 r d := by
  unfold res_main_v44
  clean_types
  rw [e0, e1, e2, e3, e4, e5, e6, e7]
  pointwise
  rw [show id (constantI S_ 32 256#32) ix0 = 256#32 from rfl, tile_word r, show id (constant (F := Ideal) S_ FTy.f32 0#32) ix0 = (0 : EReal) from Ideal.ofBits_zero_f32]
  have hr := r.isLt
  obtain ⟨p0, p1⟩ := Model.gate_real (x (ix2 r 512)) (h.gate _ (by show 512 ≤ (512 : Fin 640).val; decide) (by show (512 : Fin 640).val < 514; decide))
  obtain ⟨q0, q1⟩ := Model.gate_real (x (ix2 r 513)) (h.gate _ (by show 512 ≤ (513 : Fin 640).val; decide) (by show (513 : Fin 640).val < 514; decide))
  have hs : (BitVec.ofNat 32 (r.val / 256)).toInt = ((tile r).val : ℤ) := WordCmp.toInt_ofNat_of_lt (by omega)
  have hsum := Model.one_hot_sum (pick (g (ix1 (tile r))) (a (ix1 (tile r)))) (pick (g (ix1 (tile r))) (b (ix1 (tile r)))) _ _ p0 q0 (fun e => through x w5 w6 w7 r e d)
  unfold moe
  rw [← hsum, WordCmp.cmpi_slt_eq, hs]
  have sel : ∀ (P : Prop) [Decidable P] (u v : EReal), Scalar.select (BitVec.ofBool (decide P)) u v = if P then u else v := fun P _ u v => by
    by_cases hp : P <;> simp [hp, Scalar.select]
  refine (sel _ _ _).trans (congrArg (fun s => if ((tile r).val : ℤ) < (n (ix1 0)).toInt then s else 0) (Finset.sum_congr rfl fun e _ => ?_))
  have o1 := one_hot (g (ix1 (tile r))) (a (ix1 (tile r))) (h.g _) (h.a _) e
  have o2 := one_hot (g (ix1 (tile r))) (b (ix1 (tile r))) (h.g _) (h.b _) e
  refine congrArg₂ (· * ·) ?_ ?_
  · rw [Finset.univ_unique, Finset.sum_singleton, Finset.sum_singleton]
    exact congrArg₂ (· + ·) (congrArg (· * _) o1) (congrArg (· * _) o2)
  · unfold Model.through Model.expert
    refine Finset.sum_congr rfl fun f _ => ?_
    have l5 : ∀ w : Vec Ideal S32x1024x256 .f32, (∑ k : Fin 512, w (ix3 e ⟨k.val, by omega⟩ f) * Ideal.ofBits FTy.f32 (IntOp.shli ArithUnit.host (x (ix2 r ⟨k.val, by omega⟩)) 16#32)
        + ∑ k : Fin 512, w (ix3 e ⟨512 + k.val, by omega⟩ f) * Ideal.ofBits FTy.f32 (IntOp.andi (x (ix2 r ⟨k.val, by omega⟩)) 4294901760#32) : EReal)
        = lin (fun k => x (ix2 r ⟨k.val, by omega⟩)) (fun k => w (ix3 e k f)) := fun w =>
      congrArg₂ (· + ·) (Finset.sum_congr rfl fun k _ => (mul_comm _ _).trans (congrArg (· * _) (Model.widen_lo _)))
        (Finset.sum_congr rfl fun k _ => (mul_comm _ _).trans (congrArg (· * _) (Model.widen_hi _)))
    have e5 := l5 w5
    have e6 := l5 w6
    refine congrArg (· * w7 (ix3 e f d)) ?_
    show _ = lin _ _ * Ideal.logistic (lin _ _) * lin _ _
    rw [← e5, ← e6]
    rfl
end Cert.ReferenceIdeal.Value
-- ==== Proof.Claims.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_pre
public import proofs.«01_k».proof.Proof.Terms
public import proofs.«01_k».proof.Proof.Drive
public import proofs.«01_k».proof.Proof.Bits.Drive
public import proofs.«01_k».proof.Proof.KerValue
public import proofs.«01_k».proof.Proof.RefValue
public import Idealize.ShloMosaic.Lib.Bf16PairInverse
public import Idealize.ShloMosaic.Lib.Quiescent

/-!
The frames of the three programs, the ideal pass's statements, and the value: over the extended reals kernel and
reference both leave the mixture of experts of their arguments. The tables are good where the precondition holds.
-/

@[expose] public section

set_option maxRecDepth 16384

noncomputable section

namespace Cert.Claims

open Idealize.ShloMosaic Idealize.SL.Sem

instance bits_nonempty (e : EltTy) : Nonempty (Elt Bits e) := by cases e <;> exact ⟨(0 : BitVec _)⟩
instance ideal_nonempty (e : EltTy) : Nonempty (Elt Ideal e) := by
  cases e <;> first | exact ⟨(0 : BitVec _)⟩ | exact ⟨(0 : EReal)⟩

theorem pre_ideal (m : (ℓ : Loc KernelIdeal.nD KernelIdeal.τ KernelIdeal.sig) → Buf (Elt Ideal) ℓ) (h : Cert.Pre_KernelIdeal m) (c : Dev KernelIdeal.nD) :
    Terms.Holds (m ((c.tc : Thread KernelIdeal.nD KernelIdeal.τ).loc KernelIdeal.main_arg0)) (m ((c.tc : Thread KernelIdeal.nD KernelIdeal.τ).loc KernelIdeal.main_arg1))
      (m ((c.tc : Thread KernelIdeal.nD KernelIdeal.τ).loc KernelIdeal.main_arg2)) (m ((c.tc : Thread KernelIdeal.nD KernelIdeal.τ).loc KernelIdeal.main_arg3))
      (m ((c.tc : Thread KernelIdeal.nD KernelIdeal.τ).loc KernelIdeal.main_arg4)) :=
  Terms.holds _ _ _ _ _ _ _ _ (h c)

theorem good_ideal (m : (ℓ : Loc KernelIdeal.nD KernelIdeal.τ KernelIdeal.sig) → Buf (Elt Ideal) ℓ) (h : Cert.Pre_KernelIdeal m) :
    KernelIdeal.Experts.Good (KernelIdeal.Experts.tabsOf (KernelIdeal.Experts.tabs0 m)) :=
  let T := pre_ideal m h 0
  ⟨T.n _, T.g, T.a, T.b⟩

theorem pre_bits (m : (ℓ : Loc Kernel.nD Kernel.τ Kernel.sig) → Buf (Elt Bits) ℓ) (h : Cert.Pre_Kernel m) (c : Dev Kernel.nD) :
    Terms.Holds (m ((c.tc : Thread Kernel.nD Kernel.τ).loc Kernel.main_arg0)) (m ((c.tc : Thread Kernel.nD Kernel.τ).loc Kernel.main_arg1))
      (m ((c.tc : Thread Kernel.nD Kernel.τ).loc Kernel.main_arg2)) (m ((c.tc : Thread Kernel.nD Kernel.τ).loc Kernel.main_arg3))
      (m ((c.tc : Thread Kernel.nD Kernel.τ).loc Kernel.main_arg4)) :=
  Terms.holds _ _ _ _ _ _ _ _ (h c)

theorem good_bits (m : (ℓ : Loc Kernel.nD Kernel.τ Kernel.sig) → Buf (Elt Bits) ℓ) (h : Cert.Pre_Kernel m) :
    Kernel.Experts.Good (Kernel.Experts.tabsOf (Kernel.Experts.tabs0 m)) :=
  let T := pre_bits m h 0
  ⟨T.n _, T.g, T.a, T.b⟩

theorem frame_p : Cert.quiescent_Kernel := fun m ρ h =>
  (θ_run Cert.Kernel.defs _ _).mono (fun _ h => ⟨fun c => (h.1 c).2, h.2⟩) (Kernel.Experts.run m ρ (good_bits m h))

theorem frame_pi : Cert.quiescent_KernelIdeal := fun m ρ h =>
  (θ_run Cert.KernelIdeal.defs _ _).mono (fun _ h => ⟨fun c => (h.1 c).2, h.2⟩) (KernelIdeal.Experts.run m ρ (good_ideal m h))

theorem ref_run (m : (ℓ : Loc ReferenceIdeal.nD ReferenceIdeal.τ ReferenceIdeal.sig) → Buf (Elt Ideal) ℓ) (ρ : Dev ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0) :=
  (θ_run Cert.ReferenceIdeal.defs _ _).mono (fun r h => ⟨fun c => (h c).2, sem_eq_zero_of_no_sems (by decide) r.2⟩)
    (ReferenceIdeal.Value.run (F := Ideal) m ρ)

theorem frame_ri : Cert.quiescent_ReferenceIdeal := fun m ρ _ => ref_run m ρ

theorem frame_ri_pre : Cert.quiescent_ReferenceIdeal_pre_pre := fun m ρ _ => ref_run m ρ

theorem preserves : Cert.preserves_Kernel_KernelIdeal :=
  open Cert.KernelIdeal IdealRules.bf16_pair in
  ⟨bufferStatement S94208x2x512 S94208x1x512, bufferStatement S256x2x512 S256x1x512, packStatement S256x512, statement S256x2x512 S256x1x512,
    selectZeroStatement S256x512, bufferStatement S1024x2x512 S1024x1x512, statement S1024x2x512 S1024x1x512, statement S2048x512 S1024x512⟩

theorem algebraic : Cert.algebraic_KernelIdeal_ReferenceIdeal := fun m g m' g' hp he => by
  refine ⟨fun c => KernelIdeal.Experts.result m (good_ideal m hp) c, ?_, ?_⟩
  · exact (θ_run Cert.KernelIdeal.defs _ _).mono (fun _ h c => h.1 c) (KernelIdeal.Experts.run m g (good_ideal m hp))
  · refine (θ_run Cert.ReferenceIdeal.defs _ _).mono (fun r h c => ⟨(h c).1.trans ?_, (h c).2⟩) (ReferenceIdeal.Value.run (F := Ideal) m' g')
    obtain ⟨e0, e1, e2, e3, e4, e5, e6, e7⟩ := he c
    have H := pre_ideal m hp c
    funext i
    obtain ⟨p, d, rfl⟩ : ∃ (p : Fin 94208) (d : Fin 1024), i = (ix2 p d : Model.SO.Idx) :=
      ⟨i (0 : Fin 2), i (1 : Fin 2), by funext a; match a with | ⟨0, _⟩ => rfl | ⟨1, _⟩ => rfl⟩
    exact (ReferenceIdeal.Value.res_eq m' c _ _ _ _ _ _ _ _ e0 e1 e2 e3 e4 e5 e6 e7 H p d).trans
      (KernelIdeal.Experts.result_eq m (good_ideal m hp) c H p d).symm

end Cert.Claims

end
-- ==== Proof.Combine.Rows.lean ====
module

public import proofs.«01_k».proof.Kernel2Ideal
public import proofs.«01_k».proof.Proof.Gen.Kernel2Ideal.Skeleton
public import Idealize.ShloMosaic.Lib.Tactic
public import Idealize.ShloMosaic.Lib.Batch
public import Idealize.ShloMosaic.Lib.Transfers
public import Idealize.ShloMosaic.Lib.Ring
public import Idealize.ShloMosaic.Lib.ValueLayout

/-!
The gather buffer of the final call, by rows: two slots of 1024 rows, a row filled by one transfer of one row of the
experts' array. What a row's transfer leaves, the read share it uses, and the batch of a slot's transfers.
-/

@[expose] public section

set_option maxRecDepth 16384

noncomputable section

namespace Cert.Kernel2Ideal.Combine

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.Sem Idealize.SL.ProofMode
open Cert.Kernel2Ideal Cert.Kernel2Ideal.Gen
open Idealize.ShloMosaic.ValueIdx

variable {F : FTy → Type} [FloatOps F]

abbrev UU := UR sig nD τ × Counters
local notation "𝕄" => MT nD τ sig Unit (Elt F) ℕ UU ℕ

/-! ## The chains' closed forms -/

theorem off5_eq : ∀ i : grid0.Coords, k0_off5 i = ![1 - (i 0).val % 2] := by decide +kernel
theorem off6_eq : ∀ i : grid0.Coords, k0_off6 i = ![1 - (i 0).val % 2, 0, 0] := by decide +kernel
theorem off9_eq : ∀ i : grid0.Coords, k0_off9 i = ![(i 0).val % 2] := by decide +kernel
theorem off10_eq : ∀ i : grid0.Coords, k0_off10 i = ![(i 0).val % 2, 0, 0] := by decide +kernel
theorem off11_eq : ∀ i : grid0.Coords, k0_off11 i = ![(i 0).val % 2, 0, 0] := by decide +kernel
theorem trips1 : k0_t1_loop.trips = 1024 := by decide +kernel
theorem trips2 : k0_t2_loop.trips = 1024 := by decide +kernel
theorem trips3 : k0_t3_loop.trips = 1024 := by decide +kernel

/-! ## Rows of the gather buffer -/

/-- The cells of row `r` of slot `s`. -/
def rowset (s : Fin 2) (r : Fin 1024) : Finset S2x1024x512.Idx := Finset.univ.filter fun y => (y 0).val = s.val ∧ (y 1).val = r.val

theorem mem_rowset (s : Fin 2) (r : Fin 1024) (y : S2x1024x512.Idx) : y ∈ rowset s r ↔ ((y 0).val = s.val ∧ (y 1).val = r.val) := by
  unfold rowset; rw [Finset.mem_filter]; exact ⟨fun h => h.2, fun h => ⟨Finset.mem_univ _, h⟩⟩

/-- The slot at offsets `o`, as a matrix. -/
abbrev slotM (o : Fin 3 → ℕ) (ho : ∀ a, o a + S1x1024x512.size a ≤ S2x1024x512.size a) : Memref sig .tc .vmem S1024x512 .i32 :=
  ((Memref.whole cc0_scratch0).slice (Rect.unit (s := S2x1024x512) o S1x1024x512.size ho) (fun _ => rfl)).squeeze S1024x512 squeezes_S1x1024x512_S1024x512

/-- The row at offsets `q` of the slot at offsets `o`. -/
abbrev rowM (o : Fin 3 → ℕ) (ho : ∀ a, o a + S1x1024x512.size a ≤ S2x1024x512.size a) (q : Fin 2 → ℕ) (hq : ∀ a, q a + S1x512.size a ≤ S1024x512.size a) : Memref sig .tc .vmem S1x512 .i32 :=
  (slotM o ho).slice (Rect.unit (s := S1024x512) q S1x512.size hq) (fun _ => rfl)

/-- The row at offsets `z` of the experts' array. -/
abbrev srcM (z : Fin 2 → ℕ) (hz : ∀ a, z a + S1x512.size a ≤ S94208x512.size a) : Memref sig .tc .hbm S1x512 .i32 :=
  (Memref.whole main_arg2).slice (Rect.unit (s := S94208x512) z S1x512.size hz) (fun _ => rfl)

theorem row_emb (s : Fin 2) (r : Fin 1024) (o : Fin 3 → ℕ) (ho) (q : Fin 2 → ℕ) (hq) (eo : o = ![s.val, 0, 0]) (eq : q = ![r.val, 0]) (x : S1x512.Idx) :
    (rowM o ho q hq).view.emb x = ix3 (n0 := 2) (n1 := 1024) (n2 := 512) s r (x 1) := by
  subst eo eq
  have e1 : (Rect.unit (s := S1024x512) ![r.val, 0] S1x512.size hq).emb x = ix2 (n0 := 1024) (n1 := 512) r (x 1) := by
    funext a
    have h0 : (x 0).val < 1 := (x 0).isLt
    fin_cases a <;> apply Fin.ext
    · show r.val + 1 * (x 0).val = r.val; omega
    · show 0 + 1 * (x 1).val = (x 1).val; omega
  show (Rect.unit (s := S2x1024x512) ![s.val, 0, 0] S1x1024x512.size ho).emb (Shape.reshapeEquiv _ ((Rect.unit (s := S1024x512) ![r.val, 0] S1x512.size hq).emb x)) = _
  rw [e1]
  erw [reshapeEquiv_ix2_1ab]
  funext a
  fin_cases a <;> apply Fin.ext
  · show s.val + 1 * 0 = s.val; omega
  · show 0 + 1 * r.val = r.val; omega
  · show 0 + 1 * (x 1).val = (x 1).val; omega

theorem row_set (s : Fin 2) (r : Fin 1024) (o : Fin 3 → ℕ) (ho) (q : Fin 2 → ℕ) (hq) (eo : o = ![s.val, 0, 0]) (eq : q = ![r.val, 0]) :
    (rowM o ho q hq).view.set = rowset s r := by
  ext y
  rw [mem_rowset]
  constructor
  · intro h
    obtain ⟨x, -, rfl⟩ := Finset.mem_map.mp h
    have e : (rowM o ho q hq).view.emb x = _ := row_emb s r o ho q hq eo eq x
    rw [e]
    exact ⟨rfl, rfl⟩
  · rintro ⟨h0, h1⟩
    refine Finset.mem_map.mpr ⟨ix2 (n0 := 1) (n1 := 512) 0 (y 2), Finset.mem_univ _, ?_⟩
    refine (row_emb s r o ho q hq eo eq _).trans ?_
    funext a
    fin_cases a <;> apply Fin.ext
    · exact h0.symm
    · exact h1.symm
    · rfl

/-- The row of the experts' array a word names. -/
def rowNo (v : BitVec 32) : Fin 94208 := ⟨v.toNat % 94208, Nat.mod_lt _ (by norm_num)⟩

/-- The rows the words `p` name, in the gather buffer's shape: the same in both slots. -/
def gath (p : Fin 1024 → BitVec 32) (w : S94208x512.Idx → BitVec 32) : S2x1024x512.Idx → BitVec 32 :=
  fun y => w (ix2 (n0 := 94208) (n1 := 512) (rowNo (p (y 1))) (y 2))

theorem src_emb (v : BitVec 32) (hv : v.toNat < 94208) (z : Fin 2 → ℕ) (hz) (ez : z = ![v.toNat, 0]) (x : S1x512.Idx) :
    (srcM z hz).view.emb x = ix2 (n0 := 94208) (n1 := 512) (rowNo v) (x 1) := by
  subst ez
  show (Rect.unit (s := S94208x512) ![v.toNat, 0] S1x512.size hz).emb x = _
  have h0 : (x 0).val < 1 := (x 0).isLt
  funext a
  fin_cases a <;> apply Fin.ext
  · show v.toNat + 1 * (x 0).val = v.toNat % 94208; rw [Nat.mod_eq_of_lt hv]; omega
  · show 0 + 1 * (x 1).val = (x 1).val; omega

/-- What a row's transfer leaves in its row. -/
theorem row_written (c : Dev nD) (s : Fin 2) (r : Fin 1024) (p : Fin 1024 → BitVec 32) (hp : (p r).toNat < 94208) (o : Fin 3 → ℕ) (ho) (q : Fin 2 → ℕ) (hq) (z : Fin 2 → ℕ) (hz)
    (eo : o = ![s.val, 0, 0]) (eq : q = ![r.val, 0]) (ez : z = ![(p r).toNat, 0]) (w : S94208x512.Idx → BitVec 32) (fd : S2x1024x512.Idx → BitVec 32) :
    ∀ y ∈ rowset s r, (rowM o ho q hq).view.write (Elt F) fd ((ReadAs.same (Val := Elt F)).apply ((srcM z hz).view.read (Elt F) w)) Finset.univ y = gath p w y := by
  intro y hy
  have hy' := (mem_rowset s r y).mp hy
  have ey : y = (rowM o ho q hq).view.emb (ix2 (n0 := 1) (n1 := 512) 0 (y 2)) := by
    refine ((row_emb s r o ho q hq eo eq _).trans ?_).symm
    funext a
    fin_cases a <;> apply Fin.ext
    · exact hy'.1.symm
    · exact hy'.2.symm
    · rfl
  have e2 : y 1 = r := Fin.ext hy'.2
  rw [ey, View.write_emb_of_mem _ _ (Finset.mem_univ _), ← ey, ReadAs.apply_same]
  show w ((srcM z hz).view.emb (ix2 (n0 := 1) (n1 := 512) 0 (y 2))) = gath p w y
  rw [src_emb (p r) hp z hz ez]
  unfold gath
  rw [e2]

end Cert.Kernel2Ideal.Combine
-- ==== Proof.Combine.Transfer.lean ====
module

public import proofs.«01_k».proof.Proof.Combine.Rows

/-!
The transfers of one slot of the gather buffer as one batch on the slot's semaphore: issuing a row, waiting for a row.
-/

@[expose] public section

set_option maxRecDepth 16384

noncomputable section

namespace Cert.Kernel2Ideal.Combine

open Idealize.ShloMosaic Idealize.ShloMosaic.TcCoe Idealize.ShloMosaic.Tactic
open Idealize.SL Idealize.SL.RA
open Idealize.SL.BI (sProp bigSep bigSep_insert)
open scoped Idealize.SL.BI
open Idealize.SL.BI.BIBase Idealize.SL.BI.Laws Idealize.SL.Sem Idealize.SL.ProofMode
open Cert.Kernel2Ideal Cert.Kernel2Ideal.Gen
open Idealize.ShloMosaic.ValueIdx
open Idealize.ShloMosaic.Transfers

variable {F : FTy → Type} [FloatOps F]

local notation "𝕄" => MT nD τ sig Unit (Elt F) ℕ UU ℕ

/-- The semaphore at offset `o` of the two. -/
abbrev semM (o : Fin 1 → ℕ) (ho : ∀ a, o a + S1.size a ≤ S2.size a) : DmaSem sig :=
  ((cc0_scratch1.slice (Rect.unit (s := S2) o S1.size ho)).squeeze S_ squeezes_S1_S_).sem

theorem sem_inb (s : Fin 2) : ∀ a, (![s.val] : Fin 1 → ℕ) a + S1.size a ≤ S2.size a := by
  intro a; fin_cases a; have := s.isLt; show s.val + 1 ≤ 2; omega

/-- Slot `s`'s semaphore. -/
def dsem (s : Fin 2) : DmaSem sig := semM ![s.val] (sem_inb s)

theorem semM_eq (s : Fin 2) (o : Fin 1 → ℕ) (ho) (eo : o = ![s.val]) : semM o ho = dsem s := by subst eo; rfl

/-- What one row's transfer credits. -/
abbrev NN : ℕ := Ref.dmaCredit cc0_scratch0 S1x512 .i32

theorem NN_pos : 0 < NN := sig.dmaCredit_pos _ _ _ _ _ (by decide)

variable (c : Dev nD)

/-- Row `r` of slot `s`, held at `g`. -/
def rowAt (s : Fin 2) (r : Fin 1024) (g : S2x1024x512.Idx → BitVec 32) : sProp 𝕄 :=
  (Memref.whole cc0_scratch0).view.loc (c : Thread nD τ) ↦[rowset s r]{fullShare} g

/-- The read share of the experts' array that row `r` of slot `s` uses. -/
def tokAt (w : S94208x512.Idx → BitVec 32) (s : Fin 2) (r : Fin 1024) : sProp 𝕄 :=
  (Memref.whole main_arg2).view.loc (c : Thread nD τ) ↦{Transfers.shareTokN (Transfers.shareTokN fullShare s.val) r.val} w

/-- A row with nothing under way: held at anything, and its read share. -/
def freeRow (w : S94208x512.Idx → BitVec 32) (s : Fin 2) (r : Fin 1024) : sProp 𝕄 :=
  iprop((∃ g : S2x1024x512.Idx → BitVec 32, rowAt (F := F) c s r g) ∗ tokAt (F := F) c w s r)

/-- A row brought: it holds the row its word names, and its read share is back. -/
def doneRow (w : S94208x512.Idx → BitVec 32) (p : Fin 1024 → BitVec 32) (s : Fin 2) (r : Fin 1024) : sProp 𝕄 :=
  iprop(rowAt (F := F) c s r (gath p w) ∗ tokAt (F := F) c w s r)

instance doneRow_storable (w : S94208x512.Idx → BitVec 32) (p : Fin 1024 → BitVec 32) (s : Fin 2) (r : Fin 1024) :
    BI.Storable (upEmb : UEmb _ 𝕄) (doneRow (F := F) c w p s r) := by
  unfold doneRow rowAt tokAt; infer_instance

/-- The batch of slot `s`: `k` rows issued, `u` units waited for. -/
def bat (w : S94208x512.Idx → BitVec 32) (p : Fin 1024 → BitVec 32) (s : Fin 2) (k u : ℕ) : sProp 𝕄 :=
  Batch (countersEmb (U := UU)) (c : Thread nD τ) (.dma (dsem s)) () NN (fun r : Fin 1024 => doneRow (F := F) c w p s r) k u

/-- A slot with nothing under way. -/
def idle (w : S94208x512.Idx → BitVec 32) (s : Fin 2) : sProp 𝕄 :=
  iprop(semVal ((c : Thread nD τ), SemLoc.dma (dsem s)) 0 ∗ bigSep Finset.univ (freeRow (F := F) c w s))

/-- A slot whose 1024 rows are under way. -/
def busy (w : S94208x512.Idx → BitVec 32) (p : Fin 1024 → BitVec 32) (s : Fin 2) : sProp 𝕄 := bat (F := F) c w p s 1024 0

/-- Issuing row `r` of slot `s`. -/
theorem issue_row {𝒱 : Variants} (bd : Option 𝒱.V) {α : Type} {Q : α → sProp 𝕄} (w : S94208x512.Idx → BitVec 32) (p : Fin 1024 → BitVec 32) (s : Fin 2) (r : Fin 1024) (hp : (p r).toNat < 94208)
    (o : Fin 3 → ℕ) (ho) (q : Fin 2 → ℕ) (hq) (z : Fin 2 → ℕ) (hz) (eo : o = ![s.val, 0, 0]) (eq : q = ![r.val, 0]) (ez : z = ![(p r).toNat, 0])
    (sm : DmaSem sig) (es : sm = dsem s) (h1) (h2) (h3) (k : PUnit → Prog (TpuEff nD τ sig (Elt F) Λ₀ .tc) α) :
    iprop(freeRow (F := F) c w s r ∗ bat (F := F) c w p s r.val 0)
      ⊢ iprop((bat (F := F) c w p s (r.val + 1) 0 -∗ wp frame (wpE (defs₀ (F := F)) 𝒱 (c : Thread nD τ) bd) Set.univ (k ⟨⟩) Q)
          -∗ wp frame (wpE (defs₀ (F := F)) 𝒱 (c : Thread nD τ) bd) Set.univ (.op (.enqueueDmaAs (srcM z hz) (.here (rowM o ho q hq)) .same (.dma sm) h1 h2 h3) k) Q) := by
  subst es
  unfold freeRow bat Batch
  iintro ⟨⟨⟨%g, Hg⟩, Ht⟩, ⟨%γ, %γ₀, %κ, #Hinv, HI, H0, Hcred⟩⟩ Hk
  ihave HI' := (show bigSep (pending r.val) (fun t => count countersEmb (γ t) 0) ⊢ iprop(count countersEmb (γ r) 0 ∗ bigSep (pending (r.val + 1)) (fun t => count countersEmb (γ t) 0))
    from Entails.of_eq (by rw [pending_succ r.isLt, bigSep_insert (not_mem_pending_succ r.isLt)]; rfl)) $$ HI
  icases HI' with ⟨Hc, HI⟩
  unfold tokAt
  ihave Ht' := (show (_ : sProp 𝕄) ⊢ _ from (pointsTo_split_subset (Finset.subset_univ (srcM z hz).view.set)).1) $$ Ht
  icases Ht' with ⟨Hs, Hput⟩
  have hres : iprop(((Memref.whole main_arg2).view.loc (c : Thread nD τ) ↦[Finset.univ \ (srcM z hz).view.set]{shareTokN (Transfers.shareTokN fullShare s.val) r.val} w)
      ∗ (((rowM o ho q hq).view.loc (c : Thread nD τ) ↦[rowset s r]{fullShare} ((rowM o ho q hq).view.write (Elt F) g ((ReadAs.same (Val := Elt F)).apply ((srcM z hz).view.read (Elt F) w)) Finset.univ))
        ∗ ((srcM z hz).view.loc (c : Thread nD τ) ↦[(srcM z hz).view.set]{shareTokN (Transfers.shareTokN fullShare s.val) r.val} w))) ⊢ doneRow (F := F) c w p s r := by
    unfold doneRow tokAt rowAt
    iintro ⟨Hp, Hd, Hs⟩
    isplitl [Hd]
    · iapply (show ((rowM o ho q hq).view.loc (c : Thread nD τ) ↦[rowset s r]{fullShare} ((rowM o ho q hq).view.write (Elt F) g ((ReadAs.same (Val := Elt F)).apply ((srcM z hz).view.read (Elt F) w)) Finset.univ))
        ⊢ ((Memref.whole cc0_scratch0).view.loc (c : Thread nD τ) ↦[rowset s r]{fullShare} (gath p w) : sProp 𝕄)
        from Entails.of_eq (pointsTo_congr (row_written c s r p hp o ho q hq z hz eo eq ez w g))) $$ Hd
    · iapply (pointsTo_split_subset (Finset.subset_univ (srcM z hz).view.set)).2
      isplitl [Hs]; · iexact Hs
      iexact Hp
  unfold rowAt
  iapply (wp_enqueueDmaAs 𝒱 (c : Thread nD τ) bd Set.univ () NN (by rfl)) $$ [Hs Hg] [Hc Hput]
  · isplitl [Hs]; · iexact Hs
    iapply (pointsTo_writeUpdate (c : Thread nD τ) (v := (rowM o ho q hq).view) (S := rowset s r) (le_of_eq (row_set s r o ho q hq eo eq))) $$ Hg
  · iapply (batch_creditUpdate_with countersEmb (D := fun r : Fin 1024 => doneRow (F := F) c w p s r) r hres)
    isplitr; · iexact Hinv
    isplitl [Hc]; · iexact Hc
    iexact Hput
  iintro Hcred'
  iapply Hk
  iexists γ, γ₀, κ
  isplitr; · iexact Hinv
  isplitl [HI]; · iexact HI
  isplitl [H0]; · iexact H0
  rw [show (r.val + 1) * NN - 0 = (r.val * NN - 0) + NN by rw [Nat.succ_mul]; omega, ← tallyAt_add]
  icombine Hcred Hcred' as H
  iexact H

end Cert.Kernel2Ideal.Combine
-- ==== Proof.Combine.Loops.lean ====
module

public import proofs.«01_k».proof.Proof.Combine.Transfer

/-!
The three loops of the final call: the rows of the first slot issued, the rows of the next tile's slot issued, and the
rows of this tile's slot waited for.
-/

@[expose] public section

set_option maxRecDepth 16384

noncomputable section

namespace Cert.Kernel2Ideal.Combine

open Idealize.ShloMosaic Idealize.ShloMosaic.TcCoe Idealize.ShloMosaic.Tactic
open Idealize.SL Idealize.SL.RA
open Idealize.SL.BI (sProp bigSep bigSep_insert)
open scoped Idealize.SL.BI
open Idealize.SL.BI.BIBase Idealize.SL.BI.Laws Idealize.SL.Sem Idealize.SL.ProofMode
open Cert.Kernel2Ideal Cert.Kernel2Ideal.Gen
open Idealize.ShloMosaic.ValueIdx

variable {F : FTy → Type} [FloatOps F]

local notation "𝕄" => MT nD τ sig Unit (Elt F) ℕ UU ℕ

/-- A buffer's contents, held whole. -/
abbrev ptw {sp : Space} {s : Shape} {e : EltTy} (c : Dev nD) (m : Memref sig .tc sp s e) (f : Buf (Elt F) (m.view.loc (c : Thread nD τ))) : sProp 𝕄 := m.view.loc (c : Thread nD τ) ↦{fullShare} f

variable (c : Dev nD)

/-- The 1024 words of a staged block of positions. -/
def words (b : Memref sig .tc .smem S1x1x1024 .i32) (x : Buf (Elt F) (b.view.loc (c : Thread nD τ))) : Fin 1024 → BitVec 32 :=
  fun r => b.view.read (Elt F) x (ix3 (n0 := 1) (n1 := 1) (n2 := 1024) 0 0 r)

/-- Before trip `k` of an issue loop: the words held, `k` rows issued, the rows from `k` on free. -/
def issueAt (b : Memref sig .tc .smem S1x1x1024 .i32) (x : Buf (Elt F) (b.view.loc (c : Thread nD τ))) (w : S94208x512.Idx → BitVec 32) (s : Fin 2) (k : ℕ) (_ : Unit) : sProp 𝕄 :=
  iprop(ptw c b x ∗ bat (F := F) c w (words c b x) s k 0 ∗ bigSep (Ring.rangeSet 1024 k 1024) (freeRow (F := F) c w s))

theorem words_access (b : Memref sig .tc .smem S1x1x1024 .i32) (x : Buf (Elt F) (b.view.loc (c : Thread nD τ))) (r : Fin 1024) (o : Fin 3 → ℕ) (ho) (eo : o = ![0, 0, r.val]) (j : (Rect.unit (s := S1x1x1024) o S1x1x1.size ho).shape.Idx) :
    (b.access (Rect.unit (s := S1x1x1024) o S1x1x1.size ho)).read (Elt F) x j = words c b x r := by
  subst eo
  have e : (Rect.unit (s := S1x1x1024) ![0, 0, r.val] S1x1x1.size ho).emb j = ix3 (n0 := 1) (n1 := 1) (n2 := 1024) 0 0 r := by
    have h0 : (j 0).val < 1 := (j 0).isLt
    have h1 : (j 1).val < 1 := (j 1).isLt
    have h2 : (j 2).val < 1 := (j 2).isLt
    funext a
    fin_cases a <;> apply Fin.ext
    · show 0 + 1 * (j 0).val = 0; omega
    · show 0 + 1 * (j 1).val = 0; omega
    · show r.val + 1 * (j 2).val = r.val; omega
  show b.view.read (Elt F) x ((Rect.unit (s := S1x1x1024) ![0, 0, r.val] S1x1x1.size ho).emb j) = _
  rw [e]
  rfl

/-- One trip of an issue loop, at its offsets. -/
abbrev tripProg (b : Memref sig .tc .smem S1x1x1024 .i32) (oW : Fin 3 → ℕ) (hoW : ∀ a, oW a + S1x1x1.size a ≤ S1x1x1024.size a) (P : BitVec 32 → Prop) (dP : ∀ v, Decidable (P v))
    (o : Fin 3 → ℕ) (ho : ∀ a, o a + S1x1024x512.size a ≤ S2x1024x512.size a) (q : Fin 2 → ℕ) (hq : ∀ a, q a + S1x512.size a ≤ S1024x512.size a) (z : BitVec 32 → Fin 2 → ℕ) (hz : ∀ v, P v → ∀ a, z v a + S1x512.size a ≤ S94208x512.size a)
    (sm : DmaSem sig) : Prog (TpuEff nD τ sig (Elt F) Λ₀ .tc) Unit := do
  let v : Elt F .i32 ← smemLoad b (Rect.unit (s := S1x1x1024) oW S1x1x1.size hoW) numel1_S1x1x1 rfl
  have hw : P v := (← Prog.lift (TpuEff.assume (P v) (dP v))).down
  Prog.lift (.enqueueDma (srcM (z v) (hz v hw)) (.here (rowM o ho q hq)) (.dma sm) (View.wordExact_bits rfl) (View.wordExact_bits rfl) ⟨Or.inl rfl, trivial⟩)
  pure ⟨⟩

theorem tripProg_eq (b : Memref sig .tc .smem S1x1x1024 .i32) (oW : Fin 3 → ℕ) (hoW : ∀ a, oW a + S1x1x1.size a ≤ S1x1x1024.size a) (P : BitVec 32 → Prop) (dP : ∀ v, Decidable (P v))
    (o : Fin 3 → ℕ) (ho : ∀ a, o a + S1x1024x512.size a ≤ S2x1024x512.size a) (q : Fin 2 → ℕ) (hq : ∀ a, q a + S1x512.size a ≤ S1024x512.size a) (z : BitVec 32 → Fin 2 → ℕ) (hz : ∀ v, P v → ∀ a, z v a + S1x512.size a ≤ S94208x512.size a)
    (sm : DmaSem sig) : tripProg (F := F) b oW hoW P dP o ho q hq z hz sm
      = smemLoadElt b (Rect.unit (s := S1x1x1024) oW S1x1x1.size hoW) (View.loads_smem_one rfl numel1_S1x1x1) (Shape.Idx.first (numel1_S1x1x1.symm ▸ Nat.one_pos)) (fun v =>
          .op (.assume (P v) (dP v)) fun hw => .op (.enqueueDmaAs (srcM (z v) (hz v hw.down)) (.here (rowM o ho q hq)) .same (.dma sm) (View.wordExact_bits rfl) (View.wordExact_bits rfl) ⟨Or.inl rfl, trivial⟩) fun _ => .ret ⟨⟩) := rfl

/-- One trip of an issue loop: the word of row `r` read, its transfer issued. -/
theorem issue_trip (b : Memref sig .tc .smem S1x1x1024 .i32) (x : Buf (Elt F) (b.view.loc (c : Thread nD τ))) (w : S94208x512.Idx → BitVec 32) (s : Fin 2) (r : Fin 1024) (hp : (words c b x r).toNat < 94208)
    (oW : Fin 3 → ℕ) (hoW) (eoW : oW = ![0, 0, r.val]) (P : BitVec 32 → Prop) (dP : ∀ v, Decidable (P v)) (hP : P (words c b x r))
    (o : Fin 3 → ℕ) (ho) (q : Fin 2 → ℕ) (hq) (z : BitVec 32 → Fin 2 → ℕ) (hz : ∀ v, P v → ∀ a, z v a + S1x512.size a ≤ S94208x512.size a)
    (eo : o = ![s.val, 0, 0]) (eq : q = ![r.val, 0]) (ez : ∀ v, z v = ![v.toNat, 0])
    (sm : DmaSem sig) (es : sm = dsem s) (Q : Unit → sProp 𝕄) :
    iprop(ptw c b x ∗ freeRow (F := F) c w s r ∗ bat (F := F) c w (words c b x) s r.val 0)
      ⊢ iprop((ptw c b x -∗ bat (F := F) c w (words c b x) s (r.val + 1) 0 -∗ Q ⟨⟩)
        -∗ wp frame (wpE (defs₀ (F := F)) Variants.none (c : Thread nD τ) none) Set.univ
          (tripProg (F := F) b oW hoW P dP o ho q hq z hz sm) Q) := by
  rw [tripProg_eq]
  iintro ⟨HX, HF, HB⟩ Hk
  iapply (wp_smemLoadElt Variants.none (c : Thread nD τ) none Set.univ (m := b) (r := Rect.unit (s := S1x1x1024) oW S1x1x1.size hoW) (Finset.subset_univ _)) $$ HX
  iintro HX
  rw [words_access c b x r oW hoW eoW]
  iapply (wp_assume Variants.none (c : Thread nD τ) none Set.univ hP)
  iapply (issue_row c none w (words c b x) s r hp o ho q hq (z (words c b x r)) (hz _ hP) eo eq (ez _) sm es _ _ _ _) $$ [HF HB]
  · isplitl [HF]; · iexact HF
    iexact HB
  iintro HB
  rw [wp_ret]
  imodintro
  iapply Hk $$ HX HB

variable (i : grid0.Coords) (b1 : Memref sig .tc .smem S1x1x1024 .i32) (hb1 : b1.IsWhole) (b2 : Memref sig .tc .smem S1x1x1024 .i32) (hb2 : b2.IsWhole)
  (b3 : Memref sig .tc .vmem S1024x1024 .f32) (hb3 : b3.IsWhole) (b5 : Memref sig .tc .vmem S1x1024 .f32) (hb5 : b5.IsWhole) (b6 : Memref sig .tc .vmem S1024x1024 .f32) (hb6 : b6.IsWhole)

theorem issue1_step (x : Buf (Elt F) (b1.view.loc (c : Thread nD τ))) (w : S94208x512.Idx → BitVec 32) (hp : ∀ r, (words c b1 x r).toNat < 94208) (h : k0_cond1 i = 1#1)
    (k : Fin k0_t1_loop.trips) (acc : Unit) :
    issueAt (F := F) c b1 x w 0 k acc ⊢ wp frame (wpE (defs₀ (F := F)) Variants.none (c : Thread nD τ) none) Set.univ
      (k0_t1_body i b1 hb1 b2 hb2 b3 hb3 (Memref.whole main_arg2) (Memref.isWhole_whole _) b5 hb5 b6 hb6 (Memref.whole cc0_scratch0) (Memref.isWhole_whole _) cc0_scratch1 h k acc)
      (issueAt (F := F) c b1 x w 0 (k.val + 1)) := by
  have hk : k.val < 1024 := lt_of_lt_of_eq k.isLt trips1
  have hc : k0_chk1 i (words c b1 x ⟨k.val, hk⟩) := by
    intro _ a
    have := hp ⟨k.val, hk⟩
    fin_cases a
    · show (words c b1 x ⟨k.val, hk⟩).toNat + 1 ≤ 94208; omega
    · show 0 + 512 ≤ 512; omega
  unfold issueAt
  rw [Ring.bigSep_rangeSet_head (Φ := freeRow (F := F) c w 0) hk hk]
  iintro ⟨HX, HB, HF, HFs⟩
  unfold k0_t1_body
  iapply (issue_trip c b1 x w 0 ⟨k.val, hk⟩ (hp _) (k0_off1 k) _ (k0_off1_eq k) (k0_chk1 i) (k0_chk1.dec i) hc ![0, 0, 0] _ (k0_off2 k) _ k0_off3 (fun v hv => k0_off3_inb i v hv h) rfl (k0_off2_eq k) (fun _ => rfl)
    (semM ![0] inb_S2_S1_0) (semM_eq 0 _ _ rfl) _) $$ [HX HF HB]
  · isplitl [HX]; · iexact HX
    isplitl [HF]; · iexact HF
    iexact HB
  iintro HX HB
  isplitl [HX]; · iexact HX
  isplitl [HB]; · iexact HB
  iexact HFs

theorem issue2_step (x : Buf (Elt F) (b2.view.loc (c : Thread nD τ))) (w : S94208x512.Idx → BitVec 32) (s : Fin 2) (hs : 1 - (i 0).val % 2 = s.val) (hp : ∀ r, (words c b2 x r).toNat < 94208) (h : k0_cond2 i = 1#1)
    (k : Fin k0_t2_loop.trips) (acc : Unit) :
    issueAt (F := F) c b2 x w s k acc ⊢ wp frame (wpE (defs₀ (F := F)) Variants.none (c : Thread nD τ) none) Set.univ
      (k0_t2_body i b1 hb1 b2 hb2 b3 hb3 (Memref.whole main_arg2) (Memref.isWhole_whole _) b5 hb5 b6 hb6 (Memref.whole cc0_scratch0) (Memref.isWhole_whole _) cc0_scratch1 h k acc)
      (issueAt (F := F) c b2 x w s (k.val + 1)) := by
  have hk : k.val < 1024 := lt_of_lt_of_eq k.isLt trips2
  have hc : k0_chk2 i (words c b2 x ⟨k.val, hk⟩) := by
    intro _ a
    have := hp ⟨k.val, hk⟩
    fin_cases a
    · show (words c b2 x ⟨k.val, hk⟩).toNat + 1 ≤ 94208; omega
    · show 0 + 512 ≤ 512; omega
  unfold issueAt
  rw [Ring.bigSep_rangeSet_head (Φ := freeRow (F := F) c w s) hk hk]
  iintro ⟨HX, HB, HF, HFs⟩
  unfold k0_t2_body
  iapply (issue_trip c b2 x w s ⟨k.val, hk⟩ (hp _) (k0_off4 k) _ (k0_off4_eq k) (k0_chk2 i) (k0_chk2.dec i) hc (k0_off6 i) _ (k0_off7 k) _ k0_off8 (fun v hv => k0_off8_inb i v hv h) ((off6_eq i).trans (by rw [hs])) (k0_off7_eq k) (fun _ => rfl)
    (semM (k0_off5 i) (k0_off5_inb i h)) (semM_eq s _ _ ((off5_eq i).trans (by rw [hs]))) _) $$ [HX HF HB]
  · isplitl [HX]; · iexact HX
    isplitl [HF]; · iexact HF
    iexact HB
  iintro HX HB
  isplitl [HX]; · iexact HX
  isplitl [HB]; · iexact HB
  iexact HFs

/-- Before trip `k` of the waiting loop: short of the last trip, `k` rows' units waited for; after it, every row brought. -/
def drainAt (w : S94208x512.Idx → BitVec 32) (p : Fin 1024 → BitVec 32) (s : Fin 2) (k : ℕ) (_ : Unit) : sProp 𝕄 :=
  iprop((∃ W : Waits sig Unit, owes (c : Thread nD τ) 0 W)
    ∗ (if k < 1024 then bat (F := F) c w p s 1024 (k * NN)
       else iprop(semVal ((c : Thread nD τ), SemLoc.dma (dsem s)) 0 ∗ bigSep Finset.univ (doneRow (F := F) c w p s))))

/-- One trip of the waiting loop, at its offsets. -/
abbrev waitProg (o : Fin 3 → ℕ) (ho : ∀ a, o a + S1x1024x512.size a ≤ S2x1024x512.size a) (sm : DmaSem sig) : Prog (TpuEff nD τ sig (Elt F) Λ₀ .tc) Unit := do
  Prog.lift (.waitDma2 sm (srcM ![0, 0] inb_S94208x512_S1x512_0_0) (rowM o ho ![0, 0] inb_S1024x512_S1x512_0_0) (View.wordExact_bits rfl) (View.wordExact_bits rfl))
  pure ⟨⟩

theorem waitProg_eq (o : Fin 3 → ℕ) (ho : ∀ a, o a + S1x1024x512.size a ≤ S2x1024x512.size a) (sm : DmaSem sig) :
    waitProg (F := F) o ho sm = .op (.waitDma2 sm (srcM ![0, 0] inb_S94208x512_S1x512_0_0) (rowM o ho ![0, 0] inb_S1024x512_S1x512_0_0) (View.wordExact_bits rfl) (View.wordExact_bits rfl)) fun _ => .ret ⟨⟩ := rfl

theorem wait_trip (w : S94208x512.Idx → BitVec 32) (p : Fin 1024 → BitVec 32) (s : Fin 2) (o : Fin 3 → ℕ) (ho) (sm : DmaSem sig) (es : sm = dsem s) (k : ℕ) (hk : k < 1024) (acc : Unit) :
    drainAt (F := F) c w p s k acc ⊢ wp frame (wpE (defs₀ (F := F)) Variants.none (c : Thread nD τ) none) Set.univ (waitProg (F := F) o ho sm) (drainAt (F := F) c w p s (k + 1)) := by
  subst es
  rw [waitProg_eq]
  unfold drainAt
  simp only [if_pos hk]
  have hN : (rowM o ho ![0, 0] inb_S1024x512_S1x512_0_0).view.dmaCredit = NN := rfl
  rcases Nat.lt_or_ge (k + 1) 1024 with h1 | h1
  · simp only [if_pos h1]
    iintro ⟨⟨%W, HO⟩, HB⟩
    unfold bat
    iapply (Transfers.wp_waitBatch (countersEmb (U := UU)) Variants.none (c : Thread nD τ) none () hN (u := k * NN) (by
      have h2 : (k + 1) * NN < 1024 * NN := Nat.mul_lt_mul_of_pos_right h1 NN_pos
      rw [Nat.succ_mul] at h2; rw [Nat.mul_comm NN 1024]; exact h2)) $$ [HB HO]
    · isplitl [HB]; · iexact HB
      iexact HO
    iintro ⟨HB, HO⟩
    rw [wp_ret]
    imodintro
    isplitl [HO]; · iexists _; iexact HO
    rw [Nat.succ_mul]
    iexact HB
  · simp only [if_neg (Nat.not_lt.mpr h1)]
    iintro ⟨⟨%W, HO⟩, HB⟩
    unfold bat
    iapply (Transfers.wp_waitBatchLast (countersEmb (U := UU)) Variants.none (c : Thread nD τ) none () hN NN_pos (u := k * NN) (by
      have : k + 1 = 1024 := by omega
      rw [← Nat.succ_mul, Nat.succ_eq_add_one, this, Nat.mul_comm])) $$ [HB HO]
    · isplitl [HB]; · iexact HB
      iexact HO
    iintro ⟨HD, HS, HO⟩
    rw [wp_ret]
    imodintro
    isplitl [HO]; · iexists _; iexact HO
    isplitl [HS]; · iexact HS
    iexact HD

theorem drain_step (w : S94208x512.Idx → BitVec 32) (p : Fin 1024 → BitVec 32) (s : Fin 2) (hs : (i 0).val % 2 = s.val) (k : Fin k0_t3_loop.trips) (acc : Unit) :
    drainAt (F := F) c w p s k acc ⊢ wp frame (wpE (defs₀ (F := F)) Variants.none (c : Thread nD τ) none) Set.univ
      (k0_t3_body i b1 hb1 b2 hb2 b3 hb3 (Memref.whole main_arg2) (Memref.isWhole_whole _) b5 hb5 b6 hb6 (Memref.whole cc0_scratch0) (Memref.isWhole_whole _) cc0_scratch1 k acc)
      (drainAt (F := F) c w p s (k.val + 1)) := by
  have hk : k.val < 1024 := lt_of_lt_of_eq k.isLt trips3
  exact wait_trip c w p s (k0_off10 i) (k0_off10_inb i) (semM (k0_off9 i) (k0_off9_inb i)) (semM_eq s _ _ ((off9_eq i).trans (by rw [hs]))) k.val hk acc

end Cert.Kernel2Ideal.Combine
-- ==== Proof.Combine.Body.lean ====
module

public import proofs.«01_k».proof.Proof.Combine.Loops

/-!
The body of the final call at a tile: the tile's rows are waited for (and, at the first tile, issued first), the next
tile's rows are issued into the other slot, and the tile's result is stored.
-/

@[expose] public section

set_option maxRecDepth 16384

noncomputable section

namespace Cert.Kernel2Ideal.Combine

open Idealize.ShloMosaic Idealize.ShloMosaic.TcCoe Idealize.ShloMosaic.Tactic
open Idealize.SL Idealize.SL.RA
open Idealize.SL.BI (sProp bigSep bigSep_insert)
open scoped Idealize.SL.BI
open Idealize.SL.BI.BIBase Idealize.SL.BI.Laws Idealize.SL.Sem Idealize.SL.ProofMode
open Cert.Kernel2Ideal Cert.Kernel2Ideal.Gen
open Idealize.ShloMosaic.ValueIdx

variable {F : FTy → Type} [FloatOps F]

local notation "𝕄" => MT nD τ sig Unit (Elt F) ℕ UU ℕ

variable (c : Dev nD)
variable (i : grid0.Coords) (b1 : Memref sig .tc .smem S1x1x1024 .i32) (hb1 : b1.IsWhole) (b2 : Memref sig .tc .smem S1x1x1024 .i32) (hb2 : b2.IsWhole)
  (b3 : Memref sig .tc .vmem S1024x1024 .f32) (hb3 : b3.IsWhole) (b5 : Memref sig .tc .vmem S1x1024 .f32) (hb5 : b5.IsWhole) (b6 : Memref sig .tc .vmem S1024x1024 .f32) (hb6 : b6.IsWhole)

/-- The body, at its staged blocks. -/
abbrev args : Prog (TpuEff nD τ sig (Elt F) Λ₀ .tc) PUnit :=
  cc0_moe_combine_final i b1 hb1 b2 hb2 b3 hb3 (Memref.whole main_arg2) (Memref.isWhole_whole _) b5 hb5 b6 hb6 (Memref.whole cc0_scratch0) (Memref.isWhole_whole _) cc0_scratch1

/-- The cells of slot `s`. -/
abbrev slotset (s : Fin 2) : Finset S2x1024x512.Idx := Finset.univ.biUnion (rowset s)

theorem mem_slotset (s : Fin 2) (y : S2x1024x512.Idx) : y ∈ slotset s ↔ (y 0).val = s.val := by
  unfold slotset
  rw [Finset.mem_biUnion]
  constructor
  · rintro ⟨r, -, h⟩; exact ((mem_rowset s r y).mp h).1
  · intro h; exact ⟨y 1, Finset.mem_univ _, (mem_rowset s (y 1) y).mpr ⟨h, rfl⟩⟩

theorem rowset_disjoint (s : Fin 2) : ∀ r ∈ (Finset.univ : Finset (Fin 1024)), ∀ r' ∈ (Finset.univ : Finset (Fin 1024)), r ≠ r' → Disjoint (rowset s r) (rowset s r') := by
  intro r _ r' _ hne
  rw [Finset.disjoint_left]
  intro y hy hy'
  rw [mem_rowset] at hy hy'
  exact hne (Fin.ext (hy.2.symm.trans hy'.2))

/-- Slot `s`, held at `g`. -/
def slotAt (s : Fin 2) (g : S2x1024x512.Idx → BitVec 32) : sProp 𝕄 :=
  (Memref.whole cc0_scratch0).view.loc (c : Thread nD τ) ↦[slotset s]{fullShare} g

theorem slot_rows (s : Fin 2) (g : S2x1024x512.Idx → BitVec 32) : slotAt (F := F) c s g = bigSep Finset.univ (fun r => rowAt (F := F) c s r g) := by
  unfold slotAt rowAt
  exact pointsTo_biUnion _ _ (rowset_disjoint s)

/-- An idle slot's batch, with nothing issued. -/
theorem idle_start (w : S94208x512.Idx → BitVec 32) (p : Fin 1024 → BitVec 32) (s : Fin 2) :
    idle (F := F) c w s ⊢ |={Set.univ}=> iprop(bat (F := F) c w p s 0 0 ∗ bigSep (Ring.rangeSet 1024 0 1024) (freeRow (F := F) c w s)) := by
  unfold idle bat
  iintro ⟨HS, HF⟩
  imod (Transfers.batch_alloc' (countersEmb (U := UU)) (c : Thread nD τ) () NN (fun r : Fin 1024 => doneRow (F := F) c w p s r) (sm := .dma (dsem s)) (E := Set.univ)) $$ HS with HB
  imodintro
  isplitl [HB]; · iexact HB
  rw [Ring.rangeSet_univ]
  iexact HF

/-- Every row of a slot brought: the slot holds the rows its words name. -/
theorem drained (w : S94208x512.Idx → BitVec 32) (p : Fin 1024 → BitVec 32) (s : Fin 2) (n : ℕ) (hn : n = 1024) (acc : Unit) :
    drainAt (F := F) c w p s n acc ⊢ iprop((∃ W : Waits sig Unit, owes (c : Thread nD τ) 0 W) ∗ semVal ((c : Thread nD τ), SemLoc.dma (dsem s)) 0
      ∗ slotAt (F := F) c s (gath p w) ∗ bigSep Finset.univ (tokAt (F := F) c w s)) := by
  subst hn
  unfold drainAt
  rw [if_neg (Nat.lt_irrefl _), slot_rows]
  iintro ⟨HO, HS, HD⟩
  isplitl [HO]; · iexact HO
  isplitl [HS]; · iexact HS
  iapply (show bigSep Finset.univ (doneRow (F := F) c w p s) ⊢ iprop(bigSep Finset.univ (fun r => rowAt (F := F) c s r (gath p w)) ∗ bigSep Finset.univ (tokAt (F := F) c w s))
    from Entails.of_eq (BI.bigSep_sep _ _ _)) $$ HD

/-- A slot at hand, its read shares and its semaphore at zero are an idle slot. -/
theorem idle_of (w : S94208x512.Idx → BitVec 32) (s : Fin 2) (g : S2x1024x512.Idx → BitVec 32) :
    iprop(semVal ((c : Thread nD τ), SemLoc.dma (dsem s)) 0 ∗ slotAt (F := F) c s g ∗ bigSep Finset.univ (tokAt (F := F) c w s)) ⊢ idle (F := F) c w s := by
  unfold idle
  rw [slot_rows]
  iintro ⟨HS, HR, HT⟩
  isplitl [HS]; · iexact HS
  iapply (show iprop(bigSep Finset.univ (fun r => iprop(∃ g : S2x1024x512.Idx → BitVec 32, rowAt (F := F) c s r g)) ∗ bigSep Finset.univ (tokAt (F := F) c w s))
    ⊢ bigSep Finset.univ (freeRow (F := F) c w s) from Entails.of_eq (BI.bigSep_sep _ _ _).symm)
  isplitl [HR]
  · iapply (show bigSep Finset.univ (fun r => rowAt (F := F) c s r g) ⊢ bigSep Finset.univ (fun r => iprop(∃ g : S2x1024x512.Idx → BitVec 32, rowAt (F := F) c s r g))
      from BI.bigSep_mono fun r _ => exists_intro (Φ := fun g : S2x1024x512.Idx → BitVec 32 => rowAt (F := F) c s r g) g) $$ HR
  iexact HT

/-- The rows a tile's words name, as the block the body loads. -/
def rowsOf (p : Fin 1024 → BitVec 32) (w : S94208x512.Idx → BitVec 32) : S1x1024x512.Idx → BitVec 32 :=
  fun j => w (ix2 (n0 := 94208) (n1 := 512) (rowNo (p (j 1))) (j 2))

/-- The result's block at a tile. -/
def outBlk (p : Fin 1024 → BitVec 32) (w : S94208x512.Idx → BitVec 32) (x : Vec F S1024x1024 .f32) (g : Vec F S1x1024 .f32) : Vec F S1024x1024 .f32 :=
  k0_pay1 (k0_pay2 x (rowsOf p w)) (k0_pay3 g) (k0_pay4 x (rowsOf p w)) (Scalar.ofBits .f32 0x358637BD#32)

theorem slot_read (p : Fin 1024 → BitVec 32) (w : S94208x512.Idx → BitVec 32) (o : Fin 3 → ℕ) (ho : ∀ a, o a + S1x1024x512.size a ≤ S2x1024x512.size a) (s : Fin 2) (eo : o = ![s.val, 0, 0]) :
    (Memref.whole cc0_scratch0).view.readAt (Elt F) (Rect.unit (s := S2x1024x512) o S1x1024x512.size ho).toLoadRect (gath p w) = rowsOf p w := by
  subst eo
  funext j
  have e : (Rect.unit (s := S2x1024x512) ![s.val, 0, 0] S1x1024x512.size ho).emb j = ix3 (n0 := 2) (n1 := 1024) (n2 := 512) s (j 1) (j 2) := by
    have h0 : (j 0).val < 1 := (j 0).isLt
    funext a
    fin_cases a <;> apply Fin.ext
    · show s.val + 1 * (j 0).val = s.val; omega
    · show 0 + 1 * (j 1).val = (j 1).val; omega
    · show 0 + 1 * (j 2).val = (j 2).val; omega
  show gath p w ((Rect.unit (s := S2x1024x512) ![s.val, 0, 0] S1x1024x512.size ho).emb j) = _
  rw [e]
  rfl

theorem slot_sub (o : Fin 3 → ℕ) (ho : ∀ a, o a + S1x1024x512.size a ≤ S2x1024x512.size a) (s : Fin 2) (eo : o = ![s.val, 0, 0]) :
    (Memref.whole cc0_scratch0).view.setOn (Rect.unit (s := S2x1024x512) o S1x1024x512.size ho).toLoadRect.set ⊆ slotset s := by
  subst eo
  intro y hy
  rw [mem_slotset]
  obtain ⟨z, hz, rfl⟩ := Finset.mem_map.mp hy
  have h0 : s.val ≤ (z 0).val ∧ (z 0).val < s.val + 1 := (Rect.mem_set_unit.mp hz) 0
  show (z 0).val = s.val
  omega

theorem b3_read (M : Memref sig .tc .vmem S1024x1024 .f32) (f : M.view.ty.Contents (Elt F)) (inb : ∀ a, (![0, 0] : Fin 2 → ℕ) a + S1024x1024.size a ≤ S1024x1024.size a) :
    M.view.readAt (Elt F) (Rect.unit (s := S1024x1024) ![0, 0] S1024x1024.size inb).toLoadRect f = M.view.read (Elt F) f :=
  funext fun j => congrArg (M.view.read (Elt F) f) (funext fun a => Fin.ext (by
    fin_cases a
    · show 0 + 1 * (j 0).val = (j 0).val; omega
    · show 0 + 1 * (j 1).val = (j 1).val; omega))

theorem b5_read (M : Memref sig .tc .vmem S1x1024 .f32) (f : M.view.ty.Contents (Elt F)) (inb : ∀ a, (![0, 0] : Fin 2 → ℕ) a + S1x1024.size a ≤ S1x1024.size a) :
    M.view.readAt (Elt F) (Rect.unit (s := S1x1024) ![0, 0] S1x1024.size inb).toLoadRect f = M.view.read (Elt F) f :=
  funext fun j => congrArg (M.view.read (Elt F) f) (funext fun a => Fin.ext (by
    fin_cases a
    · show 0 + 1 * (j 0).val = (j 0).val; omega
    · show 0 + 1 * (j 1).val = (j 1).val; omega))

theorem b6_read (M : Memref sig .tc .vmem S1024x1024 .f32) (f : M.view.ty.Contents (Elt F)) (inb : ∀ a, (![0, 0] : Fin 2 → ℕ) a + S1024x1024.size a ≤ S1024x1024.size a)
    (v : Vec F S1024x1024 .f32) : View.read (Elt F) M.view (M.view.writes (Elt F) f [⟨Rect.unit (s := S1024x1024) ![0, 0] S1024x1024.size inb, v⟩]) = v := by
  funext y
  refine View.read_writes_apply_of_pieces M.view f v _ (fun p hp x => ?_) y ?_
  · obtain rfl := List.mem_singleton.mp hp
    refine congrArg v (funext fun a => Fin.ext ?_)
    fin_cases a
    · show (x 0).val = 0 + 1 * (x 0).val; omega
    · show (x 1).val = 0 + 1 * (x 1).val; omega
  · exact ⟨_, List.mem_singleton_self _, View.mem_set_unit_zero (S := S1024x1024) (by decide +kernel) inb y⟩

/-- The load of a slot whose rows are in. -/
theorem load_slot (p : Fin 1024 → BitVec 32) (w : S94208x512.Idx → BitVec 32) (o : Fin 3 → ℕ) (ho : ∀ a, o a + S1x1024x512.size a ≤ S2x1024x512.size a) (s : Fin 2) (eo : o = ![s.val, 0, 0])
    (hl : (Memref.whole cc0_scratch0).view.LoadsAt (Rect.unit (s := S2x1024x512) o S1x1024x512.size ho).toLoadRect) {α : Type} (k : Vec F S1x1024x512 .i32 → Prog (TpuEff nD τ sig (Elt F) Λ₀ .tc) α) (Q : α → sProp 𝕄) :
    slotAt (F := F) c s (gath p w) ⊢ iprop((slotAt (F := F) c s (gath p w) -∗ wp frame (wpE (defs₀ (F := F)) Variants.none (c : Thread nD τ) none) Set.univ (k (rowsOf p w)) Q)
      -∗ wp frame (wpE (defs₀ (F := F)) Variants.none (c : Thread nD τ) none) Set.univ (Prog.lift (.load (Memref.whole cc0_scratch0) (Rect.unit (s := S2x1024x512) o S1x1024x512.size ho).toLoadRect hl) >>= k) Q) := by
  rw [show (Prog.lift (TpuEff.load (Val := Elt F) (Memref.whole cc0_scratch0) (Rect.unit (s := S2x1024x512) o S1x1024x512.size ho).toLoadRect hl) >>= k)
    = .op (.load (Memref.whole cc0_scratch0) (Rect.unit (s := S2x1024x512) o S1x1024x512.size ho).toLoadRect hl) k from rfl]
  rw [← slot_read (F := F) p w o ho s eo]
  unfold slotAt
  exact wp_load Variants.none (c : Thread nD τ) none Set.univ (slot_sub o ho s eo)

/-- The first tile. -/
theorem run_first [∀ e, Nonempty (Elt F e)] (w : S94208x512.Idx → BitVec 32) (x1 : Buf (Elt F) (b1.view.loc (c : Thread nD τ))) (x2 : Buf (Elt F) (b2.view.loc (c : Thread nD τ)))
    (x3 : Buf (Elt F) (b3.view.loc (c : Thread nD τ))) (x5 : Buf (Elt F) (b5.view.loc (c : Thread nD τ))) (x6 : Buf (Elt F) (b6.view.loc (c : Thread nD τ))) (W : Waits sig Unit)
    (h1 : k0_cond1 i = 1#1) (h2 : k0_cond2 i = 1#1) (hs : (i 0).val % 2 = 0) (hp1 : ∀ r, (words c b1 x1 r).toNat < 94208) (hp2 : ∀ r, (words c b2 x2 r).toNat < 94208) (Q : PUnit → sProp 𝕄) :
    iprop(idle (F := F) c w 0 ∗ idle (F := F) c w 1 ∗ ptw c b1 x1 ∗ ptw c b2 x2 ∗ ptw c b3 x3 ∗ ptw c b5 x5 ∗ ptw c b6 x6 ∗ owes (c : Thread nD τ) 0 W
      ∗ (∀ f6 : Buf (Elt F) (b6.view.loc (c : Thread nD τ)), ∀ W' : Waits sig Unit, ⌜b6.view.read (Elt F) f6 = outBlk (words c b1 x1) w (b3.view.read (Elt F) x3) (b5.view.read (Elt F) x5)⌝
          ∗ busy (F := F) c w (words c b2 x2) 1 ∗ idle (F := F) c w 0 ∗ ptw c b1 x1 ∗ ptw c b2 x2 ∗ ptw c b3 x3 ∗ ptw c b5 x5 ∗ ptw c b6 f6 ∗ owes (c : Thread nD τ) 0 W' -∗ Q ⟨⟩))
    ⊢ wp frame (wpE (defs₀ (F := F)) Variants.none (c : Thread nD τ) none) Set.univ (args i b1 hb1 b2 hb2 b3 hb3 b5 hb5 b6 hb6) Q := by
  iintro ⟨HI0, HI1, H1, H2, H3, H5, H6, HO, Hk⟩
  unfold args
  rw [cc0_moe_combine_final_eq_skeleton]
  unfold cc0_moe_combine_final_skel
  rw [wp_bind, k0_part1_eq_skeleton]
  unfold k0_part1_skel
  sl_exec
  imod (idle_start c w (words c b1 x1) 0) $$ HI0 with ⟨HB, HF⟩
  sl_for (issueAt (F := F) c b1 x1 w 0) $$ [H1 HB HF]
  · intro k acc; exact issue1_step c i b1 hb1 b2 hb2 b3 hb3 b5 hb5 b6 hb6 x1 w hp1 h1 k acc
  · unfold issueAt
    isplitl [H1]; · iexact H1
    isplitl [HB]; · iexact HB
    iexact HF
  iintro %acc1 HA
  unfold issueAt
  icases HA with ⟨H1, HB, -⟩
  sl_exec
  imod (idle_start c w (words c b2 x2) 1) $$ HI1 with ⟨HB2, HF2⟩
  sl_for (issueAt (F := F) c b2 x2 w 1) $$ [H2 HB2 HF2]
  · intro k acc; exact issue2_step c i b1 hb1 b2 hb2 b3 hb3 b5 hb5 b6 hb6 x2 w 1 (by rw [hs]; rfl) hp2 h2 k acc
  · unfold issueAt
    isplitl [H2]; · iexact H2
    isplitl [HB2]; · iexact HB2
    iexact HF2
  iintro %acc2 HA
  unfold issueAt
  icases HA with ⟨H2, HB2, -⟩
  sl_exec
  sl_for (drainAt (F := F) c w (words c b1 x1) 0) $$ [HB HO]
  · intro k acc; exact drain_step c i b1 hb1 b2 hb2 b3 hb3 b5 hb5 b6 hb6 w (words c b1 x1) 0 (by rw [hs]; rfl) k acc
  · unfold drainAt
    rw [if_pos (by norm_num), Nat.zero_mul]
    isplitl [HO]; · iexists _; iexact HO
    rw [show Scf.trips k0_t1_loop.lb k0_t1_loop.ub k0_t1_loop.st = 1024 from trips1]
    iexact HB
  iintro %acc3 HA
  ihave HA := (drained c w (words c b1 x1) 0 _ trips3 acc3) $$ HA
  icases HA with ⟨⟨%W1, HO⟩, HS, HR, HT⟩
  sl_respell []
  iapply (load_slot c (words c b1 x1) w (k0_off11 i) (k0_off11_inb i) 0 ((off11_eq i).trans (by rw [hs]; rfl)) _ _ _) $$ HR
  iintro HR
  sl_exec
  sl_step
  iapply Hk
  isplitr; swap
  isplitl [HB2]
  · unfold busy
    rw [show Scf.trips k0_t2_loop.lb k0_t2_loop.ub k0_t2_loop.st = 1024 from trips2]
    iexact HB2
  isplitl [HS HR HT]
  · iapply (idle_of c w 0 (gath (words c b1 x1) w))
    isplitl [HS]; · iexact HS
    isplitl [HR]; · iexact HR
    iexact HT
  isplitl [H1]; · iexact H1
  isplitl [H2]; · iexact H2
  isplitl [H3]; · iexact H3
  isplitl [H5]; · iexact H5
  isplitl [H6]; · iexact H6
  iexact HO
  ipureintro
  rw [b6_read, ← b3_read b3 x3 inb_S1024x1024_S1024x1024_0_0, ← b5_read b5 x5 inb_S1x1024_S1x1024_0_0]
  rfl

/-- A tile between. -/
theorem run_mid [∀ e, Nonempty (Elt F e)] (w : S94208x512.Idx → BitVec 32) (x1 : Buf (Elt F) (b1.view.loc (c : Thread nD τ))) (x2 : Buf (Elt F) (b2.view.loc (c : Thread nD τ)))
    (x3 : Buf (Elt F) (b3.view.loc (c : Thread nD τ))) (x5 : Buf (Elt F) (b5.view.loc (c : Thread nD τ))) (x6 : Buf (Elt F) (b6.view.loc (c : Thread nD τ))) (W : Waits sig Unit)
    (h1 : ¬ k0_cond1 i = 1#1) (h2 : k0_cond2 i = 1#1) (s s' : Fin 2) (hs : (i 0).val % 2 = s.val) (hs' : 1 - (i 0).val % 2 = s'.val) (hp2 : ∀ r, (words c b2 x2 r).toNat < 94208) (Q : PUnit → sProp 𝕄) :
    iprop(busy (F := F) c w (words c b1 x1) s ∗ idle (F := F) c w s' ∗ ptw c b1 x1 ∗ ptw c b2 x2 ∗ ptw c b3 x3 ∗ ptw c b5 x5 ∗ ptw c b6 x6 ∗ owes (c : Thread nD τ) 0 W
      ∗ (∀ f6 : Buf (Elt F) (b6.view.loc (c : Thread nD τ)), ∀ W' : Waits sig Unit, ⌜b6.view.read (Elt F) f6 = outBlk (words c b1 x1) w (b3.view.read (Elt F) x3) (b5.view.read (Elt F) x5)⌝
          ∗ busy (F := F) c w (words c b2 x2) s' ∗ idle (F := F) c w s ∗ ptw c b1 x1 ∗ ptw c b2 x2 ∗ ptw c b3 x3 ∗ ptw c b5 x5 ∗ ptw c b6 f6 ∗ owes (c : Thread nD τ) 0 W' -∗ Q ⟨⟩))
    ⊢ wp frame (wpE (defs₀ (F := F)) Variants.none (c : Thread nD τ) none) Set.univ (args i b1 hb1 b2 hb2 b3 hb3 b5 hb5 b6 hb6) Q := by
  iintro ⟨HB, HI1, H1, H2, H3, H5, H6, HO, Hk⟩
  unfold args
  rw [cc0_moe_combine_final_eq_skeleton]
  unfold cc0_moe_combine_final_skel
  rw [wp_bind, k0_part1_eq_skeleton]
  unfold k0_part1_skel
  sl_exec
  imod (idle_start c w (words c b2 x2) s') $$ HI1 with ⟨HB2, HF2⟩
  sl_for (issueAt (F := F) c b2 x2 w s') $$ [H2 HB2 HF2]
  · intro k acc; exact issue2_step c i b1 hb1 b2 hb2 b3 hb3 b5 hb5 b6 hb6 x2 w s' hs' hp2 h2 k acc
  · unfold issueAt
    isplitl [H2]; · iexact H2
    isplitl [HB2]; · iexact HB2
    iexact HF2
  iintro %acc2 HA
  unfold issueAt
  icases HA with ⟨H2, HB2, -⟩
  sl_exec
  sl_for (drainAt (F := F) c w (words c b1 x1) s) $$ [HB HO]
  · intro k acc; exact drain_step c i b1 hb1 b2 hb2 b3 hb3 b5 hb5 b6 hb6 w (words c b1 x1) s hs k acc
  · unfold drainAt
    rw [if_pos (by norm_num), Nat.zero_mul]
    isplitl [HO]; · iexists _; iexact HO
    unfold busy
    iexact HB
  iintro %acc3 HA
  ihave HA := (drained c w (words c b1 x1) s _ trips3 acc3) $$ HA
  icases HA with ⟨⟨%W1, HO⟩, HS, HR, HT⟩
  sl_respell []
  iapply (load_slot c (words c b1 x1) w (k0_off11 i) (k0_off11_inb i) s ((off11_eq i).trans (by rw [hs])) _ _ _) $$ HR
  iintro HR
  sl_exec
  sl_step
  iapply Hk
  isplitr; swap
  isplitl [HB2]
  · unfold busy
    rw [show Scf.trips k0_t2_loop.lb k0_t2_loop.ub k0_t2_loop.st = 1024 from trips2]
    iexact HB2
  isplitl [HS HR HT]
  · iapply (idle_of c w s (gath (words c b1 x1) w))
    isplitl [HS]; · iexact HS
    isplitl [HR]; · iexact HR
    iexact HT
  isplitl [H1]; · iexact H1
  isplitl [H2]; · iexact H2
  isplitl [H3]; · iexact H3
  isplitl [H5]; · iexact H5
  isplitl [H6]; · iexact H6
  iexact HO
  ipureintro
  rw [b6_read, ← b3_read b3 x3 inb_S1024x1024_S1024x1024_0_0, ← b5_read b5 x5 inb_S1x1024_S1x1024_0_0]
  rfl

/-- The last tile. -/
theorem run_last [∀ e, Nonempty (Elt F e)] (w : S94208x512.Idx → BitVec 32) (x1 : Buf (Elt F) (b1.view.loc (c : Thread nD τ))) (x2 : Buf (Elt F) (b2.view.loc (c : Thread nD τ)))
    (x3 : Buf (Elt F) (b3.view.loc (c : Thread nD τ))) (x5 : Buf (Elt F) (b5.view.loc (c : Thread nD τ))) (x6 : Buf (Elt F) (b6.view.loc (c : Thread nD τ))) (W : Waits sig Unit)
    (h1 : ¬ k0_cond1 i = 1#1) (h2 : ¬ k0_cond2 i = 1#1) (s : Fin 2) (hs : (i 0).val % 2 = s.val) (Q : PUnit → sProp 𝕄) :
    iprop(busy (F := F) c w (words c b1 x1) s ∗ ptw c b1 x1 ∗ ptw c b2 x2 ∗ ptw c b3 x3 ∗ ptw c b5 x5 ∗ ptw c b6 x6 ∗ owes (c : Thread nD τ) 0 W
      ∗ (∀ f6 : Buf (Elt F) (b6.view.loc (c : Thread nD τ)), ∀ W' : Waits sig Unit, ⌜b6.view.read (Elt F) f6 = outBlk (words c b1 x1) w (b3.view.read (Elt F) x3) (b5.view.read (Elt F) x5)⌝
          ∗ idle (F := F) c w s ∗ ptw c b1 x1 ∗ ptw c b2 x2 ∗ ptw c b3 x3 ∗ ptw c b5 x5 ∗ ptw c b6 f6 ∗ owes (c : Thread nD τ) 0 W' -∗ Q ⟨⟩))
    ⊢ wp frame (wpE (defs₀ (F := F)) Variants.none (c : Thread nD τ) none) Set.univ (args i b1 hb1 b2 hb2 b3 hb3 b5 hb5 b6 hb6) Q := by
  iintro ⟨HB, H1, H2, H3, H5, H6, HO, Hk⟩
  unfold args
  rw [cc0_moe_combine_final_eq_skeleton]
  unfold cc0_moe_combine_final_skel
  rw [wp_bind, k0_part1_eq_skeleton]
  unfold k0_part1_skel
  sl_exec
  sl_for (drainAt (F := F) c w (words c b1 x1) s) $$ [HB HO]
  · intro k acc; exact drain_step c i b1 hb1 b2 hb2 b3 hb3 b5 hb5 b6 hb6 w (words c b1 x1) s hs k acc
  · unfold drainAt
    rw [if_pos (by norm_num), Nat.zero_mul]
    isplitl [HO]; · iexists _; iexact HO
    unfold busy
    iexact HB
  iintro %acc3 HA
  ihave HA := (drained c w (words c b1 x1) s _ trips3 acc3) $$ HA
  icases HA with ⟨⟨%W1, HO⟩, HS, HR, HT⟩
  sl_respell []
  iapply (load_slot c (words c b1 x1) w (k0_off11 i) (k0_off11_inb i) s ((off11_eq i).trans (by rw [hs])) _ _ _) $$ HR
  iintro HR
  sl_exec
  sl_step
  iapply Hk
  isplitr; swap
  isplitl [HS HR HT]
  · iapply (idle_of c w s (gath (words c b1 x1) w))
    isplitl [HS]; · iexact HS
    isplitl [HR]; · iexact HR
    iexact HT
  isplitl [H1]; · iexact H1
  isplitl [H2]; · iexact H2
  isplitl [H3]; · iexact H3
  isplitl [H5]; · iexact H5
  isplitl [H6]; · iexact H6
  iexact HO
  ipureintro
  rw [b6_read, ← b3_read b3 x3 inb_S1024x1024_S1024x1024_0_0, ← b5_read b5 x5 inb_S1x1024_S1x1024_0_0]
  rfl

end Cert.Kernel2Ideal.Combine
-- ==== Proof.Combine.Tile.lean ====
module

public import proofs.«01_k».proof.Proof.Combine.Body

/-!
What is under way between tiles of the final call: nothing before the first and after the last, and in between the
rows of the next tile, in its slot. One tile takes it from one number to the next. How the two slots, the read shares
and the two semaphores make it, and how they come back.
-/

@[expose] public section

set_option maxRecDepth 16384

noncomputable section

namespace Cert.Kernel2Ideal.Combine

open Idealize.ShloMosaic Idealize.ShloMosaic.TcCoe Idealize.ShloMosaic.Tactic
open Idealize.SL Idealize.SL.RA
open Idealize.SL.BI (sProp bigSep bigSep_insert)
open scoped Idealize.SL.BI
open Idealize.SL.BI.BIBase Idealize.SL.BI.Laws Idealize.SL.Sem Idealize.SL.ProofMode
open Cert.Kernel2Ideal Cert.Kernel2Ideal.Gen
open Idealize.ShloMosaic.ValueIdx

variable {F : FTy → Type} [FloatOps F]

local notation "𝕄" => MT nD τ sig Unit (Elt F) ℕ UU ℕ

/-- Tile `n`'s slot. -/
def slotOf (n : ℕ) : Fin 2 := ⟨n % 2, Nat.mod_lt _ (by norm_num)⟩

/-- The other slot. -/
def otherOf (n : ℕ) : Fin 2 := ⟨1 - n % 2, by omega⟩

theorem slotOf_succ (n : ℕ) : slotOf (n + 1) = otherOf n := Fin.ext (by show (n + 1) % 2 = 1 - n % 2; omega)
theorem otherOf_succ (n : ℕ) : otherOf (n + 1) = slotOf n := Fin.ext (by show 1 - (n + 1) % 2 = n % 2; omega)

theorem cond1_at : ∀ i : grid0.Coords, k0_cond1 i = 1#1 ↔ (i 0).val = 0 := by decide +kernel
theorem cond2_at : ∀ i : grid0.Coords, k0_cond2 i = 1#1 ↔ (i 0).val + 1 < 64 := by decide +kernel

/-- Before tile `n`. -/
def core (c : Dev nD) (w : S94208x512.Idx → BitVec 32) (p : ℕ → Fin 1024 → BitVec 32) (n : ℕ) : sProp 𝕄 :=
  if 0 < n ∧ n < 64 then iprop(busy (F := F) c w (p n) (slotOf n) ∗ idle (F := F) c w (otherOf n))
  else iprop(idle (F := F) c w 0 ∗ idle (F := F) c w 1)

theorem core_mid (c : Dev nD) (w : S94208x512.Idx → BitVec 32) (p : ℕ → Fin 1024 → BitVec 32) (n : ℕ) (h0 : 0 < n) (h1 : n < 64) :
    core (F := F) c w p n = iprop(busy (F := F) c w (p n) (slotOf n) ∗ idle (F := F) c w (otherOf n)) := by
  unfold core; rw [if_pos ⟨h0, h1⟩]

theorem core_zero (c : Dev nD) (w : S94208x512.Idx → BitVec 32) (p : ℕ → Fin 1024 → BitVec 32) :
    core (F := F) c w p 0 = iprop(idle (F := F) c w 0 ∗ idle (F := F) c w 1) := by
  unfold core; rw [if_neg (by omega)]

theorem core_last (c : Dev nD) (w : S94208x512.Idx → BitVec 32) (p : ℕ → Fin 1024 → BitVec 32) :
    core (F := F) c w p 64 = iprop(idle (F := F) c w 0 ∗ idle (F := F) c w 1) := by
  unfold core; rw [if_neg (by omega)]

set_option maxHeartbeats 1000000 in
/-- One tile. -/
theorem step [∀ e, Nonempty (Elt F e)] (c : Dev nD) (i : grid0.Coords) (b1 : Memref sig .tc .smem S1x1x1024 .i32) (hb1 : b1.IsWhole) (b2 : Memref sig .tc .smem S1x1x1024 .i32) (hb2 : b2.IsWhole)
    (b3 : Memref sig .tc .vmem S1024x1024 .f32) (hb3 : b3.IsWhole) (b5 : Memref sig .tc .vmem S1x1024 .f32) (hb5 : b5.IsWhole) (b6 : Memref sig .tc .vmem S1024x1024 .f32) (hb6 : b6.IsWhole)
    (w : S94208x512.Idx → BitVec 32) (p : ℕ → Fin 1024 → BitVec 32) (hp : ∀ n r, (p n r).toNat < 94208)
    (x1 : Buf (Elt F) (b1.view.loc (c : Thread nD τ))) (x2 : Buf (Elt F) (b2.view.loc (c : Thread nD τ)))
    (x3 : Buf (Elt F) (b3.view.loc (c : Thread nD τ))) (x5 : Buf (Elt F) (b5.view.loc (c : Thread nD τ))) (x6 : Buf (Elt F) (b6.view.loc (c : Thread nD τ))) (W : Waits sig Unit)
    (n : ℕ) (hn : (i 0).val = n) (hw1 : words (F := F) c b1 x1 = p n) (hw2 : n + 1 < 64 → words (F := F) c b2 x2 = p (n + 1)) (Q : PUnit → sProp 𝕄) :
    iprop(core (F := F) c w p n ∗ ptw c b1 x1 ∗ ptw c b2 x2 ∗ ptw c b3 x3 ∗ ptw c b5 x5 ∗ ptw c b6 x6 ∗ owes (c : Thread nD τ) 0 W
      ∗ (∀ f6 : Buf (Elt F) (b6.view.loc (c : Thread nD τ)), ∀ W' : Waits sig Unit, core (F := F) c w p (n + 1)
          ∗ ⌜b6.view.read (Elt F) f6 = outBlk (p n) w (b3.view.read (Elt F) x3) (b5.view.read (Elt F) x5)⌝
          ∗ ptw c b1 x1 ∗ ptw c b2 x2 ∗ ptw c b3 x3 ∗ ptw c b5 x5 ∗ ptw c b6 f6 ∗ owes (c : Thread nD τ) 0 W' -∗ Q ⟨⟩))
    ⊢ wp frame (wpE (defs₀ (F := F)) Variants.none (c : Thread nD τ) none) Set.univ (args i b1 hb1 b2 hb2 b3 hb3 b5 hb5 b6 hb6) Q := by
  have hlt : n < 64 := hn ▸ (i 0).isLt
  by_cases h0 : n = 0
  · subst h0
    have h2 : words (F := F) c b2 x2 = p 1 := hw2 (by norm_num)
    rw [core_zero, core_mid c w p (0 + 1) (by norm_num) (by norm_num)]
    iintro ⟨⟨HI0, HI1⟩, H1, H2, H3, H5, H6, HO, Hk⟩
    iapply (run_first c i b1 hb1 b2 hb2 b3 hb3 b5 hb5 b6 hb6 w x1 x2 x3 x5 x6 W ((cond1_at i).2 hn) ((cond2_at i).2 (by rw [hn]; norm_num)) (by rw [hn])
      (fun r => by rw [hw1]; exact hp _ r) (fun r => by rw [h2]; exact hp _ r) Q)
    isplitl [HI0]; · iexact HI0
    isplitl [HI1]; · iexact HI1
    isplitl [H1]; · iexact H1
    isplitl [H2]; · iexact H2
    isplitl [H3]; · iexact H3
    isplitl [H5]; · iexact H5
    isplitl [H6]; · iexact H6
    isplitl [HO]; · iexact HO
    iintro %f6 %W' ⟨%e, HB, HI, H1, H2, H3, H5, H6, HO⟩
    iapply Hk
    isplitl [HB HI]
    · isplitl [HB]
      · iapply (show busy (F := F) c w (words c b2 x2) 1 ⊢ busy (F := F) c w (p (0 + 1)) (slotOf (0 + 1)) from Entails.of_eq (by rw [h2]; rfl)) $$ HB
      · iexact HI
    isplitr; · ipureintro; rw [e, hw1]
    isplitl [H1]; · iexact H1
    isplitl [H2]; · iexact H2
    isplitl [H3]; · iexact H3
    isplitl [H5]; · iexact H5
    isplitl [H6]; · iexact H6
    iexact HO
  by_cases hl : n + 1 < 64
  · have h2 := hw2 hl
    rw [core_mid c w p n (Nat.pos_of_ne_zero h0) hlt, core_mid c w p (n + 1) (Nat.succ_pos n) hl, slotOf_succ, otherOf_succ, ← hw1, ← h2]
    iintro ⟨⟨HB, HI⟩, H1, H2, H3, H5, H6, HO, Hk⟩
    iapply (run_mid c i b1 hb1 b2 hb2 b3 hb3 b5 hb5 b6 hb6 w x1 x2 x3 x5 x6 W (fun h => h0 (hn.symm.trans ((cond1_at i).1 h))) ((cond2_at i).2 (by rw [hn]; exact hl))
      (slotOf n) (otherOf n) (by rw [hn]; rfl) (by rw [hn]; rfl) (fun r => by rw [h2]; exact hp _ r) Q)
    isplitl [HB]; · iexact HB
    isplitl [HI]; · iexact HI
    isplitl [H1]; · iexact H1
    isplitl [H2]; · iexact H2
    isplitl [H3]; · iexact H3
    isplitl [H5]; · iexact H5
    isplitl [H6]; · iexact H6
    isplitl [HO]; · iexact HO
    iintro %f6 %W' ⟨%e, HB, HI, H1, H2, H3, H5, H6, HO⟩
    iapply Hk
    isplitl [HB HI]
    · isplitl [HB]; · iexact HB
      iexact HI
    isplitr; · ipureintro; exact e
    isplitl [H1]; · iexact H1
    isplitl [H2]; · iexact H2
    isplitl [H3]; · iexact H3
    isplitl [H5]; · iexact H5
    isplitl [H6]; · iexact H6
    iexact HO
  · obtain rfl : n = 63 := by omega
    rw [core_mid c w p 63 (by norm_num) (by norm_num), show (63 + 1 : ℕ) = 64 from rfl, core_last, ← hw1]
    iintro ⟨⟨HB, HI⟩, H1, H2, H3, H5, H6, HO, Hk⟩
    iapply (run_last c i b1 hb1 b2 hb2 b3 hb3 b5 hb5 b6 hb6 w x1 x2 x3 x5 x6 W (fun h => h0 (hn.symm.trans ((cond1_at i).1 h))) (fun h => hl (by have := (cond2_at i).1 h; omega))
      (slotOf 63) (by rw [hn]; rfl) Q)
    isplitl [HB]; · iexact HB
    isplitl [H1]; · iexact H1
    isplitl [H2]; · iexact H2
    isplitl [H3]; · iexact H3
    isplitl [H5]; · iexact H5
    isplitl [H6]; · iexact H6
    isplitl [HO]; · iexact HO
    iintro %f6 %W' ⟨%e, HB, H1, H2, H3, H5, H6, HO⟩
    iapply Hk
    isplitl [HB HI]
    · isplitl [HI]
      · iapply (show idle (F := F) c w (otherOf 63) ⊢ idle (F := F) c w 0 from Entails.of_eq rfl) $$ HI
      · iapply (show idle (F := F) c w (slotOf 63) ⊢ idle (F := F) c w 1 from Entails.of_eq rfl) $$ HB
    isplitr; · ipureintro; exact e
    isplitl [H1]; · iexact H1
    isplitl [H2]; · iexact H2
    isplitl [H3]; · iexact H3
    isplitl [H5]; · iexact H5
    isplitl [H6]; · iexact H6
    iexact HO

/-! ## The slots, the read shares -/

theorem slots_disjoint : ∀ s s' : Fin 2, s ≠ s' → Disjoint (slotset s) (slotset s') := by
  intro s s' hne
  rw [Finset.disjoint_left]
  intro y hy hy'
  rw [mem_slotset] at hy hy'
  exact hne (Fin.ext (hy.symm.trans hy'))

theorem slots_cover : Finset.univ.biUnion slotset = Finset.univ :=
  Finset.eq_univ_of_forall fun y => Finset.mem_biUnion.mpr ⟨y 0, Finset.mem_univ _, (mem_slotset _ y).mpr rfl⟩

/-- The gather buffer whole is its two slots. -/
theorem buf_slots (c : Dev nD) (f : S2x1024x512.Idx → BitVec 32) :
    ((Memref.whole cc0_scratch0).view.loc (c : Thread nD τ) ↦{fullShare} f : sProp 𝕄) = iprop(slotAt (F := F) c 0 f ∗ slotAt (F := F) c 1 f) := by
  have h := Ring.pointsTo_blocks (Ix := Unit) (Name := ℕ) (U := UU) (Lvl := ℕ) (Val := Elt F) (ℓ := (Memref.whole cc0_scratch0).view.loc (c : Thread nD τ)) (q := fullShare) slotset slots_disjoint slots_cover f
  rw [BI.bigSep_fin_two] at h
  exact h

/-- The two slots, each at something, are the gather buffer at something. -/
theorem slots_buf (c : Dev nD) :
    iprop((∃ f : S2x1024x512.Idx → BitVec 32, slotAt (F := F) c 0 f) ∗ (∃ f : S2x1024x512.Idx → BitVec 32, slotAt (F := F) c 1 f))
      ⊢ (iprop(∃ f : Buf (Elt F) ((c : Thread nD τ).loc cc0_scratch0), ((c : Thread nD τ).loc cc0_scratch0) ↦{fullShare} f) : sProp 𝕄) := by
  have h := Ring.pointsTo_blocks_join_exists (Ix := Unit) (Name := ℕ) (U := UU) (Lvl := ℕ) (Val := Elt F) (ℓ := (c : Thread nD τ).loc cc0_scratch0) (q := fullShare) slotset slots_disjoint slots_cover (fun _ => (0#32 : BitVec 32))
  rw [BI.bigSep_fin_two] at h
  exact h

/-- The rows of a slot, each at something, are the slot at something. -/
theorem rows_slot (c : Dev nD) (s : Fin 2) :
    bigSep Finset.univ (fun r => iprop(∃ g : S2x1024x512.Idx → BitVec 32, rowAt (F := F) c s r g)) ⊢ (iprop(∃ g : S2x1024x512.Idx → BitVec 32, slotAt (F := F) c s g) : sProp 𝕄) := by
  have : Nonempty (S2x1024x512.Idx → BitVec 32) := ⟨fun _ => 0#32⟩
  refine (BI.bigSep_exists_pi Finset.univ (fun r (g : S2x1024x512.Idx → BitVec 32) => rowAt (F := F) c s r g)).trans (exists_elim fun fs => ?_)
  have h := pointsTo_biUnion_join (Ix := Unit) (Name := ℕ) (U := UU) (Lvl := ℕ) (Val := Elt F) (ℓ := (Memref.whole cc0_scratch0).view.loc (c : Thread nD τ)) (q := fullShare)
    Finset.univ (rowset s) fs (fun _ => (0#32 : BitVec 32)) (rowset_disjoint s)
  refine (show bigSep Finset.univ (fun r => rowAt (F := F) c s r (fs r)) ⊢ _ from h).trans (exists_elim fun g => ?_)
  unfold slotAt
  iintro ⟨-, H⟩
  iexists g
  iexact H

set_option backward.isDefEq.respectTransparency.types false in
/-- The read share of a slot is its rows' and what is left. -/
theorem lend (c : Dev nD) (w : S94208x512.Idx → BitVec 32) (s : Fin 2) :
    ((Memref.whole main_arg2).view.loc (c : Thread nD τ) ↦{Transfers.shareTokN fullShare s.val} w : sProp 𝕄)
      ⊢ iprop(((Memref.whole main_arg2).view.loc (c : Thread nD τ) ↦{Transfers.shareDrop (Transfers.shareTokN fullShare s.val) 1024} w) ∗ bigSep Finset.univ (tokAt (F := F) c w s)) :=
  (Transfers.pointsTo_toks (Transfers.shareTokN fullShare s.val) 1024).1

set_option backward.isDefEq.respectTransparency.types false in
theorem unlend (c : Dev nD) (w : S94208x512.Idx → BitVec 32) (s : Fin 2) :
    iprop(((Memref.whole main_arg2).view.loc (c : Thread nD τ) ↦{Transfers.shareDrop (Transfers.shareTokN fullShare s.val) 1024} w) ∗ bigSep Finset.univ (tokAt (F := F) c w s))
      ⊢ ((Memref.whole main_arg2).view.loc (c : Thread nD τ) ↦{Transfers.shareTokN fullShare s.val} w : sProp 𝕄) :=
  (Transfers.pointsTo_toks (Transfers.shareTokN fullShare s.val) 1024).2

/-- What is left of the experts' array beside the rows' read shares. -/
def leftover (c : Dev nD) (w : S94208x512.Idx → BitVec 32) : sProp 𝕄 :=
  iprop(((Memref.whole main_arg2).view.loc (c : Thread nD τ) ↦{Transfers.shareDrop fullShare 2} w)
    ∗ ((Memref.whole main_arg2).view.loc (c : Thread nD τ) ↦{Transfers.shareDrop (Transfers.shareTokN fullShare (0 : Fin 2).val) 1024} w)
    ∗ ((Memref.whole main_arg2).view.loc (c : Thread nD τ) ↦{Transfers.shareDrop (Transfers.shareTokN fullShare (1 : Fin 2).val) 1024} w))

set_option backward.isDefEq.respectTransparency.types false in
theorem halves (c : Dev nD) (w : S94208x512.Idx → BitVec 32) :
    ((Memref.whole main_arg2).view.loc (c : Thread nD τ) ↦{fullShare} w : sProp 𝕄) ⊣⊢
      iprop(((Memref.whole main_arg2).view.loc (c : Thread nD τ) ↦{Transfers.shareDrop fullShare 2} w)
        ∗ ((Memref.whole main_arg2).view.loc (c : Thread nD τ) ↦{Transfers.shareTokN fullShare (0 : Fin 2).val} w)
        ∗ ((Memref.whole main_arg2).view.loc (c : Thread nD τ) ↦{Transfers.shareTokN fullShare (1 : Fin 2).val} w)) := by
  have h := Transfers.pointsTo_toks (Ix := Unit) (Name := ℕ) (U := UU) (Lvl := ℕ) (Val := Elt F) (ℓ := (Memref.whole main_arg2).view.loc (c : Thread nD τ)) (S := Finset.univ) (f := w) fullShare 2
  rw [BI.bigSep_fin_two] at h
  exact h

/-- The experts' array, lent row by row. -/
theorem lend_all (c : Dev nD) (w : S94208x512.Idx → BitVec 32) :
    ((Memref.whole main_arg2).view.loc (c : Thread nD τ) ↦{fullShare} w : sProp 𝕄)
      ⊢ iprop(leftover (F := F) c w ∗ bigSep Finset.univ (tokAt (F := F) c w 0) ∗ bigSep Finset.univ (tokAt (F := F) c w 1)) := by
  iintro H
  ihave H := (halves (F := F) c w).1 $$ H
  icases H with ⟨H, H0, H1⟩
  ihave H0 := (lend (F := F) c w 0) $$ H0
  ihave H1 := (lend (F := F) c w 1) $$ H1
  icases H0 with ⟨R0, H0⟩
  icases H1 with ⟨R1, H1⟩
  unfold leftover
  isplitl [H R0 R1]
  · isplitl [H]; · iexact H
    isplitl [R0]; · iexact R0
    iexact R1
  isplitl [H0]; · iexact H0
  iexact H1

theorem unlend_all (c : Dev nD) (w : S94208x512.Idx → BitVec 32) :
    iprop(leftover (F := F) c w ∗ bigSep Finset.univ (tokAt (F := F) c w 0) ∗ bigSep Finset.univ (tokAt (F := F) c w 1))
      ⊢ ((Memref.whole main_arg2).view.loc (c : Thread nD τ) ↦{fullShare} w : sProp 𝕄) := by
  unfold leftover
  iintro ⟨⟨H, R0, R1⟩, H0, H1⟩
  ihave H0 := (unlend (F := F) c w 0) $$ [R0 H0]
  · isplitl [R0]; · iexact R0
    iexact H0
  ihave H1 := (unlend (F := F) c w 1) $$ [R1 H1]
  · isplitl [R1]; · iexact R1
    iexact H1
  iapply (halves (F := F) c w).2
  isplitl [H]; · iexact H
  isplitl [H0]; · iexact H0
  iexact H1

/-- An idle slot, taken apart. -/
theorem idle_open (c : Dev nD) (w : S94208x512.Idx → BitVec 32) (s : Fin 2) :
    idle (F := F) c w s ⊢ iprop(semVal ((c : Thread nD τ), SemLoc.dma (dsem s)) 0 ∗ (∃ g : S2x1024x512.Idx → BitVec 32, slotAt (F := F) c s g) ∗ bigSep Finset.univ (tokAt (F := F) c w s)) := by
  unfold idle
  iintro ⟨HS, HF⟩
  isplitl [HS]; · iexact HS
  ihave H := (show bigSep Finset.univ (freeRow (F := F) c w s)
    ⊢ iprop(bigSep Finset.univ (fun r => iprop(∃ g : S2x1024x512.Idx → BitVec 32, rowAt (F := F) c s r g)) ∗ bigSep Finset.univ (tokAt (F := F) c w s)) from Entails.of_eq (BI.bigSep_sep _ _ _)) $$ HF
  icases H with ⟨HR, HT⟩
  isplitl [HR]
  · iapply (rows_slot (F := F) c s) $$ HR
  iexact HT

/-- Entering the call. -/
theorem enter (c : Dev nD) (w : S94208x512.Idx → BitVec 32) :
    iprop((∃ f : Buf (Elt F) ((c : Thread nD τ).loc cc0_scratch0), ((c : Thread nD τ).loc cc0_scratch0) ↦{fullShare} f)
        ∗ (semVal ((c : Thread nD τ), SemLoc.dma (dsem 0)) 0 ∗ semVal ((c : Thread nD τ), SemLoc.dma (dsem 1)) 0)
        ∗ ((c : Thread nD τ).loc main_arg2) ↦{fullShare} w)
      ⊢ iprop((idle (F := F) c w 0 ∗ idle (F := F) c w 1) ∗ leftover (F := F) c w) := by
  iintro ⟨⟨%f, HB⟩, ⟨S0, S1⟩, HY⟩
  ihave HB := (show (((c : Thread nD τ).loc cc0_scratch0) ↦{fullShare} f : sProp 𝕄) ⊢ iprop(slotAt (F := F) c 0 f ∗ slotAt (F := F) c 1 f) from Entails.of_eq (buf_slots c f)) $$ HB
  icases HB with ⟨B0, B1⟩
  ihave HY := (show (((c : Thread nD τ).loc main_arg2) ↦{fullShare} w : sProp 𝕄) ⊢ _ from lend_all (F := F) c w) $$ HY
  icases HY with ⟨HL, T0, T1⟩
  isplitr [HL]
  · isplitl [S0 B0 T0]
    · iapply (idle_of (F := F) c w 0 f)
      isplitl [S0]; · iexact S0
      isplitl [B0]; · iexact B0
      iexact T0
    · iapply (idle_of (F := F) c w 1 f)
      isplitl [S1]; · iexact S1
      isplitl [B1]; · iexact B1
      iexact T1
  iexact HL

/-- Leaving it. -/
theorem leave (c : Dev nD) (w : S94208x512.Idx → BitVec 32) :
    iprop((idle (F := F) c w 0 ∗ idle (F := F) c w 1) ∗ leftover (F := F) c w)
      ⊢ iprop((∃ f : Buf (Elt F) ((c : Thread nD τ).loc cc0_scratch0), ((c : Thread nD τ).loc cc0_scratch0) ↦{fullShare} f)
        ∗ (semVal ((c : Thread nD τ), SemLoc.dma (dsem 0)) 0 ∗ semVal ((c : Thread nD τ), SemLoc.dma (dsem 1)) 0)
        ∗ ((c : Thread nD τ).loc main_arg2) ↦{fullShare} w) := by
  iintro ⟨⟨I0, I1⟩, HL⟩
  ihave I0 := (idle_open (F := F) c w 0) $$ I0
  ihave I1 := (idle_open (F := F) c w 1) $$ I1
  icases I0 with ⟨S0, B0, T0⟩
  icases I1 with ⟨S1, B1, T1⟩
  isplitl [B0 B1]
  · iapply (slots_buf (F := F) c)
    isplitl [B0]; · iexact B0
    iexact B1
  isplitl [S0 S1]
  · isplitl [S0]; · iexact S0
    iexact S1
  iapply (show _ ⊢ (((c : Thread nD τ).loc main_arg2) ↦{fullShare} w : sProp 𝕄) from unlend_all (F := F) c w)
  isplitl [HL]; · iexact HL
  isplitl [T0]; · iexact T0
  iexact T1

end Cert.Kernel2Ideal.Combine
-- ==== Proof.Combine.Region.lean ====
module

public import proofs.«01_k».proof.Proof.Combine.Tile
public import proofs.«01_k».proof.Proof.Gen.Kernel2Ideal.Launch
public import proofs.«01_k».proof.Proof.Gen.Kernel2Ideal.Points
public import proofs.«01_k».proof.Proof.Gen.Kernel2Ideal.Frame
public import Idealize.ShloMosaic.Lib.Pipeline.FrameBody

/-!
The final call as a pipeline: its data, the body at every tile, and the run of the whole program.
-/

@[expose] public section

set_option maxRecDepth 16384

noncomputable section

namespace Cert.Kernel2Ideal.Combine

open Idealize.ShloMosaic Idealize.ShloMosaic.TcCoe Idealize.ShloMosaic.Tactic
open Idealize.SL Idealize.SL.RA
open Idealize.SL.BI (sProp bigSep bigSep_insert)
open scoped Idealize.SL.BI
open Idealize.SL.BI.BIBase Idealize.SL.BI.Laws Idealize.SL.Sem Idealize.SL.ProofMode
open Cert.Kernel2Ideal Cert.Kernel2Ideal.Gen
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

/-! ## The blocks -/

/-- Tile `n`'s words. -/
def posOf (P : S64x1x1024.Idx → BitVec 32) (n : ℕ) : Fin 1024 → BitVec 32 :=
  fun r => P (ix3 (n0 := 64) (n1 := 1) (n2 := 1024) ⟨n % 64, Nat.mod_lt _ (by norm_num)⟩ 0 r)

/-- The block window `w` is brought at tile `t`. -/
def blkOf (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem coords_val (t : Fin grid0.N) : ((grid0.coords t) 0).val = t.val :=
  (by decide +kernel : ∀ t : Fin grid0.N, ((grid0.coords t) 0).val = t.val) t

theorem tr0 : ∀ t : Fin grid0.N, cc0_transform_0 (grid0.coords t) = ![t.val % 64, 0, 0] := by decide +kernel
theorem tr1 : ∀ t : Fin grid0.N, t.val + 1 < 64 → cc0_transform_1 (grid0.coords t) = ![(t.val + 1) % 64, 0, 0] := by decide +kernel

theorem block_at (o : Fin 3 → ℕ) (n : ℕ) (e : o = ![n % 64, 0, 0]) (inb : ∀ a, (o a + 1) * S1x1x1024.size a ≤ S64x1x1024.size a) (r : Fin 1024) :
    (Rect.block (s := S64x1x1024) S1x1x1024.size o inb).emb (ix3 (n0 := 1) (n1 := 1) (n2 := 1024) 0 0 r)
      = ix3 (n0 := 64) (n1 := 1) (n2 := 1024) ⟨n % 64, Nat.mod_lt _ (by norm_num)⟩ 0 r := by
  subst e
  funext a
  fin_cases a <;> apply Fin.ext
  · show n % 64 * 1 + 1 * 0 = n % 64; omega
  · show 0 * 1 + 1 * 0 = 0; omega
  · show 0 * 1024 + 1 * r.val = r.val; omega

theorem blk0_at (c : Dev nD) (t : Fin cfg0.N) (r : Fin 1024) :
    blkOf V c 0 t (ix3 (n0 := 1) (n1 := 1) (n2 := 1024) 0 0 r) = posOf (V c main_arg0) t.val r :=
  congrArg (V c main_arg0) (block_at _ t.val (tr0 t) (hinb0_0 _) r)

theorem blk1_at (c : Dev nD) (t : Fin cfg0.N) (h : t.val + 1 < 64) (r : Fin 1024) :
    blkOf V c 1 t (ix3 (n0 := 1) (n1 := 1) (n2 := 1024) 0 0 r) = posOf (V c main_arg0) (t.val + 1) r :=
  congrArg (V c main_arg0) (block_at _ (t.val + 1) (tr1 t h) (hinb0_1 _) r)

/-- What tile `t` leaves. -/
def outOf (c : Dev nD) (t : Fin cfg0.N) : Vec F S1024x1024 .f32 :=
  outBlk (posOf (V c main_arg0) t.val) (V c main_arg2) (blkOf V c 2 t) (blkOf V c 3 t)

/-! ## The data -/

/-- Before tile `n`. -/
def inv (c : Dev nD) (n : ℕ) : sProp 𝕄 :=
  iprop(core (F := F) c (V c main_arg2) (posOf (V c main_arg0)) n ∗ leftover (F := F) c (V c main_arg2) ∗ (∃ r, prngReg c r))

/-- The call's data. -/
def dat (c : Dev nD) : Dat τ (Elt F) Unit ℕ UU ℕ cfg0 c where
  A w := V c (Pipeline.arrRef spec0 w)
  after w t := match w with
    | ⟨0, _⟩ => blkOf V c 0 t
    | ⟨1, _⟩ => blkOf V c 1 t
    | ⟨2, _⟩ => blkOf V c 2 t
    | ⟨3, _⟩ => blkOf V c 3 t
    | ⟨4, _⟩ => outOf V c t
  Φ t := inv V c t.val
  q w := Pipeline.shareOf spec0 w
  owed _ := 0

theorem before0 (c : Dev nD) (t : Fin cfg0.N) (d) : (dat V c).before 0 t d = blkOf V c 0 t :=
  (dat V c).before_in_eq_fetched 0 rfl (fun _ => rfl) (fun _ _ _ => rfl) (fun _ => rfl) t d
theorem before1 (c : Dev nD) (t : Fin cfg0.N) (d) : (dat V c).before 1 t d = blkOf V c 1 t :=
  (dat V c).before_in_eq_fetched 1 rfl (fun _ => rfl) (fun _ _ _ => rfl) (fun _ => rfl) t d
theorem before2 (c : Dev nD) (t : Fin cfg0.N) (d) : (dat V c).before 2 t d = blkOf V c 2 t :=
  (dat V c).before_in_eq_fetched 2 rfl (fun _ => rfl) (fun _ _ _ => rfl) (fun _ => rfl) t d
theorem before3 (c : Dev nD) (t : Fin cfg0.N) (d) : (dat V c).before 3 t d = blkOf V c 3 t :=
  (dat V c).before_in_eq_fetched 3 rfl (fun _ => rfl) (fun _ _ _ => rfl) (fun _ => rfl) t d

theorem owns_at (c : Thread nD τ) {sp : Space} {s : Shape} {e : EltTy} (m : Memref sig c.2.kind sp s e) (hm : m.IsWhole) (X : s.Idx → Elt F e) :
    (owns c m fullShare X : sProp 𝕄) = iprop(∃ f : Buf (Elt F) (m.view.loc c), ⌜m.view.read (Elt F) f = X⌝ ∗ (m.view.loc c ↦{fullShare} f)) := by
  unfold owns
  rw [Memref.IsWhole.set_eq_univ hm]

set_option maxHeartbeats 1000000 in
theorem body_obligation [∀ e, Nonempty (Elt F e)] (hV : ∀ c n r, (posOf (V c main_arg0) n r).toNat < 94208) (c : Dev nD) :
    BodyObligation (dat V c) (defs₀ (F := F)) Variants.none () Set.univ := fun t => by
  rw [bigSep_W0, bigSep_W0]
  rw [show (dat V c).Φ t.castSucc = inv V c t.val from rfl, show (dat V c).Φ t.succ = inv V c (t.val + 1) from rfl]
  unfold inv Dat.owesAt Pipeline.owesWithin
  iintro ⟨⟨HC, HL, HG⟩, ⟨%W, -, HW⟩, ⟨%d0, H0⟩, ⟨%d1, H1⟩, ⟨%d2, H2⟩, ⟨%d3, H3⟩, ⟨%d4, H4⟩⟩
  have e0 := owns_at (F := F) (c : Thread nD τ) (stage0_0 (cfg0.slots t 0)) (hstage0_0 (cfg0.slots t 0))
  have e1 := owns_at (F := F) (c : Thread nD τ) (stage0_1 (cfg0.slots t 1)) (hstage0_1 (cfg0.slots t 1))
  have e2 := owns_at (F := F) (c : Thread nD τ) (stage0_2 (cfg0.slots t 2)) (hstage0_2 (cfg0.slots t 2))
  have e3 := owns_at (F := F) (c : Thread nD τ) (stage0_3 (cfg0.slots t 3)) (hstage0_3 (cfg0.slots t 3))
  have e4 := owns_at (F := F) (c : Thread nD τ) (stage0_4 (cfg0.slots t 4)) (hstage0_4 (cfg0.slots t 4))
  ihave H0 := (Entails.of_eq (e0 _)) $$ H0
  ihave H1 := (Entails.of_eq (e1 _)) $$ H1
  ihave H2 := (Entails.of_eq (e2 _)) $$ H2
  ihave H3 := (Entails.of_eq (e3 _)) $$ H3
  ihave H4 := (Entails.of_eq (e4 _)) $$ H4
  icases H0 with ⟨%f0, %hf0, H0⟩
  icases H1 with ⟨%f1, %hf1, H1⟩
  icases H2 with ⟨%f2, %hf2, H2⟩
  icases H3 with ⟨%f3, %hf3, H3⟩
  icases H4 with ⟨%f4, -, H4⟩
  have g0 := hf0.trans (before0 V c t d0)
  have g1 := hf1.trans (before1 V c t d1)
  have g2 := hf2.trans (before2 V c t d2)
  have g3 := hf3.trans (before3 V c t d3)
  iapply (step c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
    (V c main_arg2) (posOf (V c main_arg0)) (hV c) f0 f1 f2 f3 f4 W t.val (coords_val t)
    (funext fun r => (congrFun g0 (ix3 (n0 := 1) (n1 := 1) (n2 := 1024) 0 0 r)).trans (blk0_at V c t r))
    (fun h => funext fun r => (congrFun g1 (ix3 (n0 := 1) (n1 := 1) (n2 := 1024) 0 0 r)).trans (blk1_at V c t h r)) _)
  isplitl [HC]; · iexact HC
  isplitl [H0]; · iexact H0
  isplitl [H1]; · iexact H1
  isplitl [H2]; · iexact H2
  isplitl [H3]; · iexact H3
  isplitl [H4]; · iexact H4
  isplitl [HW]; · iexact HW
  iintro %f6 %W' ⟨HC, %e, H0, H1, H2, H3, H4, HW⟩
  isplitl [HC HL HG]
  · isplitl [HC]; · iexact HC
    isplitl [HL]; · iexact HL
    iexact HG
  isplitl [HW]
  · iexists W'; isplitr; swap
    · iexact HW
    · ipureintro; exact fun _ _ => Or.inl trivial
  isplitl [H0]
  · iapply (Entails.of_eq (e0 _).symm)
    iexists f0; isplitr; swap
    · iexact H0
    · ipureintro; exact g0
  isplitl [H1]
  · iapply (Entails.of_eq (e1 _).symm)
    iexists f1; isplitr; swap
    · iexact H1
    · ipureintro; exact g1
  isplitl [H2]
  · iapply (Entails.of_eq (e2 _).symm)
    iexists f2; isplitr; swap
    · iexact H2
    · ipureintro; exact g2
  isplitl [H3]
  · iapply (Entails.of_eq (e3 _).symm)
    iexists f3; isplitr; swap
    · iexact H3
    · ipureintro; exact g3
  iapply (Entails.of_eq (e4 _).symm)
  iexists f6; isplitr; swap
  · iexact H4
  · ipureintro
    refine e.trans ?_
    show outBlk _ _ (View.read (Elt F) (win0_2.stage (cfg0.slots t 2)).view f2) (View.read (Elt F) (win0_3.stage (cfg0.slots t 3)).view f3) = outOf V c t
    rw [show View.read (Elt F) (win0_2.stage (cfg0.slots t 2)).view f2 = blkOf V c 2 t from g2, show View.read (Elt F) (win0_3.stage (cfg0.slots t 3)).view f3 = blkOf V c 3 t from g3]
    rfl

/-! ## The launch -/

/-- The call's two semaphores are its own. -/
theorem own : Pipeline.OwnSemFacts spec0 (fun k : Fin 2 => SemLoc.dma (dsem k)) := by decide

theorem sems_eq (c : Dev nD) :
    (Pipeline.ownSems0 (Ix := Unit) (Name := ℕ) (U := UU) (Lvl := ℕ) (Val := Elt F) (τ := τ) (fun k : Fin 2 => SemLoc.dma (dsem k)) c : sProp 𝕄)
      = iprop(semVal ((c : Thread nD τ), SemLoc.dma (dsem 0)) 0 ∗ semVal ((c : Thread nD τ), SemLoc.dma (dsem 1)) 0) :=
  Pipeline.ownSems0_eq_of_list c _ [0, 1] (by decide) (by decide)

theorem hin (c : Dev nD) : Pipeline.ΦD (fun k : Fin 2 => SemLoc.dma (dsem k)) spec0 {main_arg2} V c ⊢ (dat V c).Φ 0 := by
  unfold Pipeline.ΦD
  rw [scopedRest0_eq]
  erw [sems_eq]
  rw [BI.bigSep_singleton]
  show _ ⊢ inv V c 0
  unfold inv
  rw [core_zero]
  iintro ⟨HB, HG, HS, HY⟩
  ihave H := (enter (F := F) c (V c main_arg2)) $$ [HB HS HY]
  · isplitl [HB]; · iexact HB
    isplitl [HS]; · iexact HS
    iexact HY
  icases H with ⟨HI, HL⟩
  isplitl [HI]; · iexact HI
  isplitl [HL]; · iexact HL
  iexact HG

theorem hout (c : Dev nD) : (dat V c).Φ (Fin.last cfg0.N) ⊢ Pipeline.ΦD (fun k : Fin 2 => SemLoc.dma (dsem k)) spec0 {main_arg2} V c := by
  unfold Pipeline.ΦD
  rw [scopedRest0_eq]
  erw [sems_eq]
  rw [BI.bigSep_singleton]
  show inv V c grid0.N ⊢ _
  rw [N_0]
  unfold inv
  rw [core_last]
  iintro ⟨HI, HL, HG⟩
  ihave H := (leave (F := F) c (V c main_arg2)) $$ [HI HL]
  · isplitl [HI]; · iexact HI
    iexact HL
  icases H with ⟨HB, HS, HY⟩
  isplitl [HB]; · iexact HB
  isplitl [HG]; · iexact HG
  isplitl [HS]; · iexact HS
  iexact HY

/-- The data of the program's one region. -/
def dats (m : (ℓ : Loc nD τ sig) → Buf (Elt F) ℓ) : (p : Fin 1) → (c : Dev nD) → Dat τ (Elt F) Unit ℕ UU ℕ (cfgs p) c := fun _ c => dat (Gen.V m) c

theorem run_main [∀ e, Nonempty (Elt F e)] (m : (ℓ : Loc nD τ sig) → Buf (Elt F) ℓ) (ρ : Dev nD → PrngReg)
    (hm : ∀ (c : Dev nD) (n : ℕ) (r : Fin 1024), (posOf (m ((c.tc : Thread nD τ).loc main_arg0)) n r).toNat < 94208) :
    θ_run defs (onTc (τ := τ) (main (F := F))) (s₀ m ρ) (fun r => Pipeline.FramePost cfgs (dats m) 0 (Gen.V m) r ∧ r.2.sem = (fun _ => 0)) :=
  Pipeline.θ_run_frame_dma_shared cfgs (dats m) 0 launch₀0 (fun k : Fin 2 => SemLoc.dma (dsem k)) defs₀ Variants.none own {main_arg2} (by decide) m ρ main
    (fun c => (body_obligation (Gen.V m) (fun c n r => by rw [V_main_arg0]; exact hm c n r) c).loose) (fun _ _ _ => rfl) (fun _ _ => rfl) (Gen.V m)
    (Pipeline.hmain_prefix cfgs 0 defs₀ Variants.none m main hostOps0 hostOps0_sub hostOps0_fresh main_chain) (fun _ _ => rfl)
    (hin (Gen.V m)) (hout (Gen.V m)) _ (fun _ h => h)

end Cert.Kernel2Ideal.Combine
-- ==== Proof.Combine.Model.lean ====
module

public import proofs.«01_k».proof.Proof.Model
public import Idealize.ShloMosaic.Lib.Pointwise

/-!
The final call as a function of its arrays over the extended reals: a row of the residual, its row of packed numbers
added, divided by the root of its mean square, and scaled.
-/

@[expose] public section

set_option maxRecDepth 16384

noncomputable section

namespace Cert.CombineModel

open Idealize.ShloMosaic

open Cert.Model (loW hiW)

abbrev SP : Shape := ⟨3, ![64, 1, 1024]⟩
abbrev SX : Shape := ⟨2, ![65536, 1024]⟩
abbrev SW : Shape := ⟨2, ![94208, 512]⟩
abbrev SG : Shape := ⟨1, ![1024]⟩

/-- The position of row `r`. -/
def posAt (P : SP.Idx → BitVec 32) (r : Fin 65536) : BitVec 32 :=
  P (ix3 (n0 := 64) (n1 := 1) (n2 := 1024) ⟨r.val / 1024, by omega⟩ 0 ⟨r.val % 1024, by omega⟩)

/-- Word `k` of the packed row that is `r`'s. -/
def wordAt (P : SP.Idx → BitVec 32) (w : SW.Idx → BitVec 32) (r : Fin 65536) (k : Fin 512) : BitVec 32 :=
  w (ix2 (n0 := 94208) (n1 := 512) ⟨(posAt P r).toNat % 94208, Nat.mod_lt _ (by norm_num)⟩ k)

/-- Row `r` of the residual with its packed row added: the columns of the low halves, and those of the high halves. -/
def loAt (P : SP.Idx → BitVec 32) (x : SX.Idx → EReal) (w : SW.Idx → BitVec 32) (r : Fin 65536) (k : Fin 512) : EReal :=
  x (ix2 (n0 := 65536) (n1 := 1024) r ⟨k.val, by omega⟩) + loW (wordAt P w r k)
def hiAt (P : SP.Idx → BitVec 32) (x : SX.Idx → EReal) (w : SW.Idx → BitVec 32) (r : Fin 65536) (k : Fin 512) : EReal :=
  x (ix2 (n0 := 65536) (n1 := 1024) r ⟨512 + k.val, by omega⟩) + hiW (wordAt P w r k)

/-- The same at a column of the whole row. -/
def sumAt (P : SP.Idx → BitVec 32) (x : SX.Idx → EReal) (w : SW.Idx → BitVec 32) (r : Fin 65536) (d : Fin 1024) : EReal :=
  x (ix2 (n0 := 65536) (n1 := 1024) r d)
    + if h : d.val < 512 then loW (wordAt P w r ⟨d.val, h⟩) else hiW (wordAt P w r ⟨d.val - 512, by omega⟩)

/-- The mean square of row `r`. -/
def meanAt (P : SP.Idx → BitVec 32) (x : SX.Idx → EReal) (w : SW.Idx → BitVec 32) (r : Fin 65536) : EReal :=
  Ideal.div ((∑ k : Fin 512, loAt P x w r k * loAt P x w r k) + ∑ k : Fin 512, hiAt P x w r k * hiAt P x w r k) (Ideal.ofBits .f32 1149239296#32)

/-- The result at row `r` and column `d`. -/
def finAt (P : SP.Idx → BitVec 32) (x : SX.Idx → EReal) (w : SW.Idx → BitVec 32) (g : SG.Idx → EReal) (r : Fin 65536) (d : Fin 1024) : EReal :=
  sumAt P x w r d * Ideal.rsqrt (meanAt P x w r + Ideal.ofBits .f32 897988541#32) * g (ix1 d)

end Cert.CombineModel

end
-- ==== Proof.Combine.Value.lean ====
module

public import proofs.«01_k».proof.Proof.Combine.Region
public import proofs.«01_k».proof.Proof.Combine.Model
public import Idealize.ShloMosaic.Lib.Pointwise
public import Idealize.ShloMosaic.Lib.Pipeline.ValueKit

/-!
What the final call leaves over the extended reals, from the blocks of its tiles.
-/

@[expose] public section

set_option maxRecDepth 16384

noncomputable section

namespace Cert.Kernel2Ideal.Combine

open Idealize.ShloMosaic Idealize.ShloMosaic.TcCoe Idealize.ShloMosaic.Tactic
open Cert.Kernel2Ideal Cert.Kernel2Ideal.Gen
open Cert.Model (loW hiW)
open Idealize.ShloMosaic.Pipeline (Dat Cfg Window)

/-! ## A tile -/

/-- Row `y` of a tile's residual with its packed row added. -/
def tileLo (u : S1x1024x512.Idx → BitVec 32) (x : S1024x1024.Idx → EReal) (y : Fin 1024) (k : Fin 512) : EReal :=
  x (ix2 y ⟨k.val, by omega⟩) + loW (u (ix3 0 y k))
def tileHi (u : S1x1024x512.Idx → BitVec 32) (x : S1024x1024.Idx → EReal) (y : Fin 1024) (k : Fin 512) : EReal :=
  x (ix2 y ⟨512 + k.val, by omega⟩) + hiW (u (ix3 0 y k))

set_option maxHeartbeats 4000000 in
set_option backward.isDefEq.respectTransparency false in
theorem pay_at (u : Vec Ideal S1x1024x512 .i32) (x : Vec Ideal S1024x1024 .f32) (g : Vec Ideal S1x1024 .f32) (y d : Fin 1024) :
    (k0_pay1 (F := Ideal) (k0_pay2 x u) (k0_pay3 g) (k0_pay4 x u) (Scalar.ofBits .f32 0x358637BD#32) (ix2 y d) : EReal)
      = (x (ix2 y d) + if h : d.val < 512 then loW (u (ix3 0 y ⟨d.val, h⟩)) else hiW (u (ix3 0 y ⟨d.val - 512, by omega⟩)))
          * Ideal.rsqrt (Ideal.div ((∑ k : Fin 512, tileLo u x y k * tileLo u x y k) + ∑ k : Fin 512, tileHi u x y k * tileHi u x y k) (Ideal.ofBits .f32 1149239296#32)
              + Ideal.ofBits .f32 897988541#32)
          * g (ix2 0 d) := by
  unfold k0_pay1 k0_pay3 k0_pay4 k0_pay2
  dsimp only
  pointwise
  rfl

/-! ## The call -/

variable (V : (c : Dev nD) → (b : Ref sig .tc) → Buf (Elt Ideal) ((c : Thread nD τ).loc b))

theorem index2 (t : Fin cfg0.N) : (cfg0.win 2).index t = ![t.val, 0] :=
  (by decide +kernel : ∀ t : Fin grid0.N, cc0_transform_2 (grid0.coords t) = ![t.val, 0]) t
theorem index4 (t : Fin cfg0.N) : (cfg0.win 4).index t = ![t.val, 0] :=
  (by decide +kernel : ∀ t : Fin grid0.N, cc0_transform_5 (grid0.coords t) = ![t.val, 0]) t
theorem index3 (t : Fin cfg0.N) : (cfg0.win 3).index t = ![0, 0] :=
  (by decide +kernel : ∀ t : Fin grid0.N, cc0_transform_4 (grid0.coords t) = ![0, 0]) t

theorem emb2 (t : Fin cfg0.N) (y d : Fin 1024) :
    ((cfg0.win 2).blk t).view.emb (ix2 y d : S1024x1024.Idx) = (ix2 ⟨t.val * 1024 + y.val, by have : t.val < 64 := t.isLt; omega⟩ d : S65536x1024.Idx) := by
  have e := index2 t
  refine funext fun a => Fin.ext ?_
  match a with
  | ⟨0, _⟩ => show (cfg0.win 2).index t (0 : Fin 2) * 1024 + 1 * y.val = t.val * 1024 + y.val; rw [e]; show t.val * 1024 + _ = _; omega
  | ⟨1, _⟩ => show (cfg0.win 2).index t (1 : Fin 2) * 1024 + 1 * d.val = d.val; rw [e]; show 0 * 1024 + _ = _; omega

theorem emb4 (t : Fin cfg0.N) (y d : Fin 1024) :
    ((cfg0.win 4).blk t).view.emb (ix2 y d : S1024x1024.Idx) = (ix2 ⟨t.val * 1024 + y.val, by have : t.val < 64 := t.isLt; omega⟩ d : S65536x1024.Idx) := by
  have e := index4 t
  refine funext fun a => Fin.ext ?_
  match a with
  | ⟨0, _⟩ => show (cfg0.win 4).index t (0 : Fin 2) * 1024 + 1 * y.val = t.val * 1024 + y.val; rw [e]; show t.val * 1024 + _ = _; omega
  | ⟨1, _⟩ => show (cfg0.win 4).index t (1 : Fin 2) * 1024 + 1 * d.val = d.val; rw [e]; show 0 * 1024 + _ = _; omega

theorem emb3 (t : Fin cfg0.N) (d : Fin 1024) :
    ((cfg0.win 3).blk t).view.emb (ix2 0 d : S1x1024.Idx) = (ix2 0 d : S1x1024.Idx) := by
  have e := index3 t
  refine funext fun a => Fin.ext ?_
  match a with
  | ⟨0, _⟩ => show (cfg0.win 3).index t (0 : Fin 2) * 1 + 1 * 0 = 0; rw [e]; rfl
  | ⟨1, _⟩ => show (cfg0.win 3).index t (1 : Fin 2) * 1024 + 1 * d.val = d.val; rw [e]; show 0 * 1024 + _ = _; omega

/-- The result as an array. -/
def finOf (P : S64x1x1024.Idx → BitVec 32) (x : S65536x1024.Idx → EReal) (w : S94208x512.Idx → BitVec 32) (g : S1024.Idx → EReal) (j : S65536x1024.Idx) : EReal :=
  CombineModel.finAt P x w g ⟨(j 0).val, (j 0).isLt⟩ ⟨(j 1).val, (j 1).isLt⟩

theorem word_at (P : S64x1x1024.Idx → BitVec 32) (w : S94208x512.Idx → BitVec 32) (t : Fin 64) (y : Fin 1024) (k : Fin 512) :
    rowsOf (posOf P t.val) w (ix3 0 y k) = CombineModel.wordAt P w ⟨t.val * 1024 + y.val, by omega⟩ k := by
  have hp : posOf P t.val y = CombineModel.posAt P ⟨t.val * 1024 + y.val, by omega⟩ := by
    unfold posOf CombineModel.posAt
    refine congrArg P (funext fun a => Fin.ext ?_)
    match a with
    | ⟨0, _⟩ => show t.val % 64 = (t.val * 1024 + y.val) / 1024; omega
    | ⟨1, _⟩ => rfl
    | ⟨2, _⟩ => show y.val = (t.val * 1024 + y.val) % 1024; omega
  unfold rowsOf CombineModel.wordAt
  refine congrArg w (funext fun a => Fin.ext ?_)
  match a with
  | ⟨0, _⟩ => show (posOf P t.val y).toNat % 94208 = _; rw [hp]; rfl
  | ⟨1, _⟩ => rfl

theorem fin_eq (c : Dev nD) (g : S1024.Idx → EReal) (hg : ∀ d : Fin 1024, (V c main_v0 : S1x1024.Idx → EReal) (ix2 0 d) = g (ix1 d)) :
    (dat V c).arrAt 4 cfg0.N = finOf (V c main_arg0) (V c main_arg1) (V c main_arg2) g := by
  refine (dat V c).arrAt_eq_of_covers 4 _ (by decide +kernel : win0_4.Covers) fun t _ y => ?_
  have hlt : t.val < 64 := t.isLt
  obtain ⟨Y, d, rfl⟩ : ∃ (Y d : Fin 1024), y = (ix2 Y d : S1024x1024.Idx) :=
    ⟨y (0 : Fin 2), y (1 : Fin 2), by funext a; match a with | ⟨0, _⟩ => rfl | ⟨1, _⟩ => rfl⟩
  refine Eq.trans ?_ (congrArg _ (emb4 t Y d)).symm
  show outOf V c t (ix2 Y d) = CombineModel.finAt _ _ _ g ⟨t.val * 1024 + Y.val, by omega⟩ d
  unfold outOf outBlk
  refine (pay_at _ _ _ Y d).trans ?_
  have hx : ∀ k : Fin 1024, (blkOf V c 2 t : S1024x1024.Idx → EReal) (ix2 Y k) = (V c main_arg1 : S65536x1024.Idx → EReal) (ix2 ⟨t.val * 1024 + Y.val, by omega⟩ k) := fun k =>
    congrArg (V c main_arg1 : S65536x1024.Idx → EReal) (emb2 t Y k)
  have hb : (blkOf V c 3 t : S1x1024.Idx → EReal) (ix2 0 d) = g (ix1 d) :=
    (congrArg (V c main_v0 : S1x1024.Idx → EReal) (emb3 t d)).trans (hg d)
  have hw := fun k => word_at (V c main_arg0) (V c main_arg2) ⟨t.val, hlt⟩ Y k
  unfold tileLo tileHi CombineModel.finAt CombineModel.sumAt CombineModel.meanAt CombineModel.loAt CombineModel.hiAt
  simp only [hx, hb]
  simp only [hw]

end Cert.Kernel2Ideal.Combine

end
-- ==== Proof.Combine.RefSide.lean ====
module

public import proofs.«01_k».proof.Proof.Gen.Reference2Ideal.Run
public import proofs.«01_k».proof.Proof.Combine.Model
public import Idealize.ShloMosaic.Lib.Pointwise
public import Idealize.ShloMosaic.Lib.Routing.Ops
public import Idealize.ShloMosaic.Lib.WordCmp
public import Idealize.ShloMosaic.Lib.Tactic.CleanTypes

/-!
The reference of the final call at a row and a column.
-/

@[expose] public section

set_option maxRecDepth 16384

noncomputable section

namespace Cert.Reference2Ideal.Value

open Idealize.ShloMosaic
open Cert.Reference2Ideal Cert.Reference2Ideal.Gen
open Cert.Model (loW hiW)
open Cert.CombineModel (posAt wordAt loAt hiAt sumAt meanAt finAt)

/-- The words the rows are taken at. -/
def taken (P : Vec Ideal S64x1x1024 .i32) : IVec S65536x1 32 :=
  broadcastInDim S65536x1 ![0] bcast_S65536_S65536x1_0
    (select (cmpi CmpIPredicate.slt (shapeCast S65536 P shapeCasts_S64x1x1024_S65536) (broadcastInDim S65536 ![] bcast_S_S65536 (constantI S_ 32 0#32)))
      (addi (shapeCast S65536 P shapeCasts_S64x1x1024_S65536) (broadcastInDim S65536 ![] bcast_S_S65536 (constantI S_ 32 94208#32)))
      (shapeCast S65536 P shapeCasts_S64x1x1024_S65536))

set_option backward.isDefEq.respectTransparency false in
theorem taken_at (P : Vec Ideal S64x1x1024 .i32) (r : Fin 65536) (h : (posAt P r).toNat < 94208) : taken P (ix2 r 0) = posAt P r := by
  have e : taken P (ix2 r 0) = Scalar.select (IntOp.cmpi CmpIPredicate.slt (posAt P r) 0#32) (IntOp.addi (posAt P r) 94208#32) (posAt P r) := by
    unfold taken posAt
    pointwise
  rw [e, WordCmp.cmpi_slt_eq]
  have hz : decide ((posAt P r).toInt < (0#32 : BitVec 32).toInt) = false := by
    refine decide_eq_false ?_
    rw [BitVec.toInt_eq_toNat_cond]
    show ¬ _ < (0 : ℤ)
    split <;> omega
  rw [hz]
  rfl

set_option backward.isDefEq.respectTransparency false in
theorem row_at (P : Vec Ideal S64x1x1024 .i32) (w : Vec Ideal S94208x512 .i32) (r : Fin 65536) (k : Fin 512) (h : (posAt P r).toNat < 94208) :
    Host.gather gather_S94208x512_S65536x1_S65536x512_1_0_n_n_0_1_1512 w (taken P) (ix2 r k) = wordAt P w r k := by
  refine Eq.trans (congrArg _ (?_ : _ = ValueIdx.ix2 (n0 := 65536) (n1 := 512) r k)) ((Routing.gather_row _ rfl rfl rfl rfl rfl w (taken P) r k ⟨(posAt P r).toNat % 94208, Nat.mod_lt _ (by norm_num)⟩ ?_ (by norm_num)).trans ?_)
  · funext a; fin_cases a <;> rfl
  · refine Eq.trans (congrArg _ (?_ : _ = (ix2 r 0 : S65536x1.Idx))) ((taken_at P r h).trans ?_)
    · funext a; fin_cases a <;> rfl
    · apply BitVec.eq_of_toNat_eq
      rw [BitVec.toNat_ofNat]
      show _ = (posAt P r).toNat % 94208 % 2 ^ 32
      rw [Nat.mod_eq_of_lt h, Nat.mod_eq_of_lt (by omega)]
  · unfold wordAt
    refine congrArg w ?_
    funext a; fin_cases a <;> rfl

set_option maxHeartbeats 4000000 in
set_option backward.isDefEq.respectTransparency false in
theorem res_eq (m : (ℓ : Loc nD τ sig) → Buf (Elt Ideal) ℓ) (c : Dev nD)
    (P : Vec Ideal S64x1x1024 .i32) (x : Vec Ideal S65536x1024 .f32) (w : Vec Ideal S94208x512 .i32) (g : Vec Ideal S1024 .f32)
    (e0 : m ((c.tc : Thread nD τ).loc main_arg0) = P) (e1 : m ((c.tc : Thread nD τ).loc main_arg1) = x) (e2 : m ((c.tc : Thread nD τ).loc main_arg2) = w)
    (e3 : m ((c.tc : Thread nD τ).loc main_arg3) = g)
    (h : ∀ j, (P j).toNat < 94208) (r : Fin 65536) (d : Fin 1024) :
    (res_main_v28 m c : Vec Ideal S65536x1024 .f32) (ix2 r d) = finAt P x w g r d := by
  unfold res_main_v28
  clean_types
  rw [e0, e1, e2, e3]
  pointwise
  have hr : ∀ k : Fin 512, Host.gather gather_S94208x512_S65536x1_S65536x512_1_0_n_n_0_1_1512 w (taken P) (ix2 r k) = wordAt P w r k := fun k => row_at P w r k (h _)
  unfold taken at hr
  simp only [hr, Model.widen_lo, Model.widen_hi]
  unfold finAt sumAt meanAt loAt hiAt
  rfl

end Cert.Reference2Ideal.Value

end
-- ==== Proof.Combine.Claims.lean ====
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_pre2
public import proofs.«01_k».proof.Proof.Terms
public import proofs.«01_k».proof.Proof.Combine.Region
public import proofs.«01_k».proof.Proof.Combine.Value
public import proofs.«01_k».proof.Proof.Combine.RefSide
public import Idealize.ShloMosaic.Lib.Quiescent

/-!
The final call's claims: the frames of the two programs and of the reference, and the value, where every position is
the number of a row.
-/

@[expose] public section

set_option maxRecDepth 16384

noncomputable section

namespace Cert.CombineClaims

open Idealize.ShloMosaic Idealize.SL.Sem

instance bits_nonempty (e : EltTy) : Nonempty (Elt Bits e) := by cases e <;> exact ⟨(0 : BitVec _)⟩
instance ideal_nonempty (e : EltTy) : Nonempty (Elt Ideal e) := by
  cases e <;> first | exact ⟨(0 : BitVec _)⟩ | exact ⟨(0 : EReal)⟩

instance : Subsingleton Pre_pre2.S_.Idx := ⟨fun _ _ => funext fun a => a.elim0⟩

/-- What the precondition says. -/
theorem holds {F : FTy → Type} [FloatOps F] (P : IVec Pre_pre2.S64x1x1024 32) (x : FVec F Pre_pre2.S65536x1024 .f32) (w : IVec Pre_pre2.S94208x512 32)
    (g : FVec F Pre_pre2.S1024 .f32) (h : Pre_pre2.fn (F := F) P x w g = fun _ => 1#1) (j : Pre_pre2.S64x1x1024.Idx) : (P j).toNat < 94208 := by
  have e := congrFun h (fun a => a.elim0)
  simp only [Pre_pre2.fn] at e
  have u := Terms.and1 (Host.reduce_andi_all _ _ _ _ _ e j)
  exact Terms.word_lt (P j) 94208 (by decide) (IntOp.cmpi_sge.1 u.1) (IntOp.cmpi_slt.1 u.2)

section run
open Cert.Kernel2Ideal Cert.Kernel2Ideal.Gen Cert.Kernel2Ideal.Combine
variable {F : FTy → Type} [FloatOps F] [∀ e, Nonempty (Elt F e)]

/-- The run, with what it leaves. -/
theorem run2 (m : (ℓ : Loc nD τ sig) → Buf (Elt F) ℓ) (ρ : Dev nD → PrngReg) (hm : ∀ (c : Dev nD) j, (m ((c.tc : Thread nD τ).loc main_arg0) j : BitVec 32).toNat < 94208) :
    θ_run (defs (F := F)) (onTc (τ := τ) (main (F := F))) ⟨m, fun _ => 0, ρ⟩ (fun r => (∀ c : Dev nD,
      r.2.mem ((c.tc : Thread nD τ).loc main_v1) = (dat (Gen.V m) c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run (defs (F := F)) _ _).mono (fun r hr => ⟨fun c => ?_, hr.2⟩) (run_main (F := F) m ρ fun c n r => hm c _)
  have h := hr.1
  exact ⟨(h c).1 4,
    ((h c).1 1).trans (((dats m 0 c).arrAt_in 1 rfl _).trans (V_main_arg0 m c)),
    ((h c).1 2).trans (((dats m 0 c).arrAt_in 2 rfl _).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

theorem frame2 (m : (ℓ : Loc nD τ sig) → Buf (Elt F) ℓ) (ρ : Dev nD → PrngReg) (hm : ∀ (c : Dev nD) j, (m ((c.tc : Thread nD τ).loc main_arg0) j : BitVec 32).toNat < 94208) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (defs (F := F)) _ _).mono (fun _ h => ⟨fun c => (h.1 c).2, h.2⟩) (run2 m ρ hm)

set_option maxHeartbeats 1000000 in
theorem scale_at (m : (ℓ : Loc nD τ sig) → Buf (Elt F) ℓ) (c : Dev nD) (d : Fin 1024) :
    (Gen.V m c main_v0 : S1x1024.Idx → F .f32) (ix2 0 d) = (m ((c.tc : Thread nD τ).loc main_arg3) : S1024.Idx → F .f32) (ix1 d) := by
  have e : (Gen.V m c main_v0 : S1x1024.Idx → F .f32) = shapeCast S1x1024 (m ((c.tc : Thread nD τ).loc main_arg3) : S1024.Idx → F .f32) shapeCasts_S1024_S1x1024 := rfl
  rw [e]
  pointwise
end run

/-- The two printings of the call have one table of bodies. -/
theorem bodies : (Kernel2.defs₀ (F := Bits)) = Kernel2Ideal.defs₀ (F := Bits) := by
  unfold Kernel2.defs₀ Kernel2Ideal.defs₀
  refine congrArg (Defs.onTc (nD := Kernel2.nD) (τ := Kernel2.τ) (sig := Kernel2.sig) (Val := Elt Bits) (Λ := Kernel2.Λ₀)) ?_
  funext ℓ x
  match ℓ, x with
  | ⟨0, _⟩, (t, s) => rfl

theorem tables : (Kernel2.defs (F := Bits)) = Kernel2Ideal.defs (F := Bits) := by
  unfold Kernel2.defs Kernel2Ideal.defs
  exact congrArg (Pipeline.defs (Kernel2.pcfgs (F := Bits))) bodies

theorem frame_p : Cert.quiescent_Kernel2 := fun m ρ hp => by
  have h := frame2 (F := Bits) m ρ fun c j => holds _ _ _ _ (hp c) j
  rw [← tables] at h
  exact h

theorem frame_pi : Cert.quiescent_Kernel2Ideal := fun m ρ hp => frame2 (F := Ideal) m ρ fun c j => holds _ _ _ _ (hp c) j

theorem frame_ri : Cert.quiescent_Reference2Ideal := fun m ρ _ =>
  (θ_run Cert.Reference2Ideal.defs _ _).mono (fun r h => ⟨fun c => (h c).2, sem_eq_zero_of_no_sems (by decide) r.2⟩)
    (Reference2Ideal.Value.run (F := Ideal) m ρ)

theorem frame_ri_pre : Cert.quiescent_Reference2Ideal_pre_pre2 := fun m ρ _ => frame_ri m ρ trivial

theorem preserves : Cert.preserves_Kernel2_Kernel2Ideal := trivial

theorem algebraic : Cert.algebraic_Kernel2Ideal_Reference2Ideal := fun m ρ m' ρ' hp he => by
  have hb : ∀ (c : Dev Kernel2Ideal.nD) j, (m ((c.tc : Thread Kernel2Ideal.nD Kernel2Ideal.τ).loc Kernel2Ideal.main_arg0) j : BitVec 32).toNat < 94208 := fun c j => holds _ _ _ _ (hp c) j
  refine ⟨fun c => (Kernel2Ideal.Combine.dat (Kernel2Ideal.Gen.V m) c).arrAt 4 Kernel2Ideal.cfg0.N, ?_, ?_⟩
  · exact (θ_run Cert.Kernel2Ideal.defs _ _).mono (fun _ h c => h.1 c) (run2 (F := Ideal) m ρ hb)
  · refine (θ_run Cert.Reference2Ideal.defs _ _).mono (fun r h c => ⟨(h c).1.trans ?_, (h c).2⟩) (Reference2Ideal.Value.run (F := Ideal) m' ρ')
    obtain ⟨e0, e1, e2, e3⟩ := he c
    refine Eq.trans ?_ (Kernel2Ideal.Combine.fin_eq (Kernel2Ideal.Gen.V m) c _ (scale_at m c)).symm
    rw [Kernel2Ideal.Gen.V_main_arg0 m c, Kernel2Ideal.Gen.V_main_arg1 m c, Kernel2Ideal.Gen.V_main_arg2 m c]
    funext i
    obtain ⟨p, d, rfl⟩ : ∃ (p : Fin 65536) (d : Fin 1024), i = (ix2 p d : CombineModel.SX.Idx) :=
      ⟨i (0 : Fin 2), i (1 : Fin 2), by funext a; match a with | ⟨0, _⟩ => rfl | ⟨1, _⟩ => rfl⟩
    exact Reference2Ideal.Value.res_eq m' c _ _ _ _ e0 e1 e2 e3 (hb c) p d

end Cert.CombineClaims

end
-- ==== Proof.CombineProj.Rows.lean ====
module

public import proofs.«01_k».proof.Kernel3Ideal
public import proofs.«01_k».proof.Proof.Gen.Kernel3Ideal.Skeleton
public import Idealize.ShloMosaic.Lib.Tactic
public import Idealize.ShloMosaic.Lib.Batch
public import Idealize.ShloMosaic.Lib.Transfers
public import Idealize.ShloMosaic.Lib.Ring
public import Idealize.ShloMosaic.Lib.ValueLayout

/-!
The gather buffer of the joined call, by rows: two slots of 1024 rows, a row filled by one transfer of one row of the
experts' array. What a row's transfer leaves, the read share it uses, and the batch of a slot's transfers.
-/

@[expose] public section

set_option maxRecDepth 16384

noncomputable section

namespace Cert.Kernel3Ideal.CombineProj

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.Sem Idealize.SL.ProofMode
open Cert.Kernel3Ideal Cert.Kernel3Ideal.Gen
open Idealize.ShloMosaic.ValueIdx

variable {F : FTy → Type} [FloatOps F]

abbrev UU := UR sig nD τ × Counters
local notation "𝕄" => MT nD τ sig Unit (Elt F) ℕ UU ℕ

/-! ## The chains' closed forms -/

theorem off5_eq : ∀ i : grid0.Coords, k0_off5 i = ![1 - (i 0).val % 2] := by decide +kernel
theorem off6_eq : ∀ i : grid0.Coords, k0_off6 i = ![1 - (i 0).val % 2, 0, 0] := by decide +kernel
theorem off9_eq : ∀ i : grid0.Coords, k0_off9 i = ![(i 0).val % 2] := by decide +kernel
theorem off10_eq : ∀ i : grid0.Coords, k0_off10 i = ![(i 0).val % 2, 0, 0] := by decide +kernel
theorem off11_eq : ∀ i : grid0.Coords, k0_off11 i = ![(i 0).val % 2, 0, 0] := by decide +kernel
theorem trips1 : k0_t1_loop.trips = 1024 := by decide +kernel
theorem trips2 : k0_t2_loop.trips = 1024 := by decide +kernel
theorem trips3 : k0_t3_loop.trips = 1024 := by decide +kernel

/-! ## Rows of the gather buffer -/

/-- The cells of row `r` of slot `s`. -/
def rowset (s : Fin 2) (r : Fin 1024) : Finset S2x1024x512.Idx := Finset.univ.filter fun y => (y 0).val = s.val ∧ (y 1).val = r.val

theorem mem_rowset (s : Fin 2) (r : Fin 1024) (y : S2x1024x512.Idx) : y ∈ rowset s r ↔ ((y 0).val = s.val ∧ (y 1).val = r.val) := by
  unfold rowset; rw [Finset.mem_filter]; exact ⟨fun h => h.2, fun h => ⟨Finset.mem_univ _, h⟩⟩

/-- The slot at offsets `o`, as a matrix. -/
abbrev slotM (o : Fin 3 → ℕ) (ho : ∀ a, o a + S1x1024x512.size a ≤ S2x1024x512.size a) : Memref sig .tc .vmem S1024x512 .i32 :=
  ((Memref.whole cc0_scratch0).slice (Rect.unit (s := S2x1024x512) o S1x1024x512.size ho) (fun _ => rfl)).squeeze S1024x512 squeezes_S1x1024x512_S1024x512

/-- The row at offsets `q` of the slot at offsets `o`. -/
abbrev rowM (o : Fin 3 → ℕ) (ho : ∀ a, o a + S1x1024x512.size a ≤ S2x1024x512.size a) (q : Fin 2 → ℕ) (hq : ∀ a, q a + S1x512.size a ≤ S1024x512.size a) : Memref sig .tc .vmem S1x512 .i32 :=
  (slotM o ho).slice (Rect.unit (s := S1024x512) q S1x512.size hq) (fun _ => rfl)

/-- The row at offsets `z` of the experts' array. -/
abbrev srcM (z : Fin 2 → ℕ) (hz : ∀ a, z a + S1x512.size a ≤ S94208x512.size a) : Memref sig .tc .hbm S1x512 .i32 :=
  (Memref.whole main_arg2).slice (Rect.unit (s := S94208x512) z S1x512.size hz) (fun _ => rfl)

theorem row_emb (s : Fin 2) (r : Fin 1024) (o : Fin 3 → ℕ) (ho) (q : Fin 2 → ℕ) (hq) (eo : o = ![s.val, 0, 0]) (eq : q = ![r.val, 0]) (x : S1x512.Idx) :
    (rowM o ho q hq).view.emb x = ix3 (n0 := 2) (n1 := 1024) (n2 := 512) s r (x 1) := by
  subst eo eq
  have e1 : (Rect.unit (s := S1024x512) ![r.val, 0] S1x512.size hq).emb x = ix2 (n0 := 1024) (n1 := 512) r (x 1) := by
    funext a
    have h0 : (x 0).val < 1 := (x 0).isLt
    fin_cases a <;> apply Fin.ext
    · show r.val + 1 * (x 0).val = r.val; omega
    · show 0 + 1 * (x 1).val = (x 1).val; omega
  show (Rect.unit (s := S2x1024x512) ![s.val, 0, 0] S1x1024x512.size ho).emb (Shape.reshapeEquiv _ ((Rect.unit (s := S1024x512) ![r.val, 0] S1x512.size hq).emb x)) = _
  rw [e1]
  erw [reshapeEquiv_ix2_1ab]
  funext a
  fin_cases a <;> apply Fin.ext
  · show s.val + 1 * 0 = s.val; omega
  · show 0 + 1 * r.val = r.val; omega
  · show 0 + 1 * (x 1).val = (x 1).val; omega

theorem row_set (s : Fin 2) (r : Fin 1024) (o : Fin 3 → ℕ) (ho) (q : Fin 2 → ℕ) (hq) (eo : o = ![s.val, 0, 0]) (eq : q = ![r.val, 0]) :
    (rowM o ho q hq).view.set = rowset s r := by
  ext y
  rw [mem_rowset]
  constructor
  · intro h
    obtain ⟨x, -, rfl⟩ := Finset.mem_map.mp h
    have e : (rowM o ho q hq).view.emb x = _ := row_emb s r o ho q hq eo eq x
    rw [e]
    exact ⟨rfl, rfl⟩
  · rintro ⟨h0, h1⟩
    refine Finset.mem_map.mpr ⟨ix2 (n0 := 1) (n1 := 512) 0 (y 2), Finset.mem_univ _, ?_⟩
    refine (row_emb s r o ho q hq eo eq _).trans ?_
    funext a
    fin_cases a <;> apply Fin.ext
    · exact h0.symm
    · exact h1.symm
    · rfl

/-- The row of the experts' array a word names. -/
def rowNo (v : BitVec 32) : Fin 94208 := ⟨v.toNat % 94208, Nat.mod_lt _ (by norm_num)⟩

/-- The rows the words `p` name, in the gather buffer's shape: the same in both slots. -/
def gath (p : Fin 1024 → BitVec 32) (w : S94208x512.Idx → BitVec 32) : S2x1024x512.Idx → BitVec 32 :=
  fun y => w (ix2 (n0 := 94208) (n1 := 512) (rowNo (p (y 1))) (y 2))

theorem src_emb (v : BitVec 32) (hv : v.toNat < 94208) (z : Fin 2 → ℕ) (hz) (ez : z = ![v.toNat, 0]) (x : S1x512.Idx) :
    (srcM z hz).view.emb x = ix2 (n0 := 94208) (n1 := 512) (rowNo v) (x 1) := by
  subst ez
  show (Rect.unit (s := S94208x512) ![v.toNat, 0] S1x512.size hz).emb x = _
  have h0 : (x 0).val < 1 := (x 0).isLt
  funext a
  fin_cases a <;> apply Fin.ext
  · show v.toNat + 1 * (x 0).val = v.toNat % 94208; rw [Nat.mod_eq_of_lt hv]; omega
  · show 0 + 1 * (x 1).val = (x 1).val; omega

/-- What a row's transfer leaves in its row. -/
theorem row_written (c : Dev nD) (s : Fin 2) (r : Fin 1024) (p : Fin 1024 → BitVec 32) (hp : (p r).toNat < 94208) (o : Fin 3 → ℕ) (ho) (q : Fin 2 → ℕ) (hq) (z : Fin 2 → ℕ) (hz)
    (eo : o = ![s.val, 0, 0]) (eq : q = ![r.val, 0]) (ez : z = ![(p r).toNat, 0]) (w : S94208x512.Idx → BitVec 32) (fd : S2x1024x512.Idx → BitVec 32) :
    ∀ y ∈ rowset s r, (rowM o ho q hq).view.write (Elt F) fd ((ReadAs.same (Val := Elt F)).apply ((srcM z hz).view.read (Elt F) w)) Finset.univ y = gath p w y := by
  intro y hy
  have hy' := (mem_rowset s r y).mp hy
  have ey : y = (rowM o ho q hq).view.emb (ix2 (n0 := 1) (n1 := 512) 0 (y 2)) := by
    refine ((row_emb s r o ho q hq eo eq _).trans ?_).symm
    funext a
    fin_cases a <;> apply Fin.ext
    · exact hy'.1.symm
    · exact hy'.2.symm
    · rfl
  have e2 : y 1 = r := Fin.ext hy'.2
  rw [ey, View.write_emb_of_mem _ _ (Finset.mem_univ _), ← ey, ReadAs.apply_same]
  show w ((srcM z hz).view.emb (ix2 (n0 := 1) (n1 := 512) 0 (y 2))) = gath p w y
  rw [src_emb (p r) hp z hz ez]
  unfold gath
  rw [e2]

end Cert.Kernel3Ideal.CombineProj
-- ==== Proof.CombineProj.Transfer.lean ====
module

public import proofs.«01_k».proof.Proof.CombineProj.Rows

/-!
The transfers of one slot of the gather buffer as one batch on the slot's semaphore: issuing a row, waiting for a row.
-/

@[expose] public section

set_option maxRecDepth 16384

noncomputable section

namespace Cert.Kernel3Ideal.CombineProj

open Idealize.ShloMosaic Idealize.ShloMosaic.TcCoe Idealize.ShloMosaic.Tactic
open Idealize.SL Idealize.SL.RA
open Idealize.SL.BI (sProp bigSep bigSep_insert)
open scoped Idealize.SL.BI
open Idealize.SL.BI.BIBase Idealize.SL.BI.Laws Idealize.SL.Sem Idealize.SL.ProofMode
open Cert.Kernel3Ideal Cert.Kernel3Ideal.Gen
open Idealize.ShloMosaic.ValueIdx
open Idealize.ShloMosaic.Transfers

variable {F : FTy → Type} [FloatOps F]

local notation "𝕄" => MT nD τ sig Unit (Elt F) ℕ UU ℕ

/-- The semaphore at offset `o` of the two. -/
abbrev semM (o : Fin 1 → ℕ) (ho : ∀ a, o a + S1.size a ≤ S2.size a) : DmaSem sig :=
  ((cc0_scratch1.slice (Rect.unit (s := S2) o S1.size ho)).squeeze S_ squeezes_S1_S_).sem

theorem sem_inb (s : Fin 2) : ∀ a, (![s.val] : Fin 1 → ℕ) a + S1.size a ≤ S2.size a := by
  intro a; fin_cases a; have := s.isLt; show s.val + 1 ≤ 2; omega

/-- Slot `s`'s semaphore. -/
def dsem (s : Fin 2) : DmaSem sig := semM ![s.val] (sem_inb s)

theorem semM_eq (s : Fin 2) (o : Fin 1 → ℕ) (ho) (eo : o = ![s.val]) : semM o ho = dsem s := by subst eo; rfl

/-- What one row's transfer credits. -/
abbrev NN : ℕ := Ref.dmaCredit cc0_scratch0 S1x512 .i32

theorem NN_pos : 0 < NN := sig.dmaCredit_pos _ _ _ _ _ (by decide)

variable (c : Dev nD)

/-- Row `r` of slot `s`, held at `g`. -/
def rowAt (s : Fin 2) (r : Fin 1024) (g : S2x1024x512.Idx → BitVec 32) : sProp 𝕄 :=
  (Memref.whole cc0_scratch0).view.loc (c : Thread nD τ) ↦[rowset s r]{fullShare} g

/-- The read share of the experts' array that row `r` of slot `s` uses. -/
def tokAt (w : S94208x512.Idx → BitVec 32) (s : Fin 2) (r : Fin 1024) : sProp 𝕄 :=
  (Memref.whole main_arg2).view.loc (c : Thread nD τ) ↦{Transfers.shareTokN (Transfers.shareTokN fullShare s.val) r.val} w

/-- A row with nothing under way: held at anything, and its read share. -/
def freeRow (w : S94208x512.Idx → BitVec 32) (s : Fin 2) (r : Fin 1024) : sProp 𝕄 :=
  iprop((∃ g : S2x1024x512.Idx → BitVec 32, rowAt (F := F) c s r g) ∗ tokAt (F := F) c w s r)

/-- A row brought: it holds the row its word names, and its read share is back. -/
def doneRow (w : S94208x512.Idx → BitVec 32) (p : Fin 1024 → BitVec 32) (s : Fin 2) (r : Fin 1024) : sProp 𝕄 :=
  iprop(rowAt (F := F) c s r (gath p w) ∗ tokAt (F := F) c w s r)

instance doneRow_storable (w : S94208x512.Idx → BitVec 32) (p : Fin 1024 → BitVec 32) (s : Fin 2) (r : Fin 1024) :
    BI.Storable (upEmb : UEmb _ 𝕄) (doneRow (F := F) c w p s r) := by
  unfold doneRow rowAt tokAt; infer_instance

/-- The batch of slot `s`: `k` rows issued, `u` units waited for. -/
def bat (w : S94208x512.Idx → BitVec 32) (p : Fin 1024 → BitVec 32) (s : Fin 2) (k u : ℕ) : sProp 𝕄 :=
  Batch (countersEmb (U := UU)) (c : Thread nD τ) (.dma (dsem s)) () NN (fun r : Fin 1024 => doneRow (F := F) c w p s r) k u

/-- A slot with nothing under way. -/
def idle (w : S94208x512.Idx → BitVec 32) (s : Fin 2) : sProp 𝕄 :=
  iprop(semVal ((c : Thread nD τ), SemLoc.dma (dsem s)) 0 ∗ bigSep Finset.univ (freeRow (F := F) c w s))

/-- A slot whose 1024 rows are under way. -/
def busy (w : S94208x512.Idx → BitVec 32) (p : Fin 1024 → BitVec 32) (s : Fin 2) : sProp 𝕄 := bat (F := F) c w p s 1024 0

/-- Issuing row `r` of slot `s`. -/
theorem issue_row {𝒱 : Variants} (bd : Option 𝒱.V) {α : Type} {Q : α → sProp 𝕄} (w : S94208x512.Idx → BitVec 32) (p : Fin 1024 → BitVec 32) (s : Fin 2) (r : Fin 1024) (hp : (p r).toNat < 94208)
    (o : Fin 3 → ℕ) (ho) (q : Fin 2 → ℕ) (hq) (z : Fin 2 → ℕ) (hz) (eo : o = ![s.val, 0, 0]) (eq : q = ![r.val, 0]) (ez : z = ![(p r).toNat, 0])
    (sm : DmaSem sig) (es : sm = dsem s) (h1) (h2) (h3) (k : PUnit → Prog (TpuEff nD τ sig (Elt F) Λ₀ .tc) α) :
    iprop(freeRow (F := F) c w s r ∗ bat (F := F) c w p s r.val 0)
      ⊢ iprop((bat (F := F) c w p s (r.val + 1) 0 -∗ wp frame (wpE (defs₀ (F := F)) 𝒱 (c : Thread nD τ) bd) Set.univ (k ⟨⟩) Q)
          -∗ wp frame (wpE (defs₀ (F := F)) 𝒱 (c : Thread nD τ) bd) Set.univ (.op (.enqueueDmaAs (srcM z hz) (.here (rowM o ho q hq)) .same (.dma sm) h1 h2 h3) k) Q) := by
  subst es
  unfold freeRow bat Batch
  iintro ⟨⟨⟨%g, Hg⟩, Ht⟩, ⟨%γ, %γ₀, %κ, #Hinv, HI, H0, Hcred⟩⟩ Hk
  ihave HI' := (show bigSep (pending r.val) (fun t => count countersEmb (γ t) 0) ⊢ iprop(count countersEmb (γ r) 0 ∗ bigSep (pending (r.val + 1)) (fun t => count countersEmb (γ t) 0))
    from Entails.of_eq (by rw [pending_succ r.isLt, bigSep_insert (not_mem_pending_succ r.isLt)]; rfl)) $$ HI
  icases HI' with ⟨Hc, HI⟩
  unfold tokAt
  ihave Ht' := (show (_ : sProp 𝕄) ⊢ _ from (pointsTo_split_subset (Finset.subset_univ (srcM z hz).view.set)).1) $$ Ht
  icases Ht' with ⟨Hs, Hput⟩
  have hres : iprop(((Memref.whole main_arg2).view.loc (c : Thread nD τ) ↦[Finset.univ \ (srcM z hz).view.set]{shareTokN (Transfers.shareTokN fullShare s.val) r.val} w)
      ∗ (((rowM o ho q hq).view.loc (c : Thread nD τ) ↦[rowset s r]{fullShare} ((rowM o ho q hq).view.write (Elt F) g ((ReadAs.same (Val := Elt F)).apply ((srcM z hz).view.read (Elt F) w)) Finset.univ))
        ∗ ((srcM z hz).view.loc (c : Thread nD τ) ↦[(srcM z hz).view.set]{shareTokN (Transfers.shareTokN fullShare s.val) r.val} w))) ⊢ doneRow (F := F) c w p s r := by
    unfold doneRow tokAt rowAt
    iintro ⟨Hp, Hd, Hs⟩
    isplitl [Hd]
    · iapply (show ((rowM o ho q hq).view.loc (c : Thread nD τ) ↦[rowset s r]{fullShare} ((rowM o ho q hq).view.write (Elt F) g ((ReadAs.same (Val := Elt F)).apply ((srcM z hz).view.read (Elt F) w)) Finset.univ))
        ⊢ ((Memref.whole cc0_scratch0).view.loc (c : Thread nD τ) ↦[rowset s r]{fullShare} (gath p w) : sProp 𝕄)
        from Entails.of_eq (pointsTo_congr (row_written c s r p hp o ho q hq z hz eo eq ez w g))) $$ Hd
    · iapply (pointsTo_split_subset (Finset.subset_univ (srcM z hz).view.set)).2
      isplitl [Hs]; · iexact Hs
      iexact Hp
  unfold rowAt
  iapply (wp_enqueueDmaAs 𝒱 (c : Thread nD τ) bd Set.univ () NN (by rfl)) $$ [Hs Hg] [Hc Hput]
  · isplitl [Hs]; · iexact Hs
    iapply (pointsTo_writeUpdate (c : Thread nD τ) (v := (rowM o ho q hq).view) (S := rowset s r) (le_of_eq (row_set s r o ho q hq eo eq))) $$ Hg
  · iapply (batch_creditUpdate_with countersEmb (D := fun r : Fin 1024 => doneRow (F := F) c w p s r) r hres)
    isplitr; · iexact Hinv
    isplitl [Hc]; · iexact Hc
    iexact Hput
  iintro Hcred'
  iapply Hk
  iexists γ, γ₀, κ
  isplitr; · iexact Hinv
  isplitl [HI]; · iexact HI
  isplitl [H0]; · iexact H0
  rw [show (r.val + 1) * NN - 0 = (r.val * NN - 0) + NN by rw [Nat.succ_mul]; omega, ← tallyAt_add]
  icombine Hcred Hcred' as H
  iexact H

end Cert.Kernel3Ideal.CombineProj
-- ==== Proof.CombineProj.Loops.lean ====
module

public import proofs.«01_k».proof.Proof.CombineProj.Transfer

/-!
The three loops of the joined call: the rows of the first slot issued, the rows of the next tile's slot issued, and the
rows of this tile's slot waited for.
-/

@[expose] public section

set_option maxRecDepth 16384

noncomputable section

namespace Cert.Kernel3Ideal.CombineProj

open Idealize.ShloMosaic Idealize.ShloMosaic.TcCoe Idealize.ShloMosaic.Tactic
open Idealize.SL Idealize.SL.RA
open Idealize.SL.BI (sProp bigSep bigSep_insert)
open scoped Idealize.SL.BI
open Idealize.SL.BI.BIBase Idealize.SL.BI.Laws Idealize.SL.Sem Idealize.SL.ProofMode
open Cert.Kernel3Ideal Cert.Kernel3Ideal.Gen
open Idealize.ShloMosaic.ValueIdx

variable {F : FTy → Type} [FloatOps F]

local notation "𝕄" => MT nD τ sig Unit (Elt F) ℕ UU ℕ

/-- A buffer's contents, held whole. -/
abbrev ptw {sp : Space} {s : Shape} {e : EltTy} (c : Dev nD) (m : Memref sig .tc sp s e) (f : Buf (Elt F) (m.view.loc (c : Thread nD τ))) : sProp 𝕄 := m.view.loc (c : Thread nD τ) ↦{fullShare} f

variable (c : Dev nD)

/-- The 1024 words of a staged block of positions. -/
def words (b : Memref sig .tc .smem S1x1x1024 .i32) (x : Buf (Elt F) (b.view.loc (c : Thread nD τ))) : Fin 1024 → BitVec 32 :=
  fun r => b.view.read (Elt F) x (ix3 (n0 := 1) (n1 := 1) (n2 := 1024) 0 0 r)

/-- Before trip `k` of an issue loop: the words held, `k` rows issued, the rows from `k` on free. -/
def issueAt (b : Memref sig .tc .smem S1x1x1024 .i32) (x : Buf (Elt F) (b.view.loc (c : Thread nD τ))) (w : S94208x512.Idx → BitVec 32) (s : Fin 2) (k : ℕ) (_ : Unit) : sProp 𝕄 :=
  iprop(ptw c b x ∗ bat (F := F) c w (words c b x) s k 0 ∗ bigSep (Ring.rangeSet 1024 k 1024) (freeRow (F := F) c w s))

theorem words_access (b : Memref sig .tc .smem S1x1x1024 .i32) (x : Buf (Elt F) (b.view.loc (c : Thread nD τ))) (r : Fin 1024) (o : Fin 3 → ℕ) (ho) (eo : o = ![0, 0, r.val]) (j : (Rect.unit (s := S1x1x1024) o S1x1x1.size ho).shape.Idx) :
    (b.access (Rect.unit (s := S1x1x1024) o S1x1x1.size ho)).read (Elt F) x j = words c b x r := by
  subst eo
  have e : (Rect.unit (s := S1x1x1024) ![0, 0, r.val] S1x1x1.size ho).emb j = ix3 (n0 := 1) (n1 := 1) (n2 := 1024) 0 0 r := by
    have h0 : (j 0).val < 1 := (j 0).isLt
    have h1 : (j 1).val < 1 := (j 1).isLt
    have h2 : (j 2).val < 1 := (j 2).isLt
    funext a
    fin_cases a <;> apply Fin.ext
    · show 0 + 1 * (j 0).val = 0; omega
    · show 0 + 1 * (j 1).val = 0; omega
    · show r.val + 1 * (j 2).val = r.val; omega
  show b.view.read (Elt F) x ((Rect.unit (s := S1x1x1024) ![0, 0, r.val] S1x1x1.size ho).emb j) = _
  rw [e]
  rfl

/-- One trip of an issue loop, at its offsets. -/
abbrev tripProg (b : Memref sig .tc .smem S1x1x1024 .i32) (oW : Fin 3 → ℕ) (hoW : ∀ a, oW a + S1x1x1.size a ≤ S1x1x1024.size a) (P : BitVec 32 → Prop) (dP : ∀ v, Decidable (P v))
    (o : Fin 3 → ℕ) (ho : ∀ a, o a + S1x1024x512.size a ≤ S2x1024x512.size a) (q : Fin 2 → ℕ) (hq : ∀ a, q a + S1x512.size a ≤ S1024x512.size a) (z : BitVec 32 → Fin 2 → ℕ) (hz : ∀ v, P v → ∀ a, z v a + S1x512.size a ≤ S94208x512.size a)
    (sm : DmaSem sig) : Prog (TpuEff nD τ sig (Elt F) Λ₀ .tc) Unit := do
  let v : Elt F .i32 ← smemLoad b (Rect.unit (s := S1x1x1024) oW S1x1x1.size hoW) numel1_S1x1x1 rfl
  have hw : P v := (← Prog.lift (TpuEff.assume (P v) (dP v))).down
  Prog.lift (.enqueueDma (srcM (z v) (hz v hw)) (.here (rowM o ho q hq)) (.dma sm) (View.wordExact_bits rfl) (View.wordExact_bits rfl) ⟨Or.inl rfl, trivial⟩)
  pure ⟨⟩

theorem tripProg_eq (b : Memref sig .tc .smem S1x1x1024 .i32) (oW : Fin 3 → ℕ) (hoW : ∀ a, oW a + S1x1x1.size a ≤ S1x1x1024.size a) (P : BitVec 32 → Prop) (dP : ∀ v, Decidable (P v))
    (o : Fin 3 → ℕ) (ho : ∀ a, o a + S1x1024x512.size a ≤ S2x1024x512.size a) (q : Fin 2 → ℕ) (hq : ∀ a, q a + S1x512.size a ≤ S1024x512.size a) (z : BitVec 32 → Fin 2 → ℕ) (hz : ∀ v, P v → ∀ a, z v a + S1x512.size a ≤ S94208x512.size a)
    (sm : DmaSem sig) : tripProg (F := F) b oW hoW P dP o ho q hq z hz sm
      = smemLoadElt b (Rect.unit (s := S1x1x1024) oW S1x1x1.size hoW) (View.loads_smem_one rfl numel1_S1x1x1) (Shape.Idx.first (numel1_S1x1x1.symm ▸ Nat.one_pos)) (fun v =>
          .op (.assume (P v) (dP v)) fun hw => .op (.enqueueDmaAs (srcM (z v) (hz v hw.down)) (.here (rowM o ho q hq)) .same (.dma sm) (View.wordExact_bits rfl) (View.wordExact_bits rfl) ⟨Or.inl rfl, trivial⟩) fun _ => .ret ⟨⟩) := rfl

/-- One trip of an issue loop: the word of row `r` read, its transfer issued. -/
theorem issue_trip (b : Memref sig .tc .smem S1x1x1024 .i32) (x : Buf (Elt F) (b.view.loc (c : Thread nD τ))) (w : S94208x512.Idx → BitVec 32) (s : Fin 2) (r : Fin 1024) (hp : (words c b x r).toNat < 94208)
    (oW : Fin 3 → ℕ) (hoW) (eoW : oW = ![0, 0, r.val]) (P : BitVec 32 → Prop) (dP : ∀ v, Decidable (P v)) (hP : P (words c b x r))
    (o : Fin 3 → ℕ) (ho) (q : Fin 2 → ℕ) (hq) (z : BitVec 32 → Fin 2 → ℕ) (hz : ∀ v, P v → ∀ a, z v a + S1x512.size a ≤ S94208x512.size a)
    (eo : o = ![s.val, 0, 0]) (eq : q = ![r.val, 0]) (ez : ∀ v, z v = ![v.toNat, 0])
    (sm : DmaSem sig) (es : sm = dsem s) (Q : Unit → sProp 𝕄) :
    iprop(ptw c b x ∗ freeRow (F := F) c w s r ∗ bat (F := F) c w (words c b x) s r.val 0)
      ⊢ iprop((ptw c b x -∗ bat (F := F) c w (words c b x) s (r.val + 1) 0 -∗ Q ⟨⟩)
        -∗ wp frame (wpE (defs₀ (F := F)) Variants.none (c : Thread nD τ) none) Set.univ
          (tripProg (F := F) b oW hoW P dP o ho q hq z hz sm) Q) := by
  rw [tripProg_eq]
  iintro ⟨HX, HF, HB⟩ Hk
  iapply (wp_smemLoadElt Variants.none (c : Thread nD τ) none Set.univ (m := b) (r := Rect.unit (s := S1x1x1024) oW S1x1x1.size hoW) (Finset.subset_univ _)) $$ HX
  iintro HX
  rw [words_access c b x r oW hoW eoW]
  iapply (wp_assume Variants.none (c : Thread nD τ) none Set.univ hP)
  iapply (issue_row c none w (words c b x) s r hp o ho q hq (z (words c b x r)) (hz _ hP) eo eq (ez _) sm es _ _ _ _) $$ [HF HB]
  · isplitl [HF]; · iexact HF
    iexact HB
  iintro HB
  rw [wp_ret]
  imodintro
  iapply Hk $$ HX HB

variable (i : grid0.Coords) (b1 : Memref sig .tc .smem S1x1x1024 .i32) (hb1 : b1.IsWhole) (b2 : Memref sig .tc .smem S1x1x1024 .i32) (hb2 : b2.IsWhole)
  (b3 : Memref sig .tc .vmem S1024x1024 .f32) (hb3 : b3.IsWhole) (b5 : Memref sig .tc .vmem S1x1024 .f32) (hb5 : b5.IsWhole) (b6 : Memref sig .tc .vmem S1024x1024 .bf16) (hb6 : b6.IsWhole)
    (b7 : Memref sig .tc .vmem S1024x1024 .f32) (hb7 : b7.IsWhole) (b8 : Memref sig .tc .vmem S1024x1024 .bf16) (hb8 : b8.IsWhole)

theorem issue1_step (x : Buf (Elt F) (b1.view.loc (c : Thread nD τ))) (w : S94208x512.Idx → BitVec 32) (hp : ∀ r, (words c b1 x r).toNat < 94208) (h : k0_cond1 i = 1#1)
    (k : Fin k0_t1_loop.trips) (acc : Unit) :
    issueAt (F := F) c b1 x w 0 k acc ⊢ wp frame (wpE (defs₀ (F := F)) Variants.none (c : Thread nD τ) none) Set.univ
      (k0_t1_body i b1 hb1 b2 hb2 b3 hb3 (Memref.whole main_arg2) (Memref.isWhole_whole _) b5 hb5 b6 hb6 b7 hb7 b8 hb8 (Memref.whole cc0_scratch0) (Memref.isWhole_whole _) cc0_scratch1 h k acc)
      (issueAt (F := F) c b1 x w 0 (k.val + 1)) := by
  have hk : k.val < 1024 := lt_of_lt_of_eq k.isLt trips1
  have hc : k0_chk1 i (words c b1 x ⟨k.val, hk⟩) := by
    intro _ a
    have := hp ⟨k.val, hk⟩
    fin_cases a
    · show (words c b1 x ⟨k.val, hk⟩).toNat + 1 ≤ 94208; omega
    · show 0 + 512 ≤ 512; omega
  unfold issueAt
  rw [Ring.bigSep_rangeSet_head (Φ := freeRow (F := F) c w 0) hk hk]
  iintro ⟨HX, HB, HF, HFs⟩
  unfold k0_t1_body
  iapply (issue_trip c b1 x w 0 ⟨k.val, hk⟩ (hp _) (k0_off1 k) _ (k0_off1_eq k) (k0_chk1 i) (k0_chk1.dec i) hc ![0, 0, 0] _ (k0_off2 k) _ k0_off3 (fun v hv => k0_off3_inb i v hv h) rfl (k0_off2_eq k) (fun _ => rfl)
    (semM ![0] inb_S2_S1_0) (semM_eq 0 _ _ rfl) _) $$ [HX HF HB]
  · isplitl [HX]; · iexact HX
    isplitl [HF]; · iexact HF
    iexact HB
  iintro HX HB
  isplitl [HX]; · iexact HX
  isplitl [HB]; · iexact HB
  iexact HFs

theorem issue2_step (x : Buf (Elt F) (b2.view.loc (c : Thread nD τ))) (w : S94208x512.Idx → BitVec 32) (s : Fin 2) (hs : 1 - (i 0).val % 2 = s.val) (hp : ∀ r, (words c b2 x r).toNat < 94208) (h : k0_cond2 i = 1#1)
    (k : Fin k0_t2_loop.trips) (acc : Unit) :
    issueAt (F := F) c b2 x w s k acc ⊢ wp frame (wpE (defs₀ (F := F)) Variants.none (c : Thread nD τ) none) Set.univ
      (k0_t2_body i b1 hb1 b2 hb2 b3 hb3 (Memref.whole main_arg2) (Memref.isWhole_whole _) b5 hb5 b6 hb6 b7 hb7 b8 hb8 (Memref.whole cc0_scratch0) (Memref.isWhole_whole _) cc0_scratch1 h k acc)
      (issueAt (F := F) c b2 x w s (k.val + 1)) := by
  have hk : k.val < 1024 := lt_of_lt_of_eq k.isLt trips2
  have hc : k0_chk2 i (words c b2 x ⟨k.val, hk⟩) := by
    intro _ a
    have := hp ⟨k.val, hk⟩
    fin_cases a
    · show (words c b2 x ⟨k.val, hk⟩).toNat + 1 ≤ 94208; omega
    · show 0 + 512 ≤ 512; omega
  unfold issueAt
  rw [Ring.bigSep_rangeSet_head (Φ := freeRow (F := F) c w s) hk hk]
  iintro ⟨HX, HB, HF, HFs⟩
  unfold k0_t2_body
  iapply (issue_trip c b2 x w s ⟨k.val, hk⟩ (hp _) (k0_off4 k) _ (k0_off4_eq k) (k0_chk2 i) (k0_chk2.dec i) hc (k0_off6 i) _ (k0_off7 k) _ k0_off8 (fun v hv => k0_off8_inb i v hv h) ((off6_eq i).trans (by rw [hs])) (k0_off7_eq k) (fun _ => rfl)
    (semM (k0_off5 i) (k0_off5_inb i h)) (semM_eq s _ _ ((off5_eq i).trans (by rw [hs]))) _) $$ [HX HF HB]
  · isplitl [HX]; · iexact HX
    isplitl [HF]; · iexact HF
    iexact HB
  iintro HX HB
  isplitl [HX]; · iexact HX
  isplitl [HB]; · iexact HB
  iexact HFs

/-- Before trip `k` of the waiting loop: short of the last trip, `k` rows' units waited for; after it, every row brought. -/
def drainAt (w : S94208x512.Idx → BitVec 32) (p : Fin 1024 → BitVec 32) (s : Fin 2) (k : ℕ) (_ : Unit) : sProp 𝕄 :=
  iprop((∃ W : Waits sig Unit, owes (c : Thread nD τ) 0 W)
    ∗ (if k < 1024 then bat (F := F) c w p s 1024 (k * NN)
       else iprop(semVal ((c : Thread nD τ), SemLoc.dma (dsem s)) 0 ∗ bigSep Finset.univ (doneRow (F := F) c w p s))))

/-- One trip of the waiting loop, at its offsets. -/
abbrev waitProg (o : Fin 3 → ℕ) (ho : ∀ a, o a + S1x1024x512.size a ≤ S2x1024x512.size a) (sm : DmaSem sig) : Prog (TpuEff nD τ sig (Elt F) Λ₀ .tc) Unit := do
  Prog.lift (.waitDma2 sm (srcM ![0, 0] inb_S94208x512_S1x512_0_0) (rowM o ho ![0, 0] inb_S1024x512_S1x512_0_0) (View.wordExact_bits rfl) (View.wordExact_bits rfl))
  pure ⟨⟩

theorem waitProg_eq (o : Fin 3 → ℕ) (ho : ∀ a, o a + S1x1024x512.size a ≤ S2x1024x512.size a) (sm : DmaSem sig) :
    waitProg (F := F) o ho sm = .op (.waitDma2 sm (srcM ![0, 0] inb_S94208x512_S1x512_0_0) (rowM o ho ![0, 0] inb_S1024x512_S1x512_0_0) (View.wordExact_bits rfl) (View.wordExact_bits rfl)) fun _ => .ret ⟨⟩ := rfl

theorem wait_trip (w : S94208x512.Idx → BitVec 32) (p : Fin 1024 → BitVec 32) (s : Fin 2) (o : Fin 3 → ℕ) (ho) (sm : DmaSem sig) (es : sm = dsem s) (k : ℕ) (hk : k < 1024) (acc : Unit) :
    drainAt (F := F) c w p s k acc ⊢ wp frame (wpE (defs₀ (F := F)) Variants.none (c : Thread nD τ) none) Set.univ (waitProg (F := F) o ho sm) (drainAt (F := F) c w p s (k + 1)) := by
  subst es
  rw [waitProg_eq]
  unfold drainAt
  simp only [if_pos hk]
  have hN : (rowM o ho ![0, 0] inb_S1024x512_S1x512_0_0).view.dmaCredit = NN := rfl
  rcases Nat.lt_or_ge (k + 1) 1024 with h1 | h1
  · simp only [if_pos h1]
    iintro ⟨⟨%W, HO⟩, HB⟩
    unfold bat
    iapply (Transfers.wp_waitBatch (countersEmb (U := UU)) Variants.none (c : Thread nD τ) none () hN (u := k * NN) (by
      have h2 : (k + 1) * NN < 1024 * NN := Nat.mul_lt_mul_of_pos_right h1 NN_pos
      rw [Nat.succ_mul] at h2; rw [Nat.mul_comm NN 1024]; exact h2)) $$ [HB HO]
    · isplitl [HB]; · iexact HB
      iexact HO
    iintro ⟨HB, HO⟩
    rw [wp_ret]
    imodintro
    isplitl [HO]; · iexists _; iexact HO
    rw [Nat.succ_mul]
    iexact HB
  · simp only [if_neg (Nat.not_lt.mpr h1)]
    iintro ⟨⟨%W, HO⟩, HB⟩
    unfold bat
    iapply (Transfers.wp_waitBatchLast (countersEmb (U := UU)) Variants.none (c : Thread nD τ) none () hN NN_pos (u := k * NN) (by
      have : k + 1 = 1024 := by omega
      rw [← Nat.succ_mul, Nat.succ_eq_add_one, this, Nat.mul_comm])) $$ [HB HO]
    · isplitl [HB]; · iexact HB
      iexact HO
    iintro ⟨HD, HS, HO⟩
    rw [wp_ret]
    imodintro
    isplitl [HO]; · iexists _; iexact HO
    isplitl [HS]; · iexact HS
    iexact HD

theorem drain_step (w : S94208x512.Idx → BitVec 32) (p : Fin 1024 → BitVec 32) (s : Fin 2) (hs : (i 0).val % 2 = s.val) (k : Fin k0_t3_loop.trips) (acc : Unit) :
    drainAt (F := F) c w p s k acc ⊢ wp frame (wpE (defs₀ (F := F)) Variants.none (c : Thread nD τ) none) Set.univ
      (k0_t3_body i b1 hb1 b2 hb2 b3 hb3 (Memref.whole main_arg2) (Memref.isWhole_whole _) b5 hb5 b6 hb6 b7 hb7 b8 hb8 (Memref.whole cc0_scratch0) (Memref.isWhole_whole _) cc0_scratch1 k acc)
      (drainAt (F := F) c w p s (k.val + 1)) := by
  have hk : k.val < 1024 := lt_of_lt_of_eq k.isLt trips3
  exact wait_trip c w p s (k0_off10 i) (k0_off10_inb i) (semM (k0_off9 i) (k0_off9_inb i)) (semM_eq s _ _ ((off9_eq i).trans (by rw [hs]))) k.val hk acc

end Cert.Kernel3Ideal.CombineProj
-- ==== Proof.CombineProj.Body.lean ====
module

public import proofs.«01_k».proof.Proof.CombineProj.Loops

/-!
The body of the joined call at a tile: the tile's rows are waited for (and, at the first tile, issued first), the next
tile's rows are issued into the other slot, and the tile's result is stored.
-/

@[expose] public section

set_option maxRecDepth 16384

noncomputable section

namespace Cert.Kernel3Ideal.CombineProj

open Idealize.ShloMosaic Idealize.ShloMosaic.TcCoe Idealize.ShloMosaic.Tactic
open Idealize.SL Idealize.SL.RA
open Idealize.SL.BI (sProp bigSep bigSep_insert)
open scoped Idealize.SL.BI
open Idealize.SL.BI.BIBase Idealize.SL.BI.Laws Idealize.SL.Sem Idealize.SL.ProofMode
open Cert.Kernel3Ideal Cert.Kernel3Ideal.Gen
open Idealize.ShloMosaic.ValueIdx

variable {F : FTy → Type} [FloatOps F]

local notation "𝕄" => MT nD τ sig Unit (Elt F) ℕ UU ℕ

variable (c : Dev nD)
variable (i : grid0.Coords) (b1 : Memref sig .tc .smem S1x1x1024 .i32) (hb1 : b1.IsWhole) (b2 : Memref sig .tc .smem S1x1x1024 .i32) (hb2 : b2.IsWhole)
  (b3 : Memref sig .tc .vmem S1024x1024 .f32) (hb3 : b3.IsWhole) (b5 : Memref sig .tc .vmem S1x1024 .f32) (hb5 : b5.IsWhole) (b6 : Memref sig .tc .vmem S1024x1024 .bf16) (hb6 : b6.IsWhole)
    (b7 : Memref sig .tc .vmem S1024x1024 .f32) (hb7 : b7.IsWhole) (b8 : Memref sig .tc .vmem S1024x1024 .bf16) (hb8 : b8.IsWhole)

/-- The body, at its staged blocks. -/
abbrev args : Prog (TpuEff nD τ sig (Elt F) Λ₀ .tc) PUnit :=
  cc0_moe_combine_proj i b1 hb1 b2 hb2 b3 hb3 (Memref.whole main_arg2) (Memref.isWhole_whole _) b5 hb5 b6 hb6 b7 hb7 b8 hb8 (Memref.whole cc0_scratch0) (Memref.isWhole_whole _) cc0_scratch1

/-- The cells of slot `s`. -/
abbrev slotset (s : Fin 2) : Finset S2x1024x512.Idx := Finset.univ.biUnion (rowset s)

theorem mem_slotset (s : Fin 2) (y : S2x1024x512.Idx) : y ∈ slotset s ↔ (y 0).val = s.val := by
  unfold slotset
  rw [Finset.mem_biUnion]
  constructor
  · rintro ⟨r, -, h⟩; exact ((mem_rowset s r y).mp h).1
  · intro h; exact ⟨y 1, Finset.mem_univ _, (mem_rowset s (y 1) y).mpr ⟨h, rfl⟩⟩

theorem rowset_disjoint (s : Fin 2) : ∀ r ∈ (Finset.univ : Finset (Fin 1024)), ∀ r' ∈ (Finset.univ : Finset (Fin 1024)), r ≠ r' → Disjoint (rowset s r) (rowset s r') := by
  intro r _ r' _ hne
  rw [Finset.disjoint_left]
  intro y hy hy'
  rw [mem_rowset] at hy hy'
  exact hne (Fin.ext (hy.2.symm.trans hy'.2))

/-- Slot `s`, held at `g`. -/
def slotAt (s : Fin 2) (g : S2x1024x512.Idx → BitVec 32) : sProp 𝕄 :=
  (Memref.whole cc0_scratch0).view.loc (c : Thread nD τ) ↦[slotset s]{fullShare} g

theorem slot_rows (s : Fin 2) (g : S2x1024x512.Idx → BitVec 32) : slotAt (F := F) c s g = bigSep Finset.univ (fun r => rowAt (F := F) c s r g) := by
  unfold slotAt rowAt
  exact pointsTo_biUnion _ _ (rowset_disjoint s)

/-- An idle slot's batch, with nothing issued. -/
theorem idle_start (w : S94208x512.Idx → BitVec 32) (p : Fin 1024 → BitVec 32) (s : Fin 2) :
    idle (F := F) c w s ⊢ |={Set.univ}=> iprop(bat (F := F) c w p s 0 0 ∗ bigSep (Ring.rangeSet 1024 0 1024) (freeRow (F := F) c w s)) := by
  unfold idle bat
  iintro ⟨HS, HF⟩
  imod (Transfers.batch_alloc' (countersEmb (U := UU)) (c : Thread nD τ) () NN (fun r : Fin 1024 => doneRow (F := F) c w p s r) (sm := .dma (dsem s)) (E := Set.univ)) $$ HS with HB
  imodintro
  isplitl [HB]; · iexact HB
  rw [Ring.rangeSet_univ]
  iexact HF

/-- Every row of a slot brought: the slot holds the rows its words name. -/
theorem drained (w : S94208x512.Idx → BitVec 32) (p : Fin 1024 → BitVec 32) (s : Fin 2) (n : ℕ) (hn : n = 1024) (acc : Unit) :
    drainAt (F := F) c w p s n acc ⊢ iprop((∃ W : Waits sig Unit, owes (c : Thread nD τ) 0 W) ∗ semVal ((c : Thread nD τ), SemLoc.dma (dsem s)) 0
      ∗ slotAt (F := F) c s (gath p w) ∗ bigSep Finset.univ (tokAt (F := F) c w s)) := by
  subst hn
  unfold drainAt
  rw [if_neg (Nat.lt_irrefl _), slot_rows]
  iintro ⟨HO, HS, HD⟩
  isplitl [HO]; · iexact HO
  isplitl [HS]; · iexact HS
  iapply (show bigSep Finset.univ (doneRow (F := F) c w p s) ⊢ iprop(bigSep Finset.univ (fun r => rowAt (F := F) c s r (gath p w)) ∗ bigSep Finset.univ (tokAt (F := F) c w s))
    from Entails.of_eq (BI.bigSep_sep _ _ _)) $$ HD

/-- A slot at hand, its read shares and its semaphore at zero are an idle slot. -/
theorem idle_of (w : S94208x512.Idx → BitVec 32) (s : Fin 2) (g : S2x1024x512.Idx → BitVec 32) :
    iprop(semVal ((c : Thread nD τ), SemLoc.dma (dsem s)) 0 ∗ slotAt (F := F) c s g ∗ bigSep Finset.univ (tokAt (F := F) c w s)) ⊢ idle (F := F) c w s := by
  unfold idle
  rw [slot_rows]
  iintro ⟨HS, HR, HT⟩
  isplitl [HS]; · iexact HS
  iapply (show iprop(bigSep Finset.univ (fun r => iprop(∃ g : S2x1024x512.Idx → BitVec 32, rowAt (F := F) c s r g)) ∗ bigSep Finset.univ (tokAt (F := F) c w s))
    ⊢ bigSep Finset.univ (freeRow (F := F) c w s) from Entails.of_eq (BI.bigSep_sep _ _ _).symm)
  isplitl [HR]
  · iapply (show bigSep Finset.univ (fun r => rowAt (F := F) c s r g) ⊢ bigSep Finset.univ (fun r => iprop(∃ g : S2x1024x512.Idx → BitVec 32, rowAt (F := F) c s r g))
      from BI.bigSep_mono fun r _ => exists_intro (Φ := fun g : S2x1024x512.Idx → BitVec 32 => rowAt (F := F) c s r g) g) $$ HR
  iexact HT

/-- The rows a tile's words name, as the block the body loads. -/
def rowsOf (p : Fin 1024 → BitVec 32) (w : S94208x512.Idx → BitVec 32) : S1x1024x512.Idx → BitVec 32 :=
  fun j => w (ix2 (n0 := 94208) (n1 := 512) (rowNo (p (j 1))) (j 2))

/-- The sum's block at a tile. -/
def sumBlk (p : Fin 1024 → BitVec 32) (w : S94208x512.Idx → BitVec 32) (x : Vec F S1024x1024 .f32) : Vec F S1024x1024 .f32 :=
  k0_pay2 x (rowsOf p w)

/-- The projection's block at a tile. -/
def outBlk (p : Fin 1024 → BitVec 32) (w : S94208x512.Idx → BitVec 32) (x : Vec F S1024x1024 .f32) (g : Vec F S1x1024 .f32) (wt : Vec F S1024x1024 .bf16) : Vec F S1024x1024 .bf16 :=
  k0_pay1 (k0_pay2 x (rowsOf p w)) (k0_pay3 g) (k0_pay4 x (rowsOf p w)) wt

theorem slot_read (p : Fin 1024 → BitVec 32) (w : S94208x512.Idx → BitVec 32) (o : Fin 3 → ℕ) (ho : ∀ a, o a + S1x1024x512.size a ≤ S2x1024x512.size a) (s : Fin 2) (eo : o = ![s.val, 0, 0]) :
    (Memref.whole cc0_scratch0).view.readAt (Elt F) (Rect.unit (s := S2x1024x512) o S1x1024x512.size ho).toLoadRect (gath p w) = rowsOf p w := by
  subst eo
  funext j
  have e : (Rect.unit (s := S2x1024x512) ![s.val, 0, 0] S1x1024x512.size ho).emb j = ix3 (n0 := 2) (n1 := 1024) (n2 := 512) s (j 1) (j 2) := by
    have h0 : (j 0).val < 1 := (j 0).isLt
    funext a
    fin_cases a <;> apply Fin.ext
    · show s.val + 1 * (j 0).val = s.val; omega
    · show 0 + 1 * (j 1).val = (j 1).val; omega
    · show 0 + 1 * (j 2).val = (j 2).val; omega
  show gath p w ((Rect.unit (s := S2x1024x512) ![s.val, 0, 0] S1x1024x512.size ho).emb j) = _
  rw [e]
  rfl

theorem slot_sub (o : Fin 3 → ℕ) (ho : ∀ a, o a + S1x1024x512.size a ≤ S2x1024x512.size a) (s : Fin 2) (eo : o = ![s.val, 0, 0]) :
    (Memref.whole cc0_scratch0).view.setOn (Rect.unit (s := S2x1024x512) o S1x1024x512.size ho).toLoadRect.set ⊆ slotset s := by
  subst eo
  intro y hy
  rw [mem_slotset]
  obtain ⟨z, hz, rfl⟩ := Finset.mem_map.mp hy
  have h0 : s.val ≤ (z 0).val ∧ (z 0).val < s.val + 1 := (Rect.mem_set_unit.mp hz) 0
  show (z 0).val = s.val
  omega

theorem b3_read {e : EltTy} (M : Memref sig .tc .vmem S1024x1024 e) (f : M.view.ty.Contents (Elt F)) (inb : ∀ a, (![0, 0] : Fin 2 → ℕ) a + S1024x1024.size a ≤ S1024x1024.size a) :
    M.view.readAt (Elt F) (Rect.unit (s := S1024x1024) ![0, 0] S1024x1024.size inb).toLoadRect f = M.view.read (Elt F) f :=
  funext fun j => congrArg (M.view.read (Elt F) f) (funext fun a => Fin.ext (by
    fin_cases a
    · show 0 + 1 * (j 0).val = (j 0).val; omega
    · show 0 + 1 * (j 1).val = (j 1).val; omega))

theorem b5_read (M : Memref sig .tc .vmem S1x1024 .f32) (f : M.view.ty.Contents (Elt F)) (inb : ∀ a, (![0, 0] : Fin 2 → ℕ) a + S1x1024.size a ≤ S1x1024.size a) :
    M.view.readAt (Elt F) (Rect.unit (s := S1x1024) ![0, 0] S1x1024.size inb).toLoadRect f = M.view.read (Elt F) f :=
  funext fun j => congrArg (M.view.read (Elt F) f) (funext fun a => Fin.ext (by
    fin_cases a
    · show 0 + 1 * (j 0).val = (j 0).val; omega
    · show 0 + 1 * (j 1).val = (j 1).val; omega))

theorem b6_read {e : EltTy} (M : Memref sig .tc .vmem S1024x1024 e) (f : M.view.ty.Contents (Elt F)) (inb : ∀ a, (![0, 0] : Fin 2 → ℕ) a + S1024x1024.size a ≤ S1024x1024.size a)
    (v : Vec F S1024x1024 e) : View.read (Elt F) M.view (M.view.writes (Elt F) f [⟨Rect.unit (s := S1024x1024) ![0, 0] S1024x1024.size inb, v⟩]) = v := by
  funext y
  refine View.read_writes_apply_of_pieces M.view f v _ (fun p hp x => ?_) y ?_
  · obtain rfl := List.mem_singleton.mp hp
    refine congrArg v (funext fun a => Fin.ext ?_)
    fin_cases a
    · show (x 0).val = 0 + 1 * (x 0).val; omega
    · show (x 1).val = 0 + 1 * (x 1).val; omega
  · exact ⟨_, List.mem_singleton_self _, View.mem_set_unit_zero (S := S1024x1024) (by decide +kernel) inb y⟩

/-- The load of a slot whose rows are in. -/
theorem load_slot (p : Fin 1024 → BitVec 32) (w : S94208x512.Idx → BitVec 32) (o : Fin 3 → ℕ) (ho : ∀ a, o a + S1x1024x512.size a ≤ S2x1024x512.size a) (s : Fin 2) (eo : o = ![s.val, 0, 0])
    (hl : (Memref.whole cc0_scratch0).view.LoadsAt (Rect.unit (s := S2x1024x512) o S1x1024x512.size ho).toLoadRect) {α : Type} (k : Vec F S1x1024x512 .i32 → Prog (TpuEff nD τ sig (Elt F) Λ₀ .tc) α) (Q : α → sProp 𝕄) :
    slotAt (F := F) c s (gath p w) ⊢ iprop((slotAt (F := F) c s (gath p w) -∗ wp frame (wpE (defs₀ (F := F)) Variants.none (c : Thread nD τ) none) Set.univ (k (rowsOf p w)) Q)
      -∗ wp frame (wpE (defs₀ (F := F)) Variants.none (c : Thread nD τ) none) Set.univ (Prog.lift (.load (Memref.whole cc0_scratch0) (Rect.unit (s := S2x1024x512) o S1x1024x512.size ho).toLoadRect hl) >>= k) Q) := by
  rw [show (Prog.lift (TpuEff.load (Val := Elt F) (Memref.whole cc0_scratch0) (Rect.unit (s := S2x1024x512) o S1x1024x512.size ho).toLoadRect hl) >>= k)
    = .op (.load (Memref.whole cc0_scratch0) (Rect.unit (s := S2x1024x512) o S1x1024x512.size ho).toLoadRect hl) k from rfl]
  rw [← slot_read (F := F) p w o ho s eo]
  unfold slotAt
  exact wp_load Variants.none (c : Thread nD τ) none Set.univ (slot_sub o ho s eo)

/-- The first tile. -/
theorem run_first [∀ e, Nonempty (Elt F e)] (w : S94208x512.Idx → BitVec 32) (x1 : Buf (Elt F) (b1.view.loc (c : Thread nD τ))) (x2 : Buf (Elt F) (b2.view.loc (c : Thread nD τ)))
    (x3 : Buf (Elt F) (b3.view.loc (c : Thread nD τ))) (x5 : Buf (Elt F) (b5.view.loc (c : Thread nD τ))) (x6 : Buf (Elt F) (b6.view.loc (c : Thread nD τ)))
    (x7 : Buf (Elt F) (b7.view.loc (c : Thread nD τ))) (x8 : Buf (Elt F) (b8.view.loc (c : Thread nD τ))) (W : Waits sig Unit)
    (h1 : k0_cond1 i = 1#1) (h2 : k0_cond2 i = 1#1) (hs : (i 0).val % 2 = 0) (hp1 : ∀ r, (words c b1 x1 r).toNat < 94208) (hp2 : ∀ r, (words c b2 x2 r).toNat < 94208) (Q : PUnit → sProp 𝕄) :
    iprop(idle (F := F) c w 0 ∗ idle (F := F) c w 1 ∗ ptw c b1 x1 ∗ ptw c b2 x2 ∗ ptw c b3 x3 ∗ ptw c b5 x5 ∗ ptw c b6 x6 ∗ ptw c b7 x7 ∗ ptw c b8 x8 ∗ owes (c : Thread nD τ) 0 W
      ∗ (∀ f7 : Buf (Elt F) (b7.view.loc (c : Thread nD τ)), ∀ f8 : Buf (Elt F) (b8.view.loc (c : Thread nD τ)), ∀ W' : Waits sig Unit, ⌜b7.view.read (Elt F) f7 = sumBlk (words c b1 x1) w (b3.view.read (Elt F) x3)
              ∧ b8.view.read (Elt F) f8 = outBlk (words c b1 x1) w (b3.view.read (Elt F) x3) (b5.view.read (Elt F) x5) (b6.view.read (Elt F) x6)⌝
          ∗ busy (F := F) c w (words c b2 x2) 1 ∗ idle (F := F) c w 0 ∗ ptw c b1 x1 ∗ ptw c b2 x2 ∗ ptw c b3 x3 ∗ ptw c b5 x5 ∗ ptw c b6 x6 ∗ ptw c b7 f7 ∗ ptw c b8 f8 ∗ owes (c : Thread nD τ) 0 W' -∗ Q ⟨⟩))
    ⊢ wp frame (wpE (defs₀ (F := F)) Variants.none (c : Thread nD τ) none) Set.univ (args i b1 hb1 b2 hb2 b3 hb3 b5 hb5 b6 hb6 b7 hb7 b8 hb8) Q := by
  iintro ⟨HI0, HI1, H1, H2, H3, H5, H6, H7, H8, HO, Hk⟩
  unfold args
  rw [cc0_moe_combine_proj_eq_skeleton]
  unfold cc0_moe_combine_proj_skel
  rw [wp_bind, k0_part1_eq_skeleton]
  unfold k0_part1_skel
  sl_exec
  imod (idle_start c w (words c b1 x1) 0) $$ HI0 with ⟨HB, HF⟩
  sl_for (issueAt (F := F) c b1 x1 w 0) $$ [H1 HB HF]
  · intro k acc; exact issue1_step c i b1 hb1 b2 hb2 b3 hb3 b5 hb5 b6 hb6 b7 hb7 b8 hb8 x1 w hp1 h1 k acc
  · unfold issueAt
    isplitl [H1]; · iexact H1
    isplitl [HB]; · iexact HB
    iexact HF
  iintro %acc1 HA
  unfold issueAt
  icases HA with ⟨H1, HB, -⟩
  sl_exec
  imod (idle_start c w (words c b2 x2) 1) $$ HI1 with ⟨HB2, HF2⟩
  sl_for (issueAt (F := F) c b2 x2 w 1) $$ [H2 HB2 HF2]
  · intro k acc; exact issue2_step c i b1 hb1 b2 hb2 b3 hb3 b5 hb5 b6 hb6 b7 hb7 b8 hb8 x2 w 1 (by rw [hs]; rfl) hp2 h2 k acc
  · unfold issueAt
    isplitl [H2]; · iexact H2
    isplitl [HB2]; · iexact HB2
    iexact HF2
  iintro %acc2 HA
  unfold issueAt
  icases HA with ⟨H2, HB2, -⟩
  sl_exec
  sl_for (drainAt (F := F) c w (words c b1 x1) 0) $$ [HB HO]
  · intro k acc; exact drain_step c i b1 hb1 b2 hb2 b3 hb3 b5 hb5 b6 hb6 b7 hb7 b8 hb8 w (words c b1 x1) 0 (by rw [hs]; rfl) k acc
  · unfold drainAt
    rw [if_pos (by norm_num), Nat.zero_mul]
    isplitl [HO]; · iexists _; iexact HO
    rw [show Scf.trips k0_t1_loop.lb k0_t1_loop.ub k0_t1_loop.st = 1024 from trips1]
    iexact HB
  iintro %acc3 HA
  ihave HA := (drained c w (words c b1 x1) 0 _ trips3 acc3) $$ HA
  icases HA with ⟨⟨%W1, HO⟩, HS, HR, HT⟩
  sl_respell []
  iapply (load_slot c (words c b1 x1) w (k0_off11 i) (k0_off11_inb i) 0 ((off11_eq i).trans (by rw [hs]; rfl)) _ _ _) $$ HR
  iintro HR
  sl_exec
  sl_step
  iapply Hk
  isplitr; swap
  isplitl [HB2]
  · unfold busy
    rw [show Scf.trips k0_t2_loop.lb k0_t2_loop.ub k0_t2_loop.st = 1024 from trips2]
    iexact HB2
  isplitl [HS HR HT]
  · iapply (idle_of c w 0 (gath (words c b1 x1) w))
    isplitl [HS]; · iexact HS
    isplitl [HR]; · iexact HR
    iexact HT
  isplitl [H1]; · iexact H1
  isplitl [H2]; · iexact H2
  isplitl [H3]; · iexact H3
  isplitl [H5]; · iexact H5
  isplitl [H6]; · iexact H6
  isplitl [H7]; · iexact H7
  isplitl [H8]; · iexact H8
  iexact HO
  ipureintro
  constructor
  · rw [b6_read, ← b3_read b3 x3 inb_S1024x1024_S1024x1024_0_0]
    rfl
  · rw [b6_read, ← b3_read b3 x3 inb_S1024x1024_S1024x1024_0_0, ← b5_read b5 x5 inb_S1x1024_S1x1024_0_0, ← b3_read b6 x6 inb_S1024x1024_S1024x1024_0_0]
    rfl

/-- A tile between. -/
theorem run_mid [∀ e, Nonempty (Elt F e)] (w : S94208x512.Idx → BitVec 32) (x1 : Buf (Elt F) (b1.view.loc (c : Thread nD τ))) (x2 : Buf (Elt F) (b2.view.loc (c : Thread nD τ)))
    (x3 : Buf (Elt F) (b3.view.loc (c : Thread nD τ))) (x5 : Buf (Elt F) (b5.view.loc (c : Thread nD τ))) (x6 : Buf (Elt F) (b6.view.loc (c : Thread nD τ)))
    (x7 : Buf (Elt F) (b7.view.loc (c : Thread nD τ))) (x8 : Buf (Elt F) (b8.view.loc (c : Thread nD τ))) (W : Waits sig Unit)
    (h1 : ¬ k0_cond1 i = 1#1) (h2 : k0_cond2 i = 1#1) (s s' : Fin 2) (hs : (i 0).val % 2 = s.val) (hs' : 1 - (i 0).val % 2 = s'.val) (hp2 : ∀ r, (words c b2 x2 r).toNat < 94208) (Q : PUnit → sProp 𝕄) :
    iprop(busy (F := F) c w (words c b1 x1) s ∗ idle (F := F) c w s' ∗ ptw c b1 x1 ∗ ptw c b2 x2 ∗ ptw c b3 x3 ∗ ptw c b5 x5 ∗ ptw c b6 x6 ∗ ptw c b7 x7 ∗ ptw c b8 x8 ∗ owes (c : Thread nD τ) 0 W
      ∗ (∀ f7 : Buf (Elt F) (b7.view.loc (c : Thread nD τ)), ∀ f8 : Buf (Elt F) (b8.view.loc (c : Thread nD τ)), ∀ W' : Waits sig Unit, ⌜b7.view.read (Elt F) f7 = sumBlk (words c b1 x1) w (b3.view.read (Elt F) x3)
              ∧ b8.view.read (Elt F) f8 = outBlk (words c b1 x1) w (b3.view.read (Elt F) x3) (b5.view.read (Elt F) x5) (b6.view.read (Elt F) x6)⌝
          ∗ busy (F := F) c w (words c b2 x2) s' ∗ idle (F := F) c w s ∗ ptw c b1 x1 ∗ ptw c b2 x2 ∗ ptw c b3 x3 ∗ ptw c b5 x5 ∗ ptw c b6 x6 ∗ ptw c b7 f7 ∗ ptw c b8 f8 ∗ owes (c : Thread nD τ) 0 W' -∗ Q ⟨⟩))
    ⊢ wp frame (wpE (defs₀ (F := F)) Variants.none (c : Thread nD τ) none) Set.univ (args i b1 hb1 b2 hb2 b3 hb3 b5 hb5 b6 hb6 b7 hb7 b8 hb8) Q := by
  iintro ⟨HB, HI1, H1, H2, H3, H5, H6, H7, H8, HO, Hk⟩
  unfold args
  rw [cc0_moe_combine_proj_eq_skeleton]
  unfold cc0_moe_combine_proj_skel
  rw [wp_bind, k0_part1_eq_skeleton]
  unfold k0_part1_skel
  sl_exec
  imod (idle_start c w (words c b2 x2) s') $$ HI1 with ⟨HB2, HF2⟩
  sl_for (issueAt (F := F) c b2 x2 w s') $$ [H2 HB2 HF2]
  · intro k acc; exact issue2_step c i b1 hb1 b2 hb2 b3 hb3 b5 hb5 b6 hb6 b7 hb7 b8 hb8 x2 w s' hs' hp2 h2 k acc
  · unfold issueAt
    isplitl [H2]; · iexact H2
    isplitl [HB2]; · iexact HB2
    iexact HF2
  iintro %acc2 HA
  unfold issueAt
  icases HA with ⟨H2, HB2, -⟩
  sl_exec
  sl_for (drainAt (F := F) c w (words c b1 x1) s) $$ [HB HO]
  · intro k acc; exact drain_step c i b1 hb1 b2 hb2 b3 hb3 b5 hb5 b6 hb6 b7 hb7 b8 hb8 w (words c b1 x1) s hs k acc
  · unfold drainAt
    rw [if_pos (by norm_num), Nat.zero_mul]
    isplitl [HO]; · iexists _; iexact HO
    unfold busy
    iexact HB
  iintro %acc3 HA
  ihave HA := (drained c w (words c b1 x1) s _ trips3 acc3) $$ HA
  icases HA with ⟨⟨%W1, HO⟩, HS, HR, HT⟩
  sl_respell []
  iapply (load_slot c (words c b1 x1) w (k0_off11 i) (k0_off11_inb i) s ((off11_eq i).trans (by rw [hs])) _ _ _) $$ HR
  iintro HR
  sl_exec
  sl_step
  iapply Hk
  isplitr; swap
  isplitl [HB2]
  · unfold busy
    rw [show Scf.trips k0_t2_loop.lb k0_t2_loop.ub k0_t2_loop.st = 1024 from trips2]
    iexact HB2
  isplitl [HS HR HT]
  · iapply (idle_of c w s (gath (words c b1 x1) w))
    isplitl [HS]; · iexact HS
    isplitl [HR]; · iexact HR
    iexact HT
  isplitl [H1]; · iexact H1
  isplitl [H2]; · iexact H2
  isplitl [H3]; · iexact H3
  isplitl [H5]; · iexact H5
  isplitl [H6]; · iexact H6
  isplitl [H7]; · iexact H7
  isplitl [H8]; · iexact H8
  iexact HO
  ipureintro
  constructor
  · rw [b6_read, ← b3_read b3 x3 inb_S1024x1024_S1024x1024_0_0]
    rfl
  · rw [b6_read, ← b3_read b3 x3 inb_S1024x1024_S1024x1024_0_0, ← b5_read b5 x5 inb_S1x1024_S1x1024_0_0, ← b3_read b6 x6 inb_S1024x1024_S1024x1024_0_0]
    rfl

/-- The last tile. -/
theorem run_last [∀ e, Nonempty (Elt F e)] (w : S94208x512.Idx → BitVec 32) (x1 : Buf (Elt F) (b1.view.loc (c : Thread nD τ))) (x2 : Buf (Elt F) (b2.view.loc (c : Thread nD τ)))
    (x3 : Buf (Elt F) (b3.view.loc (c : Thread nD τ))) (x5 : Buf (Elt F) (b5.view.loc (c : Thread nD τ))) (x6 : Buf (Elt F) (b6.view.loc (c : Thread nD τ)))
    (x7 : Buf (Elt F) (b7.view.loc (c : Thread nD τ))) (x8 : Buf (Elt F) (b8.view.loc (c : Thread nD τ))) (W : Waits sig Unit)
    (h1 : ¬ k0_cond1 i = 1#1) (h2 : ¬ k0_cond2 i = 1#1) (s : Fin 2) (hs : (i 0).val % 2 = s.val) (Q : PUnit → sProp 𝕄) :
    iprop(busy (F := F) c w (words c b1 x1) s ∗ ptw c b1 x1 ∗ ptw c b2 x2 ∗ ptw c b3 x3 ∗ ptw c b5 x5 ∗ ptw c b6 x6 ∗ ptw c b7 x7 ∗ ptw c b8 x8 ∗ owes (c : Thread nD τ) 0 W
      ∗ (∀ f7 : Buf (Elt F) (b7.view.loc (c : Thread nD τ)), ∀ f8 : Buf (Elt F) (b8.view.loc (c : Thread nD τ)), ∀ W' : Waits sig Unit, ⌜b7.view.read (Elt F) f7 = sumBlk (words c b1 x1) w (b3.view.read (Elt F) x3)
              ∧ b8.view.read (Elt F) f8 = outBlk (words c b1 x1) w (b3.view.read (Elt F) x3) (b5.view.read (Elt F) x5) (b6.view.read (Elt F) x6)⌝
          ∗ idle (F := F) c w s ∗ ptw c b1 x1 ∗ ptw c b2 x2 ∗ ptw c b3 x3 ∗ ptw c b5 x5 ∗ ptw c b6 x6 ∗ ptw c b7 f7 ∗ ptw c b8 f8 ∗ owes (c : Thread nD τ) 0 W' -∗ Q ⟨⟩))
    ⊢ wp frame (wpE (defs₀ (F := F)) Variants.none (c : Thread nD τ) none) Set.univ (args i b1 hb1 b2 hb2 b3 hb3 b5 hb5 b6 hb6 b7 hb7 b8 hb8) Q := by
  iintro ⟨HB, H1, H2, H3, H5, H6, H7, H8, HO, Hk⟩
  unfold args
  rw [cc0_moe_combine_proj_eq_skeleton]
  unfold cc0_moe_combine_proj_skel
  rw [wp_bind, k0_part1_eq_skeleton]
  unfold k0_part1_skel
  sl_exec
  sl_for (drainAt (F := F) c w (words c b1 x1) s) $$ [HB HO]
  · intro k acc; exact drain_step c i b1 hb1 b2 hb2 b3 hb3 b5 hb5 b6 hb6 b7 hb7 b8 hb8 w (words c b1 x1) s hs k acc
  · unfold drainAt
    rw [if_pos (by norm_num), Nat.zero_mul]
    isplitl [HO]; · iexists _; iexact HO
    unfold busy
    iexact HB
  iintro %acc3 HA
  ihave HA := (drained c w (words c b1 x1) s _ trips3 acc3) $$ HA
  icases HA with ⟨⟨%W1, HO⟩, HS, HR, HT⟩
  sl_respell []
  iapply (load_slot c (words c b1 x1) w (k0_off11 i) (k0_off11_inb i) s ((off11_eq i).trans (by rw [hs])) _ _ _) $$ HR
  iintro HR
  sl_exec
  sl_step
  iapply Hk
  isplitr; swap
  isplitl [HS HR HT]
  · iapply (idle_of c w s (gath (words c b1 x1) w))
    isplitl [HS]; · iexact HS
    isplitl [HR]; · iexact HR
    iexact HT
  isplitl [H1]; · iexact H1
  isplitl [H2]; · iexact H2
  isplitl [H3]; · iexact H3
  isplitl [H5]; · iexact H5
  isplitl [H6]; · iexact H6
  isplitl [H7]; · iexact H7
  isplitl [H8]; · iexact H8
  iexact HO
  ipureintro
  constructor
  · rw [b6_read, ← b3_read b3 x3 inb_S1024x1024_S1024x1024_0_0]
    rfl
  · rw [b6_read, ← b3_read b3 x3 inb_S1024x1024_S1024x1024_0_0, ← b5_read b5 x5 inb_S1x1024_S1x1024_0_0, ← b3_read b6 x6 inb_S1024x1024_S1024x1024_0_0]
    rfl

end Cert.Kernel3Ideal.CombineProj
-- ==== Proof.CombineProj.Tile.lean ====
module

public import proofs.«01_k».proof.Proof.CombineProj.Body

/-!
What is under way between tiles of the joined call: nothing before the first and after the last, and in between the
rows of the next tile, in its slot. One tile takes it from one number to the next. How the two slots, the read shares
and the two semaphores make it, and how they come back.
-/

@[expose] public section

set_option maxRecDepth 16384

noncomputable section

namespace Cert.Kernel3Ideal.CombineProj

open Idealize.ShloMosaic Idealize.ShloMosaic.TcCoe Idealize.ShloMosaic.Tactic
open Idealize.SL Idealize.SL.RA
open Idealize.SL.BI (sProp bigSep bigSep_insert)
open scoped Idealize.SL.BI
open Idealize.SL.BI.BIBase Idealize.SL.BI.Laws Idealize.SL.Sem Idealize.SL.ProofMode
open Cert.Kernel3Ideal Cert.Kernel3Ideal.Gen
open Idealize.ShloMosaic.ValueIdx

variable {F : FTy → Type} [FloatOps F]

local notation "𝕄" => MT nD τ sig Unit (Elt F) ℕ UU ℕ

/-- Tile `n`'s slot. -/
def slotOf (n : ℕ) : Fin 2 := ⟨n % 2, Nat.mod_lt _ (by norm_num)⟩

/-- The other slot. -/
def otherOf (n : ℕ) : Fin 2 := ⟨1 - n % 2, by omega⟩

theorem slotOf_succ (n : ℕ) : slotOf (n + 1) = otherOf n := Fin.ext (by show (n + 1) % 2 = 1 - n % 2; omega)
theorem otherOf_succ (n : ℕ) : otherOf (n + 1) = slotOf n := Fin.ext (by show 1 - (n + 1) % 2 = n % 2; omega)

theorem cond1_at : ∀ i : grid0.Coords, k0_cond1 i = 1#1 ↔ (i 0).val = 0 := by decide +kernel
theorem cond2_at : ∀ i : grid0.Coords, k0_cond2 i = 1#1 ↔ (i 0).val + 1 < 64 := by decide +kernel

/-- Before tile `n`. -/
def core (c : Dev nD) (w : S94208x512.Idx → BitVec 32) (p : ℕ → Fin 1024 → BitVec 32) (n : ℕ) : sProp 𝕄 :=
  if 0 < n ∧ n < 64 then iprop(busy (F := F) c w (p n) (slotOf n) ∗ idle (F := F) c w (otherOf n))
  else iprop(idle (F := F) c w 0 ∗ idle (F := F) c w 1)

theorem core_mid (c : Dev nD) (w : S94208x512.Idx → BitVec 32) (p : ℕ → Fin 1024 → BitVec 32) (n : ℕ) (h0 : 0 < n) (h1 : n < 64) :
    core (F := F) c w p n = iprop(busy (F := F) c w (p n) (slotOf n) ∗ idle (F := F) c w (otherOf n)) := by
  unfold core; rw [if_pos ⟨h0, h1⟩]

theorem core_zero (c : Dev nD) (w : S94208x512.Idx → BitVec 32) (p : ℕ → Fin 1024 → BitVec 32) :
    core (F := F) c w p 0 = iprop(idle (F := F) c w 0 ∗ idle (F := F) c w 1) := by
  unfold core; rw [if_neg (by omega)]

theorem core_last (c : Dev nD) (w : S94208x512.Idx → BitVec 32) (p : ℕ → Fin 1024 → BitVec 32) :
    core (F := F) c w p 64 = iprop(idle (F := F) c w 0 ∗ idle (F := F) c w 1) := by
  unfold core; rw [if_neg (by omega)]

set_option maxHeartbeats 1000000 in
/-- One tile. -/
theorem step [∀ e, Nonempty (Elt F e)] (c : Dev nD) (i : grid0.Coords) (b1 : Memref sig .tc .smem S1x1x1024 .i32) (hb1 : b1.IsWhole) (b2 : Memref sig .tc .smem S1x1x1024 .i32) (hb2 : b2.IsWhole)
    (b3 : Memref sig .tc .vmem S1024x1024 .f32) (hb3 : b3.IsWhole) (b5 : Memref sig .tc .vmem S1x1024 .f32) (hb5 : b5.IsWhole) (b6 : Memref sig .tc .vmem S1024x1024 .bf16) (hb6 : b6.IsWhole)
    (b7 : Memref sig .tc .vmem S1024x1024 .f32) (hb7 : b7.IsWhole) (b8 : Memref sig .tc .vmem S1024x1024 .bf16) (hb8 : b8.IsWhole)
    (w : S94208x512.Idx → BitVec 32) (p : ℕ → Fin 1024 → BitVec 32) (hp : ∀ n r, (p n r).toNat < 94208)
    (x1 : Buf (Elt F) (b1.view.loc (c : Thread nD τ))) (x2 : Buf (Elt F) (b2.view.loc (c : Thread nD τ)))
    (x3 : Buf (Elt F) (b3.view.loc (c : Thread nD τ))) (x5 : Buf (Elt F) (b5.view.loc (c : Thread nD τ))) (x6 : Buf (Elt F) (b6.view.loc (c : Thread nD τ)))
    (x7 : Buf (Elt F) (b7.view.loc (c : Thread nD τ))) (x8 : Buf (Elt F) (b8.view.loc (c : Thread nD τ))) (W : Waits sig Unit)
    (n : ℕ) (hn : (i 0).val = n) (hw1 : words (F := F) c b1 x1 = p n) (hw2 : n + 1 < 64 → words (F := F) c b2 x2 = p (n + 1)) (Q : PUnit → sProp 𝕄) :
    iprop(core (F := F) c w p n ∗ ptw c b1 x1 ∗ ptw c b2 x2 ∗ ptw c b3 x3 ∗ ptw c b5 x5 ∗ ptw c b6 x6 ∗ ptw c b7 x7 ∗ ptw c b8 x8 ∗ owes (c : Thread nD τ) 0 W
      ∗ (∀ f7 : Buf (Elt F) (b7.view.loc (c : Thread nD τ)), ∀ f8 : Buf (Elt F) (b8.view.loc (c : Thread nD τ)), ∀ W' : Waits sig Unit, core (F := F) c w p (n + 1)
          ∗ ⌜b7.view.read (Elt F) f7 = sumBlk (p n) w (b3.view.read (Elt F) x3)
              ∧ b8.view.read (Elt F) f8 = outBlk (p n) w (b3.view.read (Elt F) x3) (b5.view.read (Elt F) x5) (b6.view.read (Elt F) x6)⌝
          ∗ ptw c b1 x1 ∗ ptw c b2 x2 ∗ ptw c b3 x3 ∗ ptw c b5 x5 ∗ ptw c b6 x6 ∗ ptw c b7 f7 ∗ ptw c b8 f8 ∗ owes (c : Thread nD τ) 0 W' -∗ Q ⟨⟩))
    ⊢ wp frame (wpE (defs₀ (F := F)) Variants.none (c : Thread nD τ) none) Set.univ (args i b1 hb1 b2 hb2 b3 hb3 b5 hb5 b6 hb6 b7 hb7 b8 hb8) Q := by
  have hlt : n < 64 := hn ▸ (i 0).isLt
  by_cases h0 : n = 0
  · subst h0
    have h2 : words (F := F) c b2 x2 = p 1 := hw2 (by norm_num)
    rw [core_zero, core_mid c w p (0 + 1) (by norm_num) (by norm_num)]
    iintro ⟨⟨HI0, HI1⟩, H1, H2, H3, H5, H6, H7, H8, HO, Hk⟩
    iapply (run_first c i b1 hb1 b2 hb2 b3 hb3 b5 hb5 b6 hb6 b7 hb7 b8 hb8 w x1 x2 x3 x5 x6 x7 x8 W ((cond1_at i).2 hn) ((cond2_at i).2 (by rw [hn]; norm_num)) (by rw [hn])
      (fun r => by rw [hw1]; exact hp _ r) (fun r => by rw [h2]; exact hp _ r) Q)
    isplitl [HI0]; · iexact HI0
    isplitl [HI1]; · iexact HI1
    isplitl [H1]; · iexact H1
    isplitl [H2]; · iexact H2
    isplitl [H3]; · iexact H3
    isplitl [H5]; · iexact H5
    isplitl [H6]; · iexact H6
    isplitl [H7]; · iexact H7
    isplitl [H8]; · iexact H8
    isplitl [HO]; · iexact HO
    iintro %f7 %f8 %W' ⟨%e, HB, HI, H1, H2, H3, H5, H6, H7, H8, HO⟩
    iapply Hk
    isplitl [HB HI]
    · isplitl [HB]
      · iapply (show busy (F := F) c w (words c b2 x2) 1 ⊢ busy (F := F) c w (p (0 + 1)) (slotOf (0 + 1)) from Entails.of_eq (by rw [h2]; rfl)) $$ HB
      · iexact HI
    isplitr; · ipureintro; rw [← hw1]; exact e
    isplitl [H1]; · iexact H1
    isplitl [H2]; · iexact H2
    isplitl [H3]; · iexact H3
    isplitl [H5]; · iexact H5
    isplitl [H6]; · iexact H6
    isplitl [H7]; · iexact H7
    isplitl [H8]; · iexact H8
    iexact HO
  by_cases hl : n + 1 < 64
  · have h2 := hw2 hl
    rw [core_mid c w p n (Nat.pos_of_ne_zero h0) hlt, core_mid c w p (n + 1) (Nat.succ_pos n) hl, slotOf_succ, otherOf_succ, ← hw1, ← h2]
    iintro ⟨⟨HB, HI⟩, H1, H2, H3, H5, H6, H7, H8, HO, Hk⟩
    iapply (run_mid c i b1 hb1 b2 hb2 b3 hb3 b5 hb5 b6 hb6 b7 hb7 b8 hb8 w x1 x2 x3 x5 x6 x7 x8 W (fun h => h0 (hn.symm.trans ((cond1_at i).1 h))) ((cond2_at i).2 (by rw [hn]; exact hl))
      (slotOf n) (otherOf n) (by rw [hn]; rfl) (by rw [hn]; rfl) (fun r => by rw [h2]; exact hp _ r) Q)
    isplitl [HB]; · iexact HB
    isplitl [HI]; · iexact HI
    isplitl [H1]; · iexact H1
    isplitl [H2]; · iexact H2
    isplitl [H3]; · iexact H3
    isplitl [H5]; · iexact H5
    isplitl [H6]; · iexact H6
    isplitl [H7]; · iexact H7
    isplitl [H8]; · iexact H8
    isplitl [HO]; · iexact HO
    iintro %f7 %f8 %W' ⟨%e, HB, HI, H1, H2, H3, H5, H6, H7, H8, HO⟩
    iapply Hk
    isplitl [HB HI]
    · isplitl [HB]; · iexact HB
      iexact HI
    isplitr; · ipureintro; exact e
    isplitl [H1]; · iexact H1
    isplitl [H2]; · iexact H2
    isplitl [H3]; · iexact H3
    isplitl [H5]; · iexact H5
    isplitl [H6]; · iexact H6
    isplitl [H7]; · iexact H7
    isplitl [H8]; · iexact H8
    iexact HO
  · obtain rfl : n = 63 := by omega
    rw [core_mid c w p 63 (by norm_num) (by norm_num), show (63 + 1 : ℕ) = 64 from rfl, core_last, ← hw1]
    iintro ⟨⟨HB, HI⟩, H1, H2, H3, H5, H6, H7, H8, HO, Hk⟩
    iapply (run_last c i b1 hb1 b2 hb2 b3 hb3 b5 hb5 b6 hb6 b7 hb7 b8 hb8 w x1 x2 x3 x5 x6 x7 x8 W (fun h => h0 (hn.symm.trans ((cond1_at i).1 h))) (fun h => hl (by have := (cond2_at i).1 h; omega))
      (slotOf 63) (by rw [hn]; rfl) Q)
    isplitl [HB]; · iexact HB
    isplitl [H1]; · iexact H1
    isplitl [H2]; · iexact H2
    isplitl [H3]; · iexact H3
    isplitl [H5]; · iexact H5
    isplitl [H6]; · iexact H6
    isplitl [H7]; · iexact H7
    isplitl [H8]; · iexact H8
    isplitl [HO]; · iexact HO
    iintro %f7 %f8 %W' ⟨%e, HB, H1, H2, H3, H5, H6, H7, H8, HO⟩
    iapply Hk
    isplitl [HB HI]
    · isplitl [HI]
      · iapply (show idle (F := F) c w (otherOf 63) ⊢ idle (F := F) c w 0 from Entails.of_eq rfl) $$ HI
      · iapply (show idle (F := F) c w (slotOf 63) ⊢ idle (F := F) c w 1 from Entails.of_eq rfl) $$ HB
    isplitr; · ipureintro; exact e
    isplitl [H1]; · iexact H1
    isplitl [H2]; · iexact H2
    isplitl [H3]; · iexact H3
    isplitl [H5]; · iexact H5
    isplitl [H6]; · iexact H6
    isplitl [H7]; · iexact H7
    isplitl [H8]; · iexact H8
    iexact HO

/-! ## The slots, the read shares -/

theorem slots_disjoint : ∀ s s' : Fin 2, s ≠ s' → Disjoint (slotset s) (slotset s') := by
  intro s s' hne
  rw [Finset.disjoint_left]
  intro y hy hy'
  rw [mem_slotset] at hy hy'
  exact hne (Fin.ext (hy.symm.trans hy'))

theorem slots_cover : Finset.univ.biUnion slotset = Finset.univ :=
  Finset.eq_univ_of_forall fun y => Finset.mem_biUnion.mpr ⟨y 0, Finset.mem_univ _, (mem_slotset _ y).mpr rfl⟩

/-- The gather buffer whole is its two slots. -/
theorem buf_slots (c : Dev nD) (f : S2x1024x512.Idx → BitVec 32) :
    ((Memref.whole cc0_scratch0).view.loc (c : Thread nD τ) ↦{fullShare} f : sProp 𝕄) = iprop(slotAt (F := F) c 0 f ∗ slotAt (F := F) c 1 f) := by
  have h := Ring.pointsTo_blocks (Ix := Unit) (Name := ℕ) (U := UU) (Lvl := ℕ) (Val := Elt F) (ℓ := (Memref.whole cc0_scratch0).view.loc (c : Thread nD τ)) (q := fullShare) slotset slots_disjoint slots_cover f
  rw [BI.bigSep_fin_two] at h
  exact h

/-- The two slots, each at something, are the gather buffer at something. -/
theorem slots_buf (c : Dev nD) :
    iprop((∃ f : S2x1024x512.Idx → BitVec 32, slotAt (F := F) c 0 f) ∗ (∃ f : S2x1024x512.Idx → BitVec 32, slotAt (F := F) c 1 f))
      ⊢ (iprop(∃ f : Buf (Elt F) ((c : Thread nD τ).loc cc0_scratch0), ((c : Thread nD τ).loc cc0_scratch0) ↦{fullShare} f) : sProp 𝕄) := by
  have h := Ring.pointsTo_blocks_join_exists (Ix := Unit) (Name := ℕ) (U := UU) (Lvl := ℕ) (Val := Elt F) (ℓ := (c : Thread nD τ).loc cc0_scratch0) (q := fullShare) slotset slots_disjoint slots_cover (fun _ => (0#32 : BitVec 32))
  rw [BI.bigSep_fin_two] at h
  exact h

/-- The rows of a slot, each at something, are the slot at something. -/
theorem rows_slot (c : Dev nD) (s : Fin 2) :
    bigSep Finset.univ (fun r => iprop(∃ g : S2x1024x512.Idx → BitVec 32, rowAt (F := F) c s r g)) ⊢ (iprop(∃ g : S2x1024x512.Idx → BitVec 32, slotAt (F := F) c s g) : sProp 𝕄) := by
  have : Nonempty (S2x1024x512.Idx → BitVec 32) := ⟨fun _ => 0#32⟩
  refine (BI.bigSep_exists_pi Finset.univ (fun r (g : S2x1024x512.Idx → BitVec 32) => rowAt (F := F) c s r g)).trans (exists_elim fun fs => ?_)
  have h := pointsTo_biUnion_join (Ix := Unit) (Name := ℕ) (U := UU) (Lvl := ℕ) (Val := Elt F) (ℓ := (Memref.whole cc0_scratch0).view.loc (c : Thread nD τ)) (q := fullShare)
    Finset.univ (rowset s) fs (fun _ => (0#32 : BitVec 32)) (rowset_disjoint s)
  refine (show bigSep Finset.univ (fun r => rowAt (F := F) c s r (fs r)) ⊢ _ from h).trans (exists_elim fun g => ?_)
  unfold slotAt
  iintro ⟨-, H⟩
  iexists g
  iexact H

set_option backward.isDefEq.respectTransparency.types false in
/-- The read share of a slot is its rows' and what is left. -/
theorem lend (c : Dev nD) (w : S94208x512.Idx → BitVec 32) (s : Fin 2) :
    ((Memref.whole main_arg2).view.loc (c : Thread nD τ) ↦{Transfers.shareTokN fullShare s.val} w : sProp 𝕄)
      ⊢ iprop(((Memref.whole main_arg2).view.loc (c : Thread nD τ) ↦{Transfers.shareDrop (Transfers.shareTokN fullShare s.val) 1024} w) ∗ bigSep Finset.univ (tokAt (F := F) c w s)) :=
  (Transfers.pointsTo_toks (Transfers.shareTokN fullShare s.val) 1024).1

set_option backward.isDefEq.respectTransparency.types false in
theorem unlend (c : Dev nD) (w : S94208x512.Idx → BitVec 32) (s : Fin 2) :
    iprop(((Memref.whole main_arg2).view.loc (c : Thread nD τ) ↦{Transfers.shareDrop (Transfers.shareTokN fullShare s.val) 1024} w) ∗ bigSep Finset.univ (tokAt (F := F) c w s))
      ⊢ ((Memref.whole main_arg2).view.loc (c : Thread nD τ) ↦{Transfers.shareTokN fullShare s.val} w : sProp 𝕄) :=
  (Transfers.pointsTo_toks (Transfers.shareTokN fullShare s.val) 1024).2

/-- What is left of the experts' array beside the rows' read shares. -/
def leftover (c : Dev nD) (w : S94208x512.Idx → BitVec 32) : sProp 𝕄 :=
  iprop(((Memref.whole main_arg2).view.loc (c : Thread nD τ) ↦{Transfers.shareDrop fullShare 2} w)
    ∗ ((Memref.whole main_arg2).view.loc (c : Thread nD τ) ↦{Transfers.shareDrop (Transfers.shareTokN fullShare (0 : Fin 2).val) 1024} w)
    ∗ ((Memref.whole main_arg2).view.loc (c : Thread nD τ) ↦{Transfers.shareDrop (Transfers.shareTokN fullShare (1 : Fin 2).val) 1024} w))

set_option backward.isDefEq.respectTransparency.types false in
theorem halves (c : Dev nD) (w : S94208x512.Idx → BitVec 32) :
    ((Memref.whole main_arg2).view.loc (c : Thread nD τ) ↦{fullShare} w : sProp 𝕄) ⊣⊢
      iprop(((Memref.whole main_arg2).view.loc (c : Thread nD τ) ↦{Transfers.shareDrop fullShare 2} w)
        ∗ ((Memref.whole main_arg2).view.loc (c : Thread nD τ) ↦{Transfers.shareTokN fullShare (0 : Fin 2).val} w)
        ∗ ((Memref.whole main_arg2).view.loc (c : Thread nD τ) ↦{Transfers.shareTokN fullShare (1 : Fin 2).val} w)) := by
  have h := Transfers.pointsTo_toks (Ix := Unit) (Name := ℕ) (U := UU) (Lvl := ℕ) (Val := Elt F) (ℓ := (Memref.whole main_arg2).view.loc (c : Thread nD τ)) (S := Finset.univ) (f := w) fullShare 2
  rw [BI.bigSep_fin_two] at h
  exact h

/-- The experts' array, lent row by row. -/
theorem lend_all (c : Dev nD) (w : S94208x512.Idx → BitVec 32) :
    ((Memref.whole main_arg2).view.loc (c : Thread nD τ) ↦{fullShare} w : sProp 𝕄)
      ⊢ iprop(leftover (F := F) c w ∗ bigSep Finset.univ (tokAt (F := F) c w 0) ∗ bigSep Finset.univ (tokAt (F := F) c w 1)) := by
  iintro H
  ihave H := (halves (F := F) c w).1 $$ H
  icases H with ⟨H, H0, H1⟩
  ihave H0 := (lend (F := F) c w 0) $$ H0
  ihave H1 := (lend (F := F) c w 1) $$ H1
  icases H0 with ⟨R0, H0⟩
  icases H1 with ⟨R1, H1⟩
  unfold leftover
  isplitl [H R0 R1]
  · isplitl [H]; · iexact H
    isplitl [R0]; · iexact R0
    iexact R1
  isplitl [H0]; · iexact H0
  iexact H1

theorem unlend_all (c : Dev nD) (w : S94208x512.Idx → BitVec 32) :
    iprop(leftover (F := F) c w ∗ bigSep Finset.univ (tokAt (F := F) c w 0) ∗ bigSep Finset.univ (tokAt (F := F) c w 1))
      ⊢ ((Memref.whole main_arg2).view.loc (c : Thread nD τ) ↦{fullShare} w : sProp 𝕄) := by
  unfold leftover
  iintro ⟨⟨H, R0, R1⟩, H0, H1⟩
  ihave H0 := (unlend (F := F) c w 0) $$ [R0 H0]
  · isplitl [R0]; · iexact R0
    iexact H0
  ihave H1 := (unlend (F := F) c w 1) $$ [R1 H1]
  · isplitl [R1]; · iexact R1
    iexact H1
  iapply (halves (F := F) c w).2
  isplitl [H]; · iexact H
  isplitl [H0]; · iexact H0
  iexact H1

/-- An idle slot, taken apart. -/
theorem idle_open (c : Dev nD) (w : S94208x512.Idx → BitVec 32) (s : Fin 2) :
    idle (F := F) c w s ⊢ iprop(semVal ((c : Thread nD τ), SemLoc.dma (dsem s)) 0 ∗ (∃ g : S2x1024x512.Idx → BitVec 32, slotAt (F := F) c s g) ∗ bigSep Finset.univ (tokAt (F := F) c w s)) := by
  unfold idle
  iintro ⟨HS, HF⟩
  isplitl [HS]; · iexact HS
  ihave H := (show bigSep Finset.univ (freeRow (F := F) c w s)
    ⊢ iprop(bigSep Finset.univ (fun r => iprop(∃ g : S2x1024x512.Idx → BitVec 32, rowAt (F := F) c s r g)) ∗ bigSep Finset.univ (tokAt (F := F) c w s)) from Entails.of_eq (BI.bigSep_sep _ _ _)) $$ HF
  icases H with ⟨HR, HT⟩
  isplitl [HR]
  · iapply (rows_slot (F := F) c s) $$ HR
  iexact HT

/-- Entering the call. -/
theorem enter (c : Dev nD) (w : S94208x512.Idx → BitVec 32) :
    iprop((∃ f : Buf (Elt F) ((c : Thread nD τ).loc cc0_scratch0), ((c : Thread nD τ).loc cc0_scratch0) ↦{fullShare} f)
        ∗ (semVal ((c : Thread nD τ), SemLoc.dma (dsem 0)) 0 ∗ semVal ((c : Thread nD τ), SemLoc.dma (dsem 1)) 0)
        ∗ ((c : Thread nD τ).loc main_arg2) ↦{fullShare} w)
      ⊢ iprop((idle (F := F) c w 0 ∗ idle (F := F) c w 1) ∗ leftover (F := F) c w) := by
  iintro ⟨⟨%f, HB⟩, ⟨S0, S1⟩, HY⟩
  ihave HB := (show (((c : Thread nD τ).loc cc0_scratch0) ↦{fullShare} f : sProp 𝕄) ⊢ iprop(slotAt (F := F) c 0 f ∗ slotAt (F := F) c 1 f) from Entails.of_eq (buf_slots c f)) $$ HB
  icases HB with ⟨B0, B1⟩
  ihave HY := (show (((c : Thread nD τ).loc main_arg2) ↦{fullShare} w : sProp 𝕄) ⊢ _ from lend_all (F := F) c w) $$ HY
  icases HY with ⟨HL, T0, T1⟩
  isplitr [HL]
  · isplitl [S0 B0 T0]
    · iapply (idle_of (F := F) c w 0 f)
      isplitl [S0]; · iexact S0
      isplitl [B0]; · iexact B0
      iexact T0
    · iapply (idle_of (F := F) c w 1 f)
      isplitl [S1]; · iexact S1
      isplitl [B1]; · iexact B1
      iexact T1
  iexact HL

/-- Leaving it. -/
theorem leave (c : Dev nD) (w : S94208x512.Idx → BitVec 32) :
    iprop((idle (F := F) c w 0 ∗ idle (F := F) c w 1) ∗ leftover (F := F) c w)
      ⊢ iprop((∃ f : Buf (Elt F) ((c : Thread nD τ).loc cc0_scratch0), ((c : Thread nD τ).loc cc0_scratch0) ↦{fullShare} f)
        ∗ (semVal ((c : Thread nD τ), SemLoc.dma (dsem 0)) 0 ∗ semVal ((c : Thread nD τ), SemLoc.dma (dsem 1)) 0)
        ∗ ((c : Thread nD τ).loc main_arg2) ↦{fullShare} w) := by
  iintro ⟨⟨I0, I1⟩, HL⟩
  ihave I0 := (idle_open (F := F) c w 0) $$ I0
  ihave I1 := (idle_open (F := F) c w 1) $$ I1
  icases I0 with ⟨S0, B0, T0⟩
  icases I1 with ⟨S1, B1, T1⟩
  isplitl [B0 B1]
  · iapply (slots_buf (F := F) c)
    isplitl [B0]; · iexact B0
    iexact B1
  isplitl [S0 S1]
  · isplitl [S0]; · iexact S0
    iexact S1
  iapply (show _ ⊢ (((c : Thread nD τ).loc main_arg2) ↦{fullShare} w : sProp 𝕄) from unlend_all (F := F) c w)
  isplitl [HL]; · iexact HL
  isplitl [T0]; · iexact T0
  iexact T1

end Cert.Kernel3Ideal.CombineProj
-- ==== Proof.CombineProj.Region.lean ====
module

public import proofs.«01_k».proof.Proof.CombineProj.Tile
public import proofs.«01_k».proof.Proof.Gen.Kernel3Ideal.Launch
public import proofs.«01_k».proof.Proof.Gen.Kernel3Ideal.Points
public import proofs.«01_k».proof.Proof.Gen.Kernel3Ideal.Frame
public import Idealize.ShloMosaic.Lib.Pipeline.FrameBody

/-!
The joined call as a pipeline: its data, the body at every tile, and the run of the whole program.
-/

@[expose] public section

set_option maxRecDepth 16384

noncomputable section

namespace Cert.Kernel3Ideal.CombineProj

open Idealize.ShloMosaic Idealize.ShloMosaic.TcCoe Idealize.ShloMosaic.Tactic
open Idealize.SL Idealize.SL.RA
open Idealize.SL.BI (sProp bigSep bigSep_insert)
open scoped Idealize.SL.BI
open Idealize.SL.BI.BIBase Idealize.SL.BI.Laws Idealize.SL.Sem Idealize.SL.ProofMode
open Cert.Kernel3Ideal Cert.Kernel3Ideal.Gen
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

/-! ## The blocks -/

/-- Tile `n`'s words. -/
def posOf (P : S64x1x1024.Idx → BitVec 32) (n : ℕ) : Fin 1024 → BitVec 32 :=
  fun r => P (ix3 (n0 := 64) (n1 := 1) (n2 := 1024) ⟨n % 64, Nat.mod_lt _ (by norm_num)⟩ 0 r)

/-- The block window `w` is brought at tile `t`. -/
def blkOf (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem coords_val (t : Fin grid0.N) : ((grid0.coords t) 0).val = t.val :=
  (by decide +kernel : ∀ t : Fin grid0.N, ((grid0.coords t) 0).val = t.val) t

theorem tr0 : ∀ t : Fin grid0.N, cc0_transform_0 (grid0.coords t) = ![t.val % 64, 0, 0] := by decide +kernel
theorem tr1 : ∀ t : Fin grid0.N, t.val + 1 < 64 → cc0_transform_1 (grid0.coords t) = ![(t.val + 1) % 64, 0, 0] := by decide +kernel

theorem block_at (o : Fin 3 → ℕ) (n : ℕ) (e : o = ![n % 64, 0, 0]) (inb : ∀ a, (o a + 1) * S1x1x1024.size a ≤ S64x1x1024.size a) (r : Fin 1024) :
    (Rect.block (s := S64x1x1024) S1x1x1024.size o inb).emb (ix3 (n0 := 1) (n1 := 1) (n2 := 1024) 0 0 r)
      = ix3 (n0 := 64) (n1 := 1) (n2 := 1024) ⟨n % 64, Nat.mod_lt _ (by norm_num)⟩ 0 r := by
  subst e
  funext a
  fin_cases a <;> apply Fin.ext
  · show n % 64 * 1 + 1 * 0 = n % 64; omega
  · show 0 * 1 + 1 * 0 = 0; omega
  · show 0 * 1024 + 1 * r.val = r.val; omega

theorem blk0_at (c : Dev nD) (t : Fin cfg0.N) (r : Fin 1024) :
    blkOf V c 0 t (ix3 (n0 := 1) (n1 := 1) (n2 := 1024) 0 0 r) = posOf (V c main_arg0) t.val r :=
  congrArg (V c main_arg0) (block_at _ t.val (tr0 t) (hinb0_0 _) r)

theorem blk1_at (c : Dev nD) (t : Fin cfg0.N) (h : t.val + 1 < 64) (r : Fin 1024) :
    blkOf V c 1 t (ix3 (n0 := 1) (n1 := 1) (n2 := 1024) 0 0 r) = posOf (V c main_arg0) (t.val + 1) r :=
  congrArg (V c main_arg0) (block_at _ (t.val + 1) (tr1 t h) (hinb0_1 _) r)

/-- What tile `t` leaves. -/
def sumOf (c : Dev nD) (t : Fin cfg0.N) : Vec F S1024x1024 .f32 :=
  sumBlk (posOf (V c main_arg0) t.val) (V c main_arg2) (blkOf V c 2 t)
def outOf (c : Dev nD) (t : Fin cfg0.N) : Vec F S1024x1024 .bf16 :=
  outBlk (posOf (V c main_arg0) t.val) (V c main_arg2) (blkOf V c 2 t) (blkOf V c 3 t) (blkOf V c 4 t)

/-! ## The data -/

/-- Before tile `n`. -/
def inv (c : Dev nD) (n : ℕ) : sProp 𝕄 :=
  iprop(core (F := F) c (V c main_arg2) (posOf (V c main_arg0)) n ∗ leftover (F := F) c (V c main_arg2) ∗ (∃ r, prngReg c r))

/-- The call's data. -/
def dat (c : Dev nD) : Dat τ (Elt F) Unit ℕ UU ℕ cfg0 c where
  A w := V c (Pipeline.arrRef spec0 w)
  after w t := match w with
    | ⟨0, _⟩ => blkOf V c 0 t
    | ⟨1, _⟩ => blkOf V c 1 t
    | ⟨2, _⟩ => blkOf V c 2 t
    | ⟨3, _⟩ => blkOf V c 3 t
    | ⟨4, _⟩ => blkOf V c 4 t
    | ⟨5, _⟩ => sumOf V c t
    | ⟨6, _⟩ => outOf V c t
  Φ t := inv V c t.val
  q w := Pipeline.shareOf spec0 w
  owed _ := 0

theorem before0 (c : Dev nD) (t : Fin cfg0.N) (d) : (dat V c).before 0 t d = blkOf V c 0 t :=
  (dat V c).before_in_eq_fetched 0 rfl (fun _ => rfl) (fun _ _ _ => rfl) (fun _ => rfl) t d
theorem before1 (c : Dev nD) (t : Fin cfg0.N) (d) : (dat V c).before 1 t d = blkOf V c 1 t :=
  (dat V c).before_in_eq_fetched 1 rfl (fun _ => rfl) (fun _ _ _ => rfl) (fun _ => rfl) t d
theorem before2 (c : Dev nD) (t : Fin cfg0.N) (d) : (dat V c).before 2 t d = blkOf V c 2 t :=
  (dat V c).before_in_eq_fetched 2 rfl (fun _ => rfl) (fun _ _ _ => rfl) (fun _ => rfl) t d
theorem before3 (c : Dev nD) (t : Fin cfg0.N) (d) : (dat V c).before 3 t d = blkOf V c 3 t :=
  (dat V c).before_in_eq_fetched 3 rfl (fun _ => rfl) (fun _ _ _ => rfl) (fun _ => rfl) t d

theorem before4 (c : Dev nD) (t : Fin cfg0.N) (d) : (dat V c).before 4 t d = blkOf V c 4 t :=
  (dat V c).before_in_eq_fetched 4 rfl (fun _ => rfl) (fun _ _ _ => rfl) (fun _ => rfl) t d

theorem owns_at (c : Thread nD τ) {sp : Space} {s : Shape} {e : EltTy} (m : Memref sig c.2.kind sp s e) (hm : m.IsWhole) (X : s.Idx → Elt F e) :
    (owns c m fullShare X : sProp 𝕄) = iprop(∃ f : Buf (Elt F) (m.view.loc c), ⌜m.view.read (Elt F) f = X⌝ ∗ (m.view.loc c ↦{fullShare} f)) := by
  unfold owns
  rw [Memref.IsWhole.set_eq_univ hm]

set_option maxHeartbeats 1000000 in
theorem body_obligation [∀ e, Nonempty (Elt F e)] (hV : ∀ c n r, (posOf (V c main_arg0) n r).toNat < 94208) (c : Dev nD) :
    BodyObligation (dat V c) (defs₀ (F := F)) Variants.none () Set.univ := fun t => by
  rw [bigSep_W0, bigSep_W0]
  rw [show (dat V c).Φ t.castSucc = inv V c t.val from rfl, show (dat V c).Φ t.succ = inv V c (t.val + 1) from rfl]
  unfold inv Dat.owesAt Pipeline.owesWithin
  iintro ⟨⟨HC, HL, HG⟩, ⟨%W, -, HW⟩, ⟨%d0, H0⟩, ⟨%d1, H1⟩, ⟨%d2, H2⟩, ⟨%d3, H3⟩, ⟨%d4, H4⟩, ⟨%d5, H5⟩, ⟨%d6, H6⟩⟩
  have e0 := owns_at (F := F) (c : Thread nD τ) (stage0_0 (cfg0.slots t 0)) (hstage0_0 (cfg0.slots t 0))
  have e1 := owns_at (F := F) (c : Thread nD τ) (stage0_1 (cfg0.slots t 1)) (hstage0_1 (cfg0.slots t 1))
  have e2 := owns_at (F := F) (c : Thread nD τ) (stage0_2 (cfg0.slots t 2)) (hstage0_2 (cfg0.slots t 2))
  have e3 := owns_at (F := F) (c : Thread nD τ) (stage0_3 (cfg0.slots t 3)) (hstage0_3 (cfg0.slots t 3))
  have e4 := owns_at (F := F) (c : Thread nD τ) (stage0_4 (cfg0.slots t 4)) (hstage0_4 (cfg0.slots t 4))
  have e5 := owns_at (F := F) (c : Thread nD τ) (stage0_5 (cfg0.slots t 5)) (hstage0_5 (cfg0.slots t 5))
  have e6 := owns_at (F := F) (c : Thread nD τ) (stage0_6 (cfg0.slots t 6)) (hstage0_6 (cfg0.slots t 6))
  ihave H0 := (Entails.of_eq (e0 _)) $$ H0
  ihave H1 := (Entails.of_eq (e1 _)) $$ H1
  ihave H2 := (Entails.of_eq (e2 _)) $$ H2
  ihave H3 := (Entails.of_eq (e3 _)) $$ H3
  ihave H4 := (Entails.of_eq (e4 _)) $$ H4
  ihave H5 := (Entails.of_eq (e5 _)) $$ H5
  ihave H6 := (Entails.of_eq (e6 _)) $$ H6
  icases H0 with ⟨%f0, %hf0, H0⟩
  icases H1 with ⟨%f1, %hf1, H1⟩
  icases H2 with ⟨%f2, %hf2, H2⟩
  icases H3 with ⟨%f3, %hf3, H3⟩
  icases H4 with ⟨%f4, %hf4, H4⟩
  icases H5 with ⟨%f5, -, H5⟩
  icases H6 with ⟨%f6, -, H6⟩
  have g0 := hf0.trans (before0 V c t d0)
  have g1 := hf1.trans (before1 V c t d1)
  have g2 := hf2.trans (before2 V c t d2)
  have g3 := hf3.trans (before3 V c t d3)
  have g4 := hf4.trans (before4 V c t d4)
  iapply (step c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5)) (win0_6.stage (cfg0.slots t 6)) (hstage0_6 ((cfg0.slots t 6).cast nbuf0_6))
    (V c main_arg2) (posOf (V c main_arg0)) (hV c) f0 f1 f2 f3 f4 f5 f6 W t.val (coords_val t)
    (funext fun r => (congrFun g0 (ix3 (n0 := 1) (n1 := 1) (n2 := 1024) 0 0 r)).trans (blk0_at V c t r))
    (fun h => funext fun r => (congrFun g1 (ix3 (n0 := 1) (n1 := 1) (n2 := 1024) 0 0 r)).trans (blk1_at V c t h r)) _)
  isplitl [HC]; · iexact HC
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HW]; · iexact HW
  iintro %f7 %f8 %W' ⟨HC, %e, H0, H1, H2, H3, H4, H5, H6, HW⟩
  isplitl [HC HL HG]
  · isplitl [HC]; · iexact HC
    isplitl [HL]; · iexact HL
    iexact HG
  isplitl [HW]
  · iexists W'; isplitr; swap
    · iexact HW
    · ipureintro; exact fun _ _ => Or.inl trivial
  isplitl [H0]
  · iapply (Entails.of_eq (e0 _).symm)
    iexists f0; isplitr; swap
    · iexact H0
    · ipureintro; exact g0
  isplitl [H1]
  · iapply (Entails.of_eq (e1 _).symm)
    iexists f1; isplitr; swap
    · iexact H1
    · ipureintro; exact g1
  isplitl [H2]
  · iapply (Entails.of_eq (e2 _).symm)
    iexists f2; isplitr; swap
    · iexact H2
    · ipureintro; exact g2
  isplitl [H3]
  · iapply (Entails.of_eq (e3 _).symm)
    iexists f3; isplitr; swap
    · iexact H3
    · ipureintro; exact g3
  have g2' : View.read (Elt F) (win0_2.stage (cfg0.slots t 2)).view f2 = blkOf V c 2 t := g2
  have g3' : View.read (Elt F) (win0_3.stage (cfg0.slots t 3)).view f3 = blkOf V c 3 t := g3
  have g4' : View.read (Elt F) (win0_4.stage (cfg0.slots t 4)).view f4 = blkOf V c 4 t := g4
  rw [g2', g3', g4'] at e
  isplitl [H4]
  · iapply (Entails.of_eq (e4 _).symm)
    iexists f4; isplitr; swap
    · iexact H4
    · ipureintro; exact g4
  isplitl [H5]
  · iapply (Entails.of_eq (e5 _).symm)
    iexists f7; isplitr; swap
    · iexact H5
    · ipureintro; exact e.1
  iapply (Entails.of_eq (e6 _).symm)
  iexists f8; isplitr; swap
  · iexact H6
  · ipureintro; exact e.2

/-! ## The launch -/

/-- The call's two semaphores are its own. -/
theorem own : Pipeline.OwnSemFacts spec0 (fun k : Fin 2 => SemLoc.dma (dsem k)) := by decide

theorem sems_eq (c : Dev nD) :
    (Pipeline.ownSems0 (Ix := Unit) (Name := ℕ) (U := UU) (Lvl := ℕ) (Val := Elt F) (τ := τ) (fun k : Fin 2 => SemLoc.dma (dsem k)) c : sProp 𝕄)
      = iprop(semVal ((c : Thread nD τ), SemLoc.dma (dsem 0)) 0 ∗ semVal ((c : Thread nD τ), SemLoc.dma (dsem 1)) 0) :=
  Pipeline.ownSems0_eq_of_list c _ [0, 1] (by decide) (by decide)

theorem hin (c : Dev nD) : Pipeline.ΦD (fun k : Fin 2 => SemLoc.dma (dsem k)) spec0 {main_arg2} V c ⊢ (dat V c).Φ 0 := by
  unfold Pipeline.ΦD
  rw [scopedRest0_eq]
  erw [sems_eq]
  rw [BI.bigSep_singleton]
  show _ ⊢ inv V c 0
  unfold inv
  rw [core_zero]
  iintro ⟨HB, HG, HS, HY⟩
  ihave H := (enter (F := F) c (V c main_arg2)) $$ [HB HS HY]
  · isplitl [HB]; · iexact HB
    isplitl [HS]; · iexact HS
    iexact HY
  icases H with ⟨HI, HL⟩
  isplitl [HI]; · iexact HI
  isplitl [HL]; · iexact HL
  iexact HG

theorem hout (c : Dev nD) : (dat V c).Φ (Fin.last cfg0.N) ⊢ Pipeline.ΦD (fun k : Fin 2 => SemLoc.dma (dsem k)) spec0 {main_arg2} V c := by
  unfold Pipeline.ΦD
  rw [scopedRest0_eq]
  erw [sems_eq]
  rw [BI.bigSep_singleton]
  show inv V c grid0.N ⊢ _
  rw [N_0]
  unfold inv
  rw [core_last]
  iintro ⟨HI, HL, HG⟩
  ihave H := (leave (F := F) c (V c main_arg2)) $$ [HI HL]
  · isplitl [HI]; · iexact HI
    iexact HL
  icases H with ⟨HB, HS, HY⟩
  isplitl [HB]; · iexact HB
  isplitl [HG]; · iexact HG
  isplitl [HS]; · iexact HS
  iexact HY

/-- The data of the program's one region. -/
def dats (m : (ℓ : Loc nD τ sig) → Buf (Elt F) ℓ) : (p : Fin 1) → (c : Dev nD) → Dat τ (Elt F) Unit ℕ UU ℕ (cfgs p) c := fun _ c => dat (Gen.V m) c

theorem run_main [∀ e, Nonempty (Elt F e)] (m : (ℓ : Loc nD τ sig) → Buf (Elt F) ℓ) (ρ : Dev nD → PrngReg)
    (hm : ∀ (c : Dev nD) (n : ℕ) (r : Fin 1024), (posOf (m ((c.tc : Thread nD τ).loc main_arg0)) n r).toNat < 94208) :
    θ_run defs (onTc (τ := τ) (main (F := F))) (s₀ m ρ) (fun r => Pipeline.FramePost cfgs (dats m) 0 (Gen.V m) r ∧ r.2.sem = (fun _ => 0)) :=
  Pipeline.θ_run_frame_dma_shared cfgs (dats m) 0 launch₀0 (fun k : Fin 2 => SemLoc.dma (dsem k)) defs₀ Variants.none own {main_arg2} (by decide) m ρ main
    (fun c => (body_obligation (Gen.V m) (fun c n r => by rw [V_main_arg0]; exact hm c n r) c).loose) (fun _ _ _ => rfl) (fun _ _ => rfl) (Gen.V m)
    (Pipeline.hmain_prefix cfgs 0 defs₀ Variants.none m main hostOps0 hostOps0_sub hostOps0_fresh main_chain) (fun _ _ => rfl)
    (hin (Gen.V m)) (hout (Gen.V m)) _ (fun _ h => h)

end Cert.Kernel3Ideal.CombineProj
-- ==== Proof.CombineProj.Model.lean ====
module

public import proofs.«01_k».proof.Proof.Combine.Model

/-!
The joined call as a function of its arrays over the extended reals: the sum of `Combine.Model`, and its normed rows
against the next weights.
-/

@[expose] public section

set_option maxRecDepth 16384

noncomputable section

namespace Cert.CombineModel

open Idealize.ShloMosaic

abbrev SN : Shape := ⟨2, ![1024, 1024]⟩

/-- The projection of row `r` at column `d`. -/
def zAt (P : SP.Idx → BitVec 32) (x : SX.Idx → EReal) (w : SW.Idx → BitVec 32) (g : SG.Idx → EReal) (wt : SN.Idx → EReal) (r : Fin 65536) (d : Fin 1024) : EReal :=
  ∑ k : Fin 1024, finAt P x w g r k * wt (ix2 (n0 := 1024) (n1 := 1024) k d)

end Cert.CombineModel

end
-- ==== Proof.CombineProj.Value.lean ====
module

public import proofs.«01_k».proof.Proof.CombineProj.Region
public import proofs.«01_k».proof.Proof.CombineProj.Model
public import Idealize.ShloMosaic.Lib.Pointwise
public import Idealize.ShloMosaic.Lib.Pipeline.ValueKit

/-!
What the joined call leaves over the extended reals, from the blocks of its tiles.
-/

@[expose] public section

set_option maxRecDepth 16384

noncomputable section

namespace Cert.Kernel3Ideal.CombineProj

open Idealize.ShloMosaic Idealize.ShloMosaic.TcCoe Idealize.ShloMosaic.Tactic
open Cert.Kernel3Ideal Cert.Kernel3Ideal.Gen
open Cert.Model (loW hiW)
open Idealize.ShloMosaic.Pipeline (Dat Cfg Window)

/-! ## A tile -/

/-- Row `y` of a tile's residual with its packed row added. -/
def tileLo (u : S1x1024x512.Idx → BitVec 32) (x : S1024x1024.Idx → EReal) (y : Fin 1024) (k : Fin 512) : EReal :=
  x (ix2 y ⟨k.val, by omega⟩) + loW (u (ix3 0 y k))
def tileHi (u : S1x1024x512.Idx → BitVec 32) (x : S1024x1024.Idx → EReal) (y : Fin 1024) (k : Fin 512) : EReal :=
  x (ix2 y ⟨512 + k.val, by omega⟩) + hiW (u (ix3 0 y k))

set_option maxHeartbeats 4000000 in
set_option backward.isDefEq.respectTransparency false in
theorem pay1_at (a : Vec Ideal S1024x1024 .f32) (g : Vec Ideal S1x1024 .f32) (q : Vec Ideal S1024x1 .f32) (wt : Vec Ideal S1024x1024 .bf16) (y d : Fin 1024) :
    (k0_pay1 (F := Ideal) a g q wt (ix2 y d) : EReal)
      = ∑ k : Fin 1024, (a (ix2 y k) * Ideal.rsqrt (Ideal.div (q (ix2 y 0)) (Ideal.ofBits .f32 1149239296#32) + Ideal.ofBits .f32 897988541#32) * g (ix2 0 k)) * wt (ix2 k d) := by
  unfold k0_pay1
  pointwise

set_option maxHeartbeats 4000000 in
set_option backward.isDefEq.respectTransparency false in
theorem pay2_at (u : Vec Ideal S1x1024x512 .i32) (x : Vec Ideal S1024x1024 .f32) (y d : Fin 1024) :
    (k0_pay2 (F := Ideal) x u (ix2 y d) : EReal)
      = x (ix2 y d) + if h : d.val < 512 then loW (u (ix3 0 y ⟨d.val, h⟩)) else hiW (u (ix3 0 y ⟨d.val - 512, by omega⟩)) := by
  unfold k0_pay2
  pointwise
  rfl

set_option maxHeartbeats 4000000 in
set_option backward.isDefEq.respectTransparency false in
theorem pay3_at (g : Vec Ideal S1x1024 .f32) (d : Fin 1024) : (k0_pay3 (F := Ideal) g (ix2 0 d) : EReal) = g (ix2 0 d) := by
  unfold k0_pay3
  pointwise

set_option maxHeartbeats 4000000 in
set_option backward.isDefEq.respectTransparency false in
theorem pay4_at (u : Vec Ideal S1x1024x512 .i32) (x : Vec Ideal S1024x1024 .f32) (y : Fin 1024) :
    (k0_pay4 (F := Ideal) x u (ix2 y 0) : EReal)
      = (∑ k : Fin 512, tileLo u x y k * tileLo u x y k) + ∑ k : Fin 512, tileHi u x y k * tileHi u x y k := by
  unfold k0_pay4 k0_pay2
  dsimp only
  pointwise
  rfl

/-! ## The call -/

variable (V : (c : Dev nD) → (b : Ref sig .tc) → Buf (Elt Ideal) ((c : Thread nD τ).loc b))

theorem index2 (t : Fin cfg0.N) : (cfg0.win 2).index t = ![t.val, 0] :=
  (by decide +kernel : ∀ t : Fin grid0.N, cc0_transform_2 (grid0.coords t) = ![t.val, 0]) t
theorem index4 (t : Fin cfg0.N) : (cfg0.win 4).index t = ![0, 0] :=
  (by decide +kernel : ∀ t : Fin grid0.N, cc0_transform_5 (grid0.coords t) = ![0, 0]) t
theorem index5 (t : Fin cfg0.N) : (cfg0.win 5).index t = ![t.val, 0] :=
  (by decide +kernel : ∀ t : Fin grid0.N, cc0_transform_6 (grid0.coords t) = ![t.val, 0]) t
theorem index6 (t : Fin cfg0.N) : (cfg0.win 6).index t = ![t.val, 0] :=
  (by decide +kernel : ∀ t : Fin grid0.N, cc0_transform_7 (grid0.coords t) = ![t.val, 0]) t
theorem index3 (t : Fin cfg0.N) : (cfg0.win 3).index t = ![0, 0] :=
  (by decide +kernel : ∀ t : Fin grid0.N, cc0_transform_4 (grid0.coords t) = ![0, 0]) t

theorem emb2 (t : Fin cfg0.N) (y d : Fin 1024) :
    ((cfg0.win 2).blk t).view.emb (ix2 y d : S1024x1024.Idx) = (ix2 ⟨t.val * 1024 + y.val, by have : t.val < 64 := t.isLt; omega⟩ d : S65536x1024.Idx) := by
  have e := index2 t
  refine funext fun a => Fin.ext ?_
  match a with
  | ⟨0, _⟩ => show (cfg0.win 2).index t (0 : Fin 2) * 1024 + 1 * y.val = t.val * 1024 + y.val; rw [e]; show t.val * 1024 + _ = _; omega
  | ⟨1, _⟩ => show (cfg0.win 2).index t (1 : Fin 2) * 1024 + 1 * d.val = d.val; rw [e]; show 0 * 1024 + _ = _; omega

theorem emb4 (t : Fin cfg0.N) (y d : Fin 1024) :
    ((cfg0.win 4).blk t).view.emb (ix2 y d : S1024x1024.Idx) = (ix2 y d : S1024x1024.Idx) := by
  have e := index4 t
  refine funext fun a => Fin.ext ?_
  match a with
  | ⟨0, _⟩ => show (cfg0.win 4).index t (0 : Fin 2) * 1024 + 1 * y.val = y.val; rw [e]; show 0 * 1024 + _ = _; omega
  | ⟨1, _⟩ => show (cfg0.win 4).index t (1 : Fin 2) * 1024 + 1 * d.val = d.val; rw [e]; show 0 * 1024 + _ = _; omega

theorem emb5 (t : Fin cfg0.N) (y d : Fin 1024) :
    ((cfg0.win 5).blk t).view.emb (ix2 y d : S1024x1024.Idx) = (ix2 ⟨t.val * 1024 + y.val, by have : t.val < 64 := t.isLt; omega⟩ d : S65536x1024.Idx) := by
  have e := index5 t
  refine funext fun a => Fin.ext ?_
  match a with
  | ⟨0, _⟩ => show (cfg0.win 5).index t (0 : Fin 2) * 1024 + 1 * y.val = t.val * 1024 + y.val; rw [e]; show t.val * 1024 + _ = _; omega
  | ⟨1, _⟩ => show (cfg0.win 5).index t (1 : Fin 2) * 1024 + 1 * d.val = d.val; rw [e]; show 0 * 1024 + _ = _; omega

theorem emb6 (t : Fin cfg0.N) (y d : Fin 1024) :
    ((cfg0.win 6).blk t).view.emb (ix2 y d : S1024x1024.Idx) = (ix2 ⟨t.val * 1024 + y.val, by have : t.val < 64 := t.isLt; omega⟩ d : S65536x1024.Idx) := by
  have e := index6 t
  refine funext fun a => Fin.ext ?_
  match a with
  | ⟨0, _⟩ => show (cfg0.win 6).index t (0 : Fin 2) * 1024 + 1 * y.val = t.val * 1024 + y.val; rw [e]; show t.val * 1024 + _ = _; omega
  | ⟨1, _⟩ => show (cfg0.win 6).index t (1 : Fin 2) * 1024 + 1 * d.val = d.val; rw [e]; show 0 * 1024 + _ = _; omega

theorem emb3 (t : Fin cfg0.N) (d : Fin 1024) :
    ((cfg0.win 3).blk t).view.emb (ix2 0 d : S1x1024.Idx) = (ix2 0 d : S1x1024.Idx) := by
  have e := index3 t
  refine funext fun a => Fin.ext ?_
  match a with
  | ⟨0, _⟩ => show (cfg0.win 3).index t (0 : Fin 2) * 1 + 1 * 0 = 0; rw [e]; rfl
  | ⟨1, _⟩ => show (cfg0.win 3).index t (1 : Fin 2) * 1024 + 1 * d.val = d.val; rw [e]; show 0 * 1024 + _ = _; omega

/-- The two results as arrays. -/
def sumArr (P : S64x1x1024.Idx → BitVec 32) (x : S65536x1024.Idx → EReal) (w : S94208x512.Idx → BitVec 32) (j : S65536x1024.Idx) : EReal :=
  CombineModel.sumAt P x w ⟨(j 0).val, (j 0).isLt⟩ ⟨(j 1).val, (j 1).isLt⟩
def zArr (P : S64x1x1024.Idx → BitVec 32) (x : S65536x1024.Idx → EReal) (w : S94208x512.Idx → BitVec 32) (g : S1024.Idx → EReal) (wt : S1024x1024.Idx → EReal) (j : S65536x1024.Idx) : EReal :=
  CombineModel.zAt P x w g wt ⟨(j 0).val, (j 0).isLt⟩ ⟨(j 1).val, (j 1).isLt⟩

theorem word_at (P : S64x1x1024.Idx → BitVec 32) (w : S94208x512.Idx → BitVec 32) (t : Fin 64) (y : Fin 1024) (k : Fin 512) :
    rowsOf (posOf P t.val) w (ix3 0 y k) = CombineModel.wordAt P w ⟨t.val * 1024 + y.val, by omega⟩ k := by
  have hp : posOf P t.val y = CombineModel.posAt P ⟨t.val * 1024 + y.val, by omega⟩ := by
    unfold posOf CombineModel.posAt
    refine congrArg P (funext fun a => Fin.ext ?_)
    match a with
    | ⟨0, _⟩ => show t.val % 64 = (t.val * 1024 + y.val) / 1024; omega
    | ⟨1, _⟩ => rfl
    | ⟨2, _⟩ => show y.val = (t.val * 1024 + y.val) % 1024; omega
  unfold rowsOf CombineModel.wordAt
  refine congrArg w (funext fun a => Fin.ext ?_)
  match a with
  | ⟨0, _⟩ => show (posOf P t.val y).toNat % 94208 = _; rw [hp]; rfl
  | ⟨1, _⟩ => rfl

theorem sum_eq (c : Dev nD) : (dat V c).arrAt 5 cfg0.N = sumArr (V c main_arg0) (V c main_arg1) (V c main_arg2) := by
  refine (dat V c).arrAt_eq_of_covers 5 _ (by decide +kernel : win0_5.Covers) fun t _ y => ?_
  have hlt : t.val < 64 := t.isLt
  obtain ⟨Y, d, rfl⟩ : ∃ (Y d : Fin 1024), y = (ix2 Y d : S1024x1024.Idx) :=
    ⟨y (0 : Fin 2), y (1 : Fin 2), by funext a; match a with | ⟨0, _⟩ => rfl | ⟨1, _⟩ => rfl⟩
  refine Eq.trans ?_ (congrArg _ (emb5 t Y d)).symm
  show sumOf V c t (ix2 Y d) = CombineModel.sumAt _ _ _ ⟨t.val * 1024 + Y.val, by omega⟩ d
  unfold sumOf sumBlk
  refine (pay2_at _ _ Y d).trans ?_
  have hx : ∀ k : Fin 1024, (blkOf V c 2 t : S1024x1024.Idx → EReal) (ix2 Y k) = (V c main_arg1 : S65536x1024.Idx → EReal) (ix2 ⟨t.val * 1024 + Y.val, by omega⟩ k) := fun k =>
    congrArg (V c main_arg1 : S65536x1024.Idx → EReal) (emb2 t Y k)
  have hw := fun k => word_at (V c main_arg0) (V c main_arg2) ⟨t.val, hlt⟩ Y k
  unfold CombineModel.sumAt
  simp only [hx]
  simp only [hw]

theorem z_eq (c : Dev nD) (g : S1024.Idx → EReal) (hg : ∀ d : Fin 1024, (V c main_v1 : S1x1024.Idx → EReal) (ix2 0 d) = g (ix1 d))
    (wt : S1024x1024.Idx → EReal) (hwt : (V c main_v0 : S1024x1024.Idx → EReal) = wt) :
    (dat V c).arrAt 6 cfg0.N = zArr (V c main_arg0) (V c main_arg1) (V c main_arg2) g wt := by
  refine (dat V c).arrAt_eq_of_covers 6 _ (by decide +kernel : win0_6.Covers) fun t _ y => ?_
  have hlt : t.val < 64 := t.isLt
  obtain ⟨Y, d, rfl⟩ : ∃ (Y d : Fin 1024), y = (ix2 Y d : S1024x1024.Idx) :=
    ⟨y (0 : Fin 2), y (1 : Fin 2), by funext a; match a with | ⟨0, _⟩ => rfl | ⟨1, _⟩ => rfl⟩
  refine Eq.trans ?_ (congrArg _ (emb6 t Y d)).symm
  show outOf V c t (ix2 Y d) = CombineModel.zAt _ _ _ g wt ⟨t.val * 1024 + Y.val, by omega⟩ d
  unfold outOf outBlk
  refine (pay1_at _ _ _ _ Y d).trans ?_
  have hx : ∀ k : Fin 1024, (blkOf V c 2 t : S1024x1024.Idx → EReal) (ix2 Y k) = (V c main_arg1 : S65536x1024.Idx → EReal) (ix2 ⟨t.val * 1024 + Y.val, by omega⟩ k) := fun k =>
    congrArg (V c main_arg1 : S65536x1024.Idx → EReal) (emb2 t Y k)
  have hw := fun k => word_at (V c main_arg0) (V c main_arg2) ⟨t.val, hlt⟩ Y k
  have hb : ∀ k : Fin 1024, (blkOf V c 3 t : S1x1024.Idx → EReal) (ix2 0 k) = g (ix1 k) := fun k =>
    (congrArg (V c main_v1 : S1x1024.Idx → EReal) (emb3 t k)).trans (hg k)
  have ht : ∀ k : Fin 1024, (blkOf V c 4 t : S1024x1024.Idx → EReal) (ix2 k d) = wt (ix2 k d) := fun k =>
    (congrArg (V c main_v0 : S1024x1024.Idx → EReal) (emb4 t k d)).trans (congrFun hwt _)
  unfold CombineModel.zAt
  refine Finset.sum_congr rfl fun k _ => ?_
  rw [pay2_at, pay3_at, pay4_at, ht k, hb k]
  unfold tileLo tileHi CombineModel.finAt CombineModel.sumAt CombineModel.meanAt CombineModel.loAt CombineModel.hiAt
  simp only [hx]
  simp only [hw]

end Cert.Kernel3Ideal.CombineProj

end
-- ==== Proof.CombineProj.RefSide.lean ====
module

public import proofs.«01_k».proof.Proof.Gen.Reference3Ideal.Run
public import proofs.«01_k».proof.Proof.CombineProj.Model
public import Idealize.ShloMosaic.Lib.Pointwise
public import Idealize.ShloMosaic.Lib.Routing.Ops
public import Idealize.ShloMosaic.Lib.WordCmp
public import Idealize.ShloMosaic.Lib.Tactic.CleanTypes

/-!
The reference of the joined call at a row and a column.
-/

@[expose] public section

set_option maxRecDepth 16384

noncomputable section

namespace Cert.Reference3Ideal.Value

open Idealize.ShloMosaic
open Cert.Reference3Ideal Cert.Reference3Ideal.Gen
open Cert.Model (loW hiW)
open Cert.CombineModel (posAt wordAt loAt hiAt sumAt meanAt finAt zAt)

/-- The words the rows are taken at. -/
def taken (P : Vec Ideal S64x1x1024 .i32) : IVec S65536x1 32 :=
  broadcastInDim S65536x1 ![0] bcast_S65536_S65536x1_0
    (select (cmpi CmpIPredicate.slt (shapeCast S65536 P shapeCasts_S64x1x1024_S65536) (broadcastInDim S65536 ![] bcast_S_S65536 (constantI S_ 32 0#32)))
      (addi (shapeCast S65536 P shapeCasts_S64x1x1024_S65536) (broadcastInDim S65536 ![] bcast_S_S65536 (constantI S_ 32 94208#32)))
      (shapeCast S65536 P shapeCasts_S64x1x1024_S65536))

set_option backward.isDefEq.respectTransparency false in
theorem taken_at (P : Vec Ideal S64x1x1024 .i32) (r : Fin 65536) (h : (posAt P r).toNat < 94208) : taken P (ix2 r 0) = posAt P r := by
  have e : taken P (ix2 r 0) = Scalar.select (IntOp.cmpi CmpIPredicate.slt (posAt P r) 0#32) (IntOp.addi (posAt P r) 94208#32) (posAt P r) := by
    unfold taken posAt
    pointwise
  rw [e, WordCmp.cmpi_slt_eq]
  have hz : decide ((posAt P r).toInt < (0#32 : BitVec 32).toInt) = false := by
    refine decide_eq_false ?_
    rw [BitVec.toInt_eq_toNat_cond]
    show ¬ _ < (0 : ℤ)
    split <;> omega
  rw [hz]
  rfl

set_option backward.isDefEq.respectTransparency false in
theorem row_at (P : Vec Ideal S64x1x1024 .i32) (w : Vec Ideal S94208x512 .i32) (r : Fin 65536) (k : Fin 512) (h : (posAt P r).toNat < 94208) :
    Host.gather gather_S94208x512_S65536x1_S65536x512_1_0_n_n_0_1_1512 w (taken P) (ix2 r k) = wordAt P w r k := by
  refine Eq.trans (congrArg _ (?_ : _ = ValueIdx.ix2 (n0 := 65536) (n1 := 512) r k)) ((Routing.gather_row _ rfl rfl rfl rfl rfl w (taken P) r k ⟨(posAt P r).toNat % 94208, Nat.mod_lt _ (by norm_num)⟩ ?_ (by norm_num)).trans ?_)
  · funext a; fin_cases a <;> rfl
  · refine Eq.trans (congrArg _ (?_ : _ = (ix2 r 0 : S65536x1.Idx))) ((taken_at P r h).trans ?_)
    · funext a; fin_cases a <;> rfl
    · apply BitVec.eq_of_toNat_eq
      rw [BitVec.toNat_ofNat]
      show _ = (posAt P r).toNat % 94208 % 2 ^ 32
      rw [Nat.mod_eq_of_lt h, Nat.mod_eq_of_lt (by omega)]
  · unfold wordAt
    refine congrArg w ?_
    funext a; fin_cases a <;> rfl

/-- The residual with the rows taken added. -/
def sumR (P : Vec Ideal S64x1x1024 .i32) (x : FVec Ideal S65536x1024 .f32) (w : Vec Ideal S94208x512 .i32) : FVec Ideal S65536x1024 .f32 :=
  addf x (concatenate S65536x1024 1
    [⟨S65536x512, (bitcastToFloat (F := Ideal) .f32 (Host.shli (Host.gather gather_S94208x512_S65536x1_S65536x512_1_0_n_n_0_1_1512 w (taken P)) (broadcastInDim S65536x512 ![] bcast_S_S65536x512 (constantI S_ 32 16#32))))⟩,
     ⟨S65536x512, (bitcastToFloat (F := Ideal) .f32 (andi (Host.gather gather_S94208x512_S65536x1_S65536x512_1_0_n_n_0_1_1512 w (taken P)) (broadcastInDim S65536x512 ![] bcast_S_S65536x512 (constantI S_ 32 4294901760#32))))⟩]
    concatenates_S65536x512_S65536x512_S65536x1024_d1)

/-- Normed rows, projected. -/
def projR (S : FVec Ideal S65536x1024 .f32) (g : FVec Ideal S1024 .f32) (wt : FVec Ideal S1024x1024 .f32) : FVec Ideal S65536x1024 .bf16 :=
  truncf .bf16 (Host.dotGeneral dot_S65536x1024_S1024x1024_S65536x1024_1_0_0_1_n_n none
    (mulf (mulf S (broadcastInDim S65536x1024 ![0, 1] bcast_S65536x1_S65536x1024_0_1
        (Host.rsqrt (addf (Host.divf (broadcastInDim S65536x1 ![0] bcast_S65536_S65536x1_0 (Host.reduceAdd (mulf S S) (constant S_ .f32 0x00000000#32) reducesTo_S65536x1024_S65536_d1 h_S_))
            (broadcastInDim S65536x1 ![] bcast_S_S65536x1 (constant S_ .f32 0x44800000#32)))
          (broadcastInDim S65536x1 ![] bcast_S_S65536x1 (constant S_ .f32 0x358637BD#32))))))
      (broadcastInDim S65536x1024 ![0, 1] bcast_S1x1024_S65536x1024_0_1 (broadcastInDim S1x1024 ![1] bcast_S1024_S1x1024_1 g))) wt) bitsLt_bf16_f32

set_option maxHeartbeats 4000000 in
set_option backward.isDefEq.respectTransparency false in
theorem sumR_at (P : Vec Ideal S64x1x1024 .i32) (x : FVec Ideal S65536x1024 .f32) (w : Vec Ideal S94208x512 .i32)
    (h : ∀ j, (P j).toNat < 94208) (r : Fin 65536) (d : Fin 1024) : (sumR P x w (ix2 r d) : EReal) = sumAt P x w r d := by
  have hr : ∀ k : Fin 512, Host.gather gather_S94208x512_S65536x1_S65536x512_1_0_n_n_0_1_1512 w (taken P) (ix2 r k) = wordAt P w r k := fun k => row_at P w r k (h _)
  unfold sumR
  generalize Host.gather gather_S94208x512_S65536x1_S65536x512_1_0_n_n_0_1_1512 w (taken P) = G at hr ⊢
  pointwise
  simp only [hr, Model.widen_lo, Model.widen_hi]
  unfold sumAt
  rfl

set_option maxHeartbeats 4000000 in
set_option backward.isDefEq.respectTransparency false in
theorem projR_at (S : FVec Ideal S65536x1024 .f32) (g : FVec Ideal S1024 .f32) (wt : FVec Ideal S1024x1024 .f32) (r : Fin 65536) (d : Fin 1024) :
    (projR S g wt (ix2 r d) : EReal)
      = ∑ k : Fin 1024, (S (ix2 r k) * Ideal.rsqrt (Ideal.div (∑ j : Fin 1024, S (ix2 r j) * S (ix2 r j)) (Ideal.ofBits .f32 1149239296#32) + Ideal.ofBits .f32 897988541#32) * g (ix1 k)) * wt (ix2 k d) := by
  unfold projR
  pointwise

/-- The sum of squares of a row, by halves. -/
theorem squares (P : CombineModel.SP.Idx → BitVec 32) (x : CombineModel.SX.Idx → EReal) (w : CombineModel.SW.Idx → BitVec 32) (r : Fin 65536) :
    (∑ j : Fin 1024, sumAt P x w r j * sumAt P x w r j) = (∑ k : Fin 512, loAt P x w r k * loAt P x w r k) + ∑ k : Fin 512, hiAt P x w r k * hiAt P x w r k := by
  have lo : ∀ k : Fin 512, sumAt P x w r (Fin.castAdd 512 k) = loAt P x w r k := fun k => by
    have hk : (Fin.castAdd 512 k).val < 512 := k.isLt
    unfold sumAt loAt
    rw [dif_pos hk]
    rfl
  have hi : ∀ k : Fin 512, sumAt P x w r (Fin.natAdd 512 k) = hiAt P x w r k := fun k => by
    have hk : ¬ (Fin.natAdd 512 k).val < 512 := by show ¬ 512 + k.val < 512; omega
    unfold sumAt hiAt
    rw [dif_neg hk]
    have e : (⟨(Fin.natAdd 512 k).val - 512, by show 512 + k.val - 512 < 512; omega⟩ : Fin 512) = k := Fin.ext (by show 512 + k.val - 512 = k.val; omega)
    rw [e]
    rfl
  refine (Fin.sum_univ_add (a := 512) (b := 512) (fun j : Fin 1024 => sumAt P x w r j * sumAt P x w r j)).trans ?_
  simp only [lo, hi]

theorem proj_eq (P : Vec Ideal S64x1x1024 .i32) (x : FVec Ideal S65536x1024 .f32) (w : Vec Ideal S94208x512 .i32) (g : FVec Ideal S1024 .f32) (wt : FVec Ideal S1024x1024 .f32)
    (h : ∀ j, (P j).toNat < 94208) (r : Fin 65536) (d : Fin 1024) : (projR (sumR P x w) g wt (ix2 r d) : EReal) = zAt P x w g wt r d := by
  rw [projR_at]
  simp only [sumR_at P x w h r]
  rw [squares]
  unfold zAt finAt meanAt
  rfl

set_option maxHeartbeats 4000000 in
theorem res_eq (m : (ℓ : Loc nD τ sig) → Buf (Elt Ideal) ℓ) (c : Dev nD)
    (P : Vec Ideal S64x1x1024 .i32) (x : FVec Ideal S65536x1024 .f32) (w : Vec Ideal S94208x512 .i32) (g : FVec Ideal S1024 .f32) (wt : FVec Ideal S1024x1024 .f32)
    (e0 : m ((c.tc : Thread nD τ).loc main_arg0) = P) (e1 : m ((c.tc : Thread nD τ).loc main_arg1) = x) (e2 : m ((c.tc : Thread nD τ).loc main_arg2) = w)
    (e3 : m ((c.tc : Thread nD τ).loc main_arg3) = g) (e4 : m ((c.tc : Thread nD τ).loc main_arg4) = wt) :
    (res_main_v30 m c : FVec Ideal S65536x1024 .bf16) = projR (sumR P x w) g wt := by
  subst e0 e1 e2 e3 e4
  unfold res_main_v30 projR sumR taken
  rfl

end Cert.Reference3Ideal.Value

end
-- ==== Proof.CombineProj.Claims.lean ====
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Pre_pre3
public import proofs.«01_k».proof.Proof.Terms
public import proofs.«01_k».proof.Proof.CombineProj.Region
public import proofs.«01_k».proof.Proof.CombineProj.Value
public import proofs.«01_k».proof.Proof.CombineProj.RefSide
public import Idealize.ShloMosaic.Lib.Quiescent

/-!
The joined call's claims: the frames of the two programs and of the reference, and the value, where every position is
the number of a row.
-/

@[expose] public section

set_option maxRecDepth 16384

noncomputable section

namespace Cert.CombineProjClaims

open Idealize.ShloMosaic Idealize.SL.Sem

instance bits_nonempty (e : EltTy) : Nonempty (Elt Bits e) := by cases e <;> exact ⟨(0 : BitVec _)⟩
instance ideal_nonempty (e : EltTy) : Nonempty (Elt Ideal e) := by
  cases e <;> first | exact ⟨(0 : BitVec _)⟩ | exact ⟨(0 : EReal)⟩

instance : Subsingleton Pre_pre3.S_.Idx := ⟨fun _ _ => funext fun a => a.elim0⟩

/-- What the precondition says. -/
theorem holds {F : FTy → Type} [FloatOps F] (P : IVec Pre_pre3.S64x1x1024 32) (x : FVec F Pre_pre3.S65536x1024 .f32) (w : IVec Pre_pre3.S94208x512 32)
    (g : FVec F Pre_pre3.S1024 .f32) (wt : FVec F Pre_pre3.S1024x1024 .f32) (h : Pre_pre3.fn (F := F) P x w g wt = fun _ => 1#1) (j : Pre_pre3.S64x1x1024.Idx) : (P j).toNat < 94208 := by
  have e := congrFun h (fun a => a.elim0)
  simp only [Pre_pre3.fn] at e
  have u := Terms.and1 (Host.reduce_andi_all _ _ _ _ _ e j)
  exact Terms.word_lt (P j) 94208 (by decide) (IntOp.cmpi_sge.1 u.1) (IntOp.cmpi_slt.1 u.2)

section run
open Cert.Kernel3Ideal Cert.Kernel3Ideal.Gen Cert.Kernel3Ideal.CombineProj
variable {F : FTy → Type} [FloatOps F] [∀ e, Nonempty (Elt F e)]

/-- The run, with what it leaves. -/
theorem run3 (m : (ℓ : Loc nD τ sig) → Buf (Elt F) ℓ) (ρ : Dev nD → PrngReg) (hm : ∀ (c : Dev nD) j, (m ((c.tc : Thread nD τ).loc main_arg0) j : BitVec 32).toNat < 94208) :
    θ_run (defs (F := F)) (onTc (τ := τ) (main (F := F))) ⟨m, fun _ => 0, ρ⟩ (fun r => (∀ c : Dev nD,
      r.2.mem ((c.tc : Thread nD τ).loc main_v2_0) = (dat (Gen.V m) c).arrAt 5 cfg0.N
      ∧ r.2.mem ((c.tc : Thread nD τ).loc main_v2_1) = (dat (Gen.V m) c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run (defs (F := F)) _ _).mono (fun r hr => ⟨fun c => ?_, hr.2⟩) (run_main (F := F) m ρ fun c n r => hm c _)
  have h := hr.1
  exact ⟨(h c).1 5, (h c).1 6,
    ((h c).1 1).trans (((dats m 0 c).arrAt_in 1 rfl _).trans (V_main_arg0 m c)),
    ((h c).1 2).trans (((dats m 0 c).arrAt_in 2 rfl _).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

theorem frame3 (m : (ℓ : Loc nD τ sig) → Buf (Elt F) ℓ) (ρ : Dev nD → PrngReg) (hm : ∀ (c : Dev nD) j, (m ((c.tc : Thread nD τ).loc main_arg0) j : BitVec 32).toNat < 94208) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defs (F := F)) _ _).mono (fun _ h => ⟨fun c => (h.1 c).2.2, h.2⟩) (run3 m ρ hm)

set_option maxHeartbeats 1000000 in
theorem scale_at (m : (ℓ : Loc nD τ sig) → Buf (Elt F) ℓ) (c : Dev nD) (d : Fin 1024) :
    (Gen.V m c main_v1 : S1x1024.Idx → F .f32) (ix2 0 d) = (m ((c.tc : Thread nD τ).loc main_arg3) : S1024.Idx → F .f32) (ix1 d) := by
  have e : (Gen.V m c main_v1 : S1x1024.Idx → F .f32) = shapeCast S1x1024 (m ((c.tc : Thread nD τ).loc main_arg3) : S1024.Idx → F .f32) shapeCasts_S1024_S1x1024 := rfl
  rw [e]
  pointwise
theorem weight_eq (m : (ℓ : Loc nD τ sig) → Buf (Elt Ideal) ℓ) (c : Dev nD) :
    (Gen.V m c main_v0 : S1024x1024.Idx → EReal) = (m ((c.tc : Thread nD τ).loc main_arg4) : S1024x1024.Idx → EReal) := rfl
end run

/-- The two printings of the call have one table of bodies. -/
theorem bodies : (Kernel3.defs₀ (F := Bits)) = Kernel3Ideal.defs₀ (F := Bits) := by
  unfold Kernel3.defs₀ Kernel3Ideal.defs₀
  refine congrArg (Defs.onTc (nD := Kernel3.nD) (τ := Kernel3.τ) (sig := Kernel3.sig) (Val := Elt Bits) (Λ := Kernel3.Λ₀)) ?_
  funext ℓ x
  match ℓ, x with
  | ⟨0, _⟩, (t, s) => rfl

theorem tables : (Kernel3.defs (F := Bits)) = Kernel3Ideal.defs (F := Bits) := by
  unfold Kernel3.defs Kernel3Ideal.defs
  exact congrArg (Pipeline.defs (Kernel3.pcfgs (F := Bits))) bodies

theorem frame_p : Cert.quiescent_Kernel3 := fun m ρ hp => by
  have h := frame3 (F := Bits) m ρ fun c j => holds _ _ _ _ _ (hp c) j
  rw [← tables] at h
  exact h

theorem frame_pi : Cert.quiescent_Kernel3Ideal := fun m ρ hp => frame3 (F := Ideal) m ρ fun c j => holds _ _ _ _ _ (hp c) j

theorem frame_ri : Cert.quiescent_Reference3Ideal := fun m ρ _ =>
  (θ_run Cert.Reference3Ideal.defs _ _).mono (fun r h => ⟨fun c => (h c).2.2, sem_eq_zero_of_no_sems (by decide) r.2⟩)
    (Reference3Ideal.Value.run (F := Ideal) m ρ)

theorem frame_ri_pre : Cert.quiescent_Reference3Ideal_pre_pre3 := fun m ρ _ => frame_ri m ρ trivial

theorem preserves : Cert.preserves_Kernel3_Kernel3Ideal := trivial

theorem algebraic : Cert.algebraic_Kernel3Ideal_Reference3Ideal := fun m ρ m' ρ' hp he => by
  have hb : ∀ (c : Dev Kernel3Ideal.nD) j, (m ((c.tc : Thread Kernel3Ideal.nD Kernel3Ideal.τ).loc Kernel3Ideal.main_arg0) j : BitVec 32).toNat < 94208 := fun c j => holds _ _ _ _ _ (hp c) j
  refine ⟨fun c => (Kernel3Ideal.CombineProj.dat (Kernel3Ideal.Gen.V m) c).arrAt 5 Kernel3Ideal.cfg0.N, fun c => (Kernel3Ideal.CombineProj.dat (Kernel3Ideal.Gen.V m) c).arrAt 6 Kernel3Ideal.cfg0.N, ?_, ?_⟩
  · exact (θ_run Cert.Kernel3Ideal.defs _ _).mono (fun _ h c => h.1 c) (run3 (F := Ideal) m ρ hb)
  · refine (θ_run Cert.Reference3Ideal.defs _ _).mono (fun r h c => ⟨(h c).1.trans ?_, (h c).2.1.trans ?_, (h c).2.2⟩) (Reference3Ideal.Value.run (F := Ideal) m' ρ')
    · obtain ⟨e0, e1, e2, -, -⟩ := he c
      refine Eq.trans ?_ (Kernel3Ideal.CombineProj.sum_eq (Kernel3Ideal.Gen.V m) c).symm
      rw [Kernel3Ideal.Gen.V_main_arg0 m c, Kernel3Ideal.Gen.V_main_arg1 m c, Kernel3Ideal.Gen.V_main_arg2 m c, ← e0, ← e1, ← e2]
      funext i
      obtain ⟨p, d, rfl⟩ : ∃ (p : Fin 65536) (d : Fin 1024), i = (ix2 p d : CombineModel.SX.Idx) :=
        ⟨i (0 : Fin 2), i (1 : Fin 2), by funext a; match a with | ⟨0, _⟩ => rfl | ⟨1, _⟩ => rfl⟩
      exact Reference3Ideal.Value.sumR_at _ _ _ (fun j => by rw [e0]; exact hb c j) p d
    · obtain ⟨e0, e1, e2, e3, e4⟩ := he c
      refine Eq.trans ?_ (Kernel3Ideal.CombineProj.z_eq (Kernel3Ideal.Gen.V m) c _ (scale_at m c) _ (weight_eq m c)).symm
      rw [Kernel3Ideal.Gen.V_main_arg0 m c, Kernel3Ideal.Gen.V_main_arg1 m c, Kernel3Ideal.Gen.V_main_arg2 m c]
      refine (Reference3Ideal.Value.res_eq m' c _ _ _ _ _ e0 e1 e2 e3 e4).trans ?_
      funext i
      obtain ⟨p, d, rfl⟩ : ∃ (p : Fin 65536) (d : Fin 1024), i = (ix2 p d : CombineModel.SX.Idx) :=
        ⟨i (0 : Fin 2), i (1 : Fin 2), by funext a; match a with | ⟨0, _⟩ => rfl | ⟨1, _⟩ => rfl⟩
      exact Reference3Ideal.Value.proj_eq _ _ _ _ _ (hb c) p d

end Cert.CombineProjClaims

end
-- ==== Proof.Side.InProj.lean ====
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import Idealize.ShloMosaic.Lib.Pointwise
public import Idealize.ShloMosaic.Lib.Pipeline.ValueKit
public import Idealize.ShloMosaic.Lib.Quiescent
public import Idealize.ShloMosaic.Lib.Tactic.CleanTypes

/-!
The first mixer's input projection: each row divided by the root of its mean square, scaled and projected, its columns
laid out for the mixer; the call's claims.
-/

@[expose] public section

set_option maxRecDepth 16384

noncomputable section

namespace Cert.InProj

open Idealize.ShloMosaic Idealize.ShloMosaic.TcCoe Idealize.SL.Sem
open Idealize.ShloMosaic.Pipeline (Dat Cfg Window)

abbrev SX : Shape := ⟨3, ![32, 2048, 1024]⟩
abbrev SG : Shape := ⟨1, ![1024]⟩
abbrev SW : Shape := ⟨2, ![1024, 672]⟩
abbrev SZ : Shape := ⟨2, ![65536, 896]⟩

/-- A number of a row divided by the root of the row's mean square, and scaled. -/
def normAt (x : Fin 1024 → EReal) (g : Fin 1024 → EReal) (k : Fin 1024) : EReal :=
  x k * Ideal.rsqrt (Ideal.div (∑ j : Fin 1024, x j * x j) (Ideal.ofBits .f32 1149239296#32) + Ideal.ofBits .f32 897988541#32) * g k

/-- The projection of a row at a column. -/
def projAt (x : Fin 1024 → EReal) (g : Fin 1024 → EReal) (w : Fin 1024 → EReal) : EReal := ∑ k : Fin 1024, normAt x g k * w k

theorem projAt_zero (x g : Fin 1024 → EReal) : projAt x g (fun _ => 0) = 0 := by
  unfold projAt
  simp only [mul_zero, Finset.sum_const_zero]

/-- The weights' column that column `d` of the result is the projection by: the two latents, zeros, the two halves of the
    rotary key, zeros, those halves turned, zeros, the memory's queries. -/
def colAt (w : SW.Idx → EReal) (d : Fin 896) (k : Fin 1024) : EReal :=
  if h : d.val < 384 then w (ix2 (n0 := 1024) (n1 := 672) k ⟨d.val, by omega⟩)
  else
    if h : d.val - 384 < 64 then 0
    else
      if h : d.val - 384 - 64 < 16 then w (ix2 (n0 := 1024) (n1 := 672) k ⟨384 + (d.val - 384 - 64), by omega⟩)
      else
        if h : d.val - 384 - 64 - 16 < 16 then w (ix2 (n0 := 1024) (n1 := 672) k ⟨400 + (d.val - 384 - 64 - 16), by omega⟩)
        else
          if h : d.val - 384 - 64 - 16 - 16 < 32 then 0
          else
            if h : d.val - 384 - 64 - 16 - 16 - 32 < 64 then 0
            else
              if h : d.val - 384 - 64 - 16 - 16 - 32 - 64 < 16 then -w (ix2 (n0 := 1024) (n1 := 672) k ⟨400 + (d.val - 384 - 64 - 16 - 16 - 32 - 64), by omega⟩)
              else
                if h : d.val - 384 - 64 - 16 - 16 - 32 - 64 - 16 < 16 then w (ix2 (n0 := 1024) (n1 := 672) k ⟨384 + (d.val - 384 - 64 - 16 - 16 - 32 - 64 - 16), by omega⟩)
                else
                  if h : d.val - 384 - 64 - 16 - 16 - 32 - 64 - 16 - 16 < 32 then 0
                  else
                    w (ix2 (n0 := 1024) (n1 := 672) k ⟨416 + (d.val - 384 - 64 - 16 - 16 - 32 - 64 - 16 - 16 - 32), by omega⟩)

/-- The result at row `r`, column `d`. -/
def inAt (x : SX.Idx → EReal) (g : SG.Idx → EReal) (w : SW.Idx → EReal) (r : Fin 65536) (d : Fin 896) : EReal :=
  projAt (fun k => x (ix3 (n0 := 32) (n1 := 2048) (n2 := 1024) ⟨r.val / 2048, by omega⟩ ⟨r.val % 2048, by omega⟩ k)) (fun k => g (ix1 (n0 := 1024) k)) (colAt w d)

section ker
open Cert.Kernel4Ideal Cert.Kernel4Ideal.Gen

set_option maxHeartbeats 4000000 in
set_option backward.isDefEq.respectTransparency false in
theorem pay_at (u : Vec Ideal S1024x1024 .f32) (g : Vec Ideal S1x1024 .f32) (w : Vec Ideal S1024x896 .bf16) (r : Fin 1024) (d : Fin 896) :
    (k0_pay1 (F := Ideal) u g w (ix2 r d) : EReal)
      = projAt (fun k => u (ix2 r k)) (fun k => g (ix2 0 k)) (fun k => w (ix2 k d)) := by
  unfold k0_pay1
  dsimp only
  pointwise
  rfl

/-- The weights laid out. -/
def laid (w : FVec Ideal S1024x672 .f32) : FVec Ideal S1024x896 .f32 :=
  concatenate S1024x896 1 [⟨S1024x384, extractStridedSlice S1024x384 ![0, 0] w slices_S1024x672_S1024x384_0_0⟩,
    ⟨S1024x64, broadcastInDim S1024x64 ![] bcast_S_S1024x64 (constant S_ .f32 0x00000000#32)⟩,
    ⟨S1024x16, extractStridedSlice S1024x16 ![0, 384] w slices_S1024x672_S1024x16_0_384⟩,
    ⟨S1024x16, extractStridedSlice S1024x16 ![0, 400] w slices_S1024x672_S1024x16_0_400⟩,
    ⟨S1024x32, broadcastInDim S1024x32 ![] bcast_S_S1024x32 (constant S_ .f32 0x00000000#32)⟩,
    ⟨S1024x64, broadcastInDim S1024x64 ![] bcast_S_S1024x64 (constant S_ .f32 0x00000000#32)⟩,
    ⟨S1024x16, Host.negf (extractStridedSlice S1024x16 ![0, 400] w slices_S1024x672_S1024x16_0_400)⟩,
    ⟨S1024x16, extractStridedSlice S1024x16 ![0, 384] w slices_S1024x672_S1024x16_0_384⟩,
    ⟨S1024x32, broadcastInDim S1024x32 ![] bcast_S_S1024x32 (constant S_ .f32 0x00000000#32)⟩,
    ⟨S1024x256, extractStridedSlice S1024x256 ![0, 416] w slices_S1024x672_S1024x256_0_416⟩] concatenates_S1024x384_S1024x64_S1024x16_S1024x16_S1024x32_S1024x64_S1024x16_S1024x16_S1024x32_S1024x256_S1024x896_d1

set_option maxHeartbeats 4000000 in
set_option backward.isDefEq.respectTransparency false in
theorem laid_at (w : FVec Ideal S1024x672 .f32) (k : Fin 1024) (d : Fin 896) : laid w (ix2 k d) = colAt w d k := by
  unfold laid colAt
  pointwise

variable (m : (ℓ : Loc nD τ sig) → Buf (Elt Ideal) ℓ) (c : Dev nD)

theorem out_eq (u : Vec Ideal S1024x1024 .f32) (g : Vec Ideal S1x1024 .f32) (w : Vec Ideal S1024x896 .bf16) :
    out0_3 u g w = k0_pay1 u g w := by
  unfold out0_3
  rw [View.canon_cons_unit_lit _ _ _ (by decide), View.ld_unit_lit _ _ (by decide), View.ld_unit_lit _ _ (by decide), View.ld_unit_lit _ _ (by decide)]

theorem index0 (t : Fin cfg0.N) : (cfg0.win 0).index t = ![t.val, 0] :=
  (by decide +kernel : ∀ t : Fin grid0.N, cc0_transform_0 (grid0.coords t) = ![t.val, 0]) t
theorem index1 (t : Fin cfg0.N) : (cfg0.win 1).index t = ![0, 0] :=
  (by decide +kernel : ∀ t : Fin grid0.N, cc0_transform_1 (grid0.coords t) = ![0, 0]) t
theorem index2 (t : Fin cfg0.N) : (cfg0.win 2).index t = ![0, 0] :=
  (by decide +kernel : ∀ t : Fin grid0.N, cc0_transform_2 (grid0.coords t) = ![0, 0]) t
theorem index3 (t : Fin cfg0.N) : (cfg0.win 3).index t = ![t.val, 0] :=
  (by decide +kernel : ∀ t : Fin grid0.N, cc0_transform_3 (grid0.coords t) = ![t.val, 0]) t

theorem emb0 (t : Fin cfg0.N) (r : Fin 1024) (k : Fin 1024) :
    ((cfg0.win 0).blk t).view.emb (ix2 r k : S1024x1024.Idx) = (ix2 ⟨t.val * 1024 + r.val, by have : t.val < 64 := t.isLt; omega⟩ k : S65536x1024.Idx) := by
  have e := index0 t
  refine funext fun a => Fin.ext ?_
  match a with
  | ⟨0, _⟩ => show (cfg0.win 0).index t (0 : Fin 2) * 1024 + 1 * r.val = t.val * 1024 + r.val; rw [e]; show t.val * 1024 + _ = _; omega
  | ⟨1, _⟩ => show (cfg0.win 0).index t (1 : Fin 2) * 1024 + 1 * k.val = k.val; rw [e]; show 0 * 1024 + _ = _; omega

theorem emb1 (t : Fin cfg0.N) (k : Fin 1024) : ((cfg0.win 1).blk t).view.emb (ix2 0 k : S1x1024.Idx) = (ix2 0 k : S1x1024.Idx) := by
  have e := index1 t
  refine funext fun a => Fin.ext ?_
  match a with
  | ⟨0, _⟩ => show (cfg0.win 1).index t (0 : Fin 2) * 1 + 1 * 0 = 0; rw [e]; rfl
  | ⟨1, _⟩ => show (cfg0.win 1).index t (1 : Fin 2) * 1024 + 1 * k.val = k.val; rw [e]; show 0 * 1024 + _ = _; omega

theorem emb2 (t : Fin cfg0.N) (k : Fin 1024) (d : Fin 896) : ((cfg0.win 2).blk t).view.emb (ix2 k d : S1024x896.Idx) = (ix2 k d : S1024x896.Idx) := by
  have e := index2 t
  refine funext fun a => Fin.ext ?_
  match a with
  | ⟨0, _⟩ => show (cfg0.win 2).index t (0 : Fin 2) * 1024 + 1 * k.val = k.val; rw [e]; show 0 * 1024 + _ = _; omega
  | ⟨1, _⟩ => show (cfg0.win 2).index t (1 : Fin 2) * 896 + 1 * d.val = d.val; rw [e]; show 0 * 896 + _ = _; omega

theorem emb3 (t : Fin cfg0.N) (r : Fin 1024) (d : Fin 896) :
    ((cfg0.win 3).blk t).view.emb (ix2 r d : S1024x896.Idx) = (ix2 ⟨t.val * 1024 + r.val, by have : t.val < 64 := t.isLt; omega⟩ d : S65536x896.Idx) := by
  have e := index3 t
  refine funext fun a => Fin.ext ?_
  match a with
  | ⟨0, _⟩ => show (cfg0.win 3).index t (0 : Fin 2) * 1024 + 1 * r.val = t.val * 1024 + r.val; rw [e]; show t.val * 1024 + _ = _; omega
  | ⟨1, _⟩ => show (cfg0.win 3).index t (1 : Fin 2) * 896 + 1 * d.val = d.val; rw [e]; show 0 * 896 + _ = _; omega

/-- The result as an array. -/
def inOf (x : SX.Idx → EReal) (g : SG.Idx → EReal) (w : SW.Idx → EReal) (j : SZ.Idx) : EReal :=
  inAt x g w ⟨(j 0).val, (j 0).isLt⟩ ⟨(j 1).val, (j 1).isLt⟩

set_option maxHeartbeats 1000000 in
theorem scale_at (k : Fin 1024) :
    (V m c main_v10 : S1x1024.Idx → EReal) (ix2 0 k) = (m ((c.tc : Thread nD τ).loc main_arg1) : S1024.Idx → EReal) (ix1 k) := by
  have e : (V m c main_v10 : S1x1024.Idx → EReal) = shapeCast S1x1024 (m ((c.tc : Thread nD τ).loc main_arg1) : S1024.Idx → EReal) shapeCasts_S1024_S1x1024 := rfl
  rw [e]
  pointwise

set_option backward.isDefEq.respectTransparency false in
/-- A row among all slabs' is its row of its slab. -/
theorem flat_at (x : FVec Ideal S32x2048x1024 .f32) (r : Fin 65536) (k : Fin 1024) :
    shapeCast S65536x1024 x shapeCasts_S32x2048x1024_S65536x1024 (ix2 r k) = x (ix3 ⟨r.val / 2048, by omega⟩ ⟨r.val % 2048, by omega⟩ k) := by
  pointwise

set_option maxHeartbeats 1000000 in
theorem row_at (r : Fin 65536) (k : Fin 1024) :
    (V m c main_v0 : S65536x1024.Idx → EReal) (ix2 r k)
      = (m ((c.tc : Thread nD τ).loc main_arg0) : S32x2048x1024.Idx → EReal) (ix3 ⟨r.val / 2048, by omega⟩ ⟨r.val % 2048, by omega⟩ k) := by
  have e : (V m c main_v0 : S65536x1024.Idx → EReal) = shapeCast S65536x1024 (m ((c.tc : Thread nD τ).loc main_arg0) : S32x2048x1024.Idx → EReal) shapeCasts_S32x2048x1024_S65536x1024 := rfl
  rw [e]
  exact flat_at _ r k

set_option maxHeartbeats 1000000 in
theorem weight_at (k : Fin 1024) (d : Fin 896) :
    (V m c main_v9 : S1024x896.Idx → EReal) (ix2 k d) = colAt (m ((c.tc : Thread nD τ).loc main_arg2)) d k := by
  have e : (V m c main_v9 : S1024x896.Idx → EReal) = laid (m ((c.tc : Thread nD τ).loc main_arg2)) := rfl
  rw [e]
  exact laid_at _ k d

theorem in_eq : (dats m 0 c).arrAt 3 cfg0.N
    = inOf (m ((c.tc : Thread nD τ).loc main_arg0)) (m ((c.tc : Thread nD τ).loc main_arg1)) (m ((c.tc : Thread nD τ).loc main_arg2)) := by
  refine (dats m 0 c).arrAt_eq_of_covers 3 _ (by decide +kernel : win0_3.Covers) fun t _ y => ?_
  have hlt : t.val < 64 := t.isLt
  obtain ⟨r, d, rfl⟩ : ∃ (r : Fin 1024) (d : Fin 896), y = (ix2 r d : S1024x896.Idx) :=
    ⟨y (0 : Fin 2), y (1 : Fin 2), by funext a; match a with | ⟨0, _⟩ => rfl | ⟨1, _⟩ => rfl⟩
  refine Eq.trans ?_ (congrArg _ (emb3 t r d)).symm
  refine (congrFun (Cert.Kernel4Ideal.Value.flushed3 m c t) _).trans ?_
  show out0_3 (iblk m c 0 t) (iblk m c 1 t) (iblk m c 2 t) (ix2 r d) = _
  rw [out_eq]
  refine (pay_at _ _ _ r d).trans ?_
  have h0 : ∀ k : Fin 1024, (iblk m c 0 t : S1024x1024.Idx → EReal) (ix2 r k) = _ := fun k =>
    (congrArg (V m c main_v0 : S65536x1024.Idx → EReal) (emb0 t r k)).trans (row_at m c _ k)
  have h1 : ∀ k : Fin 1024, (iblk m c 1 t : S1x1024.Idx → EReal) (ix2 0 k) = (m ((c.tc : Thread nD τ).loc main_arg1) : S1024.Idx → EReal) (ix1 k) := fun k =>
    (congrArg (V m c main_v10 : S1x1024.Idx → EReal) (emb1 t k)).trans (scale_at m c k)
  have h2 : ∀ k : Fin 1024, (iblk m c 2 t : S1024x896.Idx → EReal) (ix2 k d) = colAt (m ((c.tc : Thread nD τ).loc main_arg2)) d k := fun k =>
    (congrArg (V m c main_v9 : S1024x896.Idx → EReal) (emb2 t k d)).trans (weight_at m c k d)
  simp only [h0, h1, h2]
  rfl

end ker

section ref
open Cert.Reference4Ideal Cert.Reference4Ideal.Gen

set_option maxHeartbeats 4000000 in
set_option backward.isDefEq.respectTransparency false in
theorem ref_at (m : (ℓ : Loc nD τ sig) → Buf (Elt Ideal) ℓ) (c : Dev nD) (x : FVec Ideal S32x2048x1024 .f32) (g : FVec Ideal S1024 .f32) (w : FVec Ideal S1024x672 .f32)
    (e0 : m ((c.tc : Thread nD τ).loc main_arg0) = x) (e1 : m ((c.tc : Thread nD τ).loc main_arg1) = g) (e2 : m ((c.tc : Thread nD τ).loc main_arg2) = w)
    (r : Fin 65536) (d : Fin 896) : (Value.res_out0 m c : FVec Ideal S65536x896 .bf16) (ix2 r d) = inAt x g w r d := by
  unfold Value.res_out0 Value.res_main_v25
  clean_types
  rw [e0, e1, e2]
  pointwise
  unfold inAt colAt projAt
  by_cases h0 : d.val < 384
  · simp only [dif_pos h0]
    rfl
  by_cases h1 : d.val - 384 < 64
  · simp only [dif_neg h0, dif_pos h1, mul_zero, Finset.sum_const_zero]
  by_cases h2 : d.val - 384 - 64 < 16
  · simp only [dif_neg h0, dif_neg h1, dif_pos h2]
    rfl
  by_cases h3 : d.val - 384 - 64 - 16 < 16
  · simp only [dif_neg h0, dif_neg h1, dif_neg h2, dif_pos h3]
    rfl
  by_cases h4 : d.val - 384 - 64 - 16 - 16 < 32
  · simp only [dif_neg h0, dif_neg h1, dif_neg h2, dif_neg h3, dif_pos h4, mul_zero, Finset.sum_const_zero]
  by_cases h5 : d.val - 384 - 64 - 16 - 16 - 32 < 64
  · simp only [dif_neg h0, dif_neg h1, dif_neg h2, dif_neg h3, dif_neg h4, dif_pos h5, mul_zero, Finset.sum_const_zero]
  by_cases h6 : d.val - 384 - 64 - 16 - 16 - 32 - 64 < 16
  · simp only [dif_neg h0, dif_neg h1, dif_neg h2, dif_neg h3, dif_neg h4, dif_neg h5, dif_pos h6]
    rfl
  by_cases h7 : d.val - 384 - 64 - 16 - 16 - 32 - 64 - 16 < 16
  · simp only [dif_neg h0, dif_neg h1, dif_neg h2, dif_neg h3, dif_neg h4, dif_neg h5, dif_neg h6, dif_pos h7]
    rfl
  by_cases h8 : d.val - 384 - 64 - 16 - 16 - 32 - 64 - 16 - 16 < 32
  · simp only [dif_neg h0, dif_neg h1, dif_neg h2, dif_neg h3, dif_neg h4, dif_neg h5, dif_neg h6, dif_neg h7, dif_pos h8, mul_zero, Finset.sum_const_zero]
  simp only [dif_neg h0, dif_neg h1, dif_neg h2, dif_neg h3, dif_neg h4, dif_neg h5, dif_neg h6, dif_neg h7, dif_neg h8]
  rfl

end ref

theorem frame_p : Cert.quiescent_Kernel4 := fun m ρ _ => Kernel4.Gen.frame (F := Bits) m ρ

theorem frame_pi : Cert.quiescent_Kernel4Ideal := fun m ρ _ => Kernel4Ideal.Gen.frame (F := Ideal) m ρ

theorem frame_ri : Cert.quiescent_Reference4Ideal := fun m ρ _ =>
  (θ_run Cert.Reference4Ideal.defs _ _).mono (fun r h => ⟨fun c => (h c).2, sem_eq_zero_of_no_sems (by decide) r.2⟩)
    (Reference4Ideal.Value.run (F := Ideal) m ρ)

theorem preserves : Cert.preserves_Kernel4_Kernel4Ideal := trivial

theorem algebraic : Cert.algebraic_Kernel4Ideal_Reference4Ideal := fun m ρ m' ρ' _ he => by
  refine ⟨fun c => (Kernel4Ideal.Gen.dats m 0 c).arrAt 3 Kernel4Ideal.cfg0.N, Kernel4Ideal.Value.run_blocks (F := Ideal) m ρ, ?_⟩
  refine (θ_run Cert.Reference4Ideal.defs _ _).mono (fun r h c => ⟨(h c).1.trans ?_, (h c).2⟩) (Reference4Ideal.Value.run (F := Ideal) m' ρ')
  obtain ⟨e0, e1, e2⟩ := he c
  refine Eq.trans ?_ (in_eq m c).symm
  funext i
  obtain ⟨r, d, rfl⟩ : ∃ (r : Fin 65536) (d : Fin 896), i = (ix2 r d : SZ.Idx) :=
    ⟨i (0 : Fin 2), i (1 : Fin 2), by funext a; match a with | ⟨0, _⟩ => rfl | ⟨1, _⟩ => rfl⟩
  exact ref_at m' c _ _ _ e0 e1 e2 r d

end Cert.InProj

end
-- ==== Proof.Side.Mem.lean ====
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import Idealize.ShloMosaic.Lib.Pointwise
public import Idealize.ShloMosaic.Lib.Pipeline.ValueKit
public import Idealize.ShloMosaic.Lib.Quiescent
public import Idealize.ShloMosaic.Lib.Tactic.CleanTypes

/-!
The memory's keys and values: each of its rows divided by the root of its mean square, scaled and projected; the
call's claims.
-/

@[expose] public section

set_option maxRecDepth 16384

noncomputable section

namespace Cert.Mem

open Idealize.ShloMosaic Idealize.ShloMosaic.TcCoe Idealize.SL.Sem
open Idealize.ShloMosaic.Pipeline (Dat Cfg Window)

abbrev SM : Shape := ⟨3, ![32, 256, 1024]⟩
abbrev SG : Shape := ⟨1, ![1024]⟩
abbrev SW : Shape := ⟨2, ![1024, 512]⟩
abbrev SZ : Shape := ⟨3, ![32, 256, 512]⟩

/-- A number of a row divided by the root of the row's mean square, and scaled. -/
def normAt (x : Fin 1024 → EReal) (g : Fin 1024 → EReal) (k : Fin 1024) : EReal :=
  x k * Ideal.rsqrt (Ideal.div (∑ j : Fin 1024, x j * x j) (Ideal.ofBits .f32 1149239296#32) + Ideal.ofBits .f32 897988541#32) * g k

/-- The projection of a row at a column. -/
def projAt (x : Fin 1024 → EReal) (g : Fin 1024 → EReal) (w : Fin 1024 → EReal) : EReal := ∑ k : Fin 1024, normAt x g k * w k

/-- The result at slab `b`, row `r`, column `d`. -/
def memAt (x : SM.Idx → EReal) (g : SG.Idx → EReal) (w : SW.Idx → EReal) (b : Fin 32) (r : Fin 256) (d : Fin 512) : EReal :=
  projAt (fun k => x (ix3 (n0 := 32) (n1 := 256) (n2 := 1024) b r k)) (fun k => g (ix1 (n0 := 1024) k)) (fun k => w (ix2 (n0 := 1024) (n1 := 512) k d))

section ker
open Cert.Kernel5Ideal Cert.Kernel5Ideal.Gen

set_option maxHeartbeats 4000000 in
set_option backward.isDefEq.respectTransparency false in
theorem pay_at (u : Vec Ideal S1x256x1024 .f32) (g : Vec Ideal S1x1024 .f32) (w : Vec Ideal S1024x512 .bf16) (r : Fin 256) (d : Fin 512) :
    (k0_pay1 (F := Ideal) u g w (ix3 0 r d) : EReal)
      = projAt (fun k => u (ix3 0 r k)) (fun k => g (ix2 0 k)) (fun k => w (ix2 k d)) := by
  unfold k0_pay1
  dsimp only
  pointwise
  rfl

variable (m : (ℓ : Loc nD τ sig) → Buf (Elt Ideal) ℓ) (c : Dev nD)

theorem out_eq (u : Vec Ideal S1x256x1024 .f32) (g : Vec Ideal S1x1024 .f32) (w : Vec Ideal S1024x512 .bf16) :
    out0_3 u g w = k0_pay1 u g w := by
  unfold out0_3
  rw [View.canon_cons_unit_lit _ _ _ (by decide), View.ld_unit_lit _ _ (by decide), View.ld_unit_lit _ _ (by decide), View.ld_unit_lit _ _ (by decide)]

theorem index0 (t : Fin cfg0.N) : (cfg0.win 0).index t = ![t.val, 0, 0] :=
  (by decide +kernel : ∀ t : Fin grid0.N, cc0_transform_0 (grid0.coords t) = ![t.val, 0, 0]) t
theorem index1 (t : Fin cfg0.N) : (cfg0.win 1).index t = ![0, 0] :=
  (by decide +kernel : ∀ t : Fin grid0.N, cc0_transform_1 (grid0.coords t) = ![0, 0]) t
theorem index2 (t : Fin cfg0.N) : (cfg0.win 2).index t = ![0, 0] :=
  (by decide +kernel : ∀ t : Fin grid0.N, cc0_transform_2 (grid0.coords t) = ![0, 0]) t
theorem index3 (t : Fin cfg0.N) : (cfg0.win 3).index t = ![t.val, 0, 0] :=
  (by decide +kernel : ∀ t : Fin grid0.N, cc0_transform_3 (grid0.coords t) = ![t.val, 0, 0]) t

theorem emb0 (t : Fin cfg0.N) (r : Fin 256) (k : Fin 1024) :
    ((cfg0.win 0).blk t).view.emb (ix3 0 r k : S1x256x1024.Idx) = (ix3 ⟨t.val, t.isLt⟩ r k : S32x256x1024.Idx) := by
  have e := index0 t
  refine funext fun a => Fin.ext ?_
  match a with
  | ⟨0, _⟩ => show (cfg0.win 0).index t (0 : Fin 3) * 1 + 1 * 0 = t.val; rw [e]; show t.val * 1 + _ = _; omega
  | ⟨1, _⟩ => show (cfg0.win 0).index t (1 : Fin 3) * 256 + 1 * r.val = r.val; rw [e]; show 0 * 256 + _ = _; omega
  | ⟨2, _⟩ => show (cfg0.win 0).index t (2 : Fin 3) * 1024 + 1 * k.val = k.val; rw [e]; show 0 * 1024 + _ = _; omega

theorem emb1 (t : Fin cfg0.N) (k : Fin 1024) : ((cfg0.win 1).blk t).view.emb (ix2 0 k : S1x1024.Idx) = (ix2 0 k : S1x1024.Idx) := by
  have e := index1 t
  refine funext fun a => Fin.ext ?_
  match a with
  | ⟨0, _⟩ => show (cfg0.win 1).index t (0 : Fin 2) * 1 + 1 * 0 = 0; rw [e]; rfl
  | ⟨1, _⟩ => show (cfg0.win 1).index t (1 : Fin 2) * 1024 + 1 * k.val = k.val; rw [e]; show 0 * 1024 + _ = _; omega

theorem emb2 (t : Fin cfg0.N) (k : Fin 1024) (d : Fin 512) : ((cfg0.win 2).blk t).view.emb (ix2 k d : S1024x512.Idx) = (ix2 k d : S1024x512.Idx) := by
  have e := index2 t
  refine funext fun a => Fin.ext ?_
  match a with
  | ⟨0, _⟩ => show (cfg0.win 2).index t (0 : Fin 2) * 1024 + 1 * k.val = k.val; rw [e]; show 0 * 1024 + _ = _; omega
  | ⟨1, _⟩ => show (cfg0.win 2).index t (1 : Fin 2) * 512 + 1 * d.val = d.val; rw [e]; show 0 * 512 + _ = _; omega

theorem emb3 (t : Fin cfg0.N) (r : Fin 256) (d : Fin 512) :
    ((cfg0.win 3).blk t).view.emb (ix3 0 r d : S1x256x512.Idx) = (ix3 ⟨t.val, t.isLt⟩ r d : S32x256x512.Idx) := by
  have e := index3 t
  refine funext fun a => Fin.ext ?_
  match a with
  | ⟨0, _⟩ => show (cfg0.win 3).index t (0 : Fin 3) * 1 + 1 * 0 = t.val; rw [e]; show t.val * 1 + _ = _; omega
  | ⟨1, _⟩ => show (cfg0.win 3).index t (1 : Fin 3) * 256 + 1 * r.val = r.val; rw [e]; show 0 * 256 + _ = _; omega
  | ⟨2, _⟩ => show (cfg0.win 3).index t (2 : Fin 3) * 512 + 1 * d.val = d.val; rw [e]; show 0 * 512 + _ = _; omega

/-- The result as an array. -/
def memOf (x : SM.Idx → EReal) (g : SG.Idx → EReal) (w : SW.Idx → EReal) (j : SZ.Idx) : EReal :=
  memAt x g w ⟨(j 0).val, (j 0).isLt⟩ ⟨(j 1).val, (j 1).isLt⟩ ⟨(j 2).val, (j 2).isLt⟩

set_option maxHeartbeats 1000000 in
theorem scale_at (k : Fin 1024) :
    (V m c main_v0 : S1x1024.Idx → EReal) (ix2 0 k) = (m ((c.tc : Thread nD τ).loc main_arg1) : S1024.Idx → EReal) (ix1 k) := by
  have e : (V m c main_v0 : S1x1024.Idx → EReal) = shapeCast S1x1024 (m ((c.tc : Thread nD τ).loc main_arg1) : S1024.Idx → EReal) shapeCasts_S1024_S1x1024 := rfl
  rw [e]
  pointwise

theorem weight_eq : (V m c main_v1 : S1024x512.Idx → EReal) = (m ((c.tc : Thread nD τ).loc main_arg2) : S1024x512.Idx → EReal) := rfl

theorem mem_eq : (dats m 0 c).arrAt 3 cfg0.N
    = memOf (m ((c.tc : Thread nD τ).loc main_arg0)) (m ((c.tc : Thread nD τ).loc main_arg1)) (m ((c.tc : Thread nD τ).loc main_arg2)) := by
  refine (dats m 0 c).arrAt_eq_of_covers 3 _ (by decide +kernel : win0_3.Covers) fun t _ y => ?_
  obtain ⟨r, d, rfl⟩ : ∃ (r : Fin 256) (d : Fin 512), y = (ix3 0 r d : S1x256x512.Idx) :=
    ⟨y (1 : Fin 3), y (2 : Fin 3), by
      funext a
      match a with
      | ⟨0, _⟩ => exact Fin.ext (by have : (y (0 : Fin 3)).val < 1 := (y (0 : Fin 3)).isLt; show (y (0 : Fin 3)).val = 0; omega)
      | ⟨1, _⟩ => rfl
      | ⟨2, _⟩ => rfl⟩
  refine Eq.trans ?_ (congrArg _ (emb3 t r d)).symm
  refine (congrFun (Cert.Kernel5Ideal.Value.flushed3 m c t) _).trans ?_
  show out0_3 (iblk m c 0 t) (iblk m c 1 t) (iblk m c 2 t) (ix3 0 r d) = _
  rw [out_eq]
  refine (pay_at _ _ _ r d).trans ?_
  have h0 : ∀ k : Fin 1024, (iblk m c 0 t : S1x256x1024.Idx → EReal) (ix3 0 r k) = (m ((c.tc : Thread nD τ).loc main_arg0) : S32x256x1024.Idx → EReal) (ix3 ⟨t.val, t.isLt⟩ r k) := fun k =>
    (congrArg (V m c main_arg0 : S32x256x1024.Idx → EReal) (emb0 t r k)).trans (congrFun (V_main_arg0 m c) _)
  have h1 : ∀ k : Fin 1024, (iblk m c 1 t : S1x1024.Idx → EReal) (ix2 0 k) = (m ((c.tc : Thread nD τ).loc main_arg1) : S1024.Idx → EReal) (ix1 k) := fun k =>
    (congrArg (V m c main_v0 : S1x1024.Idx → EReal) (emb1 t k)).trans (scale_at m c k)
  have h2 : ∀ k : Fin 1024, (iblk m c 2 t : S1024x512.Idx → EReal) (ix2 k d) = (m ((c.tc : Thread nD τ).loc main_arg2) : S1024x512.Idx → EReal) (ix2 k d) := fun k =>
    (congrArg (V m c main_v1 : S1024x512.Idx → EReal) (emb2 t k d)).trans (congrFun (weight_eq m c) _)
  simp only [h0, h1, h2]
  rfl

end ker

section ref
open Cert.Reference5Ideal Cert.Reference5Ideal.Gen

set_option maxHeartbeats 4000000 in
set_option backward.isDefEq.respectTransparency false in
theorem ref_at (x : FVec Ideal S32x256x1024 .f32) (g : FVec Ideal S1024 .f32) (w : FVec Ideal S1024x512 .f32) (b : Fin 32) (r : Fin 256) (d : Fin 512) :
    (truncf .bf16 (Host.dotGeneral dot_S32x256x1024_S1024x512_S32x256x512_2_0_01_1_n_n none (mulf (mulf x (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf x x) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 g))) w) bitsLt_bf16_f32 : FVec Ideal S32x256x512 .bf16) (ix3 b r d)
      = memAt x g w b r d := by
  pointwise
  rfl

end ref

theorem frame_p : Cert.quiescent_Kernel5 := fun m ρ _ => Kernel5.Gen.frame (F := Bits) m ρ

theorem frame_pi : Cert.quiescent_Kernel5Ideal := fun m ρ _ => Kernel5Ideal.Gen.frame (F := Ideal) m ρ

theorem frame_ri : Cert.quiescent_Reference5Ideal := fun m ρ _ =>
  (θ_run Cert.Reference5Ideal.defs _ _).mono (fun r h => ⟨fun c => (h c).2, sem_eq_zero_of_no_sems (by decide) r.2⟩)
    (Reference5Ideal.Value.run (F := Ideal) m ρ)

theorem preserves : Cert.preserves_Kernel5_Kernel5Ideal := trivial

theorem algebraic : Cert.algebraic_Kernel5Ideal_Reference5Ideal := fun m ρ m' ρ' _ he => by
  refine ⟨fun c => (Kernel5Ideal.Gen.dats m 0 c).arrAt 3 Kernel5Ideal.cfg0.N, Kernel5Ideal.Value.run_blocks (F := Ideal) m ρ, ?_⟩
  refine (θ_run Cert.Reference5Ideal.defs _ _).mono (fun r h c => ⟨(h c).1.trans ?_, (h c).2⟩) (Reference5Ideal.Value.run (F := Ideal) m' ρ')
  obtain ⟨e0, e1, e2⟩ := he c
  refine Eq.trans ?_ (mem_eq m c).symm
  rw [e0, e1, e2]
  funext i
  obtain ⟨b, r, d, rfl⟩ : ∃ (b : Fin 32) (r : Fin 256) (d : Fin 512), i = (ix3 b r d : SZ.Idx) :=
    ⟨i (0 : Fin 3), i (1 : Fin 3), i (2 : Fin 3), by funext a; match a with | ⟨0, _⟩ => rfl | ⟨1, _⟩ => rfl | ⟨2, _⟩ => rfl⟩
  exact ref_at _ _ _ b r d

end Cert.Mem

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.ReferenceIdeal.Run
public import proofs.«01_k».proof.Proof.Gen.Pre_pre
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2
public import proofs.«01_k».proof.Proof.Gen.Reference2Ideal
public import proofs.«01_k».proof.Proof.Gen.Reference2Ideal.Run
public import proofs.«01_k».proof.Proof.Gen.Pre_pre2
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_pre3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Terms
public import proofs.«01_k».proof.Proof.Drive
public import proofs.«01_k».proof.Proof.Bits.Drive
public import proofs.«01_k».proof.Proof.Claims
public import proofs.«01_k».proof.Proof.Combine.Claims
public import proofs.«01_k».proof.Proof.CombineProj.Claims
public import proofs.«01_k».proof.Proof.Side.InProj
public import proofs.«01_k».proof.Proof.Side.Mem

@[expose] public section

noncomputable section

theorem Cert.Proof.claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts, Cert.Kernel4Ideal.Gen.facts,
    Cert.Reference4Ideal.Gen.facts, Cert.Kernel5.Gen.facts, Cert.Kernel5Ideal.Gen.facts, Cert.Reference5Ideal.Gen.facts,
    Cert.Pre_pre.Gen.facts, Cert.Pre_pre2.Gen.facts, Cert.Pre_pre3.Gen.facts,
    Cert.Claims.frame_p, Cert.Claims.frame_pi, Cert.Claims.frame_ri, Cert.Claims.frame_ri_pre,
    Cert.CombineClaims.frame_p, Cert.CombineClaims.frame_pi, Cert.CombineClaims.frame_ri, Cert.CombineClaims.frame_ri_pre,
    Cert.CombineProjClaims.frame_p, Cert.CombineProjClaims.frame_pi, Cert.CombineProjClaims.frame_ri, Cert.CombineProjClaims.frame_ri_pre,
    Cert.InProj.frame_p, Cert.InProj.frame_pi, Cert.InProj.frame_ri,
    Cert.Mem.frame_p, Cert.Mem.frame_pi, Cert.Mem.frame_ri,
    Cert.Claims.preserves, Cert.Claims.algebraic, Cert.CombineClaims.preserves, Cert.CombineClaims.algebraic,
    Cert.CombineProjClaims.preserves, Cert.CombineProjClaims.algebraic,
    Cert.InProj.preserves, Cert.InProj.algebraic, Cert.Mem.preserves, Cert.Mem.algebraic⟩

end
